-- ==== Defs.lean ====
def Pre_Kernel [hPre_schedule_in_range : Cert.Pre_schedule_in_range.Facts] (m : (ℓ : Loc Cert.Kernel.nD Cert.Kernel.τ Cert.Kernel.sig) → Buf (Elt Bits) ℓ) : Prop :=
  ∀ c : Dev Cert.Kernel.nD,
    (Cert.Pre_schedule_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_schedule_in_range : Cert.Pre_schedule_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_schedule_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_schedule_in_range : Cert.Pre_schedule_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_schedule_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_schedule_in_range : Cert.Pre_schedule_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_schedule_in_range : Cert.Pre_schedule_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_schedule_in_range : Cert.Pre_schedule_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_schedule_in_range : Cert.Pre_schedule_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_schedule_in_range : Cert.Pre_schedule_in_range.Facts) (hPre_finite : Cert.Pre_finite.Facts),
    quiescent_Kernel (hKernel := hKernel) (hPre_schedule_in_range := hPre_schedule_in_range)
    ∧ quiescent_KernelIdeal (hKernelIdeal := hKernelIdeal) (hPre_schedule_in_range := hPre_schedule_in_range)
    ∧ quiescent_ReferenceIdeal (hReferenceIdeal := hReferenceIdeal) (hPre_schedule_in_range := hPre_schedule_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_schedule_in_range := hPre_schedule_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
-- ==== Pre_finite.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S4x1024 .f32) (main_arg1 : FVec F S1024 .f32) (main_arg2 : FVec F S4x1024x6144 .f32) (main_arg3 : FVec F S4x6144 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024x6144 .f32 := Host.absf main_arg2
  let main_cst_2 : FVec F S_ .f32 := constant S_ .f32 0x7F800000#32
  let main_v10 : FVec F S4x1024x6144 .f32 := broadcastInDim S4x1024x6144 ![] bcast_S_S4x1024x6144 main_cst_2
  let main_v11 : IVec S4x1024x6144 1 := cmpf .olt main_v9 main_v10
  let main_c_3 : IVec S_ 1 := constantI S_ 1 1#1
  let main_v12 : IVec S_ 1 := (fun x v => Host.reduce IntOp.andi x v reducesTo_S4x1024x6144_S_d0_1_2 h_S_) main_v11 main_c_3
  let main_v13 : IVec S_ 1 := andi main_v8 main_v12
  main_v13
-- ==== Pre_schedule_in_range.lean ====
abbrev S110 : Shape := ⟨1, ![110]⟩
abbrev S1 : Shape := ⟨1, ![1]⟩
abbrev S3520 : Shape := ⟨1, ![3520]⟩
abbrev S49152x1024 : Shape := ⟨2, ![49152, 1024]⟩
abbrev S4x16x1024x512 : Shape := ⟨4, ![4, 16, 1024, 512]⟩
abbrev S4x16x512x1024 : Shape := ⟨4, ![4, 16, 512, 1024]⟩
abbrev S_ : Shape := ⟨0, ![]⟩
abbrev S109 : Shape := ⟨1, ![109]⟩
abbrev S110x32 : Shape := ⟨2, ![110, 32]⟩
abbrev S110x1 : Shape := ⟨2, ![110, 1]⟩

class Facts : Prop where
  bcast_S_S110 : S_.BroadcastsInDim S110 (![] : Fin 0 → Fin S110.rank)
  bcast_S_S1 : S_.BroadcastsInDim S1 (![] : Fin 0 → Fin S1.rank)
  slices_S110_S109_1 : S110.Slices ![1] S109
  slices_S110_S109_0 : S110.Slices ![0] S109
  concatenates_S1_S109_S110_d0 : Shape.Concatenates [S1, S109] S110 0
  bcast_S_S3520 : S_.BroadcastsInDim S3520 (![] : Fin 0 → Fin S3520.rank)
  shapeCasts_S3520_S110x32 : S3520.ShapeCasts S110x32
  bcast_S1_S110_0 : S1.BroadcastsInDim S110 (![0] : Fin 1 → Fin S110.rank)
  bcast_S110_S110x1_0 : S110.BroadcastsInDim S110x1 (![0] : Fin 1 → Fin S110x1.rank)
  bcast_S110x1_S110x32_0_1 : S110x1.BroadcastsInDim S110x32 (![0, 1] : Fin 2 → Fin S110x32.rank)

variable [Facts]

def fn_part1 {F : FTy → Type} [FloatOps F] (main_arg3 : IVec S3520 32) (main_v13 : IVec S110 1) (main_v15 : IVec S1 1) (main_v17 : IVec S1 1) : IVec S110x32 1 :=
  let main_v18 : IVec S1 1 := andi main_v15 main_v17
  let main_c_5 : IVec S_ 32 := constantI S_ 32 0#32
  let main_v19 : IVec S3520 32 := broadcastInDim S3520 ![] bcast_S_S3520 main_c_5
  let main_v20 : IVec S3520 1 := cmpi .sge main_arg3 main_v19
  let main_c_6 : IVec S_ 32 := constantI S_ 32 3072#32
  let main_v21 : IVec S3520 32 := broadcastInDim S3520 ![] bcast_S_S3520 main_c_6
  let main_v22 : IVec S3520 1 := cmpi .slt main_arg3 main_v21
  let main_v23 : IVec S3520 1 := andi main_v20 main_v22
  let main_v24 : IVec S110x32 1 := shapeCast S110x32 main_v23 shapeCasts_S3520_S110x32
  let main_v25 : IVec S110 1 := broadcastInDim S110 ![0] bcast_S1_S110_0 main_v18
  let main_v26 : IVec S110 1 := andi main_v13 main_v25
  let main_v27 : IVec S110x1 1 := broadcastInDim S110x1 ![0] bcast_S110_S110x1_0 main_v26
  let main_v28 : IVec S110x32 1 := broadcastInDim S110x32 ![0, 1] bcast_S110x1_S110x32_0_1 main_v27
  let main_v29 : IVec S110x32 1 := andi main_v24 main_v28
  main_v29

def fn {F : FTy → Type} [FloatOps F] (main_arg0 : IVec S110 32) (main_arg1 : IVec S110 32) (main_arg2 : IVec S1 32) (main_arg3 : IVec S3520 32) (main_arg4 : FVec F S49152x1024 .bf16) (main_arg5 : FVec F S4x16x1024x512 .f32) (main_arg6 : FVec F S4x16x1024x512 .f32) (main_arg7 : FVec F S4x16x512x1024 .f32) : IVec S110x32 1 :=
  let main_c : IVec S_ 32 := constantI S_ 32 0#32
  let main_v0 : IVec S110 32 := broadcastInDim S110 ![] bcast_S_S110 main_c
  let main_v1 : IVec S110 1 := cmpi .sge main_arg0 main_v0
  let main_c_0 : IVec S_ 32 := constantI S_ 32 16#32
  let main_v2 : IVec S110 32 := broadcastInDim S110 ![] bcast_S_S110 main_c_0
  let main_v3 : IVec S110 1 := cmpi .slt main_arg0 main_v2
  let main_v4 : IVec S110 1 := andi main_v1 main_v3
  let main_c_1 : IVec S_ 1 := constantI S_ 1 0#1
  let main_v5 : IVec S1 1 := broadcastInDim S1 ![] bcast_S_S1 main_c_1
  let main_v6 : IVec S109 32 := (extractStridedSlice S109 ![1] · slices_S110_S109_1) main_arg0
  let main_v7 : IVec S109 32 := (extractStridedSlice S109 ![0] · slices_S110_S109_0) main_arg0
  let main_v8 : IVec S109 1 := cmpi .eq main_v6 main_v7
  let main_v9 : IVec S110 1 := (fun a b => concatenate S110 0 [⟨S1, a⟩, ⟨S109, b⟩] concatenates_S1_S109_S110_d0) main_v5 main_v8
  let main_c_2 : IVec S_ 32 := constantI S_ 32 1#32
  let main_v10 : IVec S110 32 := broadcastInDim S110 ![] bcast_S_S110 main_c_2
  let main_v11 : IVec S110 1 := cmpi .eq main_arg1 main_v10
  let main_v12 : IVec S110 1 := ori main_v11 main_v9
  let main_v13 : IVec S110 1 := andi main_v4 main_v12
  let main_c_3 : IVec S_ 32 := constantI S_ 32 1#32
  let main_v14 : IVec S1 32 := broadcastInDim S1 ![] bcast_S_S1 main_c_3
  let main_v15 : IVec S1 1 := cmpi .sge main_arg2 main_v14
  let main_c_4 : IVec S_ 32 := constantI S_ 32 110#32
  let main_v16 : IVec S1 32 := broadcastInDim S1 ![] bcast_S_S1 main_c_4
  let main_v17 : IVec S1 1 := cmpi .sle main_arg2 main_v16
  fn_part1 (F := F) main_arg3 main_v13 main_v15 main_v17
-- ==== Kernel.lean ====
abbrev S110 : Shape := ⟨1, ![110]⟩
abbrev S1 : Shape := ⟨1, ![1]⟩
abbrev S3520 : Shape := ⟨1, ![3520]⟩
abbrev S49152x1024 : Shape := ⟨2, ![49152, 1024]⟩
abbrev S4x16x1024x512 : Shape := ⟨4, ![4, 16, 1024, 512]⟩
abbrev S4x16x512x1024 : Shape := ⟨4, ![4, 16, 512, 1024]⟩
abbrev S56320x1024 : Shape := ⟨2, ![56320, 1024]⟩
abbrev S1x1x1024x512 : Shape := ⟨4, ![1, 1, 1024, 512]⟩
abbrev S1x1x512x1024 : Shape := ⟨4, ![1, 1, 512, 1024]⟩
abbrev S512x1024 : Shape := ⟨2, ![512, 1024]⟩
abbrev S2x512x1024 : Shape := ⟨3, ![2, 512, 1024]⟩
abbrev S2 : Shape := ⟨1, ![2]⟩
abbrev S1024x512 : Shape := ⟨2, ![1024, 512]⟩
abbrev S_ : Shape := ⟨0, ![]⟩
abbrev S1x16x1024 : Shape := ⟨3, ![1, 16, 1024]⟩
abbrev S16x1024 : Shape := ⟨2, ![16, 1024]⟩
abbrev S1x512x1024 : Shape := ⟨3, ![1, 512, 1024]⟩
abbrev S512x512 : Shape := ⟨2, ![512, 512]⟩

abbrev nBuf : Space → Nat
  | .hbm => 5
  | .vmem => 12
  | .smem => 4
  | _ => 0

abbrev bufTy : (tb : Table) → Fin (tcTables nBuf tb) → BufTy
  | .hbm, ⟨0, _⟩ => ⟨S49152x1024, .bf16⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S56320x1024, .bf16⟩
  | .local _ .vmem, ⟨0, _⟩ => ⟨S1x1x1024x512, .f32⟩
  | .local _ .vmem, ⟨1, _⟩ => ⟨S1x1x1024x512, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x512x1024, .f32⟩
  | .local _ .vmem, ⟨5, _⟩ => ⟨S1x1x512x1024, .f32⟩
  | .local _ .vmem, ⟨6, _⟩ => ⟨S512x1024, .bf16⟩
  | .local _ .vmem, ⟨7, _⟩ => ⟨S512x1024, .bf16⟩
  | .local _ .vmem, ⟨8, _⟩ => ⟨S2x512x1024, .bf16⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .smem, ⟨0, _⟩ => ⟨S110, .i32⟩
  | .local _ .smem, ⟨1, _⟩ => ⟨S110, .i32⟩
  | .local _ .smem, ⟨2, _⟩ => ⟨S1, .i32⟩
  | .local _ .smem, ⟨3, _⟩ => ⟨S3520, .i32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![110], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_mult1 (v26 : BitVec 32) : BitVec 32 :=
  let c16_i32 : BitVec 32 := 16#32
  let v27 : BitVec 32 := Scalar.muli v26 c16_i32
  v27

def k0_off2 (v26 : BitVec 32) : Fin 2 → Nat :=
  let c16_i32 : BitVec 32 := 16#32
  let v27 : BitVec 32 := Scalar.muli v26 c16_i32
  let v28 : BitVec 32 := v27
  let c0_i32_16 : BitVec 32 := 0#32
  ![v28.toNat, 0]

def k0_chk1 (i : grid0.Coords) (v26 : BitVec 32) : Prop :=
  (∀ (k0_h1 : k0_cond1 i = 1#1), 16 ∣ (k0_mult1 v26).toNat) ∧
  (∀ (k0_h1 : k0_cond1 i = 1#1), ∀ a, (k0_off2 v26) a + S16x1024.size a ≤ S49152x1024.size a) ∧
  (∀ (k0_h1 : k0_cond1 i = 1#1), ∀ (hinb : ∀ a, (k0_off2 v26) a + S16x1024.size a ≤ S49152x1024.size a), (Rect.unit (s := S49152x1024) (k0_off2 v26) S16x1024.size hinb).WholeWords (EltTy.packing .bf16))
theorem k0_mult1_dvd : ∀ (i : grid0.Coords) (v26 : BitVec 32) (k0_hw1 : k0_chk1 i v26), ∀ (k0_h1 : k0_cond1 i = 1#1), 16 ∣ (k0_mult1 v26).toNat := fun i v26 k0_hw1 k0_h1 => k0_hw1.1 k0_h1
theorem k0_off2_inb : ∀ (i : grid0.Coords) (v26 : BitVec 32) (k0_hw1 : k0_chk1 i v26), ∀ (k0_h1 : k0_cond1 i = 1#1), ∀ a, (k0_off2 v26) a + S16x1024.size a ≤ S49152x1024.size a := fun i v26 k0_hw1 k0_h1 => k0_hw1.2.1 k0_h1
theorem k0_off2_wordsbf16 : ∀ (i : grid0.Coords) (v26 : BitVec 32) (k0_hw1 : k0_chk1 i v26), ∀ (k0_h1 : k0_cond1 i = 1#1), (Rect.unit (s := S49152x1024) (k0_off2 v26) S16x1024.size (k0_off2_inb i v26 k0_hw1 k0_h1)).WholeWords (EltTy.packing .bf16) := fun i v26 k0_hw1 k0_h1 => k0_hw1.2.2 k0_h1 (k0_off2_inb i v26 k0_hw1 k0_h1)

def k0_mult2 (v34 : BitVec 32) : BitVec 32 :=
  let c16_i32_17 : BitVec 32 := 16#32
  let v35 : BitVec 32 := Scalar.muli v34 c16_i32_17
  v35

def k0_off3 (v34 : BitVec 32) : Fin 2 → Nat :=
  let c16_i32_17 : BitVec 32 := 16#32
  let v35 : BitVec 32 := Scalar.muli v34 c16_i32_17
  let v36 : BitVec 32 := v35
  let c0_i32_22 : BitVec 32 := 0#32
  ![v36.toNat, 0]

def k0_chk2 (i : grid0.Coords) (v34 : BitVec 32) : Prop :=
  (∀ (k0_h1 : k0_cond1 i = 1#1), 16 ∣ (k0_mult2 v34).toNat) ∧
  (∀ (k0_h1 : k0_cond1 i = 1#1), ∀ a, (k0_off3 v34) a + S16x1024.size a ≤ S49152x1024.size a) ∧
  (∀ (k0_h1 : k0_cond1 i = 1#1), ∀ (hinb : ∀ a, (k0_off3 v34) a + S16x1024.size a ≤ S49152x1024.size a), (Rect.unit (s := S49152x1024) (k0_off3 v34) S16x1024.size hinb).WholeWords (EltTy.packing .bf16))
theorem k0_mult2_dvd : ∀ (i : grid0.Coords) (v34 : BitVec 32) (k0_hw2 : k0_chk2 i v34), ∀ (k0_h1 : k0_cond1 i = 1#1), 16 ∣ (k0_mult2 v34).toNat := fun i v34 k0_hw2 k0_h1 => k0_hw2.1 k0_h1
theorem k0_off3_inb : ∀ (i : grid0.Coords) (v34 : BitVec 32) (k0_hw2 : k0_chk2 i v34), ∀ (k0_h1 : k0_cond1 i = 1#1), ∀ a, (k0_off3 v34) a + S16x1024.size a ≤ S49152x1024.size a := fun i v34 k0_hw2 k0_h1 => k0_hw2.2.1 k0_h1
theorem k0_off3_wordsbf16 : ∀ (i : grid0.Coords) (v34 : BitVec 32) (k0_hw2 : k0_chk2 i v34), ∀ (k0_h1 : k0_cond1 i = 1#1), (Rect.unit (s := S49152x1024) (k0_off3 v34) S16x1024.size (k0_off3_inb i v34 k0_hw2 k0_h1)).WholeWords (EltTy.packing .bf16) := fun i v34 k0_hw2 k0_h1 => k0_hw2.2.2 k0_h1 (k0_off3_inb i v34 k0_hw2 k0_h1)

def k0_mult3 (v42 : BitVec 32) : BitVec 32 :=
  let c16_i32_23 : BitVec 32 := 16#32
  let v43 : BitVec 32 := Scalar.muli v42 c16_i32_23
  v43

def k0_off4 (v42 : BitVec 32) : Fin 2 → Nat :=
  let c16_i32_23 : BitVec 32 := 16#32
  let v43 : BitVec 32 := Scalar.muli v42 c16_i32_23
  let v44 : BitVec 32 := v43
  let c0_i32_27 : BitVec 32 := 0#32
  ![v44.toNat, 0]

def k0_chk3 (i : grid0.Coords) (v42 : BitVec 32) : Prop :=
  (∀ (k0_h1 : k0_cond1 i = 1#1), 16 ∣ (k0_mult3 v42).toNat) ∧
  (∀ (k0_h1 : k0_cond1 i = 1#1), ∀ a, (k0_off4 v42) a + S16x1024.size a ≤ S49152x1024.size a) ∧
  (∀ (k0_h1 : k0_cond1 i = 1#1), ∀ (hinb : ∀ a, (k0_off4 v42) a + S16x1024.size a ≤ S49152x1024.size a), (Rect.unit (s := S49152x1024) (k0_off4 v42) S16x1024.size hinb).WholeWords (EltTy.packing .bf16))
theorem k0_mult3_dvd : ∀ (i : grid0.Coords) (v42 : BitVec 32) (k0_hw3 : k0_chk3 i v42), ∀ (k0_h1 : k0_cond1 i = 1#1), 16 ∣ (k0_mult3 v42).toNat := fun i v42 k0_hw3 k0_h1 => k0_hw3.1 k0_h1
theorem k0_off4_inb : ∀ (i : grid0.Coords) (v42 : BitVec 32) (k0_hw3 : k0_chk3 i v42), ∀ (k0_h1 : k0_cond1 i = 1#1), ∀ a, (k0_off4 v42) a + S16x1024.size a ≤ S49152x1024.size a := fun i v42 k0_hw3 k0_h1 => k0_hw3.2.1 k0_h1
theorem k0_off4_wordsbf16 : ∀ (i : grid0.Coords) (v42 : BitVec 32) (k0_hw3 : k0_chk3 i v42), ∀ (k0_h1 : k0_cond1 i = 1#1), (Rect.unit (s := S49152x1024) (k0_off4 v42) S16x1024.size (k0_off4_inb i v42 k0_hw3 k0_h1)).WholeWords (EltTy.packing .bf16) := fun i v42 k0_hw3 k0_h1 => k0_hw3.2.2 k0_h1 (k0_off4_inb i v42 k0_hw3 k0_h1)

def k0_mult4 (v50 : BitVec 32) : BitVec 32 :=
  let c16_i32_28 : BitVec 32 := 16#32
  let v51 : BitVec 32 := Scalar.muli v50 c16_i32_28
  v51

def k0_off5 (v50 : BitVec 32) : Fin 2 → Nat :=
  let c16_i32_28 : BitVec 32 := 16#32
  let v51 : BitVec 32 := Scalar.muli v50 c16_i32_28
  let v52 : BitVec 32 := v51
  let c0_i32_32 : BitVec 32 := 0#32
  ![v52.toNat, 0]

def k0_chk4 (i : grid0.Coords) (v50 : BitVec 32) : Prop :=
  (∀ (k0_h1 : k0_cond1 i = 1#1), 16 ∣ (k0_mult4 v50).toNat) ∧
  (∀ (k0_h1 : k0_cond1 i = 1#1), ∀ a, (k0_off5 v50) a + S16x1024.size a ≤ S49152x1024.size a) ∧
  (∀ (k0_h1 : k0_cond1 i = 1#1), ∀ (hinb : ∀ a, (k0_off5 v50) a + S16x1024.size a ≤ S49152x1024.size a), (Rect.unit (s := S49152x1024) (k0_off5 v50) S16x1024.size hinb).WholeWords (EltTy.packing .bf16))
theorem k0_mult4_dvd : ∀ (i : grid0.Coords) (v50 : BitVec 32) (k0_hw4 : k0_chk4 i v50), ∀ (k0_h1 : k0_cond1 i = 1#1), 16 ∣ (k0_mult4 v50).toNat := fun i v50 k0_hw4 k0_h1 => k0_hw4.1 k0_h1
theorem k0_off5_inb : ∀ (i : grid0.Coords) (v50 : BitVec 32) (k0_hw4 : k0_chk4 i v50), ∀ (k0_h1 : k0_cond1 i = 1#1), ∀ a, (k0_off5 v50) a + S16x1024.size a ≤ S49152x1024.size a := fun i v50 k0_hw4 k0_h1 => k0_hw4.2.1 k0_h1
theorem k0_off5_wordsbf16 : ∀ (i : grid0.Coords) (v50 : BitVec 32) (k0_hw4 : k0_chk4 i v50), ∀ (k0_h1 : k0_cond1 i = 1#1), (Rect.unit (s := S49152x1024) (k0_off5 v50) S16x1024.size (k0_off5_inb i v50 k0_hw4 k0_h1)).WholeWords (EltTy.packing .bf16) := fun i v50 k0_hw4 k0_h1 => k0_hw4.2.2 k0_h1 (k0_off5_inb i v50 k0_hw4 k0_h1)

def k0_mult5 (v58 : BitVec 32) : BitVec 32 :=
  let c16_i32_33 : BitVec 32 := 16#32
  let v59 : BitVec 32 := Scalar.muli v58 c16_i32_33
  v59

def k0_off6 (v58 : BitVec 32) : Fin 2 → Nat :=
  let c16_i32_33 : BitVec 32 := 16#32
  let v59 : BitVec 32 := Scalar.muli v58 c16_i32_33
  let v60 : BitVec 32 := v59
  let c0_i32_37 : BitVec 32 := 0#32
  ![v60.toNat, 0]

def k0_chk5 (i : grid0.Coords) (v58 : BitVec 32) : Prop :=
  (∀ (k0_h1 : k0_cond1 i = 1#1), 16 ∣ (k0_mult5 v58).toNat) ∧
  (∀ (k0_h1 : k0_cond1 i = 1#1), ∀ a, (k0_off6 v58) a + S16x1024.size a ≤ S49152x1024.size a) ∧
  (∀ (k0_h1 : k0_cond1 i = 1#1), ∀ (hinb : ∀ a, (k0_off6 v58) a + S16x1024.size a ≤ S49152x1024.size a), (Rect.unit (s := S49152x1024) (k0_off6 v58) S16x1024.size hinb).WholeWords (EltTy.packing .bf16))
theorem k0_mult5_dvd : ∀ (i : grid0.Coords) (v58 : BitVec 32) (k0_hw5 : k0_chk5 i v58), ∀ (k0_h1 : k0_cond1 i = 1#1), 16 ∣ (k0_mult5 v58).toNat := fun i v58 k0_hw5 k0_h1 => k0_hw5.1 k0_h1
theorem k0_off6_inb : ∀ (i : grid0.Coords) (v58 : BitVec 32) (k0_hw5 : k0_chk5 i v58), ∀ (k0_h1 : k0_cond1 i = 1#1), ∀ a, (k0_off6 v58) a + S16x1024.size a ≤ S49152x1024.size a := fun i v58 k0_hw5 k0_h1 => k0_hw5.2.1 k0_h1
theorem k0_off6_wordsbf16 : ∀ (i : grid0.Coords) (v58 : BitVec 32) (k0_hw5 : k0_chk5 i v58), ∀ (k0_h1 : k0_cond1 i = 1#1), (Rect.unit (s := S49152x1024) (k0_off6 v58) S16x1024.size (k0_off6_inb i v58 k0_hw5 k0_h1)).WholeWords (EltTy.packing .bf16) := fun i v58 k0_hw5 k0_h1 => k0_hw5.2.2 k0_h1 (k0_off6_inb i v58 k0_hw5 k0_h1)

def k0_mult6 (v66 : BitVec 32) : BitVec 32 :=
  let c16_i32_38 : BitVec 32 := 16#32
  let v67 : BitVec 32 := Scalar.muli v66 c16_i32_38
  v67

def k0_off7 (v66 : BitVec 32) : Fin 2 → Nat :=
  let c16_i32_38 : BitVec 32 := 16#32
  let v67 : BitVec 32 := Scalar.muli v66 c16_i32_38
  let v68 : BitVec 32 := v67
  let c0_i32_42 : BitVec 32 := 0#32
  ![v68.toNat, 0]

def k0_chk6 (i : grid0.Coords) (v66 : BitVec 32) : Prop :=
  (∀ (k0_h1 : k0_cond1 i = 1#1), 16 ∣ (k0_mult6 v66).toNat) ∧
  (∀ (k0_h1 : k0_cond1 i = 1#1), ∀ a, (k0_off7 v66) a + S16x1024.size a ≤ S49152x1024.size a) ∧
  (∀ (k0_h1 : k0_cond1 i = 1#1), ∀ (hinb : ∀ a, (k0_off7 v66) a + S16x1024.size a ≤ S49152x1024.size a), (Rect.unit (s := S49152x1024) (k0_off7 v66) S16x1024.size hinb).WholeWords (EltTy.packing .bf16))
theorem k0_mult6_dvd : ∀ (i : grid0.Coords) (v66 : BitVec 32) (k0_hw6 : k0_chk6 i v66), ∀ (k0_h1 : k0_cond1 i = 1#1), 16 ∣ (k0_mult6 v66).toNat := fun i v66 k0_hw6 k0_h1 => k0_hw6.1 k0_h1
theorem k0_off7_inb : ∀ (i : grid0.Coords) (v66 : BitVec 32) (k0_hw6 : k0_chk6 i v66), ∀ (k0_h1 : k0_cond1 i = 1#1), ∀ a, (k0_off7 v66) a + S16x1024.size a ≤ S49152x1024.size a := fun i v66 k0_hw6 k0_h1 => k0_hw6.2.1 k0_h1
theorem k0_off7_wordsbf16 : ∀ (i : grid0.Coords) (v66 : BitVec 32) (k0_hw6 : k0_chk6 i v66), ∀ (k0_h1 : k0_cond1 i = 1#1), (Rect.unit (s := S49152x1024) (k0_off7 v66) S16x1024.size (k0_off7_inb i v66 k0_hw6 k0_h1)).WholeWords (EltTy.packing .bf16) := fun i v66 k0_hw6 k0_h1 => k0_hw6.2.2 k0_h1 (k0_off7_inb i v66 k0_hw6 k0_h1)

def k0_mult7 (v74 : BitVec 32) : BitVec 32 :=
  let c16_i32_43 : BitVec 32 := 16#32
  let v75 : BitVec 32 := Scalar.muli v74 c16_i32_43
  v75

def k0_off8 (v74 : BitVec 32) : Fin 2 → Nat :=
  let c16_i32_43 : BitVec 32 := 16#32
  let v75 : BitVec 32 := Scalar.muli v74 c16_i32_43
  let v76 : BitVec 32 := v75
  let c0_i32_47 : BitVec 32 := 0#32
  ![v76.toNat, 0]

def k0_chk7 (i : grid0.Coords) (v74 : BitVec 32) : Prop :=
  (∀ (k0_h1 : k0_cond1 i = 1#1), 16 ∣ (k0_mult7 v74).toNat) ∧
  (∀ (k0_h1 : k0_cond1 i = 1#1), ∀ a, (k0_off8 v74) a + S16x1024.size a ≤ S49152x1024.size a) ∧
  (∀ (k0_h1 : k0_cond1 i = 1#1), ∀ (hinb : ∀ a, (k0_off8 v74) a + S16x1024.size a ≤ S49152x1024.size a), (Rect.unit (s := S49152x1024) (k0_off8 v74) S16x1024.size hinb).WholeWords (EltTy.packing .bf16))
theorem k0_mult7_dvd : ∀ (i : grid0.Coords) (v74 : BitVec 32) (k0_hw7 : k0_chk7 i v74), ∀ (k0_h1 : k0_cond1 i = 1#1), 16 ∣ (k0_mult7 v74).toNat := fun i v74 k0_hw7 k0_h1 => k0_hw7.1 k0_h1
theorem k0_off8_inb : ∀ (i : grid0.Coords) (v74 : BitVec 32) (k0_hw7 : k0_chk7 i v74), ∀ (k0_h1 : k0_cond1 i = 1#1), ∀ a, (k0_off8 v74) a + S16x1024.size a ≤ S49152x1024.size a := fun i v74 k0_hw7 k0_h1 => k0_hw7.2.1 k0_h1
theorem k0_off8_wordsbf16 : ∀ (i : grid0.Coords) (v74 : BitVec 32) (k0_hw7 : k0_chk7 i v74), ∀ (k0_h1 : k0_cond1 i = 1#1), (Rect.unit (s := S49152x1024) (k0_off8 v74) S16x1024.size (k0_off8_inb i v74 k0_hw7 k0_h1)).WholeWords (EltTy.packing .bf16) := fun i v74 k0_hw7 k0_h1 => k0_hw7.2.2 k0_h1 (k0_off8_inb i v74 k0_hw7 k0_h1)

def k0_mult8 (v82 : BitVec 32) : BitVec 32 :=
  let c16_i32_48 : BitVec 32 := 16#32
  let v83 : BitVec 32 := Scalar.muli v82 c16_i32_48
  v83

def k0_off9 (v82 : BitVec 32) : Fin 2 → Nat :=
  let c16_i32_48 : BitVec 32 := 16#32
  let v83 : BitVec 32 := Scalar.muli v82 c16_i32_48
  let v84 : BitVec 32 := v83
  let c0_i32_52 : BitVec 32 := 0#32
  ![v84.toNat, 0]

def k0_chk8 (i : grid0.Coords) (v82 : BitVec 32) : Prop :=
  (∀ (k0_h1 : k0_cond1 i = 1#1), 16 ∣ (k0_mult8 v82).toNat) ∧
  (∀ (k0_h1 : k0_cond1 i = 1#1), ∀ a, (k0_off9 v82) a + S16x1024.size a ≤ S49152x1024.size a) ∧
  (∀ (k0_h1 : k0_cond1 i = 1#1), ∀ (hinb : ∀ a, (k0_off9 v82) a + S16x1024.size a ≤ S49152x1024.size a), (Rect.unit (s := S49152x1024) (k0_off9 v82) S16x1024.size hinb).WholeWords (EltTy.packing .bf16))
theorem k0_mult8_dvd : ∀ (i : grid0.Coords) (v82 : BitVec 32) (k0_hw8 : k0_chk8 i v82), ∀ (k0_h1 : k0_cond1 i = 1#1), 16 ∣ (k0_mult8 v82).toNat := fun i v82 k0_hw8 k0_h1 => k0_hw8.1 k0_h1
theorem k0_off9_inb : ∀ (i : grid0.Coords) (v82 : BitVec 32) (k0_hw8 : k0_chk8 i v82), ∀ (k0_h1 : k0_cond1 i = 1#1), ∀ a, (k0_off9 v82) a + S16x1024.size a ≤ S49152x1024.size a := fun i v82 k0_hw8 k0_h1 => k0_hw8.2.1 k0_h1
theorem k0_off9_wordsbf16 : ∀ (i : grid0.Coords) (v82 : BitVec 32) (k0_hw8 : k0_chk8 i v82), ∀ (k0_h1 : k0_cond1 i = 1#1), (Rect.unit (s := S49152x1024) (k0_off9 v82) S16x1024.size (k0_off9_inb i v82 k0_hw8 k0_h1)).WholeWords (EltTy.packing .bf16) := fun i v82 k0_hw8 k0_h1 => k0_hw8.2.2 k0_h1 (k0_off9_inb i v82 k0_hw8 k0_h1)

def k0_mult9 (v90 : BitVec 32) : BitVec 32 :=
  let c16_i32_53 : BitVec 32 := 16#32
  let v91 : BitVec 32 := Scalar.muli v90 c16_i32_53
  v91

def k0_off10 (v90 : BitVec 32) : Fin 2 → Nat :=
  let c16_i32_53 : BitVec 32 := 16#32
  let v91 : BitVec 32 := Scalar.muli v90 c16_i32_53
  let v92 : BitVec 32 := v91
  let c0_i32_57 : BitVec 32 := 0#32
  ![v92.toNat, 0]

def k0_chk9 (i : grid0.Coords) (v90 : BitVec 32) : Prop :=
  (∀ (k0_h1 : k0_cond1 i = 1#1), 16 ∣ (k0_mult9 v90).toNat) ∧
  (∀ (k0_h1 : k0_cond1 i = 1#1), ∀ a, (k0_off10 v90) a + S16x1024.size a ≤ S49152x1024.size a) ∧
  (∀ (k0_h1 : k0_cond1 i = 1#1), ∀ (hinb : ∀ a, (k0_off10 v90) a + S16x1024.size a ≤ S49152x1024.size a), (Rect.unit (s := S49152x1024) (k0_off10 v90) S16x1024.size hinb).WholeWords (EltTy.packing .bf16))
theorem k0_mult9_dvd : ∀ (i : grid0.Coords) (v90 : BitVec 32) (k0_hw9 : k0_chk9 i v90), ∀ (k0_h1 : k0_cond1 i = 1#1), 16 ∣ (k0_mult9 v90).toNat := fun i v90 k0_hw9 k0_h1 => k0_hw9.1 k0_h1
theorem k0_off10_inb : ∀ (i : grid0.Coords) (v90 : BitVec 32) (k0_hw9 : k0_chk9 i v90), ∀ (k0_h1 : k0_cond1 i = 1#1), ∀ a, (k0_off10 v90) a + S16x1024.size a ≤ S49152x1024.size a := fun i v90 k0_hw9 k0_h1 => k0_hw9.2.1 k0_h1
theorem k0_off10_wordsbf16 : ∀ (i : grid0.Coords) (v90 : BitVec 32) (k0_hw9 : k0_chk9 i v90), ∀ (k0_h1 : k0_cond1 i = 1#1), (Rect.unit (s := S49152x1024) (k0_off10 v90) S16x1024.size (k0_off10_inb i v90 k0_hw9 k0_h1)).WholeWords (EltTy.packing .bf16) := fun i v90 k0_hw9 k0_h1 => k0_hw9.2.2 k0_h1 (k0_off10_inb i v90 k0_hw9 k0_h1)

def k0_mult10 (v98 : BitVec 32) : BitVec 32 :=
  let c16_i32_58 : BitVec 32 := 16#32
  let v99 : BitVec 32 := Scalar.muli v98 c16_i32_58
  v99

def k0_off11 (v98 : BitVec 32) : Fin 2 → Nat :=
  let c16_i32_58 : BitVec 32 := 16#32
  let v99 : BitVec 32 := Scalar.muli v98 c16_i32_58
  let v100 : BitVec 32 := v99
  let c0_i32_62 : BitVec 32 := 0#32
  ![v100.toNat, 0]

def k0_chk10 (i : grid0.Coords) (v98 : BitVec 32) : Prop :=
  (∀ (k0_h1 : k0_cond1 i = 1#1), 16 ∣ (k0_mult10 v98).toNat) ∧
  (∀ (k0_h1 : k0_cond1 i = 1#1), ∀ a, (k0_off11 v98) a + S16x1024.size a ≤ S49152x1024.size a) ∧
  (∀ (k0_h1 : k0_cond1 i = 1#1), ∀ (hinb : ∀ a, (k0_off11 v98) a + S16x1024.size a ≤ S49152x1024.size a), (Rect.unit (s := S49152x1024) (k0_off11 v98) S16x1024.size hinb).WholeWords (EltTy.packing .bf16))
theorem k0_mult10_dvd : ∀ (i : grid0.Coords) (v98 : BitVec 32) (k0_hw10 : k0_chk10 i v98), ∀ (k0_h1 : k0_cond1 i = 1#1), 16 ∣ (k0_mult10 v98).toNat := fun i v98 k0_hw10 k0_h1 => k0_hw10.1 k0_h1
theorem k0_off11_inb : ∀ (i : grid0.Coords) (v98 : BitVec 32) (k0_hw10 : k0_chk10 i v98), ∀ (k0_h1 : k0_cond1 i = 1#1), ∀ a, (k0_off11 v98) a + S16x1024.size a ≤ S49152x1024.size a := fun i v98 k0_hw10 k0_h1 => k0_hw10.2.1 k0_h1
theorem k0_off11_wordsbf16 : ∀ (i : grid0.Coords) (v98 : BitVec 32) (k0_hw10 : k0_chk10 i v98), ∀ (k0_h1 : k0_cond1 i = 1#1), (Rect.unit (s := S49152x1024) (k0_off11 v98) S16x1024.size (k0_off11_inb i v98 k0_hw10 k0_h1)).WholeWords (EltTy.packing .bf16) := fun i v98 k0_hw10 k0_h1 => k0_hw10.2.2 k0_h1 (k0_off11_inb i v98 k0_hw10 k0_h1)

def k0_mult11 (v106 : BitVec 32) : BitVec 32 :=
  let c16_i32_63 : BitVec 32 := 16#32
  let v107 : BitVec 32 := Scalar.muli v106 c16_i32_63
  v107

def k0_off12 (v106 : BitVec 32) : Fin 2 → Nat :=
  let c16_i32_63 : BitVec 32 := 16#32
  let v107 : BitVec 32 := Scalar.muli v106 c16_i32_63
  let v108 : BitVec 32 := v107
  let c0_i32_67 : BitVec 32 := 0#32
  ![v108.toNat, 0]

def k0_chk11 (i : grid0.Coords) (v106 : BitVec 32) : Prop :=
  (∀ (k0_h1 : k0_cond1 i = 1#1), 16 ∣ (k0_mult11 v106).toNat) ∧
  (∀ (k0_h1 : k0_cond1 i = 1#1), ∀ a, (k0_off12 v106) a + S16x1024.size a ≤ S49152x1024.size a) ∧
  (∀ (k0_h1 : k0_cond1 i = 1#1), ∀ (hinb : ∀ a, (k0_off12 v106) a + S16x1024.size a ≤ S49152x1024.size a), (Rect.unit (s := S49152x1024) (k0_off12 v106) S16x1024.size hinb).WholeWords (EltTy.packing .bf16))
theorem k0_mult11_dvd : ∀ (i : grid0.Coords) (v106 : BitVec 32) (k0_hw11 : k0_chk11 i v106), ∀ (k0_h1 : k0_cond1 i = 1#1), 16 ∣ (k0_mult11 v106).toNat := fun i v106 k0_hw11 k0_h1 => k0_hw11.1 k0_h1
theorem k0_off12_inb : ∀ (i : grid0.Coords) (v106 : BitVec 32) (k0_hw11 : k0_chk11 i v106), ∀ (k0_h1 : k0_cond1 i = 1#1), ∀ a, (k0_off12 v106) a + S16x1024.size a ≤ S49152x1024.size a := fun i v106 k0_hw11 k0_h1 => k0_hw11.2.1 k0_h1
theorem k0_off12_wordsbf16 : ∀ (i : grid0.Coords) (v106 : BitVec 32) (k0_hw11 : k0_chk11 i v106), ∀ (k0_h1 : k0_cond1 i = 1#1), (Rect.unit (s := S49152x1024) (k0_off12 v106) S16x1024.size (k0_off12_inb i v106 k0_hw11 k0_h1)).WholeWords (EltTy.packing .bf16) := fun i v106 k0_hw11 k0_h1 => k0_hw11.2.2 k0_h1 (k0_off12_inb i v106 k0_hw11 k0_h1)

def k0_mult12 (v114 : BitVec 32) : BitVec 32 :=
  let c16_i32_68 : BitVec 32 := 16#32
  let v115 : BitVec 32 := Scalar.muli v114 c16_i32_68
  v115

def k0_off13 (v114 : BitVec 32) : Fin 2 → Nat :=
  let c16_i32_68 : BitVec 32 := 16#32
  let v115 : BitVec 32 := Scalar.muli v114 c16_i32_68
  let v116 : BitVec 32 := v115
  let c0_i32_72 : BitVec 32 := 0#32
  ![v116.toNat, 0]

def k0_chk12 (i : grid0.Coords) (v114 : BitVec 32) : Prop :=
  (∀ (k0_h1 : k0_cond1 i = 1#1), 16 ∣ (k0_mult12 v114).toNat) ∧
  (∀ (k0_h1 : k0_cond1 i = 1#1), ∀ a, (k0_off13 v114) a + S16x1024.size a ≤ S49152x1024.size a) ∧
  (∀ (k0_h1 : k0_cond1 i = 1#1), ∀ (hinb : ∀ a, (k0_off13 v114) a + S16x1024.size a ≤ S49152x1024.size a), (Rect.unit (s := S49152x1024) (k0_off13 v114) S16x1024.size hinb).WholeWords (EltTy.packing .bf16))
theorem k0_mult12_dvd : ∀ (i : grid0.Coords) (v114 : BitVec 32) (k0_hw12 : k0_chk12 i v114), ∀ (k0_h1 : k0_cond1 i = 1#1), 16 ∣ (k0_mult12 v114).toNat := fun i v114 k0_hw12 k0_h1 => k0_hw12.1 k0_h1
theorem k0_off13_inb : ∀ (i : grid0.Coords) (v114 : BitVec 32) (k0_hw12 : k0_chk12 i v114), ∀ (k0_h1 : k0_cond1 i = 1#1), ∀ a, (k0_off13 v114) a + S16x1024.size a ≤ S49152x1024.size a := fun i v114 k0_hw12 k0_h1 => k0_hw12.2.1 k0_h1
theorem k0_off13_wordsbf16 : ∀ (i : grid0.Coords) (v114 : BitVec 32) (k0_hw12 : k0_chk12 i v114), ∀ (k0_h1 : k0_cond1 i = 1#1), (Rect.unit (s := S49152x1024) (k0_off13 v114) S16x1024.size (k0_off13_inb i v114 k0_hw12 k0_h1)).WholeWords (EltTy.packing .bf16) := fun i v114 k0_hw12 k0_h1 => k0_hw12.2.2 k0_h1 (k0_off13_inb i v114 k0_hw12 k0_h1)

def k0_mult13 (v122 : BitVec 32) : BitVec 32 :=
  let c16_i32_73 : BitVec 32 := 16#32
  let v123 : BitVec 32 := Scalar.muli v122 c16_i32_73
  v123

def k0_off14 (v122 : BitVec 32) : Fin 2 → Nat :=
  let c16_i32_73 : BitVec 32 := 16#32
  let v123 : BitVec 32 := Scalar.muli v122 c16_i32_73
  let v124 : BitVec 32 := v123
  let c0_i32_77 : BitVec 32 := 0#32
  ![v124.toNat, 0]

def k0_chk13 (i : grid0.Coords) (v122 : BitVec 32) : Prop :=
  (∀ (k0_h1 : k0_cond1 i = 1#1), 16 ∣ (k0_mult13 v122).toNat) ∧
  (∀ (k0_h1 : k0_cond1 i = 1#1), ∀ a, (k0_off14 v122) a + S16x1024.size a ≤ S49152x1024.size a) ∧
  (∀ (k0_h1 : k0_cond1 i = 1#1), ∀ (hinb : ∀ a, (k0_off14 v122) a + S16x1024.size a ≤ S49152x1024.size a), (Rect.unit (s := S49152x1024) (k0_off14 v122) S16x1024.size hinb).WholeWords (EltTy.packing .bf16))
theorem k0_mult13_dvd : ∀ (i : grid0.Coords) (v122 : BitVec 32) (k0_hw13 : k0_chk13 i v122), ∀ (k0_h1 : k0_cond1 i = 1#1), 16 ∣ (k0_mult13 v122).toNat := fun i v122 k0_hw13 k0_h1 => k0_hw13.1 k0_h1
theorem k0_off14_inb : ∀ (i : grid0.Coords) (v122 : BitVec 32) (k0_hw13 : k0_chk13 i v122), ∀ (k0_h1 : k0_cond1 i = 1#1), ∀ a, (k0_off14 v122) a + S16x1024.size a ≤ S49152x1024.size a := fun i v122 k0_hw13 k0_h1 => k0_hw13.2.1 k0_h1
theorem k0_off14_wordsbf16 : ∀ (i : grid0.Coords) (v122 : BitVec 32) (k0_hw13 : k0_chk13 i v122), ∀ (k0_h1 : k0_cond1 i = 1#1), (Rect.unit (s := S49152x1024) (k0_off14 v122) S16x1024.size (k0_off14_inb i v122 k0_hw13 k0_h1)).WholeWords (EltTy.packing .bf16) := fun i v122 k0_hw13 k0_h1 => k0_hw13.2.2 k0_h1 (k0_off14_inb i v122 k0_hw13 k0_h1)

def k0_mult14 (v130 : BitVec 32) : BitVec 32 :=
  let c16_i32_78 : BitVec 32 := 16#32
  let v131 : BitVec 32 := Scalar.muli v130 c16_i32_78
  v131

def k0_off15 (v130 : BitVec 32) : Fin 2 → Nat :=
  let c16_i32_78 : BitVec 32 := 16#32
  let v131 : BitVec 32 := Scalar.muli v130 c16_i32_78
  let v132 : BitVec 32 := v131
  let c0_i32_82 : BitVec 32 := 0#32
  ![v132.toNat, 0]

def k0_chk14 (i : grid0.Coords) (v130 : BitVec 32) : Prop :=
  (∀ (k0_h1 : k0_cond1 i = 1#1), 16 ∣ (k0_mult14 v130).toNat) ∧
  (∀ (k0_h1 : k0_cond1 i = 1#1), ∀ a, (k0_off15 v130) a + S16x1024.size a ≤ S49152x1024.size a) ∧
  (∀ (k0_h1 : k0_cond1 i = 1#1), ∀ (hinb : ∀ a, (k0_off15 v130) a + S16x1024.size a ≤ S49152x1024.size a), (Rect.unit (s := S49152x1024) (k0_off15 v130) S16x1024.size hinb).WholeWords (EltTy.packing .bf16))
theorem k0_mult14_dvd : ∀ (i : grid0.Coords) (v130 : BitVec 32) (k0_hw14 : k0_chk14 i v130), ∀ (k0_h1 : k0_cond1 i = 1#1), 16 ∣ (k0_mult14 v130).toNat := fun i v130 k0_hw14 k0_h1 => k0_hw14.1 k0_h1
theorem k0_off15_inb : ∀ (i : grid0.Coords) (v130 : BitVec 32) (k0_hw14 : k0_chk14 i v130), ∀ (k0_h1 : k0_cond1 i = 1#1), ∀ a, (k0_off15 v130) a + S16x1024.size a ≤ S49152x1024.size a := fun i v130 k0_hw14 k0_h1 => k0_hw14.2.1 k0_h1
theorem k0_off15_wordsbf16 : ∀ (i : grid0.Coords) (v130 : BitVec 32) (k0_hw14 : k0_chk14 i v130), ∀ (k0_h1 : k0_cond1 i = 1#1), (Rect.unit (s := S49152x1024) (k0_off15 v130) S16x1024.size (k0_off15_inb i v130 k0_hw14 k0_h1)).WholeWords (EltTy.packing .bf16) := fun i v130 k0_hw14 k0_h1 => k0_hw14.2.2 k0_h1 (k0_off15_inb i v130 k0_hw14 k0_h1)

def k0_mult15 (v138 : BitVec 32) : BitVec 32 :=
  let c16_i32_83 : BitVec 32 := 16#32
  let v139 : BitVec 32 := Scalar.muli v138 c16_i32_83
  v139

def k0_off16 (v138 : BitVec 32) : Fin 2 → Nat :=
  let c16_i32_83 : BitVec 32 := 16#32
  let v139 : BitVec 32 := Scalar.muli v138 c16_i32_83
  let v140 : BitVec 32 := v139
  let c0_i32_87 : BitVec 32 := 0#32
  ![v140.toNat, 0]

def k0_chk15 (i : grid0.Coords) (v138 : BitVec 32) : Prop :=
  (∀ (k0_h1 : k0_cond1 i = 1#1), 16 ∣ (k0_mult15 v138).toNat) ∧
  (∀ (k0_h1 : k0_cond1 i = 1#1), ∀ a, (k0_off16 v138) a + S16x1024.size a ≤ S49152x1024.size a) ∧
  (∀ (k0_h1 : k0_cond1 i = 1#1), ∀ (hinb : ∀ a, (k0_off16 v138) a + S16x1024.size a ≤ S49152x1024.size a), (Rect.unit (s := S49152x1024) (k0_off16 v138) S16x1024.size hinb).WholeWords (EltTy.packing .bf16))
theorem k0_mult15_dvd : ∀ (i : grid0.Coords) (v138 : BitVec 32) (k0_hw15 : k0_chk15 i v138), ∀ (k0_h1 : k0_cond1 i = 1#1), 16 ∣ (k0_mult15 v138).toNat := fun i v138 k0_hw15 k0_h1 => k0_hw15.1 k0_h1
theorem k0_off16_inb : ∀ (i : grid0.Coords) (v138 : BitVec 32) (k0_hw15 : k0_chk15 i v138), ∀ (k0_h1 : k0_cond1 i = 1#1), ∀ a, (k0_off16 v138) a + S16x1024.size a ≤ S49152x1024.size a := fun i v138 k0_hw15 k0_h1 => k0_hw15.2.1 k0_h1
theorem k0_off16_wordsbf16 : ∀ (i : grid0.Coords) (v138 : BitVec 32) (k0_hw15 : k0_chk15 i v138), ∀ (k0_h1 : k0_cond1 i = 1#1), (Rect.unit (s := S49152x1024) (k0_off16 v138) S16x1024.size (k0_off16_inb i v138 k0_hw15 k0_h1)).WholeWords (EltTy.packing .bf16) := fun i v138 k0_hw15 k0_h1 => k0_hw15.2.2 k0_h1 (k0_off16_inb i v138 k0_hw15 k0_h1)

def k0_mult16 (v146 : BitVec 32) : BitVec 32 :=
  let c16_i32_88 : BitVec 32 := 16#32
  let v147 : BitVec 32 := Scalar.muli v146 c16_i32_88
  v147

def k0_off17 (v146 : BitVec 32) : Fin 2 → Nat :=
  let c16_i32_88 : BitVec 32 := 16#32
  let v147 : BitVec 32 := Scalar.muli v146 c16_i32_88
  let v148 : BitVec 32 := v147
  let c0_i32_92 : BitVec 32 := 0#32
  ![v148.toNat, 0]

def k0_chk16 (i : grid0.Coords) (v146 : BitVec 32) : Prop :=
  (∀ (k0_h1 : k0_cond1 i = 1#1), 16 ∣ (k0_mult16 v146).toNat) ∧
  (∀ (k0_h1 : k0_cond1 i = 1#1), ∀ a, (k0_off17 v146) a + S16x1024.size a ≤ S49152x1024.size a) ∧
  (∀ (k0_h1 : k0_cond1 i = 1#1), ∀ (hinb : ∀ a, (k0_off17 v146) a + S16x1024.size a ≤ S49152x1024.size a), (Rect.unit (s := S49152x1024) (k0_off17 v146) S16x1024.size hinb).WholeWords (EltTy.packing .bf16))
theorem k0_mult16_dvd : ∀ (i : grid0.Coords) (v146 : BitVec 32) (k0_hw16 : k0_chk16 i v146), ∀ (k0_h1 : k0_cond1 i = 1#1), 16 ∣ (k0_mult16 v146).toNat := fun i v146 k0_hw16 k0_h1 => k0_hw16.1 k0_h1
theorem k0_off17_inb : ∀ (i : grid0.Coords) (v146 : BitVec 32) (k0_hw16 : k0_chk16 i v146), ∀ (k0_h1 : k0_cond1 i = 1#1), ∀ a, (k0_off17 v146) a + S16x1024.size a ≤ S49152x1024.size a := fun i v146 k0_hw16 k0_h1 => k0_hw16.2.1 k0_h1
theorem k0_off17_wordsbf16 : ∀ (i : grid0.Coords) (v146 : BitVec 32) (k0_hw16 : k0_chk16 i v146), ∀ (k0_h1 : k0_cond1 i = 1#1), (Rect.unit (s := S49152x1024) (k0_off17 v146) S16x1024.size (k0_off17_inb i v146 k0_hw16 k0_h1)).WholeWords (EltTy.packing .bf16) := fun i v146 k0_hw16 k0_h1 => k0_hw16.2.2 k0_h1 (k0_off17_inb i v146 k0_hw16 k0_h1)

def k0_mult17 (v154 : BitVec 32) : BitVec 32 :=
  let c16_i32_93 : BitVec 32 := 16#32
  let v155 : BitVec 32 := Scalar.muli v154 c16_i32_93
  v155

def k0_off18 (v154 : BitVec 32) : Fin 2 → Nat :=
  let c16_i32_93 : BitVec 32 := 16#32
  let v155 : BitVec 32 := Scalar.muli v154 c16_i32_93
  let v156 : BitVec 32 := v155
  let c0_i32_97 : BitVec 32 := 0#32
  ![v156.toNat, 0]

def k0_chk17 (i : grid0.Coords) (v154 : BitVec 32) : Prop :=
  (∀ (k0_h1 : k0_cond1 i = 1#1), 16 ∣ (k0_mult17 v154).toNat) ∧
  (∀ (k0_h1 : k0_cond1 i = 1#1), ∀ a, (k0_off18 v154) a + S16x1024.size a ≤ S49152x1024.size a) ∧
  (∀ (k0_h1 : k0_cond1 i = 1#1), ∀ (hinb : ∀ a, (k0_off18 v154) a + S16x1024.size a ≤ S49152x1024.size a), (Rect.unit (s := S49152x1024) (k0_off18 v154) S16x1024.size hinb).WholeWords (EltTy.packing .bf16))
theorem k0_mult17_dvd : ∀ (i : grid0.Coords) (v154 : BitVec 32) (k0_hw17 : k0_chk17 i v154), ∀ (k0_h1 : k0_cond1 i = 1#1), 16 ∣ (k0_mult17 v154).toNat := fun i v154 k0_hw17 k0_h1 => k0_hw17.1 k0_h1
theorem k0_off18_inb : ∀ (i : grid0.Coords) (v154 : BitVec 32) (k0_hw17 : k0_chk17 i v154), ∀ (k0_h1 : k0_cond1 i = 1#1), ∀ a, (k0_off18 v154) a + S16x1024.size a ≤ S49152x1024.size a := fun i v154 k0_hw17 k0_h1 => k0_hw17.2.1 k0_h1
theorem k0_off18_wordsbf16 : ∀ (i : grid0.Coords) (v154 : BitVec 32) (k0_hw17 : k0_chk17 i v154), ∀ (k0_h1 : k0_cond1 i = 1#1), (Rect.unit (s := S49152x1024) (k0_off18 v154) S16x1024.size (k0_off18_inb i v154 k0_hw17 k0_h1)).WholeWords (EltTy.packing .bf16) := fun i v154 k0_hw17 k0_h1 => k0_hw17.2.2 k0_h1 (k0_off18_inb i v154 k0_hw17 k0_h1)

def k0_mult18 (v162 : BitVec 32) : BitVec 32 :=
  let c16_i32_98 : BitVec 32 := 16#32
  let v163 : BitVec 32 := Scalar.muli v162 c16_i32_98
  v163

def k0_off19 (v162 : BitVec 32) : Fin 2 → Nat :=
  let c16_i32_98 : BitVec 32 := 16#32
  let v163 : BitVec 32 := Scalar.muli v162 c16_i32_98
  let v164 : BitVec 32 := v163
  let c0_i32_102 : BitVec 32 := 0#32
  ![v164.toNat, 0]

def k0_chk18 (i : grid0.Coords) (v162 : BitVec 32) : Prop :=
  (∀ (k0_h1 : k0_cond1 i = 1#1), 16 ∣ (k0_mult18 v162).toNat) ∧
  (∀ (k0_h1 : k0_cond1 i = 1#1), ∀ a, (k0_off19 v162) a + S16x1024.size a ≤ S49152x1024.size a) ∧
  (∀ (k0_h1 : k0_cond1 i = 1#1), ∀ (hinb : ∀ a, (k0_off19 v162) a + S16x1024.size a ≤ S49152x1024.size a), (Rect.unit (s := S49152x1024) (k0_off19 v162) S16x1024.size hinb).WholeWords (EltTy.packing .bf16))
theorem k0_mult18_dvd : ∀ (i : grid0.Coords) (v162 : BitVec 32) (k0_hw18 : k0_chk18 i v162), ∀ (k0_h1 : k0_cond1 i = 1#1), 16 ∣ (k0_mult18 v162).toNat := fun i v162 k0_hw18 k0_h1 => k0_hw18.1 k0_h1
theorem k0_off19_inb : ∀ (i : grid0.Coords) (v162 : BitVec 32) (k0_hw18 : k0_chk18 i v162), ∀ (k0_h1 : k0_cond1 i = 1#1), ∀ a, (k0_off19 v162) a + S16x1024.size a ≤ S49152x1024.size a := fun i v162 k0_hw18 k0_h1 => k0_hw18.2.1 k0_h1
theorem k0_off19_wordsbf16 : ∀ (i : grid0.Coords) (v162 : BitVec 32) (k0_hw18 : k0_chk18 i v162), ∀ (k0_h1 : k0_cond1 i = 1#1), (Rect.unit (s := S49152x1024) (k0_off19 v162) S16x1024.size (k0_off19_inb i v162 k0_hw18 k0_h1)).WholeWords (EltTy.packing .bf16) := fun i v162 k0_hw18 k0_h1 => k0_hw18.2.2 k0_h1 (k0_off19_inb i v162 k0_hw18 k0_h1)

def k0_mult19 (v170 : BitVec 32) : BitVec 32 :=
  let c16_i32_103 : BitVec 32 := 16#32
  let v171 : BitVec 32 := Scalar.muli v170 c16_i32_103
  v171

def k0_off20 (v170 : BitVec 32) : Fin 2 → Nat :=
  let c16_i32_103 : BitVec 32 := 16#32
  let v171 : BitVec 32 := Scalar.muli v170 c16_i32_103
  let v172 : BitVec 32 := v171
  let c0_i32_107 : BitVec 32 := 0#32
  ![v172.toNat, 0]

def k0_chk19 (i : grid0.Coords) (v170 : BitVec 32) : Prop :=
  (∀ (k0_h1 : k0_cond1 i = 1#1), 16 ∣ (k0_mult19 v170).toNat) ∧
  (∀ (k0_h1 : k0_cond1 i = 1#1), ∀ a, (k0_off20 v170) a + S16x1024.size a ≤ S49152x1024.size a) ∧
  (∀ (k0_h1 : k0_cond1 i = 1#1), ∀ (hinb : ∀ a, (k0_off20 v170) a + S16x1024.size a ≤ S49152x1024.size a), (Rect.unit (s := S49152x1024) (k0_off20 v170) S16x1024.size hinb).WholeWords (EltTy.packing .bf16))
theorem k0_mult19_dvd : ∀ (i : grid0.Coords) (v170 : BitVec 32) (k0_hw19 : k0_chk19 i v170), ∀ (k0_h1 : k0_cond1 i = 1#1), 16 ∣ (k0_mult19 v170).toNat := fun i v170 k0_hw19 k0_h1 => k0_hw19.1 k0_h1
theorem k0_off20_inb : ∀ (i : grid0.Coords) (v170 : BitVec 32) (k0_hw19 : k0_chk19 i v170), ∀ (k0_h1 : k0_cond1 i = 1#1), ∀ a, (k0_off20 v170) a + S16x1024.size a ≤ S49152x1024.size a := fun i v170 k0_hw19 k0_h1 => k0_hw19.2.1 k0_h1
theorem k0_off20_wordsbf16 : ∀ (i : grid0.Coords) (v170 : BitVec 32) (k0_hw19 : k0_chk19 i v170), ∀ (k0_h1 : k0_cond1 i = 1#1), (Rect.unit (s := S49152x1024) (k0_off20 v170) S16x1024.size (k0_off20_inb i v170 k0_hw19 k0_h1)).WholeWords (EltTy.packing .bf16) := fun i v170 k0_hw19 k0_h1 => k0_hw19.2.2 k0_h1 (k0_off20_inb i v170 k0_hw19 k0_h1)

def k0_mult20 (v178 : BitVec 32) : BitVec 32 :=
  let c16_i32_108 : BitVec 32 := 16#32
  let v179 : BitVec 32 := Scalar.muli v178 c16_i32_108
  v179

def k0_off21 (v178 : BitVec 32) : Fin 2 → Nat :=
  let c16_i32_108 : BitVec 32 := 16#32
  let v179 : BitVec 32 := Scalar.muli v178 c16_i32_108
  let v180 : BitVec 32 := v179
  let c0_i32_112 : BitVec 32 := 0#32
  ![v180.toNat, 0]

def k0_chk20 (i : grid0.Coords) (v178 : BitVec 32) : Prop :=
  (∀ (k0_h1 : k0_cond1 i = 1#1), 16 ∣ (k0_mult20 v178).toNat) ∧
  (∀ (k0_h1 : k0_cond1 i = 1#1), ∀ a, (k0_off21 v178) a + S16x1024.size a ≤ S49152x1024.size a) ∧
  (∀ (k0_h1 : k0_cond1 i = 1#1), ∀ (hinb : ∀ a, (k0_off21 v178) a + S16x1024.size a ≤ S49152x1024.size a), (Rect.unit (s := S49152x1024) (k0_off21 v178) S16x1024.size hinb).WholeWords (EltTy.packing .bf16))
theorem k0_mult20_dvd : ∀ (i : grid0.Coords) (v178 : BitVec 32) (k0_hw20 : k0_chk20 i v178), ∀ (k0_h1 : k0_cond1 i = 1#1), 16 ∣ (k0_mult20 v178).toNat := fun i v178 k0_hw20 k0_h1 => k0_hw20.1 k0_h1
theorem k0_off21_inb : ∀ (i : grid0.Coords) (v178 : BitVec 32) (k0_hw20 : k0_chk20 i v178), ∀ (k0_h1 : k0_cond1 i = 1#1), ∀ a, (k0_off21 v178) a + S16x1024.size a ≤ S49152x1024.size a := fun i v178 k0_hw20 k0_h1 => k0_hw20.2.1 k0_h1
theorem k0_off21_wordsbf16 : ∀ (i : grid0.Coords) (v178 : BitVec 32) (k0_hw20 : k0_chk20 i v178), ∀ (k0_h1 : k0_cond1 i = 1#1), (Rect.unit (s := S49152x1024) (k0_off21 v178) S16x1024.size (k0_off21_inb i v178 k0_hw20 k0_h1)).WholeWords (EltTy.packing .bf16) := fun i v178 k0_hw20 k0_h1 => k0_hw20.2.2 k0_h1 (k0_off21_inb i v178 k0_hw20 k0_h1)

def k0_mult21 (v186 : BitVec 32) : BitVec 32 :=
  let c16_i32_113 : BitVec 32 := 16#32
  let v187 : BitVec 32 := Scalar.muli v186 c16_i32_113
  v187

def k0_off22 (v186 : BitVec 32) : Fin 2 → Nat :=
  let c16_i32_113 : BitVec 32 := 16#32
  let v187 : BitVec 32 := Scalar.muli v186 c16_i32_113
  let v188 : BitVec 32 := v187
  let c0_i32_117 : BitVec 32 := 0#32
  ![v188.toNat, 0]

def k0_chk21 (i : grid0.Coords) (v186 : BitVec 32) : Prop :=
  (∀ (k0_h1 : k0_cond1 i = 1#1), 16 ∣ (k0_mult21 v186).toNat) ∧
  (∀ (k0_h1 : k0_cond1 i = 1#1), ∀ a, (k0_off22 v186) a + S16x1024.size a ≤ S49152x1024.size a) ∧
  (∀ (k0_h1 : k0_cond1 i = 1#1), ∀ (hinb : ∀ a, (k0_off22 v186) a + S16x1024.size a ≤ S49152x1024.size a), (Rect.unit (s := S49152x1024) (k0_off22 v186) S16x1024.size hinb).WholeWords (EltTy.packing .bf16))
theorem k0_mult21_dvd : ∀ (i : grid0.Coords) (v186 : BitVec 32) (k0_hw21 : k0_chk21 i v186), ∀ (k0_h1 : k0_cond1 i = 1#1), 16 ∣ (k0_mult21 v186).toNat := fun i v186 k0_hw21 k0_h1 => k0_hw21.1 k0_h1
theorem k0_off22_inb : ∀ (i : grid0.Coords) (v186 : BitVec 32) (k0_hw21 : k0_chk21 i v186), ∀ (k0_h1 : k0_cond1 i = 1#1), ∀ a, (k0_off22 v186) a + S16x1024.size a ≤ S49152x1024.size a := fun i v186 k0_hw21 k0_h1 => k0_hw21.2.1 k0_h1
theorem k0_off22_wordsbf16 : ∀ (i : grid0.Coords) (v186 : BitVec 32) (k0_hw21 : k0_chk21 i v186), ∀ (k0_h1 : k0_cond1 i = 1#1), (Rect.unit (s := S49152x1024) (k0_off22 v186) S16x1024.size (k0_off22_inb i v186 k0_hw21 k0_h1)).WholeWords (EltTy.packing .bf16) := fun i v186 k0_hw21 k0_h1 => k0_hw21.2.2 k0_h1 (k0_off22_inb i v186 k0_hw21 k0_h1)

def k0_mult22 (v194 : BitVec 32) : BitVec 32 :=
  let c16_i32_118 : BitVec 32 := 16#32
  let v195 : BitVec 32 := Scalar.muli v194 c16_i32_118
  v195

def k0_off23 (v194 : BitVec 32) : Fin 2 → Nat :=
  let c16_i32_118 : BitVec 32 := 16#32
  let v195 : BitVec 32 := Scalar.muli v194 c16_i32_118
  let v196 : BitVec 32 := v195
  let c0_i32_122 : BitVec 32 := 0#32
  ![v196.toNat, 0]

def k0_chk22 (i : grid0.Coords) (v194 : BitVec 32) : Prop :=
  (∀ (k0_h1 : k0_cond1 i = 1#1), 16 ∣ (k0_mult22 v194).toNat) ∧
  (∀ (k0_h1 : k0_cond1 i = 1#1), ∀ a, (k0_off23 v194) a + S16x1024.size a ≤ S49152x1024.size a) ∧
  (∀ (k0_h1 : k0_cond1 i = 1#1), ∀ (hinb : ∀ a, (k0_off23 v194) a + S16x1024.size a ≤ S49152x1024.size a), (Rect.unit (s := S49152x1024) (k0_off23 v194) S16x1024.size hinb).WholeWords (EltTy.packing .bf16))
theorem k0_mult22_dvd : ∀ (i : grid0.Coords) (v194 : BitVec 32) (k0_hw22 : k0_chk22 i v194), ∀ (k0_h1 : k0_cond1 i = 1#1), 16 ∣ (k0_mult22 v194).toNat := fun i v194 k0_hw22 k0_h1 => k0_hw22.1 k0_h1
theorem k0_off23_inb : ∀ (i : grid0.Coords) (v194 : BitVec 32) (k0_hw22 : k0_chk22 i v194), ∀ (k0_h1 : k0_cond1 i = 1#1), ∀ a, (k0_off23 v194) a + S16x1024.size a ≤ S49152x1024.size a := fun i v194 k0_hw22 k0_h1 => k0_hw22.2.1 k0_h1
theorem k0_off23_wordsbf16 : ∀ (i : grid0.Coords) (v194 : BitVec 32) (k0_hw22 : k0_chk22 i v194), ∀ (k0_h1 : k0_cond1 i = 1#1), (Rect.unit (s := S49152x1024) (k0_off23 v194) S16x1024.size (k0_off23_inb i v194 k0_hw22 k0_h1)).WholeWords (EltTy.packing .bf16) := fun i v194 k0_hw22 k0_h1 => k0_hw22.2.2 k0_h1 (k0_off23_inb i v194 k0_hw22 k0_h1)

def k0_mult23 (v202 : BitVec 32) : BitVec 32 :=
  let c16_i32_123 : BitVec 32 := 16#32
  let v203 : BitVec 32 := Scalar.muli v202 c16_i32_123
  v203

def k0_off24 (v202 : BitVec 32) : Fin 2 → Nat :=
  let c16_i32_123 : BitVec 32 := 16#32
  let v203 : BitVec 32 := Scalar.muli v202 c16_i32_123
  let v204 : BitVec 32 := v203
  let c0_i32_127 : BitVec 32 := 0#32
  ![v204.toNat, 0]

def k0_chk23 (i : grid0.Coords) (v202 : BitVec 32) : Prop :=
  (∀ (k0_h1 : k0_cond1 i = 1#1), 16 ∣ (k0_mult23 v202).toNat) ∧
  (∀ (k0_h1 : k0_cond1 i = 1#1), ∀ a, (k0_off24 v202) a + S16x1024.size a ≤ S49152x1024.size a) ∧
  (∀ (k0_h1 : k0_cond1 i = 1#1), ∀ (hinb : ∀ a, (k0_off24 v202) a + S16x1024.size a ≤ S49152x1024.size a), (Rect.unit (s := S49152x1024) (k0_off24 v202) S16x1024.size hinb).WholeWords (EltTy.packing .bf16))
theorem k0_mult23_dvd : ∀ (i : grid0.Coords) (v202 : BitVec 32) (k0_hw23 : k0_chk23 i v202), ∀ (k0_h1 : k0_cond1 i = 1#1), 16 ∣ (k0_mult23 v202).toNat := fun i v202 k0_hw23 k0_h1 => k0_hw23.1 k0_h1
theorem k0_off24_inb : ∀ (i : grid0.Coords) (v202 : BitVec 32) (k0_hw23 : k0_chk23 i v202), ∀ (k0_h1 : k0_cond1 i = 1#1), ∀ a, (k0_off24 v202) a + S16x1024.size a ≤ S49152x1024.size a := fun i v202 k0_hw23 k0_h1 => k0_hw23.2.1 k0_h1
theorem k0_off24_wordsbf16 : ∀ (i : grid0.Coords) (v202 : BitVec 32) (k0_hw23 : k0_chk23 i v202), ∀ (k0_h1 : k0_cond1 i = 1#1), (Rect.unit (s := S49152x1024) (k0_off24 v202) S16x1024.size (k0_off24_inb i v202 k0_hw23 k0_h1)).WholeWords (EltTy.packing .bf16) := fun i v202 k0_hw23 k0_h1 => k0_hw23.2.2 k0_h1 (k0_off24_inb i v202 k0_hw23 k0_h1)

def k0_mult24 (v210 : BitVec 32) : BitVec 32 :=
  let c16_i32_128 : BitVec 32 := 16#32
  let v211 : BitVec 32 := Scalar.muli v210 c16_i32_128
  v211

def k0_off25 (v210 : BitVec 32) : Fin 2 → Nat :=
  let c16_i32_128 : BitVec 32 := 16#32
  let v211 : BitVec 32 := Scalar.muli v210 c16_i32_128
  let v212 : BitVec 32 := v211
  let c0_i32_132 : BitVec 32 := 0#32
  ![v212.toNat, 0]

def k0_chk24 (i : grid0.Coords) (v210 : BitVec 32) : Prop :=
  (∀ (k0_h1 : k0_cond1 i = 1#1), 16 ∣ (k0_mult24 v210).toNat) ∧
  (∀ (k0_h1 : k0_cond1 i = 1#1), ∀ a, (k0_off25 v210) a + S16x1024.size a ≤ S49152x1024.size a) ∧
  (∀ (k0_h1 : k0_cond1 i = 1#1), ∀ (hinb : ∀ a, (k0_off25 v210) a + S16x1024.size a ≤ S49152x1024.size a), (Rect.unit (s := S49152x1024) (k0_off25 v210) S16x1024.size hinb).WholeWords (EltTy.packing .bf16))
theorem k0_mult24_dvd : ∀ (i : grid0.Coords) (v210 : BitVec 32) (k0_hw24 : k0_chk24 i v210), ∀ (k0_h1 : k0_cond1 i = 1#1), 16 ∣ (k0_mult24 v210).toNat := fun i v210 k0_hw24 k0_h1 => k0_hw24.1 k0_h1
theorem k0_off25_inb : ∀ (i : grid0.Coords) (v210 : BitVec 32) (k0_hw24 : k0_chk24 i v210), ∀ (k0_h1 : k0_cond1 i = 1#1), ∀ a, (k0_off25 v210) a + S16x1024.size a ≤ S49152x1024.size a := fun i v210 k0_hw24 k0_h1 => k0_hw24.2.1 k0_h1
theorem k0_off25_wordsbf16 : ∀ (i : grid0.Coords) (v210 : BitVec 32) (k0_hw24 : k0_chk24 i v210), ∀ (k0_h1 : k0_cond1 i = 1#1), (Rect.unit (s := S49152x1024) (k0_off25 v210) S16x1024.size (k0_off25_inb i v210 k0_hw24 k0_h1)).WholeWords (EltTy.packing .bf16) := fun i v210 k0_hw24 k0_h1 => k0_hw24.2.2 k0_h1 (k0_off25_inb i v210 k0_hw24 k0_h1)

def k0_mult25 (v218 : BitVec 32) : BitVec 32 :=
  let c16_i32_133 : BitVec 32 := 16#32
  let v219 : BitVec 32 := Scalar.muli v218 c16_i32_133
  v219

def k0_off26 (v218 : BitVec 32) : Fin 2 → Nat :=
  let c16_i32_133 : BitVec 32 := 16#32
  let v219 : BitVec 32 := Scalar.muli v218 c16_i32_133
  let v220 : BitVec 32 := v219
  let c0_i32_137 : BitVec 32 := 0#32
  ![v220.toNat, 0]

def k0_chk25 (i : grid0.Coords) (v218 : BitVec 32) : Prop :=
  (∀ (k0_h1 : k0_cond1 i = 1#1), 16 ∣ (k0_mult25 v218).toNat) ∧
  (∀ (k0_h1 : k0_cond1 i = 1#1), ∀ a, (k0_off26 v218) a + S16x1024.size a ≤ S49152x1024.size a) ∧
  (∀ (k0_h1 : k0_cond1 i = 1#1), ∀ (hinb : ∀ a, (k0_off26 v218) a + S16x1024.size a ≤ S49152x1024.size a), (Rect.unit (s := S49152x1024) (k0_off26 v218) S16x1024.size hinb).WholeWords (EltTy.packing .bf16))
theorem k0_mult25_dvd : ∀ (i : grid0.Coords) (v218 : BitVec 32) (k0_hw25 : k0_chk25 i v218), ∀ (k0_h1 : k0_cond1 i = 1#1), 16 ∣ (k0_mult25 v218).toNat := fun i v218 k0_hw25 k0_h1 => k0_hw25.1 k0_h1
theorem k0_off26_inb : ∀ (i : grid0.Coords) (v218 : BitVec 32) (k0_hw25 : k0_chk25 i v218), ∀ (k0_h1 : k0_cond1 i = 1#1), ∀ a, (k0_off26 v218) a + S16x1024.size a ≤ S49152x1024.size a := fun i v218 k0_hw25 k0_h1 => k0_hw25.2.1 k0_h1
theorem k0_off26_wordsbf16 : ∀ (i : grid0.Coords) (v218 : BitVec 32) (k0_hw25 : k0_chk25 i v218), ∀ (k0_h1 : k0_cond1 i = 1#1), (Rect.unit (s := S49152x1024) (k0_off26 v218) S16x1024.size (k0_off26_inb i v218 k0_hw25 k0_h1)).WholeWords (EltTy.packing .bf16) := fun i v218 k0_hw25 k0_h1 => k0_hw25.2.2 k0_h1 (k0_off26_inb i v218 k0_hw25 k0_h1)

def k0_mult26 (v226 : BitVec 32) : BitVec 32 :=
  let c16_i32_138 : BitVec 32 := 16#32
  let v227 : BitVec 32 := Scalar.muli v226 c16_i32_138
  v227

def k0_off27 (v226 : BitVec 32) : Fin 2 → Nat :=
  let c16_i32_138 : BitVec 32 := 16#32
  let v227 : BitVec 32 := Scalar.muli v226 c16_i32_138
  let v228 : BitVec 32 := v227
  let c0_i32_142 : BitVec 32 := 0#32
  ![v228.toNat, 0]

def k0_chk26 (i : grid0.Coords) (v226 : BitVec 32) : Prop :=
  (∀ (k0_h1 : k0_cond1 i = 1#1), 16 ∣ (k0_mult26 v226).toNat) ∧
  (∀ (k0_h1 : k0_cond1 i = 1#1), ∀ a, (k0_off27 v226) a + S16x1024.size a ≤ S49152x1024.size a) ∧
  (∀ (k0_h1 : k0_cond1 i = 1#1), ∀ (hinb : ∀ a, (k0_off27 v226) a + S16x1024.size a ≤ S49152x1024.size a), (Rect.unit (s := S49152x1024) (k0_off27 v226) S16x1024.size hinb).WholeWords (EltTy.packing .bf16))
theorem k0_mult26_dvd : ∀ (i : grid0.Coords) (v226 : BitVec 32) (k0_hw26 : k0_chk26 i v226), ∀ (k0_h1 : k0_cond1 i = 1#1), 16 ∣ (k0_mult26 v226).toNat := fun i v226 k0_hw26 k0_h1 => k0_hw26.1 k0_h1
theorem k0_off27_inb : ∀ (i : grid0.Coords) (v226 : BitVec 32) (k0_hw26 : k0_chk26 i v226), ∀ (k0_h1 : k0_cond1 i = 1#1), ∀ a, (k0_off27 v226) a + S16x1024.size a ≤ S49152x1024.size a := fun i v226 k0_hw26 k0_h1 => k0_hw26.2.1 k0_h1
theorem k0_off27_wordsbf16 : ∀ (i : grid0.Coords) (v226 : BitVec 32) (k0_hw26 : k0_chk26 i v226), ∀ (k0_h1 : k0_cond1 i = 1#1), (Rect.unit (s := S49152x1024) (k0_off27 v226) S16x1024.size (k0_off27_inb i v226 k0_hw26 k0_h1)).WholeWords (EltTy.packing .bf16) := fun i v226 k0_hw26 k0_h1 => k0_hw26.2.2 k0_h1 (k0_off27_inb i v226 k0_hw26 k0_h1)

def k0_mult27 (v234 : BitVec 32) : BitVec 32 :=
  let c16_i32_143 : BitVec 32 := 16#32
  let v235 : BitVec 32 := Scalar.muli v234 c16_i32_143
  v235

def k0_off28 (v234 : BitVec 32) : Fin 2 → Nat :=
  let c16_i32_143 : BitVec 32 := 16#32
  let v235 : BitVec 32 := Scalar.muli v234 c16_i32_143
  let v236 : BitVec 32 := v235
  let c0_i32_147 : BitVec 32 := 0#32
  ![v236.toNat, 0]

def k0_chk27 (i : grid0.Coords) (v234 : BitVec 32) : Prop :=
  (∀ (k0_h1 : k0_cond1 i = 1#1), 16 ∣ (k0_mult27 v234).toNat) ∧
  (∀ (k0_h1 : k0_cond1 i = 1#1), ∀ a, (k0_off28 v234) a + S16x1024.size a ≤ S49152x1024.size a) ∧
  (∀ (k0_h1 : k0_cond1 i = 1#1), ∀ (hinb : ∀ a, (k0_off28 v234) a + S16x1024.size a ≤ S49152x1024.size a), (Rect.unit (s := S49152x1024) (k0_off28 v234) S16x1024.size hinb).WholeWords (EltTy.packing .bf16))
theorem k0_mult27_dvd : ∀ (i : grid0.Coords) (v234 : BitVec 32) (k0_hw27 : k0_chk27 i v234), ∀ (k0_h1 : k0_cond1 i = 1#1), 16 ∣ (k0_mult27 v234).toNat := fun i v234 k0_hw27 k0_h1 => k0_hw27.1 k0_h1
theorem k0_off28_inb : ∀ (i : grid0.Coords) (v234 : BitVec 32) (k0_hw27 : k0_chk27 i v234), ∀ (k0_h1 : k0_cond1 i = 1#1), ∀ a, (k0_off28 v234) a + S16x1024.size a ≤ S49152x1024.size a := fun i v234 k0_hw27 k0_h1 => k0_hw27.2.1 k0_h1
theorem k0_off28_wordsbf16 : ∀ (i : grid0.Coords) (v234 : BitVec 32) (k0_hw27 : k0_chk27 i v234), ∀ (k0_h1 : k0_cond1 i = 1#1), (Rect.unit (s := S49152x1024) (k0_off28 v234) S16x1024.size (k0_off28_inb i v234 k0_hw27 k0_h1)).WholeWords (EltTy.packing .bf16) := fun i v234 k0_hw27 k0_h1 => k0_hw27.2.2 k0_h1 (k0_off28_inb i v234 k0_hw27 k0_h1)

def k0_mult28 (v242 : BitVec 32) : BitVec 32 :=
  let c16_i32_148 : BitVec 32 := 16#32
  let v243 : BitVec 32 := Scalar.muli v242 c16_i32_148
  v243

def k0_off29 (v242 : BitVec 32) : Fin 2 → Nat :=
  let c16_i32_148 : BitVec 32 := 16#32
  let v243 : BitVec 32 := Scalar.muli v242 c16_i32_148
  let v244 : BitVec 32 := v243
  let c0_i32_152 : BitVec 32 := 0#32
  ![v244.toNat, 0]

def k0_chk28 (i : grid0.Coords) (v242 : BitVec 32) : Prop :=
  (∀ (k0_h1 : k0_cond1 i = 1#1), 16 ∣ (k0_mult28 v242).toNat) ∧
  (∀ (k0_h1 : k0_cond1 i = 1#1), ∀ a, (k0_off29 v242) a + S16x1024.size a ≤ S49152x1024.size a) ∧
  (∀ (k0_h1 : k0_cond1 i = 1#1), ∀ (hinb : ∀ a, (k0_off29 v242) a + S16x1024.size a ≤ S49152x1024.size a), (Rect.unit (s := S49152x1024) (k0_off29 v242) S16x1024.size hinb).WholeWords (EltTy.packing .bf16))
theorem k0_mult28_dvd : ∀ (i : grid0.Coords) (v242 : BitVec 32) (k0_hw28 : k0_chk28 i v242), ∀ (k0_h1 : k0_cond1 i = 1#1), 16 ∣ (k0_mult28 v242).toNat := fun i v242 k0_hw28 k0_h1 => k0_hw28.1 k0_h1
theorem k0_off29_inb : ∀ (i : grid0.Coords) (v242 : BitVec 32) (k0_hw28 : k0_chk28 i v242), ∀ (k0_h1 : k0_cond1 i = 1#1), ∀ a, (k0_off29 v242) a + S16x1024.size a ≤ S49152x1024.size a := fun i v242 k0_hw28 k0_h1 => k0_hw28.2.1 k0_h1
theorem k0_off29_wordsbf16 : ∀ (i : grid0.Coords) (v242 : BitVec 32) (k0_hw28 : k0_chk28 i v242), ∀ (k0_h1 : k0_cond1 i = 1#1), (Rect.unit (s := S49152x1024) (k0_off29 v242) S16x1024.size (k0_off29_inb i v242 k0_hw28 k0_h1)).WholeWords (EltTy.packing .bf16) := fun i v242 k0_hw28 k0_h1 => k0_hw28.2.2 k0_h1 (k0_off29_inb i v242 k0_hw28 k0_h1)

def k0_mult29 (v250 : BitVec 32) : BitVec 32 :=
  let c16_i32_153 : BitVec 32 := 16#32
  let v251 : BitVec 32 := Scalar.muli v250 c16_i32_153
  v251

def k0_off30 (v250 : BitVec 32) : Fin 2 → Nat :=
  let c16_i32_153 : BitVec 32 := 16#32
  let v251 : BitVec 32 := Scalar.muli v250 c16_i32_153
  let v252 : BitVec 32 := v251
  let c0_i32_157 : BitVec 32 := 0#32
  ![v252.toNat, 0]

def k0_chk29 (i : grid0.Coords) (v250 : BitVec 32) : Prop :=
  (∀ (k0_h1 : k0_cond1 i = 1#1), 16 ∣ (k0_mult29 v250).toNat) ∧
  (∀ (k0_h1 : k0_cond1 i = 1#1), ∀ a, (k0_off30 v250) a + S16x1024.size a ≤ S49152x1024.size a) ∧
  (∀ (k0_h1 : k0_cond1 i = 1#1), ∀ (hinb : ∀ a, (k0_off30 v250) a + S16x1024.size a ≤ S49152x1024.size a), (Rect.unit (s := S49152x1024) (k0_off30 v250) S16x1024.size hinb).WholeWords (EltTy.packing .bf16))
theorem k0_mult29_dvd : ∀ (i : grid0.Coords) (v250 : BitVec 32) (k0_hw29 : k0_chk29 i v250), ∀ (k0_h1 : k0_cond1 i = 1#1), 16 ∣ (k0_mult29 v250).toNat := fun i v250 k0_hw29 k0_h1 => k0_hw29.1 k0_h1
theorem k0_off30_inb : ∀ (i : grid0.Coords) (v250 : BitVec 32) (k0_hw29 : k0_chk29 i v250), ∀ (k0_h1 : k0_cond1 i = 1#1), ∀ a, (k0_off30 v250) a + S16x1024.size a ≤ S49152x1024.size a := fun i v250 k0_hw29 k0_h1 => k0_hw29.2.1 k0_h1
theorem k0_off30_wordsbf16 : ∀ (i : grid0.Coords) (v250 : BitVec 32) (k0_hw29 : k0_chk29 i v250), ∀ (k0_h1 : k0_cond1 i = 1#1), (Rect.unit (s := S49152x1024) (k0_off30 v250) S16x1024.size (k0_off30_inb i v250 k0_hw29 k0_h1)).WholeWords (EltTy.packing .bf16) := fun i v250 k0_hw29 k0_h1 => k0_hw29.2.2 k0_h1 (k0_off30_inb i v250 k0_hw29 k0_h1)

def k0_mult30 (v258 : BitVec 32) : BitVec 32 :=
  let c16_i32_158 : BitVec 32 := 16#32
  let v259 : BitVec 32 := Scalar.muli v258 c16_i32_158
  v259

def k0_off31 (v258 : BitVec 32) : Fin 2 → Nat :=
  let c16_i32_158 : BitVec 32 := 16#32
  let v259 : BitVec 32 := Scalar.muli v258 c16_i32_158
  let v260 : BitVec 32 := v259
  let c0_i32_162 : BitVec 32 := 0#32
  ![v260.toNat, 0]

def k0_chk30 (i : grid0.Coords) (v258 : BitVec 32) : Prop :=
  (∀ (k0_h1 : k0_cond1 i = 1#1), 16 ∣ (k0_mult30 v258).toNat) ∧
  (∀ (k0_h1 : k0_cond1 i = 1#1), ∀ a, (k0_off31 v258) a + S16x1024.size a ≤ S49152x1024.size a) ∧
  (∀ (k0_h1 : k0_cond1 i = 1#1), ∀ (hinb : ∀ a, (k0_off31 v258) a + S16x1024.size a ≤ S49152x1024.size a), (Rect.unit (s := S49152x1024) (k0_off31 v258) S16x1024.size hinb).WholeWords (EltTy.packing .bf16))
theorem k0_mult30_dvd : ∀ (i : grid0.Coords) (v258 : BitVec 32) (k0_hw30 : k0_chk30 i v258), ∀ (k0_h1 : k0_cond1 i = 1#1), 16 ∣ (k0_mult30 v258).toNat := fun i v258 k0_hw30 k0_h1 => k0_hw30.1 k0_h1
theorem k0_off31_inb : ∀ (i : grid0.Coords) (v258 : BitVec 32) (k0_hw30 : k0_chk30 i v258), ∀ (k0_h1 : k0_cond1 i = 1#1), ∀ a, (k0_off31 v258) a + S16x1024.size a ≤ S49152x1024.size a := fun i v258 k0_hw30 k0_h1 => k0_hw30.2.1 k0_h1
theorem k0_off31_wordsbf16 : ∀ (i : grid0.Coords) (v258 : BitVec 32) (k0_hw30 : k0_chk30 i v258), ∀ (k0_h1 : k0_cond1 i = 1#1), (Rect.unit (s := S49152x1024) (k0_off31 v258) S16x1024.size (k0_off31_inb i v258 k0_hw30 k0_h1)).WholeWords (EltTy.packing .bf16) := fun i v258 k0_hw30 k0_h1 => k0_hw30.2.2 k0_h1 (k0_off31_inb i v258 k0_hw30 k0_h1)

def k0_mult31 (v266 : BitVec 32) : BitVec 32 :=
  let c16_i32_163 : BitVec 32 := 16#32
  let v267 : BitVec 32 := Scalar.muli v266 c16_i32_163
  v267

def k0_off32 (v266 : BitVec 32) : Fin 2 → Nat :=
  let c16_i32_163 : BitVec 32 := 16#32
  let v267 : BitVec 32 := Scalar.muli v266 c16_i32_163
  let v268 : BitVec 32 := v267
  let c0_i32_167 : BitVec 32 := 0#32
  ![v268.toNat, 0]

def k0_chk31 (i : grid0.Coords) (v266 : BitVec 32) : Prop :=
  (∀ (k0_h1 : k0_cond1 i = 1#1), 16 ∣ (k0_mult31 v266).toNat) ∧
  (∀ (k0_h1 : k0_cond1 i = 1#1), ∀ a, (k0_off32 v266) a + S16x1024.size a ≤ S49152x1024.size a) ∧
  (∀ (k0_h1 : k0_cond1 i = 1#1), ∀ (hinb : ∀ a, (k0_off32 v266) a + S16x1024.size a ≤ S49152x1024.size a), (Rect.unit (s := S49152x1024) (k0_off32 v266) S16x1024.size hinb).WholeWords (EltTy.packing .bf16))
theorem k0_mult31_dvd : ∀ (i : grid0.Coords) (v266 : BitVec 32) (k0_hw31 : k0_chk31 i v266), ∀ (k0_h1 : k0_cond1 i = 1#1), 16 ∣ (k0_mult31 v266).toNat := fun i v266 k0_hw31 k0_h1 => k0_hw31.1 k0_h1
theorem k0_off32_inb : ∀ (i : grid0.Coords) (v266 : BitVec 32) (k0_hw31 : k0_chk31 i v266), ∀ (k0_h1 : k0_cond1 i = 1#1), ∀ a, (k0_off32 v266) a + S16x1024.size a ≤ S49152x1024.size a := fun i v266 k0_hw31 k0_h1 => k0_hw31.2.1 k0_h1
theorem k0_off32_wordsbf16 : ∀ (i : grid0.Coords) (v266 : BitVec 32) (k0_hw31 : k0_chk31 i v266), ∀ (k0_h1 : k0_cond1 i = 1#1), (Rect.unit (s := S49152x1024) (k0_off32 v266) S16x1024.size (k0_off32_inb i v266 k0_hw31 k0_h1)).WholeWords (EltTy.packing .bf16) := fun i v266 k0_hw31 k0_h1 => k0_hw31.2.2 k0_h1 (k0_off32_inb i v266 k0_hw31 k0_h1)

def k0_mult32 (v274 : BitVec 32) : BitVec 32 :=
  let c16_i32_168 : BitVec 32 := 16#32
  let v275 : BitVec 32 := Scalar.muli v274 c16_i32_168
  v275

def k0_off33 (v274 : BitVec 32) : Fin 2 → Nat :=
  let c16_i32_168 : BitVec 32 := 16#32
  let v275 : BitVec 32 := Scalar.muli v274 c16_i32_168
  let v276 : BitVec 32 := v275
  let c0_i32_172 : BitVec 32 := 0#32
  ![v276.toNat, 0]

def k0_chk32 (i : grid0.Coords) (v274 : BitVec 32) : Prop :=
  (∀ (k0_h1 : k0_cond1 i = 1#1), 16 ∣ (k0_mult32 v274).toNat) ∧
  (∀ (k0_h1 : k0_cond1 i = 1#1), ∀ a, (k0_off33 v274) a + S16x1024.size a ≤ S49152x1024.size a) ∧
  (∀ (k0_h1 : k0_cond1 i = 1#1), ∀ (hinb : ∀ a, (k0_off33 v274) a + S16x1024.size a ≤ S49152x1024.size a), (Rect.unit (s := S49152x1024) (k0_off33 v274) S16x1024.size hinb).WholeWords (EltTy.packing .bf16))
theorem k0_mult32_dvd : ∀ (i : grid0.Coords) (v274 : BitVec 32) (k0_hw32 : k0_chk32 i v274), ∀ (k0_h1 : k0_cond1 i = 1#1), 16 ∣ (k0_mult32 v274).toNat := fun i v274 k0_hw32 k0_h1 => k0_hw32.1 k0_h1
theorem k0_off33_inb : ∀ (i : grid0.Coords) (v274 : BitVec 32) (k0_hw32 : k0_chk32 i v274), ∀ (k0_h1 : k0_cond1 i = 1#1), ∀ a, (k0_off33 v274) a + S16x1024.size a ≤ S49152x1024.size a := fun i v274 k0_hw32 k0_h1 => k0_hw32.2.1 k0_h1
theorem k0_off33_wordsbf16 : ∀ (i : grid0.Coords) (v274 : BitVec 32) (k0_hw32 : k0_chk32 i v274), ∀ (k0_h1 : k0_cond1 i = 1#1), (Rect.unit (s := S49152x1024) (k0_off33 v274) S16x1024.size (k0_off33_inb i v274 k0_hw32 k0_h1)).WholeWords (EltTy.packing .bf16) := fun i v274 k0_hw32 k0_h1 => k0_hw32.2.2 k0_h1 (k0_off33_inb i v274 k0_hw32 k0_h1)

def k0_off34 (i : grid0.Coords) : Fin 1 → Nat :=
  let arg0 : BitVec 32 := BitVec.ofNat 32 (i 0).val
  let c1_i32_11 : BitVec 32 := 1#32
  let v26 : BitVec 32 := Scalar.addi arg0 c1_i32_11
  let c32_i32 : BitVec 32 := 32#32
  let v28 : BitVec 32 := Scalar.muli v26 c32_i32
  let c0_i32_13 : BitVec 32 := 0#32
  let v29 : BitVec 32 := Scalar.addi v28 c0_i32_13
  let v30 : Index := Scalar.indexCast v29
  ![v30.toNat]
def k0_cond2 (i : grid0.Coords) (v14 : BitVec 32) : BitVec 1 :=
  let arg0 : BitVec 32 := BitVec.ofNat 32 (i 0).val
  let c1_i32_5 : BitVec 32 := 1#32
  let v13 : BitVec 32 := Scalar.addi arg0 c1_i32_5
  let v15 : BitVec 1 := Scalar.cmpi .slt v13 v14
  let v16 : BitVec 32 := Scalar.extui v15
  let c0_i32_6 : BitVec 32 := 0#32
  let v17 : BitVec 1 := Scalar.cmpi .ne v16 c0_i32_6
  v17

def k0_mult33 (v31 : BitVec 32) : BitVec 32 :=
  let c16_i32 : BitVec 32 := 16#32
  let v32 : BitVec 32 := Scalar.muli v31 c16_i32
  v32

def k0_off35 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off36 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c0_i32_14 : BitVec 32 := 0#32
  let c0_i32_15 : BitVec 32 := 0#32
  ![v27.toNat, 0, 0]
def k0_off37 (v31 : BitVec 32) : Fin 2 → Nat :=
  let c16_i32 : BitVec 32 := 16#32
  let v32 : BitVec 32 := Scalar.muli v31 c16_i32
  let v33 : BitVec 32 := v32
  let c0_i32_16 : BitVec 32 := 0#32
  ![v33.toNat, 0]

def k0_chk34 (i : grid0.Coords) (v14 : BitVec 32) (v31 : BitVec 32) : Prop :=
  (∀ (k0_h2 : k0_cond2 i v14 = 1#1), 16 ∣ (k0_mult33 v31).toNat) ∧
  (∀ (k0_h2 : k0_cond2 i v14 = 1#1), ∀ a, (k0_off37 v31) a + S16x1024.size a ≤ S49152x1024.size a) ∧
  (∀ (k0_h2 : k0_cond2 i v14 = 1#1), ∀ (hinb : ∀ a, (k0_off37 v31) a + S16x1024.size a ≤ S49152x1024.size a), (Rect.unit (s := S49152x1024) (k0_off37 v31) S16x1024.size hinb).WholeWords (EltTy.packing .bf16))
theorem k0_mult33_dvd : ∀ (i : grid0.Coords) (v14 : BitVec 32) (v31 : BitVec 32) (k0_hw34 : k0_chk34 i v14 v31), ∀ (k0_h2 : k0_cond2 i v14 = 1#1), 16 ∣ (k0_mult33 v31).toNat := fun i v14 v31 k0_hw34 k0_h2 => k0_hw34.1 k0_h2
theorem k0_off37_inb : ∀ (i : grid0.Coords) (v14 : BitVec 32) (v31 : BitVec 32) (k0_hw34 : k0_chk34 i v14 v31), ∀ (k0_h2 : k0_cond2 i v14 = 1#1), ∀ a, (k0_off37 v31) a + S16x1024.size a ≤ S49152x1024.size a := fun i v14 v31 k0_hw34 k0_h2 => k0_hw34.2.1 k0_h2
theorem k0_off37_wordsbf16 : ∀ (i : grid0.Coords) (v14 : BitVec 32) (v31 : BitVec 32) (k0_hw34 : k0_chk34 i v14 v31), ∀ (k0_h2 : k0_cond2 i v14 = 1#1), (Rect.unit (s := S49152x1024) (k0_off37 v31) S16x1024.size (k0_off37_inb i v14 v31 k0_hw34 k0_h2)).WholeWords (EltTy.packing .bf16) := fun i v14 v31 k0_hw34 k0_h2 => k0_hw34.2.2 k0_h2 (k0_off37_inb i v14 v31 k0_hw34 k0_h2)

def k0_off38 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_17 : BitVec 32 := 32#32
  let v39 : BitVec 32 := Scalar.muli v26 c32_i32_17
  let c1_i32_18 : BitVec 32 := 1#32
  let v40 : BitVec 32 := Scalar.addi v39 c1_i32_18
  let v41 : Index := Scalar.indexCast v40
  ![v41.toNat]
def k0_mult34 (v42 : BitVec 32) : BitVec 32 :=
  let c16_i32_19 : BitVec 32 := 16#32
  let v43 : BitVec 32 := Scalar.muli v42 c16_i32_19
  v43

def k0_off39 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off40 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c16_i32_20 : BitVec 32 := 16#32
  let c0_i32_21 : BitVec 32 := 0#32
  ![v27.toNat, 16, 0]
def k0_off41 (v42 : BitVec 32) : Fin 2 → Nat :=
  let c16_i32_19 : BitVec 32 := 16#32
  let v43 : BitVec 32 := Scalar.muli v42 c16_i32_19
  let v44 : BitVec 32 := v43
  let c0_i32_22 : BitVec 32 := 0#32
  ![v44.toNat, 0]

def k0_chk35 (i : grid0.Coords) (v14 : BitVec 32) (v42 : BitVec 32) : Prop :=
  (∀ (k0_h2 : k0_cond2 i v14 = 1#1), 16 ∣ (k0_mult34 v42).toNat) ∧
  (∀ (k0_h2 : k0_cond2 i v14 = 1#1), ∀ a, (k0_off41 v42) a + S16x1024.size a ≤ S49152x1024.size a) ∧
  (∀ (k0_h2 : k0_cond2 i v14 = 1#1), ∀ (hinb : ∀ a, (k0_off41 v42) a + S16x1024.size a ≤ S49152x1024.size a), (Rect.unit (s := S49152x1024) (k0_off41 v42) S16x1024.size hinb).WholeWords (EltTy.packing .bf16))
theorem k0_mult34_dvd : ∀ (i : grid0.Coords) (v14 : BitVec 32) (v42 : BitVec 32) (k0_hw35 : k0_chk35 i v14 v42), ∀ (k0_h2 : k0_cond2 i v14 = 1#1), 16 ∣ (k0_mult34 v42).toNat := fun i v14 v42 k0_hw35 k0_h2 => k0_hw35.1 k0_h2
theorem k0_off41_inb : ∀ (i : grid0.Coords) (v14 : BitVec 32) (v42 : BitVec 32) (k0_hw35 : k0_chk35 i v14 v42), ∀ (k0_h2 : k0_cond2 i v14 = 1#1), ∀ a, (k0_off41 v42) a + S16x1024.size a ≤ S49152x1024.size a := fun i v14 v42 k0_hw35 k0_h2 => k0_hw35.2.1 k0_h2
theorem k0_off41_wordsbf16 : ∀ (i : grid0.Coords) (v14 : BitVec 32) (v42 : BitVec 32) (k0_hw35 : k0_chk35 i v14 v42), ∀ (k0_h2 : k0_cond2 i v14 = 1#1), (Rect.unit (s := S49152x1024) (k0_off41 v42) S16x1024.size (k0_off41_inb i v14 v42 k0_hw35 k0_h2)).WholeWords (EltTy.packing .bf16) := fun i v14 v42 k0_hw35 k0_h2 => k0_hw35.2.2 k0_h2 (k0_off41_inb i v14 v42 k0_hw35 k0_h2)

def k0_off42 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_23 : BitVec 32 := 32#32
  let v50 : BitVec 32 := Scalar.muli v26 c32_i32_23
  let c2_i32_24 : BitVec 32 := 2#32
  let v51 : BitVec 32 := Scalar.addi v50 c2_i32_24
  let v52 : Index := Scalar.indexCast v51
  ![v52.toNat]
def k0_mult35 (v53 : BitVec 32) : BitVec 32 :=
  let c16_i32_25 : BitVec 32 := 16#32
  let v54 : BitVec 32 := Scalar.muli v53 c16_i32_25
  v54

def k0_off43 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off44 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c32_i32_26 : BitVec 32 := 32#32
  let c0_i32_27 : BitVec 32 := 0#32
  ![v27.toNat, 32, 0]
def k0_off45 (v53 : BitVec 32) : Fin 2 → Nat :=
  let c16_i32_25 : BitVec 32 := 16#32
  let v54 : BitVec 32 := Scalar.muli v53 c16_i32_25
  let v55 : BitVec 32 := v54
  let c0_i32_28 : BitVec 32 := 0#32
  ![v55.toNat, 0]

def k0_chk36 (i : grid0.Coords) (v14 : BitVec 32) (v53 : BitVec 32) : Prop :=
  (∀ (k0_h2 : k0_cond2 i v14 = 1#1), 16 ∣ (k0_mult35 v53).toNat) ∧
  (∀ (k0_h2 : k0_cond2 i v14 = 1#1), ∀ a, (k0_off45 v53) a + S16x1024.size a ≤ S49152x1024.size a) ∧
  (∀ (k0_h2 : k0_cond2 i v14 = 1#1), ∀ (hinb : ∀ a, (k0_off45 v53) a + S16x1024.size a ≤ S49152x1024.size a), (Rect.unit (s := S49152x1024) (k0_off45 v53) S16x1024.size hinb).WholeWords (EltTy.packing .bf16))
theorem k0_mult35_dvd : ∀ (i : grid0.Coords) (v14 : BitVec 32) (v53 : BitVec 32) (k0_hw36 : k0_chk36 i v14 v53), ∀ (k0_h2 : k0_cond2 i v14 = 1#1), 16 ∣ (k0_mult35 v53).toNat := fun i v14 v53 k0_hw36 k0_h2 => k0_hw36.1 k0_h2
theorem k0_off45_inb : ∀ (i : grid0.Coords) (v14 : BitVec 32) (v53 : BitVec 32) (k0_hw36 : k0_chk36 i v14 v53), ∀ (k0_h2 : k0_cond2 i v14 = 1#1), ∀ a, (k0_off45 v53) a + S16x1024.size a ≤ S49152x1024.size a := fun i v14 v53 k0_hw36 k0_h2 => k0_hw36.2.1 k0_h2
theorem k0_off45_wordsbf16 : ∀ (i : grid0.Coords) (v14 : BitVec 32) (v53 : BitVec 32) (k0_hw36 : k0_chk36 i v14 v53), ∀ (k0_h2 : k0_cond2 i v14 = 1#1), (Rect.unit (s := S49152x1024) (k0_off45 v53) S16x1024.size (k0_off45_inb i v14 v53 k0_hw36 k0_h2)).WholeWords (EltTy.packing .bf16) := fun i v14 v53 k0_hw36 k0_h2 => k0_hw36.2.2 k0_h2 (k0_off45_inb i v14 v53 k0_hw36 k0_h2)

def k0_off46 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_29 : BitVec 32 := 32#32
  let v61 : BitVec 32 := Scalar.muli v26 c32_i32_29
  let c3_i32 : BitVec 32 := 3#32
  let v62 : BitVec 32 := Scalar.addi v61 c3_i32
  let v63 : Index := Scalar.indexCast v62
  ![v63.toNat]
def k0_mult36 (v64 : BitVec 32) : BitVec 32 :=
  let c16_i32_30 : BitVec 32 := 16#32
  let v65 : BitVec 32 := Scalar.muli v64 c16_i32_30
  v65

def k0_off47 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off48 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c48_i32 : BitVec 32 := 48#32
  let c0_i32_31 : BitVec 32 := 0#32
  ![v27.toNat, 48, 0]
def k0_off49 (v64 : BitVec 32) : Fin 2 → Nat :=
  let c16_i32_30 : BitVec 32 := 16#32
  let v65 : BitVec 32 := Scalar.muli v64 c16_i32_30
  let v66 : BitVec 32 := v65
  let c0_i32_32 : BitVec 32 := 0#32
  ![v66.toNat, 0]

def k0_chk37 (i : grid0.Coords) (v14 : BitVec 32) (v64 : BitVec 32) : Prop :=
  (∀ (k0_h2 : k0_cond2 i v14 = 1#1), 16 ∣ (k0_mult36 v64).toNat) ∧
  (∀ (k0_h2 : k0_cond2 i v14 = 1#1), ∀ a, (k0_off49 v64) a + S16x1024.size a ≤ S49152x1024.size a) ∧
  (∀ (k0_h2 : k0_cond2 i v14 = 1#1), ∀ (hinb : ∀ a, (k0_off49 v64) a + S16x1024.size a ≤ S49152x1024.size a), (Rect.unit (s := S49152x1024) (k0_off49 v64) S16x1024.size hinb).WholeWords (EltTy.packing .bf16))
theorem k0_mult36_dvd : ∀ (i : grid0.Coords) (v14 : BitVec 32) (v64 : BitVec 32) (k0_hw37 : k0_chk37 i v14 v64), ∀ (k0_h2 : k0_cond2 i v14 = 1#1), 16 ∣ (k0_mult36 v64).toNat := fun i v14 v64 k0_hw37 k0_h2 => k0_hw37.1 k0_h2
theorem k0_off49_inb : ∀ (i : grid0.Coords) (v14 : BitVec 32) (v64 : BitVec 32) (k0_hw37 : k0_chk37 i v14 v64), ∀ (k0_h2 : k0_cond2 i v14 = 1#1), ∀ a, (k0_off49 v64) a + S16x1024.size a ≤ S49152x1024.size a := fun i v14 v64 k0_hw37 k0_h2 => k0_hw37.2.1 k0_h2
theorem k0_off49_wordsbf16 : ∀ (i : grid0.Coords) (v14 : BitVec 32) (v64 : BitVec 32) (k0_hw37 : k0_chk37 i v14 v64), ∀ (k0_h2 : k0_cond2 i v14 = 1#1), (Rect.unit (s := S49152x1024) (k0_off49 v64) S16x1024.size (k0_off49_inb i v14 v64 k0_hw37 k0_h2)).WholeWords (EltTy.packing .bf16) := fun i v14 v64 k0_hw37 k0_h2 => k0_hw37.2.2 k0_h2 (k0_off49_inb i v14 v64 k0_hw37 k0_h2)

def k0_off50 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_33 : BitVec 32 := 32#32
  let v72 : BitVec 32 := Scalar.muli v26 c32_i32_33
  let c4_i32 : BitVec 32 := 4#32
  let v73 : BitVec 32 := Scalar.addi v72 c4_i32
  let v74 : Index := Scalar.indexCast v73
  ![v74.toNat]
def k0_mult37 (v75 : BitVec 32) : BitVec 32 :=
  let c16_i32_34 : BitVec 32 := 16#32
  let v76 : BitVec 32 := Scalar.muli v75 c16_i32_34
  v76

def k0_off51 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off52 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c64_i32 : BitVec 32 := 64#32
  let c0_i32_35 : BitVec 32 := 0#32
  ![v27.toNat, 64, 0]
def k0_off53 (v75 : BitVec 32) : Fin 2 → Nat :=
  let c16_i32_34 : BitVec 32 := 16#32
  let v76 : BitVec 32 := Scalar.muli v75 c16_i32_34
  let v77 : BitVec 32 := v76
  let c0_i32_36 : BitVec 32 := 0#32
  ![v77.toNat, 0]

def k0_chk38 (i : grid0.Coords) (v14 : BitVec 32) (v75 : BitVec 32) : Prop :=
  (∀ (k0_h2 : k0_cond2 i v14 = 1#1), 16 ∣ (k0_mult37 v75).toNat) ∧
  (∀ (k0_h2 : k0_cond2 i v14 = 1#1), ∀ a, (k0_off53 v75) a + S16x1024.size a ≤ S49152x1024.size a) ∧
  (∀ (k0_h2 : k0_cond2 i v14 = 1#1), ∀ (hinb : ∀ a, (k0_off53 v75) a + S16x1024.size a ≤ S49152x1024.size a), (Rect.unit (s := S49152x1024) (k0_off53 v75) S16x1024.size hinb).WholeWords (EltTy.packing .bf16))
theorem k0_mult37_dvd : ∀ (i : grid0.Coords) (v14 : BitVec 32) (v75 : BitVec 32) (k0_hw38 : k0_chk38 i v14 v75), ∀ (k0_h2 : k0_cond2 i v14 = 1#1), 16 ∣ (k0_mult37 v75).toNat := fun i v14 v75 k0_hw38 k0_h2 => k0_hw38.1 k0_h2
theorem k0_off53_inb : ∀ (i : grid0.Coords) (v14 : BitVec 32) (v75 : BitVec 32) (k0_hw38 : k0_chk38 i v14 v75), ∀ (k0_h2 : k0_cond2 i v14 = 1#1), ∀ a, (k0_off53 v75) a + S16x1024.size a ≤ S49152x1024.size a := fun i v14 v75 k0_hw38 k0_h2 => k0_hw38.2.1 k0_h2
theorem k0_off53_wordsbf16 : ∀ (i : grid0.Coords) (v14 : BitVec 32) (v75 : BitVec 32) (k0_hw38 : k0_chk38 i v14 v75), ∀ (k0_h2 : k0_cond2 i v14 = 1#1), (Rect.unit (s := S49152x1024) (k0_off53 v75) S16x1024.size (k0_off53_inb i v14 v75 k0_hw38 k0_h2)).WholeWords (EltTy.packing .bf16) := fun i v14 v75 k0_hw38 k0_h2 => k0_hw38.2.2 k0_h2 (k0_off53_inb i v14 v75 k0_hw38 k0_h2)

def k0_off54 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_37 : BitVec 32 := 32#32
  let v83 : BitVec 32 := Scalar.muli v26 c32_i32_37
  let c5_i32 : BitVec 32 := 5#32
  let v84 : BitVec 32 := Scalar.addi v83 c5_i32
  let v85 : Index := Scalar.indexCast v84
  ![v85.toNat]
def k0_mult38 (v86 : BitVec 32) : BitVec 32 :=
  let c16_i32_38 : BitVec 32 := 16#32
  let v87 : BitVec 32 := Scalar.muli v86 c16_i32_38
  v87

def k0_off55 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off56 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c80_i32 : BitVec 32 := 80#32
  let c0_i32_39 : BitVec 32 := 0#32
  ![v27.toNat, 80, 0]
def k0_off57 (v86 : BitVec 32) : Fin 2 → Nat :=
  let c16_i32_38 : BitVec 32 := 16#32
  let v87 : BitVec 32 := Scalar.muli v86 c16_i32_38
  let v88 : BitVec 32 := v87
  let c0_i32_40 : BitVec 32 := 0#32
  ![v88.toNat, 0]

def k0_chk39 (i : grid0.Coords) (v14 : BitVec 32) (v86 : BitVec 32) : Prop :=
  (∀ (k0_h2 : k0_cond2 i v14 = 1#1), 16 ∣ (k0_mult38 v86).toNat) ∧
  (∀ (k0_h2 : k0_cond2 i v14 = 1#1), ∀ a, (k0_off57 v86) a + S16x1024.size a ≤ S49152x1024.size a) ∧
  (∀ (k0_h2 : k0_cond2 i v14 = 1#1), ∀ (hinb : ∀ a, (k0_off57 v86) a + S16x1024.size a ≤ S49152x1024.size a), (Rect.unit (s := S49152x1024) (k0_off57 v86) S16x1024.size hinb).WholeWords (EltTy.packing .bf16))
theorem k0_mult38_dvd : ∀ (i : grid0.Coords) (v14 : BitVec 32) (v86 : BitVec 32) (k0_hw39 : k0_chk39 i v14 v86), ∀ (k0_h2 : k0_cond2 i v14 = 1#1), 16 ∣ (k0_mult38 v86).toNat := fun i v14 v86 k0_hw39 k0_h2 => k0_hw39.1 k0_h2
theorem k0_off57_inb : ∀ (i : grid0.Coords) (v14 : BitVec 32) (v86 : BitVec 32) (k0_hw39 : k0_chk39 i v14 v86), ∀ (k0_h2 : k0_cond2 i v14 = 1#1), ∀ a, (k0_off57 v86) a + S16x1024.size a ≤ S49152x1024.size a := fun i v14 v86 k0_hw39 k0_h2 => k0_hw39.2.1 k0_h2
theorem k0_off57_wordsbf16 : ∀ (i : grid0.Coords) (v14 : BitVec 32) (v86 : BitVec 32) (k0_hw39 : k0_chk39 i v14 v86), ∀ (k0_h2 : k0_cond2 i v14 = 1#1), (Rect.unit (s := S49152x1024) (k0_off57 v86) S16x1024.size (k0_off57_inb i v14 v86 k0_hw39 k0_h2)).WholeWords (EltTy.packing .bf16) := fun i v14 v86 k0_hw39 k0_h2 => k0_hw39.2.2 k0_h2 (k0_off57_inb i v14 v86 k0_hw39 k0_h2)

def k0_off58 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_41 : BitVec 32 := 32#32
  let v94 : BitVec 32 := Scalar.muli v26 c32_i32_41
  let c6_i32 : BitVec 32 := 6#32
  let v95 : BitVec 32 := Scalar.addi v94 c6_i32
  let v96 : Index := Scalar.indexCast v95
  ![v96.toNat]
def k0_mult39 (v97 : BitVec 32) : BitVec 32 :=
  let c16_i32_42 : BitVec 32 := 16#32
  let v98 : BitVec 32 := Scalar.muli v97 c16_i32_42
  v98

def k0_off59 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off60 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c96_i32 : BitVec 32 := 96#32
  let c0_i32_43 : BitVec 32 := 0#32
  ![v27.toNat, 96, 0]
def k0_off61 (v97 : BitVec 32) : Fin 2 → Nat :=
  let c16_i32_42 : BitVec 32 := 16#32
  let v98 : BitVec 32 := Scalar.muli v97 c16_i32_42
  let v99 : BitVec 32 := v98
  let c0_i32_44 : BitVec 32 := 0#32
  ![v99.toNat, 0]

def k0_chk40 (i : grid0.Coords) (v14 : BitVec 32) (v97 : BitVec 32) : Prop :=
  (∀ (k0_h2 : k0_cond2 i v14 = 1#1), 16 ∣ (k0_mult39 v97).toNat) ∧
  (∀ (k0_h2 : k0_cond2 i v14 = 1#1), ∀ a, (k0_off61 v97) a + S16x1024.size a ≤ S49152x1024.size a) ∧
  (∀ (k0_h2 : k0_cond2 i v14 = 1#1), ∀ (hinb : ∀ a, (k0_off61 v97) a + S16x1024.size a ≤ S49152x1024.size a), (Rect.unit (s := S49152x1024) (k0_off61 v97) S16x1024.size hinb).WholeWords (EltTy.packing .bf16))
theorem k0_mult39_dvd : ∀ (i : grid0.Coords) (v14 : BitVec 32) (v97 : BitVec 32) (k0_hw40 : k0_chk40 i v14 v97), ∀ (k0_h2 : k0_cond2 i v14 = 1#1), 16 ∣ (k0_mult39 v97).toNat := fun i v14 v97 k0_hw40 k0_h2 => k0_hw40.1 k0_h2
theorem k0_off61_inb : ∀ (i : grid0.Coords) (v14 : BitVec 32) (v97 : BitVec 32) (k0_hw40 : k0_chk40 i v14 v97), ∀ (k0_h2 : k0_cond2 i v14 = 1#1), ∀ a, (k0_off61 v97) a + S16x1024.size a ≤ S49152x1024.size a := fun i v14 v97 k0_hw40 k0_h2 => k0_hw40.2.1 k0_h2
theorem k0_off61_wordsbf16 : ∀ (i : grid0.Coords) (v14 : BitVec 32) (v97 : BitVec 32) (k0_hw40 : k0_chk40 i v14 v97), ∀ (k0_h2 : k0_cond2 i v14 = 1#1), (Rect.unit (s := S49152x1024) (k0_off61 v97) S16x1024.size (k0_off61_inb i v14 v97 k0_hw40 k0_h2)).WholeWords (EltTy.packing .bf16) := fun i v14 v97 k0_hw40 k0_h2 => k0_hw40.2.2 k0_h2 (k0_off61_inb i v14 v97 k0_hw40 k0_h2)

def k0_off62 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_45 : BitVec 32 := 32#32
  let v105 : BitVec 32 := Scalar.muli v26 c32_i32_45
  let c7_i32 : BitVec 32 := 7#32
  let v106 : BitVec 32 := Scalar.addi v105 c7_i32
  let v107 : Index := Scalar.indexCast v106
  ![v107.toNat]
def k0_mult40 (v108 : BitVec 32) : BitVec 32 :=
  let c16_i32_46 : BitVec 32 := 16#32
  let v109 : BitVec 32 := Scalar.muli v108 c16_i32_46
  v109

def k0_off63 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off64 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c112_i32 : BitVec 32 := 112#32
  let c0_i32_47 : BitVec 32 := 0#32
  ![v27.toNat, 112, 0]
def k0_off65 (v108 : BitVec 32) : Fin 2 → Nat :=
  let c16_i32_46 : BitVec 32 := 16#32
  let v109 : BitVec 32 := Scalar.muli v108 c16_i32_46
  let v110 : BitVec 32 := v109
  let c0_i32_48 : BitVec 32 := 0#32
  ![v110.toNat, 0]

def k0_chk41 (i : grid0.Coords) (v14 : BitVec 32) (v108 : BitVec 32) : Prop :=
  (∀ (k0_h2 : k0_cond2 i v14 = 1#1), 16 ∣ (k0_mult40 v108).toNat) ∧
  (∀ (k0_h2 : k0_cond2 i v14 = 1#1), ∀ a, (k0_off65 v108) a + S16x1024.size a ≤ S49152x1024.size a) ∧
  (∀ (k0_h2 : k0_cond2 i v14 = 1#1), ∀ (hinb : ∀ a, (k0_off65 v108) a + S16x1024.size a ≤ S49152x1024.size a), (Rect.unit (s := S49152x1024) (k0_off65 v108) S16x1024.size hinb).WholeWords (EltTy.packing .bf16))
theorem k0_mult40_dvd : ∀ (i : grid0.Coords) (v14 : BitVec 32) (v108 : BitVec 32) (k0_hw41 : k0_chk41 i v14 v108), ∀ (k0_h2 : k0_cond2 i v14 = 1#1), 16 ∣ (k0_mult40 v108).toNat := fun i v14 v108 k0_hw41 k0_h2 => k0_hw41.1 k0_h2
theorem k0_off65_inb : ∀ (i : grid0.Coords) (v14 : BitVec 32) (v108 : BitVec 32) (k0_hw41 : k0_chk41 i v14 v108), ∀ (k0_h2 : k0_cond2 i v14 = 1#1), ∀ a, (k0_off65 v108) a + S16x1024.size a ≤ S49152x1024.size a := fun i v14 v108 k0_hw41 k0_h2 => k0_hw41.2.1 k0_h2
theorem k0_off65_wordsbf16 : ∀ (i : grid0.Coords) (v14 : BitVec 32) (v108 : BitVec 32) (k0_hw41 : k0_chk41 i v14 v108), ∀ (k0_h2 : k0_cond2 i v14 = 1#1), (Rect.unit (s := S49152x1024) (k0_off65 v108) S16x1024.size (k0_off65_inb i v14 v108 k0_hw41 k0_h2)).WholeWords (EltTy.packing .bf16) := fun i v14 v108 k0_hw41 k0_h2 => k0_hw41.2.2 k0_h2 (k0_off65_inb i v14 v108 k0_hw41 k0_h2)

def k0_off66 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_49 : BitVec 32 := 32#32
  let v116 : BitVec 32 := Scalar.muli v26 c32_i32_49
  let c8_i32 : BitVec 32 := 8#32
  let v117 : BitVec 32 := Scalar.addi v116 c8_i32
  let v118 : Index := Scalar.indexCast v117
  ![v118.toNat]
def k0_mult41 (v119 : BitVec 32) : BitVec 32 :=
  let c16_i32_50 : BitVec 32 := 16#32
  let v120 : BitVec 32 := Scalar.muli v119 c16_i32_50
  v120

def k0_off67 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off68 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c128_i32 : BitVec 32 := 128#32
  let c0_i32_51 : BitVec 32 := 0#32
  ![v27.toNat, 128, 0]
def k0_off69 (v119 : BitVec 32) : Fin 2 → Nat :=
  let c16_i32_50 : BitVec 32 := 16#32
  let v120 : BitVec 32 := Scalar.muli v119 c16_i32_50
  let v121 : BitVec 32 := v120
  let c0_i32_52 : BitVec 32 := 0#32
  ![v121.toNat, 0]

def k0_chk42 (i : grid0.Coords) (v14 : BitVec 32) (v119 : BitVec 32) : Prop :=
  (∀ (k0_h2 : k0_cond2 i v14 = 1#1), 16 ∣ (k0_mult41 v119).toNat) ∧
  (∀ (k0_h2 : k0_cond2 i v14 = 1#1), ∀ a, (k0_off69 v119) a + S16x1024.size a ≤ S49152x1024.size a) ∧
  (∀ (k0_h2 : k0_cond2 i v14 = 1#1), ∀ (hinb : ∀ a, (k0_off69 v119) a + S16x1024.size a ≤ S49152x1024.size a), (Rect.unit (s := S49152x1024) (k0_off69 v119) S16x1024.size hinb).WholeWords (EltTy.packing .bf16))
theorem k0_mult41_dvd : ∀ (i : grid0.Coords) (v14 : BitVec 32) (v119 : BitVec 32) (k0_hw42 : k0_chk42 i v14 v119), ∀ (k0_h2 : k0_cond2 i v14 = 1#1), 16 ∣ (k0_mult41 v119).toNat := fun i v14 v119 k0_hw42 k0_h2 => k0_hw42.1 k0_h2
theorem k0_off69_inb : ∀ (i : grid0.Coords) (v14 : BitVec 32) (v119 : BitVec 32) (k0_hw42 : k0_chk42 i v14 v119), ∀ (k0_h2 : k0_cond2 i v14 = 1#1), ∀ a, (k0_off69 v119) a + S16x1024.size a ≤ S49152x1024.size a := fun i v14 v119 k0_hw42 k0_h2 => k0_hw42.2.1 k0_h2
theorem k0_off69_wordsbf16 : ∀ (i : grid0.Coords) (v14 : BitVec 32) (v119 : BitVec 32) (k0_hw42 : k0_chk42 i v14 v119), ∀ (k0_h2 : k0_cond2 i v14 = 1#1), (Rect.unit (s := S49152x1024) (k0_off69 v119) S16x1024.size (k0_off69_inb i v14 v119 k0_hw42 k0_h2)).WholeWords (EltTy.packing .bf16) := fun i v14 v119 k0_hw42 k0_h2 => k0_hw42.2.2 k0_h2 (k0_off69_inb i v14 v119 k0_hw42 k0_h2)

def k0_off70 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_53 : BitVec 32 := 32#32
  let v127 : BitVec 32 := Scalar.muli v26 c32_i32_53
  let c9_i32 : BitVec 32 := 9#32
  let v128 : BitVec 32 := Scalar.addi v127 c9_i32
  let v129 : Index := Scalar.indexCast v128
  ![v129.toNat]
def k0_mult42 (v130 : BitVec 32) : BitVec 32 :=
  let c16_i32_54 : BitVec 32 := 16#32
  let v131 : BitVec 32 := Scalar.muli v130 c16_i32_54
  v131

def k0_off71 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off72 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c144_i32 : BitVec 32 := 144#32
  let c0_i32_55 : BitVec 32 := 0#32
  ![v27.toNat, 144, 0]
def k0_off73 (v130 : BitVec 32) : Fin 2 → Nat :=
  let c16_i32_54 : BitVec 32 := 16#32
  let v131 : BitVec 32 := Scalar.muli v130 c16_i32_54
  let v132 : BitVec 32 := v131
  let c0_i32_56 : BitVec 32 := 0#32
  ![v132.toNat, 0]

def k0_chk43 (i : grid0.Coords) (v14 : BitVec 32) (v130 : BitVec 32) : Prop :=
  (∀ (k0_h2 : k0_cond2 i v14 = 1#1), 16 ∣ (k0_mult42 v130).toNat) ∧
  (∀ (k0_h2 : k0_cond2 i v14 = 1#1), ∀ a, (k0_off73 v130) a + S16x1024.size a ≤ S49152x1024.size a) ∧
  (∀ (k0_h2 : k0_cond2 i v14 = 1#1), ∀ (hinb : ∀ a, (k0_off73 v130) a + S16x1024.size a ≤ S49152x1024.size a), (Rect.unit (s := S49152x1024) (k0_off73 v130) S16x1024.size hinb).WholeWords (EltTy.packing .bf16))
theorem k0_mult42_dvd : ∀ (i : grid0.Coords) (v14 : BitVec 32) (v130 : BitVec 32) (k0_hw43 : k0_chk43 i v14 v130), ∀ (k0_h2 : k0_cond2 i v14 = 1#1), 16 ∣ (k0_mult42 v130).toNat := fun i v14 v130 k0_hw43 k0_h2 => k0_hw43.1 k0_h2
theorem k0_off73_inb : ∀ (i : grid0.Coords) (v14 : BitVec 32) (v130 : BitVec 32) (k0_hw43 : k0_chk43 i v14 v130), ∀ (k0_h2 : k0_cond2 i v14 = 1#1), ∀ a, (k0_off73 v130) a + S16x1024.size a ≤ S49152x1024.size a := fun i v14 v130 k0_hw43 k0_h2 => k0_hw43.2.1 k0_h2
theorem k0_off73_wordsbf16 : ∀ (i : grid0.Coords) (v14 : BitVec 32) (v130 : BitVec 32) (k0_hw43 : k0_chk43 i v14 v130), ∀ (k0_h2 : k0_cond2 i v14 = 1#1), (Rect.unit (s := S49152x1024) (k0_off73 v130) S16x1024.size (k0_off73_inb i v14 v130 k0_hw43 k0_h2)).WholeWords (EltTy.packing .bf16) := fun i v14 v130 k0_hw43 k0_h2 => k0_hw43.2.2 k0_h2 (k0_off73_inb i v14 v130 k0_hw43 k0_h2)

def k0_off74 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_57 : BitVec 32 := 32#32
  let v138 : BitVec 32 := Scalar.muli v26 c32_i32_57
  let c10_i32 : BitVec 32 := 10#32
  let v139 : BitVec 32 := Scalar.addi v138 c10_i32
  let v140 : Index := Scalar.indexCast v139
  ![v140.toNat]
def k0_mult43 (v141 : BitVec 32) : BitVec 32 :=
  let c16_i32_58 : BitVec 32 := 16#32
  let v142 : BitVec 32 := Scalar.muli v141 c16_i32_58
  v142

def k0_off75 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off76 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c160_i32 : BitVec 32 := 160#32
  let c0_i32_59 : BitVec 32 := 0#32
  ![v27.toNat, 160, 0]
def k0_off77 (v141 : BitVec 32) : Fin 2 → Nat :=
  let c16_i32_58 : BitVec 32 := 16#32
  let v142 : BitVec 32 := Scalar.muli v141 c16_i32_58
  let v143 : BitVec 32 := v142
  let c0_i32_60 : BitVec 32 := 0#32
  ![v143.toNat, 0]

def k0_chk44 (i : grid0.Coords) (v14 : BitVec 32) (v141 : BitVec 32) : Prop :=
  (∀ (k0_h2 : k0_cond2 i v14 = 1#1), 16 ∣ (k0_mult43 v141).toNat) ∧
  (∀ (k0_h2 : k0_cond2 i v14 = 1#1), ∀ a, (k0_off77 v141) a + S16x1024.size a ≤ S49152x1024.size a) ∧
  (∀ (k0_h2 : k0_cond2 i v14 = 1#1), ∀ (hinb : ∀ a, (k0_off77 v141) a + S16x1024.size a ≤ S49152x1024.size a), (Rect.unit (s := S49152x1024) (k0_off77 v141) S16x1024.size hinb).WholeWords (EltTy.packing .bf16))
theorem k0_mult43_dvd : ∀ (i : grid0.Coords) (v14 : BitVec 32) (v141 : BitVec 32) (k0_hw44 : k0_chk44 i v14 v141), ∀ (k0_h2 : k0_cond2 i v14 = 1#1), 16 ∣ (k0_mult43 v141).toNat := fun i v14 v141 k0_hw44 k0_h2 => k0_hw44.1 k0_h2
theorem k0_off77_inb : ∀ (i : grid0.Coords) (v14 : BitVec 32) (v141 : BitVec 32) (k0_hw44 : k0_chk44 i v14 v141), ∀ (k0_h2 : k0_cond2 i v14 = 1#1), ∀ a, (k0_off77 v141) a + S16x1024.size a ≤ S49152x1024.size a := fun i v14 v141 k0_hw44 k0_h2 => k0_hw44.2.1 k0_h2
theorem k0_off77_wordsbf16 : ∀ (i : grid0.Coords) (v14 : BitVec 32) (v141 : BitVec 32) (k0_hw44 : k0_chk44 i v14 v141), ∀ (k0_h2 : k0_cond2 i v14 = 1#1), (Rect.unit (s := S49152x1024) (k0_off77 v141) S16x1024.size (k0_off77_inb i v14 v141 k0_hw44 k0_h2)).WholeWords (EltTy.packing .bf16) := fun i v14 v141 k0_hw44 k0_h2 => k0_hw44.2.2 k0_h2 (k0_off77_inb i v14 v141 k0_hw44 k0_h2)

def k0_off78 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_61 : BitVec 32 := 32#32
  let v149 : BitVec 32 := Scalar.muli v26 c32_i32_61
  let c11_i32 : BitVec 32 := 11#32
  let v150 : BitVec 32 := Scalar.addi v149 c11_i32
  let v151 : Index := Scalar.indexCast v150
  ![v151.toNat]
def k0_mult44 (v152 : BitVec 32) : BitVec 32 :=
  let c16_i32_62 : BitVec 32 := 16#32
  let v153 : BitVec 32 := Scalar.muli v152 c16_i32_62
  v153

def k0_off79 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off80 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c176_i32 : BitVec 32 := 176#32
  let c0_i32_63 : BitVec 32 := 0#32
  ![v27.toNat, 176, 0]
def k0_off81 (v152 : BitVec 32) : Fin 2 → Nat :=
  let c16_i32_62 : BitVec 32 := 16#32
  let v153 : BitVec 32 := Scalar.muli v152 c16_i32_62
  let v154 : BitVec 32 := v153
  let c0_i32_64 : BitVec 32 := 0#32
  ![v154.toNat, 0]

def k0_chk45 (i : grid0.Coords) (v14 : BitVec 32) (v152 : BitVec 32) : Prop :=
  (∀ (k0_h2 : k0_cond2 i v14 = 1#1), 16 ∣ (k0_mult44 v152).toNat) ∧
  (∀ (k0_h2 : k0_cond2 i v14 = 1#1), ∀ a, (k0_off81 v152) a + S16x1024.size a ≤ S49152x1024.size a) ∧
  (∀ (k0_h2 : k0_cond2 i v14 = 1#1), ∀ (hinb : ∀ a, (k0_off81 v152) a + S16x1024.size a ≤ S49152x1024.size a), (Rect.unit (s := S49152x1024) (k0_off81 v152) S16x1024.size hinb).WholeWords (EltTy.packing .bf16))
theorem k0_mult44_dvd : ∀ (i : grid0.Coords) (v14 : BitVec 32) (v152 : BitVec 32) (k0_hw45 : k0_chk45 i v14 v152), ∀ (k0_h2 : k0_cond2 i v14 = 1#1), 16 ∣ (k0_mult44 v152).toNat := fun i v14 v152 k0_hw45 k0_h2 => k0_hw45.1 k0_h2
theorem k0_off81_inb : ∀ (i : grid0.Coords) (v14 : BitVec 32) (v152 : BitVec 32) (k0_hw45 : k0_chk45 i v14 v152), ∀ (k0_h2 : k0_cond2 i v14 = 1#1), ∀ a, (k0_off81 v152) a + S16x1024.size a ≤ S49152x1024.size a := fun i v14 v152 k0_hw45 k0_h2 => k0_hw45.2.1 k0_h2
theorem k0_off81_wordsbf16 : ∀ (i : grid0.Coords) (v14 : BitVec 32) (v152 : BitVec 32) (k0_hw45 : k0_chk45 i v14 v152), ∀ (k0_h2 : k0_cond2 i v14 = 1#1), (Rect.unit (s := S49152x1024) (k0_off81 v152) S16x1024.size (k0_off81_inb i v14 v152 k0_hw45 k0_h2)).WholeWords (EltTy.packing .bf16) := fun i v14 v152 k0_hw45 k0_h2 => k0_hw45.2.2 k0_h2 (k0_off81_inb i v14 v152 k0_hw45 k0_h2)

def k0_off82 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_65 : BitVec 32 := 32#32
  let v160 : BitVec 32 := Scalar.muli v26 c32_i32_65
  let c12_i32 : BitVec 32 := 12#32
  let v161 : BitVec 32 := Scalar.addi v160 c12_i32
  let v162 : Index := Scalar.indexCast v161
  ![v162.toNat]
def k0_mult45 (v163 : BitVec 32) : BitVec 32 :=
  let c16_i32_66 : BitVec 32 := 16#32
  let v164 : BitVec 32 := Scalar.muli v163 c16_i32_66
  v164

def k0_off83 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off84 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c192_i32 : BitVec 32 := 192#32
  let c0_i32_67 : BitVec 32 := 0#32
  ![v27.toNat, 192, 0]
def k0_off85 (v163 : BitVec 32) : Fin 2 → Nat :=
  let c16_i32_66 : BitVec 32 := 16#32
  let v164 : BitVec 32 := Scalar.muli v163 c16_i32_66
  let v165 : BitVec 32 := v164
  let c0_i32_68 : BitVec 32 := 0#32
  ![v165.toNat, 0]

def k0_chk46 (i : grid0.Coords) (v14 : BitVec 32) (v163 : BitVec 32) : Prop :=
  (∀ (k0_h2 : k0_cond2 i v14 = 1#1), 16 ∣ (k0_mult45 v163).toNat) ∧
  (∀ (k0_h2 : k0_cond2 i v14 = 1#1), ∀ a, (k0_off85 v163) a + S16x1024.size a ≤ S49152x1024.size a) ∧
  (∀ (k0_h2 : k0_cond2 i v14 = 1#1), ∀ (hinb : ∀ a, (k0_off85 v163) a + S16x1024.size a ≤ S49152x1024.size a), (Rect.unit (s := S49152x1024) (k0_off85 v163) S16x1024.size hinb).WholeWords (EltTy.packing .bf16))
theorem k0_mult45_dvd : ∀ (i : grid0.Coords) (v14 : BitVec 32) (v163 : BitVec 32) (k0_hw46 : k0_chk46 i v14 v163), ∀ (k0_h2 : k0_cond2 i v14 = 1#1), 16 ∣ (k0_mult45 v163).toNat := fun i v14 v163 k0_hw46 k0_h2 => k0_hw46.1 k0_h2
theorem k0_off85_inb : ∀ (i : grid0.Coords) (v14 : BitVec 32) (v163 : BitVec 32) (k0_hw46 : k0_chk46 i v14 v163), ∀ (k0_h2 : k0_cond2 i v14 = 1#1), ∀ a, (k0_off85 v163) a + S16x1024.size a ≤ S49152x1024.size a := fun i v14 v163 k0_hw46 k0_h2 => k0_hw46.2.1 k0_h2
theorem k0_off85_wordsbf16 : ∀ (i : grid0.Coords) (v14 : BitVec 32) (v163 : BitVec 32) (k0_hw46 : k0_chk46 i v14 v163), ∀ (k0_h2 : k0_cond2 i v14 = 1#1), (Rect.unit (s := S49152x1024) (k0_off85 v163) S16x1024.size (k0_off85_inb i v14 v163 k0_hw46 k0_h2)).WholeWords (EltTy.packing .bf16) := fun i v14 v163 k0_hw46 k0_h2 => k0_hw46.2.2 k0_h2 (k0_off85_inb i v14 v163 k0_hw46 k0_h2)

def k0_off86 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_69 : BitVec 32 := 32#32
  let v171 : BitVec 32 := Scalar.muli v26 c32_i32_69
  let c13_i32 : BitVec 32 := 13#32
  let v172 : BitVec 32 := Scalar.addi v171 c13_i32
  let v173 : Index := Scalar.indexCast v172
  ![v173.toNat]
def k0_mult46 (v174 : BitVec 32) : BitVec 32 :=
  let c16_i32_70 : BitVec 32 := 16#32
  let v175 : BitVec 32 := Scalar.muli v174 c16_i32_70
  v175

def k0_off87 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off88 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c208_i32 : BitVec 32 := 208#32
  let c0_i32_71 : BitVec 32 := 0#32
  ![v27.toNat, 208, 0]
def k0_off89 (v174 : BitVec 32) : Fin 2 → Nat :=
  let c16_i32_70 : BitVec 32 := 16#32
  let v175 : BitVec 32 := Scalar.muli v174 c16_i32_70
  let v176 : BitVec 32 := v175
  let c0_i32_72 : BitVec 32 := 0#32
  ![v176.toNat, 0]

def k0_chk47 (i : grid0.Coords) (v14 : BitVec 32) (v174 : BitVec 32) : Prop :=
  (∀ (k0_h2 : k0_cond2 i v14 = 1#1), 16 ∣ (k0_mult46 v174).toNat) ∧
  (∀ (k0_h2 : k0_cond2 i v14 = 1#1), ∀ a, (k0_off89 v174) a + S16x1024.size a ≤ S49152x1024.size a) ∧
  (∀ (k0_h2 : k0_cond2 i v14 = 1#1), ∀ (hinb : ∀ a, (k0_off89 v174) a + S16x1024.size a ≤ S49152x1024.size a), (Rect.unit (s := S49152x1024) (k0_off89 v174) S16x1024.size hinb).WholeWords (EltTy.packing .bf16))
theorem k0_mult46_dvd : ∀ (i : grid0.Coords) (v14 : BitVec 32) (v174 : BitVec 32) (k0_hw47 : k0_chk47 i v14 v174), ∀ (k0_h2 : k0_cond2 i v14 = 1#1), 16 ∣ (k0_mult46 v174).toNat := fun i v14 v174 k0_hw47 k0_h2 => k0_hw47.1 k0_h2
theorem k0_off89_inb : ∀ (i : grid0.Coords) (v14 : BitVec 32) (v174 : BitVec 32) (k0_hw47 : k0_chk47 i v14 v174), ∀ (k0_h2 : k0_cond2 i v14 = 1#1), ∀ a, (k0_off89 v174) a + S16x1024.size a ≤ S49152x1024.size a := fun i v14 v174 k0_hw47 k0_h2 => k0_hw47.2.1 k0_h2
theorem k0_off89_wordsbf16 : ∀ (i : grid0.Coords) (v14 : BitVec 32) (v174 : BitVec 32) (k0_hw47 : k0_chk47 i v14 v174), ∀ (k0_h2 : k0_cond2 i v14 = 1#1), (Rect.unit (s := S49152x1024) (k0_off89 v174) S16x1024.size (k0_off89_inb i v14 v174 k0_hw47 k0_h2)).WholeWords (EltTy.packing .bf16) := fun i v14 v174 k0_hw47 k0_h2 => k0_hw47.2.2 k0_h2 (k0_off89_inb i v14 v174 k0_hw47 k0_h2)

def k0_off90 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_73 : BitVec 32 := 32#32
  let v182 : BitVec 32 := Scalar.muli v26 c32_i32_73
  let c14_i32 : BitVec 32 := 14#32
  let v183 : BitVec 32 := Scalar.addi v182 c14_i32
  let v184 : Index := Scalar.indexCast v183
  ![v184.toNat]
def k0_mult47 (v185 : BitVec 32) : BitVec 32 :=
  let c16_i32_74 : BitVec 32 := 16#32
  let v186 : BitVec 32 := Scalar.muli v185 c16_i32_74
  v186

def k0_off91 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off92 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c224_i32 : BitVec 32 := 224#32
  let c0_i32_75 : BitVec 32 := 0#32
  ![v27.toNat, 224, 0]
def k0_off93 (v185 : BitVec 32) : Fin 2 → Nat :=
  let c16_i32_74 : BitVec 32 := 16#32
  let v186 : BitVec 32 := Scalar.muli v185 c16_i32_74
  let v187 : BitVec 32 := v186
  let c0_i32_76 : BitVec 32 := 0#32
  ![v187.toNat, 0]

def k0_chk48 (i : grid0.Coords) (v14 : BitVec 32) (v185 : BitVec 32) : Prop :=
  (∀ (k0_h2 : k0_cond2 i v14 = 1#1), 16 ∣ (k0_mult47 v185).toNat) ∧
  (∀ (k0_h2 : k0_cond2 i v14 = 1#1), ∀ a, (k0_off93 v185) a + S16x1024.size a ≤ S49152x1024.size a) ∧
  (∀ (k0_h2 : k0_cond2 i v14 = 1#1), ∀ (hinb : ∀ a, (k0_off93 v185) a + S16x1024.size a ≤ S49152x1024.size a), (Rect.unit (s := S49152x1024) (k0_off93 v185) S16x1024.size hinb).WholeWords (EltTy.packing .bf16))
theorem k0_mult47_dvd : ∀ (i : grid0.Coords) (v14 : BitVec 32) (v185 : BitVec 32) (k0_hw48 : k0_chk48 i v14 v185), ∀ (k0_h2 : k0_cond2 i v14 = 1#1), 16 ∣ (k0_mult47 v185).toNat := fun i v14 v185 k0_hw48 k0_h2 => k0_hw48.1 k0_h2
theorem k0_off93_inb : ∀ (i : grid0.Coords) (v14 : BitVec 32) (v185 : BitVec 32) (k0_hw48 : k0_chk48 i v14 v185), ∀ (k0_h2 : k0_cond2 i v14 = 1#1), ∀ a, (k0_off93 v185) a + S16x1024.size a ≤ S49152x1024.size a := fun i v14 v185 k0_hw48 k0_h2 => k0_hw48.2.1 k0_h2
theorem k0_off93_wordsbf16 : ∀ (i : grid0.Coords) (v14 : BitVec 32) (v185 : BitVec 32) (k0_hw48 : k0_chk48 i v14 v185), ∀ (k0_h2 : k0_cond2 i v14 = 1#1), (Rect.unit (s := S49152x1024) (k0_off93 v185) S16x1024.size (k0_off93_inb i v14 v185 k0_hw48 k0_h2)).WholeWords (EltTy.packing .bf16) := fun i v14 v185 k0_hw48 k0_h2 => k0_hw48.2.2 k0_h2 (k0_off93_inb i v14 v185 k0_hw48 k0_h2)

def k0_off94 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_77 : BitVec 32 := 32#32
  let v193 : BitVec 32 := Scalar.muli v26 c32_i32_77
  let c15_i32 : BitVec 32 := 15#32
  let v194 : BitVec 32 := Scalar.addi v193 c15_i32
  let v195 : Index := Scalar.indexCast v194
  ![v195.toNat]
def k0_mult48 (v196 : BitVec 32) : BitVec 32 :=
  let c16_i32_78 : BitVec 32 := 16#32
  let v197 : BitVec 32 := Scalar.muli v196 c16_i32_78
  v197

def k0_off95 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off96 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c240_i32 : BitVec 32 := 240#32
  let c0_i32_79 : BitVec 32 := 0#32
  ![v27.toNat, 240, 0]
def k0_off97 (v196 : BitVec 32) : Fin 2 → Nat :=
  let c16_i32_78 : BitVec 32 := 16#32
  let v197 : BitVec 32 := Scalar.muli v196 c16_i32_78
  let v198 : BitVec 32 := v197
  let c0_i32_80 : BitVec 32 := 0#32
  ![v198.toNat, 0]

def k0_chk49 (i : grid0.Coords) (v14 : BitVec 32) (v196 : BitVec 32) : Prop :=
  (∀ (k0_h2 : k0_cond2 i v14 = 1#1), 16 ∣ (k0_mult48 v196).toNat) ∧
  (∀ (k0_h2 : k0_cond2 i v14 = 1#1), ∀ a, (k0_off97 v196) a + S16x1024.size a ≤ S49152x1024.size a) ∧
  (∀ (k0_h2 : k0_cond2 i v14 = 1#1), ∀ (hinb : ∀ a, (k0_off97 v196) a + S16x1024.size a ≤ S49152x1024.size a), (Rect.unit (s := S49152x1024) (k0_off97 v196) S16x1024.size hinb).WholeWords (EltTy.packing .bf16))
theorem k0_mult48_dvd : ∀ (i : grid0.Coords) (v14 : BitVec 32) (v196 : BitVec 32) (k0_hw49 : k0_chk49 i v14 v196), ∀ (k0_h2 : k0_cond2 i v14 = 1#1), 16 ∣ (k0_mult48 v196).toNat := fun i v14 v196 k0_hw49 k0_h2 => k0_hw49.1 k0_h2
theorem k0_off97_inb : ∀ (i : grid0.Coords) (v14 : BitVec 32) (v196 : BitVec 32) (k0_hw49 : k0_chk49 i v14 v196), ∀ (k0_h2 : k0_cond2 i v14 = 1#1), ∀ a, (k0_off97 v196) a + S16x1024.size a ≤ S49152x1024.size a := fun i v14 v196 k0_hw49 k0_h2 => k0_hw49.2.1 k0_h2
theorem k0_off97_wordsbf16 : ∀ (i : grid0.Coords) (v14 : BitVec 32) (v196 : BitVec 32) (k0_hw49 : k0_chk49 i v14 v196), ∀ (k0_h2 : k0_cond2 i v14 = 1#1), (Rect.unit (s := S49152x1024) (k0_off97 v196) S16x1024.size (k0_off97_inb i v14 v196 k0_hw49 k0_h2)).WholeWords (EltTy.packing .bf16) := fun i v14 v196 k0_hw49 k0_h2 => k0_hw49.2.2 k0_h2 (k0_off97_inb i v14 v196 k0_hw49 k0_h2)

def k0_off98 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_81 : BitVec 32 := 32#32
  let v204 : BitVec 32 := Scalar.muli v26 c32_i32_81
  let c16_i32_82 : BitVec 32 := 16#32
  let v205 : BitVec 32 := Scalar.addi v204 c16_i32_82
  let v206 : Index := Scalar.indexCast v205
  ![v206.toNat]
def k0_mult49 (v207 : BitVec 32) : BitVec 32 :=
  let c16_i32_83 : BitVec 32 := 16#32
  let v208 : BitVec 32 := Scalar.muli v207 c16_i32_83
  v208

def k0_off99 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off100 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c256_i32 : BitVec 32 := 256#32
  let c0_i32_84 : BitVec 32 := 0#32
  ![v27.toNat, 256, 0]
def k0_off101 (v207 : BitVec 32) : Fin 2 → Nat :=
  let c16_i32_83 : BitVec 32 := 16#32
  let v208 : BitVec 32 := Scalar.muli v207 c16_i32_83
  let v209 : BitVec 32 := v208
  let c0_i32_85 : BitVec 32 := 0#32
  ![v209.toNat, 0]

def k0_chk50 (i : grid0.Coords) (v14 : BitVec 32) (v207 : BitVec 32) : Prop :=
  (∀ (k0_h2 : k0_cond2 i v14 = 1#1), 16 ∣ (k0_mult49 v207).toNat) ∧
  (∀ (k0_h2 : k0_cond2 i v14 = 1#1), ∀ a, (k0_off101 v207) a + S16x1024.size a ≤ S49152x1024.size a) ∧
  (∀ (k0_h2 : k0_cond2 i v14 = 1#1), ∀ (hinb : ∀ a, (k0_off101 v207) a + S16x1024.size a ≤ S49152x1024.size a), (Rect.unit (s := S49152x1024) (k0_off101 v207) S16x1024.size hinb).WholeWords (EltTy.packing .bf16))
theorem k0_mult49_dvd : ∀ (i : grid0.Coords) (v14 : BitVec 32) (v207 : BitVec 32) (k0_hw50 : k0_chk50 i v14 v207), ∀ (k0_h2 : k0_cond2 i v14 = 1#1), 16 ∣ (k0_mult49 v207).toNat := fun i v14 v207 k0_hw50 k0_h2 => k0_hw50.1 k0_h2
theorem k0_off101_inb : ∀ (i : grid0.Coords) (v14 : BitVec 32) (v207 : BitVec 32) (k0_hw50 : k0_chk50 i v14 v207), ∀ (k0_h2 : k0_cond2 i v14 = 1#1), ∀ a, (k0_off101 v207) a + S16x1024.size a ≤ S49152x1024.size a := fun i v14 v207 k0_hw50 k0_h2 => k0_hw50.2.1 k0_h2
theorem k0_off101_wordsbf16 : ∀ (i : grid0.Coords) (v14 : BitVec 32) (v207 : BitVec 32) (k0_hw50 : k0_chk50 i v14 v207), ∀ (k0_h2 : k0_cond2 i v14 = 1#1), (Rect.unit (s := S49152x1024) (k0_off101 v207) S16x1024.size (k0_off101_inb i v14 v207 k0_hw50 k0_h2)).WholeWords (EltTy.packing .bf16) := fun i v14 v207 k0_hw50 k0_h2 => k0_hw50.2.2 k0_h2 (k0_off101_inb i v14 v207 k0_hw50 k0_h2)

def k0_off102 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_86 : BitVec 32 := 32#32
  let v215 : BitVec 32 := Scalar.muli v26 c32_i32_86
  let c17_i32 : BitVec 32 := 17#32
  let v216 : BitVec 32 := Scalar.addi v215 c17_i32
  let v217 : Index := Scalar.indexCast v216
  ![v217.toNat]
def k0_mult50 (v218 : BitVec 32) : BitVec 32 :=
  let c16_i32_87 : BitVec 32 := 16#32
  let v219 : BitVec 32 := Scalar.muli v218 c16_i32_87
  v219

def k0_off103 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off104 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c272_i32 : BitVec 32 := 272#32
  let c0_i32_88 : BitVec 32 := 0#32
  ![v27.toNat, 272, 0]
def k0_off105 (v218 : BitVec 32) : Fin 2 → Nat :=
  let c16_i32_87 : BitVec 32 := 16#32
  let v219 : BitVec 32 := Scalar.muli v218 c16_i32_87
  let v220 : BitVec 32 := v219
  let c0_i32_89 : BitVec 32 := 0#32
  ![v220.toNat, 0]

def k0_chk51 (i : grid0.Coords) (v14 : BitVec 32) (v218 : BitVec 32) : Prop :=
  (∀ (k0_h2 : k0_cond2 i v14 = 1#1), 16 ∣ (k0_mult50 v218).toNat) ∧
  (∀ (k0_h2 : k0_cond2 i v14 = 1#1), ∀ a, (k0_off105 v218) a + S16x1024.size a ≤ S49152x1024.size a) ∧
  (∀ (k0_h2 : k0_cond2 i v14 = 1#1), ∀ (hinb : ∀ a, (k0_off105 v218) a + S16x1024.size a ≤ S49152x1024.size a), (Rect.unit (s := S49152x1024) (k0_off105 v218) S16x1024.size hinb).WholeWords (EltTy.packing .bf16))
theorem k0_mult50_dvd : ∀ (i : grid0.Coords) (v14 : BitVec 32) (v218 : BitVec 32) (k0_hw51 : k0_chk51 i v14 v218), ∀ (k0_h2 : k0_cond2 i v14 = 1#1), 16 ∣ (k0_mult50 v218).toNat := fun i v14 v218 k0_hw51 k0_h2 => k0_hw51.1 k0_h2
theorem k0_off105_inb : ∀ (i : grid0.Coords) (v14 : BitVec 32) (v218 : BitVec 32) (k0_hw51 : k0_chk51 i v14 v218), ∀ (k0_h2 : k0_cond2 i v14 = 1#1), ∀ a, (k0_off105 v218) a + S16x1024.size a ≤ S49152x1024.size a := fun i v14 v218 k0_hw51 k0_h2 => k0_hw51.2.1 k0_h2
theorem k0_off105_wordsbf16 : ∀ (i : grid0.Coords) (v14 : BitVec 32) (v218 : BitVec 32) (k0_hw51 : k0_chk51 i v14 v218), ∀ (k0_h2 : k0_cond2 i v14 = 1#1), (Rect.unit (s := S49152x1024) (k0_off105 v218) S16x1024.size (k0_off105_inb i v14 v218 k0_hw51 k0_h2)).WholeWords (EltTy.packing .bf16) := fun i v14 v218 k0_hw51 k0_h2 => k0_hw51.2.2 k0_h2 (k0_off105_inb i v14 v218 k0_hw51 k0_h2)

def k0_off106 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_90 : BitVec 32 := 32#32
  let v226 : BitVec 32 := Scalar.muli v26 c32_i32_90
  let c18_i32 : BitVec 32 := 18#32
  let v227 : BitVec 32 := Scalar.addi v226 c18_i32
  let v228 : Index := Scalar.indexCast v227
  ![v228.toNat]
def k0_mult51 (v229 : BitVec 32) : BitVec 32 :=
  let c16_i32_91 : BitVec 32 := 16#32
  let v230 : BitVec 32 := Scalar.muli v229 c16_i32_91
  v230

def k0_off107 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off108 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c288_i32 : BitVec 32 := 288#32
  let c0_i32_92 : BitVec 32 := 0#32
  ![v27.toNat, 288, 0]
def k0_off109 (v229 : BitVec 32) : Fin 2 → Nat :=
  let c16_i32_91 : BitVec 32 := 16#32
  let v230 : BitVec 32 := Scalar.muli v229 c16_i32_91
  let v231 : BitVec 32 := v230
  let c0_i32_93 : BitVec 32 := 0#32
  ![v231.toNat, 0]

def k0_chk52 (i : grid0.Coords) (v14 : BitVec 32) (v229 : BitVec 32) : Prop :=
  (∀ (k0_h2 : k0_cond2 i v14 = 1#1), 16 ∣ (k0_mult51 v229).toNat) ∧
  (∀ (k0_h2 : k0_cond2 i v14 = 1#1), ∀ a, (k0_off109 v229) a + S16x1024.size a ≤ S49152x1024.size a) ∧
  (∀ (k0_h2 : k0_cond2 i v14 = 1#1), ∀ (hinb : ∀ a, (k0_off109 v229) a + S16x1024.size a ≤ S49152x1024.size a), (Rect.unit (s := S49152x1024) (k0_off109 v229) S16x1024.size hinb).WholeWords (EltTy.packing .bf16))
theorem k0_mult51_dvd : ∀ (i : grid0.Coords) (v14 : BitVec 32) (v229 : BitVec 32) (k0_hw52 : k0_chk52 i v14 v229), ∀ (k0_h2 : k0_cond2 i v14 = 1#1), 16 ∣ (k0_mult51 v229).toNat := fun i v14 v229 k0_hw52 k0_h2 => k0_hw52.1 k0_h2
theorem k0_off109_inb : ∀ (i : grid0.Coords) (v14 : BitVec 32) (v229 : BitVec 32) (k0_hw52 : k0_chk52 i v14 v229), ∀ (k0_h2 : k0_cond2 i v14 = 1#1), ∀ a, (k0_off109 v229) a + S16x1024.size a ≤ S49152x1024.size a := fun i v14 v229 k0_hw52 k0_h2 => k0_hw52.2.1 k0_h2
theorem k0_off109_wordsbf16 : ∀ (i : grid0.Coords) (v14 : BitVec 32) (v229 : BitVec 32) (k0_hw52 : k0_chk52 i v14 v229), ∀ (k0_h2 : k0_cond2 i v14 = 1#1), (Rect.unit (s := S49152x1024) (k0_off109 v229) S16x1024.size (k0_off109_inb i v14 v229 k0_hw52 k0_h2)).WholeWords (EltTy.packing .bf16) := fun i v14 v229 k0_hw52 k0_h2 => k0_hw52.2.2 k0_h2 (k0_off109_inb i v14 v229 k0_hw52 k0_h2)

def k0_off110 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_94 : BitVec 32 := 32#32
  let v237 : BitVec 32 := Scalar.muli v26 c32_i32_94
  let c19_i32 : BitVec 32 := 19#32
  let v238 : BitVec 32 := Scalar.addi v237 c19_i32
  let v239 : Index := Scalar.indexCast v238
  ![v239.toNat]
def k0_mult52 (v240 : BitVec 32) : BitVec 32 :=
  let c16_i32_95 : BitVec 32 := 16#32
  let v241 : BitVec 32 := Scalar.muli v240 c16_i32_95
  v241

def k0_off111 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off112 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c304_i32 : BitVec 32 := 304#32
  let c0_i32_96 : BitVec 32 := 0#32
  ![v27.toNat, 304, 0]
def k0_off113 (v240 : BitVec 32) : Fin 2 → Nat :=
  let c16_i32_95 : BitVec 32 := 16#32
  let v241 : BitVec 32 := Scalar.muli v240 c16_i32_95
  let v242 : BitVec 32 := v241
  let c0_i32_97 : BitVec 32 := 0#32
  ![v242.toNat, 0]

def k0_chk53 (i : grid0.Coords) (v14 : BitVec 32) (v240 : BitVec 32) : Prop :=
  (∀ (k0_h2 : k0_cond2 i v14 = 1#1), 16 ∣ (k0_mult52 v240).toNat) ∧
  (∀ (k0_h2 : k0_cond2 i v14 = 1#1), ∀ a, (k0_off113 v240) a + S16x1024.size a ≤ S49152x1024.size a) ∧
  (∀ (k0_h2 : k0_cond2 i v14 = 1#1), ∀ (hinb : ∀ a, (k0_off113 v240) a + S16x1024.size a ≤ S49152x1024.size a), (Rect.unit (s := S49152x1024) (k0_off113 v240) S16x1024.size hinb).WholeWords (EltTy.packing .bf16))
theorem k0_mult52_dvd : ∀ (i : grid0.Coords) (v14 : BitVec 32) (v240 : BitVec 32) (k0_hw53 : k0_chk53 i v14 v240), ∀ (k0_h2 : k0_cond2 i v14 = 1#1), 16 ∣ (k0_mult52 v240).toNat := fun i v14 v240 k0_hw53 k0_h2 => k0_hw53.1 k0_h2
theorem k0_off113_inb : ∀ (i : grid0.Coords) (v14 : BitVec 32) (v240 : BitVec 32) (k0_hw53 : k0_chk53 i v14 v240), ∀ (k0_h2 : k0_cond2 i v14 = 1#1), ∀ a, (k0_off113 v240) a + S16x1024.size a ≤ S49152x1024.size a := fun i v14 v240 k0_hw53 k0_h2 => k0_hw53.2.1 k0_h2
theorem k0_off113_wordsbf16 : ∀ (i : grid0.Coords) (v14 : BitVec 32) (v240 : BitVec 32) (k0_hw53 : k0_chk53 i v14 v240), ∀ (k0_h2 : k0_cond2 i v14 = 1#1), (Rect.unit (s := S49152x1024) (k0_off113 v240) S16x1024.size (k0_off113_inb i v14 v240 k0_hw53 k0_h2)).WholeWords (EltTy.packing .bf16) := fun i v14 v240 k0_hw53 k0_h2 => k0_hw53.2.2 k0_h2 (k0_off113_inb i v14 v240 k0_hw53 k0_h2)

def k0_off114 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_98 : BitVec 32 := 32#32
  let v248 : BitVec 32 := Scalar.muli v26 c32_i32_98
  let c20_i32 : BitVec 32 := 20#32
  let v249 : BitVec 32 := Scalar.addi v248 c20_i32
  let v250 : Index := Scalar.indexCast v249
  ![v250.toNat]
def k0_mult53 (v251 : BitVec 32) : BitVec 32 :=
  let c16_i32_99 : BitVec 32 := 16#32
  let v252 : BitVec 32 := Scalar.muli v251 c16_i32_99
  v252

def k0_off115 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off116 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c320_i32 : BitVec 32 := 320#32
  let c0_i32_100 : BitVec 32 := 0#32
  ![v27.toNat, 320, 0]
def k0_off117 (v251 : BitVec 32) : Fin 2 → Nat :=
  let c16_i32_99 : BitVec 32 := 16#32
  let v252 : BitVec 32 := Scalar.muli v251 c16_i32_99
  let v253 : BitVec 32 := v252
  let c0_i32_101 : BitVec 32 := 0#32
  ![v253.toNat, 0]

def k0_chk54 (i : grid0.Coords) (v14 : BitVec 32) (v251 : BitVec 32) : Prop :=
  (∀ (k0_h2 : k0_cond2 i v14 = 1#1), 16 ∣ (k0_mult53 v251).toNat) ∧
  (∀ (k0_h2 : k0_cond2 i v14 = 1#1), ∀ a, (k0_off117 v251) a + S16x1024.size a ≤ S49152x1024.size a) ∧
  (∀ (k0_h2 : k0_cond2 i v14 = 1#1), ∀ (hinb : ∀ a, (k0_off117 v251) a + S16x1024.size a ≤ S49152x1024.size a), (Rect.unit (s := S49152x1024) (k0_off117 v251) S16x1024.size hinb).WholeWords (EltTy.packing .bf16))
theorem k0_mult53_dvd : ∀ (i : grid0.Coords) (v14 : BitVec 32) (v251 : BitVec 32) (k0_hw54 : k0_chk54 i v14 v251), ∀ (k0_h2 : k0_cond2 i v14 = 1#1), 16 ∣ (k0_mult53 v251).toNat := fun i v14 v251 k0_hw54 k0_h2 => k0_hw54.1 k0_h2
theorem k0_off117_inb : ∀ (i : grid0.Coords) (v14 : BitVec 32) (v251 : BitVec 32) (k0_hw54 : k0_chk54 i v14 v251), ∀ (k0_h2 : k0_cond2 i v14 = 1#1), ∀ a, (k0_off117 v251) a + S16x1024.size a ≤ S49152x1024.size a := fun i v14 v251 k0_hw54 k0_h2 => k0_hw54.2.1 k0_h2
theorem k0_off117_wordsbf16 : ∀ (i : grid0.Coords) (v14 : BitVec 32) (v251 : BitVec 32) (k0_hw54 : k0_chk54 i v14 v251), ∀ (k0_h2 : k0_cond2 i v14 = 1#1), (Rect.unit (s := S49152x1024) (k0_off117 v251) S16x1024.size (k0_off117_inb i v14 v251 k0_hw54 k0_h2)).WholeWords (EltTy.packing .bf16) := fun i v14 v251 k0_hw54 k0_h2 => k0_hw54.2.2 k0_h2 (k0_off117_inb i v14 v251 k0_hw54 k0_h2)

def k0_off118 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_102 : BitVec 32 := 32#32
  let v259 : BitVec 32 := Scalar.muli v26 c32_i32_102
  let c21_i32 : BitVec 32 := 21#32
  let v260 : BitVec 32 := Scalar.addi v259 c21_i32
  let v261 : Index := Scalar.indexCast v260
  ![v261.toNat]
def k0_mult54 (v262 : BitVec 32) : BitVec 32 :=
  let c16_i32_103 : BitVec 32 := 16#32
  let v263 : BitVec 32 := Scalar.muli v262 c16_i32_103
  v263

def k0_off119 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off120 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c336_i32 : BitVec 32 := 336#32
  let c0_i32_104 : BitVec 32 := 0#32
  ![v27.toNat, 336, 0]
def k0_off121 (v262 : BitVec 32) : Fin 2 → Nat :=
  let c16_i32_103 : BitVec 32 := 16#32
  let v263 : BitVec 32 := Scalar.muli v262 c16_i32_103
  let v264 : BitVec 32 := v263
  let c0_i32_105 : BitVec 32 := 0#32
  ![v264.toNat, 0]

def k0_chk55 (i : grid0.Coords) (v14 : BitVec 32) (v262 : BitVec 32) : Prop :=
  (∀ (k0_h2 : k0_cond2 i v14 = 1#1), 16 ∣ (k0_mult54 v262).toNat) ∧
  (∀ (k0_h2 : k0_cond2 i v14 = 1#1), ∀ a, (k0_off121 v262) a + S16x1024.size a ≤ S49152x1024.size a) ∧
  (∀ (k0_h2 : k0_cond2 i v14 = 1#1), ∀ (hinb : ∀ a, (k0_off121 v262) a + S16x1024.size a ≤ S49152x1024.size a), (Rect.unit (s := S49152x1024) (k0_off121 v262) S16x1024.size hinb).WholeWords (EltTy.packing .bf16))
theorem k0_mult54_dvd : ∀ (i : grid0.Coords) (v14 : BitVec 32) (v262 : BitVec 32) (k0_hw55 : k0_chk55 i v14 v262), ∀ (k0_h2 : k0_cond2 i v14 = 1#1), 16 ∣ (k0_mult54 v262).toNat := fun i v14 v262 k0_hw55 k0_h2 => k0_hw55.1 k0_h2
theorem k0_off121_inb : ∀ (i : grid0.Coords) (v14 : BitVec 32) (v262 : BitVec 32) (k0_hw55 : k0_chk55 i v14 v262), ∀ (k0_h2 : k0_cond2 i v14 = 1#1), ∀ a, (k0_off121 v262) a + S16x1024.size a ≤ S49152x1024.size a := fun i v14 v262 k0_hw55 k0_h2 => k0_hw55.2.1 k0_h2
theorem k0_off121_wordsbf16 : ∀ (i : grid0.Coords) (v14 : BitVec 32) (v262 : BitVec 32) (k0_hw55 : k0_chk55 i v14 v262), ∀ (k0_h2 : k0_cond2 i v14 = 1#1), (Rect.unit (s := S49152x1024) (k0_off121 v262) S16x1024.size (k0_off121_inb i v14 v262 k0_hw55 k0_h2)).WholeWords (EltTy.packing .bf16) := fun i v14 v262 k0_hw55 k0_h2 => k0_hw55.2.2 k0_h2 (k0_off121_inb i v14 v262 k0_hw55 k0_h2)

def k0_off122 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_106 : BitVec 32 := 32#32
  let v270 : BitVec 32 := Scalar.muli v26 c32_i32_106
  let c22_i32 : BitVec 32 := 22#32
  let v271 : BitVec 32 := Scalar.addi v270 c22_i32
  let v272 : Index := Scalar.indexCast v271
  ![v272.toNat]
def k0_mult55 (v273 : BitVec 32) : BitVec 32 :=
  let c16_i32_107 : BitVec 32 := 16#32
  let v274 : BitVec 32 := Scalar.muli v273 c16_i32_107
  v274

def k0_off123 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off124 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c352_i32 : BitVec 32 := 352#32
  let c0_i32_108 : BitVec 32 := 0#32
  ![v27.toNat, 352, 0]
def k0_off125 (v273 : BitVec 32) : Fin 2 → Nat :=
  let c16_i32_107 : BitVec 32 := 16#32
  let v274 : BitVec 32 := Scalar.muli v273 c16_i32_107
  let v275 : BitVec 32 := v274
  let c0_i32_109 : BitVec 32 := 0#32
  ![v275.toNat, 0]

def k0_chk56 (i : grid0.Coords) (v14 : BitVec 32) (v273 : BitVec 32) : Prop :=
  (∀ (k0_h2 : k0_cond2 i v14 = 1#1), 16 ∣ (k0_mult55 v273).toNat) ∧
  (∀ (k0_h2 : k0_cond2 i v14 = 1#1), ∀ a, (k0_off125 v273) a + S16x1024.size a ≤ S49152x1024.size a) ∧
  (∀ (k0_h2 : k0_cond2 i v14 = 1#1), ∀ (hinb : ∀ a, (k0_off125 v273) a + S16x1024.size a ≤ S49152x1024.size a), (Rect.unit (s := S49152x1024) (k0_off125 v273) S16x1024.size hinb).WholeWords (EltTy.packing .bf16))
theorem k0_mult55_dvd : ∀ (i : grid0.Coords) (v14 : BitVec 32) (v273 : BitVec 32) (k0_hw56 : k0_chk56 i v14 v273), ∀ (k0_h2 : k0_cond2 i v14 = 1#1), 16 ∣ (k0_mult55 v273).toNat := fun i v14 v273 k0_hw56 k0_h2 => k0_hw56.1 k0_h2
theorem k0_off125_inb : ∀ (i : grid0.Coords) (v14 : BitVec 32) (v273 : BitVec 32) (k0_hw56 : k0_chk56 i v14 v273), ∀ (k0_h2 : k0_cond2 i v14 = 1#1), ∀ a, (k0_off125 v273) a + S16x1024.size a ≤ S49152x1024.size a := fun i v14 v273 k0_hw56 k0_h2 => k0_hw56.2.1 k0_h2
theorem k0_off125_wordsbf16 : ∀ (i : grid0.Coords) (v14 : BitVec 32) (v273 : BitVec 32) (k0_hw56 : k0_chk56 i v14 v273), ∀ (k0_h2 : k0_cond2 i v14 = 1#1), (Rect.unit (s := S49152x1024) (k0_off125 v273) S16x1024.size (k0_off125_inb i v14 v273 k0_hw56 k0_h2)).WholeWords (EltTy.packing .bf16) := fun i v14 v273 k0_hw56 k0_h2 => k0_hw56.2.2 k0_h2 (k0_off125_inb i v14 v273 k0_hw56 k0_h2)

def k0_off126 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_110 : BitVec 32 := 32#32
  let v281 : BitVec 32 := Scalar.muli v26 c32_i32_110
  let c23_i32 : BitVec 32 := 23#32
  let v282 : BitVec 32 := Scalar.addi v281 c23_i32
  let v283 : Index := Scalar.indexCast v282
  ![v283.toNat]
def k0_mult56 (v284 : BitVec 32) : BitVec 32 :=
  let c16_i32_111 : BitVec 32 := 16#32
  let v285 : BitVec 32 := Scalar.muli v284 c16_i32_111
  v285

def k0_off127 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off128 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c368_i32 : BitVec 32 := 368#32
  let c0_i32_112 : BitVec 32 := 0#32
  ![v27.toNat, 368, 0]
def k0_off129 (v284 : BitVec 32) : Fin 2 → Nat :=
  let c16_i32_111 : BitVec 32 := 16#32
  let v285 : BitVec 32 := Scalar.muli v284 c16_i32_111
  let v286 : BitVec 32 := v285
  let c0_i32_113 : BitVec 32 := 0#32
  ![v286.toNat, 0]

def k0_chk57 (i : grid0.Coords) (v14 : BitVec 32) (v284 : BitVec 32) : Prop :=
  (∀ (k0_h2 : k0_cond2 i v14 = 1#1), 16 ∣ (k0_mult56 v284).toNat) ∧
  (∀ (k0_h2 : k0_cond2 i v14 = 1#1), ∀ a, (k0_off129 v284) a + S16x1024.size a ≤ S49152x1024.size a) ∧
  (∀ (k0_h2 : k0_cond2 i v14 = 1#1), ∀ (hinb : ∀ a, (k0_off129 v284) a + S16x1024.size a ≤ S49152x1024.size a), (Rect.unit (s := S49152x1024) (k0_off129 v284) S16x1024.size hinb).WholeWords (EltTy.packing .bf16))
theorem k0_mult56_dvd : ∀ (i : grid0.Coords) (v14 : BitVec 32) (v284 : BitVec 32) (k0_hw57 : k0_chk57 i v14 v284), ∀ (k0_h2 : k0_cond2 i v14 = 1#1), 16 ∣ (k0_mult56 v284).toNat := fun i v14 v284 k0_hw57 k0_h2 => k0_hw57.1 k0_h2
theorem k0_off129_inb : ∀ (i : grid0.Coords) (v14 : BitVec 32) (v284 : BitVec 32) (k0_hw57 : k0_chk57 i v14 v284), ∀ (k0_h2 : k0_cond2 i v14 = 1#1), ∀ a, (k0_off129 v284) a + S16x1024.size a ≤ S49152x1024.size a := fun i v14 v284 k0_hw57 k0_h2 => k0_hw57.2.1 k0_h2
theorem k0_off129_wordsbf16 : ∀ (i : grid0.Coords) (v14 : BitVec 32) (v284 : BitVec 32) (k0_hw57 : k0_chk57 i v14 v284), ∀ (k0_h2 : k0_cond2 i v14 = 1#1), (Rect.unit (s := S49152x1024) (k0_off129 v284) S16x1024.size (k0_off129_inb i v14 v284 k0_hw57 k0_h2)).WholeWords (EltTy.packing .bf16) := fun i v14 v284 k0_hw57 k0_h2 => k0_hw57.2.2 k0_h2 (k0_off129_inb i v14 v284 k0_hw57 k0_h2)

def k0_off130 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_114 : BitVec 32 := 32#32
  let v292 : BitVec 32 := Scalar.muli v26 c32_i32_114
  let c24_i32 : BitVec 32 := 24#32
  let v293 : BitVec 32 := Scalar.addi v292 c24_i32
  let v294 : Index := Scalar.indexCast v293
  ![v294.toNat]
def k0_mult57 (v295 : BitVec 32) : BitVec 32 :=
  let c16_i32_115 : BitVec 32 := 16#32
  let v296 : BitVec 32 := Scalar.muli v295 c16_i32_115
  v296

def k0_off131 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off132 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c384_i32 : BitVec 32 := 384#32
  let c0_i32_116 : BitVec 32 := 0#32
  ![v27.toNat, 384, 0]
def k0_off133 (v295 : BitVec 32) : Fin 2 → Nat :=
  let c16_i32_115 : BitVec 32 := 16#32
  let v296 : BitVec 32 := Scalar.muli v295 c16_i32_115
  let v297 : BitVec 32 := v296
  let c0_i32_117 : BitVec 32 := 0#32
  ![v297.toNat, 0]

def k0_chk58 (i : grid0.Coords) (v14 : BitVec 32) (v295 : BitVec 32) : Prop :=
  (∀ (k0_h2 : k0_cond2 i v14 = 1#1), 16 ∣ (k0_mult57 v295).toNat) ∧
  (∀ (k0_h2 : k0_cond2 i v14 = 1#1), ∀ a, (k0_off133 v295) a + S16x1024.size a ≤ S49152x1024.size a) ∧
  (∀ (k0_h2 : k0_cond2 i v14 = 1#1), ∀ (hinb : ∀ a, (k0_off133 v295) a + S16x1024.size a ≤ S49152x1024.size a), (Rect.unit (s := S49152x1024) (k0_off133 v295) S16x1024.size hinb).WholeWords (EltTy.packing .bf16))
theorem k0_mult57_dvd : ∀ (i : grid0.Coords) (v14 : BitVec 32) (v295 : BitVec 32) (k0_hw58 : k0_chk58 i v14 v295), ∀ (k0_h2 : k0_cond2 i v14 = 1#1), 16 ∣ (k0_mult57 v295).toNat := fun i v14 v295 k0_hw58 k0_h2 => k0_hw58.1 k0_h2
theorem k0_off133_inb : ∀ (i : grid0.Coords) (v14 : BitVec 32) (v295 : BitVec 32) (k0_hw58 : k0_chk58 i v14 v295), ∀ (k0_h2 : k0_cond2 i v14 = 1#1), ∀ a, (k0_off133 v295) a + S16x1024.size a ≤ S49152x1024.size a := fun i v14 v295 k0_hw58 k0_h2 => k0_hw58.2.1 k0_h2
theorem k0_off133_wordsbf16 : ∀ (i : grid0.Coords) (v14 : BitVec 32) (v295 : BitVec 32) (k0_hw58 : k0_chk58 i v14 v295), ∀ (k0_h2 : k0_cond2 i v14 = 1#1), (Rect.unit (s := S49152x1024) (k0_off133 v295) S16x1024.size (k0_off133_inb i v14 v295 k0_hw58 k0_h2)).WholeWords (EltTy.packing .bf16) := fun i v14 v295 k0_hw58 k0_h2 => k0_hw58.2.2 k0_h2 (k0_off133_inb i v14 v295 k0_hw58 k0_h2)

def k0_off134 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_118 : BitVec 32 := 32#32
  let v303 : BitVec 32 := Scalar.muli v26 c32_i32_118
  let c25_i32 : BitVec 32 := 25#32
  let v304 : BitVec 32 := Scalar.addi v303 c25_i32
  let v305 : Index := Scalar.indexCast v304
  ![v305.toNat]
def k0_mult58 (v306 : BitVec 32) : BitVec 32 :=
  let c16_i32_119 : BitVec 32 := 16#32
  let v307 : BitVec 32 := Scalar.muli v306 c16_i32_119
  v307

def k0_off135 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off136 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c400_i32 : BitVec 32 := 400#32
  let c0_i32_120 : BitVec 32 := 0#32
  ![v27.toNat, 400, 0]
def k0_off137 (v306 : BitVec 32) : Fin 2 → Nat :=
  let c16_i32_119 : BitVec 32 := 16#32
  let v307 : BitVec 32 := Scalar.muli v306 c16_i32_119
  let v308 : BitVec 32 := v307
  let c0_i32_121 : BitVec 32 := 0#32
  ![v308.toNat, 0]

def k0_chk59 (i : grid0.Coords) (v14 : BitVec 32) (v306 : BitVec 32) : Prop :=
  (∀ (k0_h2 : k0_cond2 i v14 = 1#1), 16 ∣ (k0_mult58 v306).toNat) ∧
  (∀ (k0_h2 : k0_cond2 i v14 = 1#1), ∀ a, (k0_off137 v306) a + S16x1024.size a ≤ S49152x1024.size a) ∧
  (∀ (k0_h2 : k0_cond2 i v14 = 1#1), ∀ (hinb : ∀ a, (k0_off137 v306) a + S16x1024.size a ≤ S49152x1024.size a), (Rect.unit (s := S49152x1024) (k0_off137 v306) S16x1024.size hinb).WholeWords (EltTy.packing .bf16))
theorem k0_mult58_dvd : ∀ (i : grid0.Coords) (v14 : BitVec 32) (v306 : BitVec 32) (k0_hw59 : k0_chk59 i v14 v306), ∀ (k0_h2 : k0_cond2 i v14 = 1#1), 16 ∣ (k0_mult58 v306).toNat := fun i v14 v306 k0_hw59 k0_h2 => k0_hw59.1 k0_h2
theorem k0_off137_inb : ∀ (i : grid0.Coords) (v14 : BitVec 32) (v306 : BitVec 32) (k0_hw59 : k0_chk59 i v14 v306), ∀ (k0_h2 : k0_cond2 i v14 = 1#1), ∀ a, (k0_off137 v306) a + S16x1024.size a ≤ S49152x1024.size a := fun i v14 v306 k0_hw59 k0_h2 => k0_hw59.2.1 k0_h2
theorem k0_off137_wordsbf16 : ∀ (i : grid0.Coords) (v14 : BitVec 32) (v306 : BitVec 32) (k0_hw59 : k0_chk59 i v14 v306), ∀ (k0_h2 : k0_cond2 i v14 = 1#1), (Rect.unit (s := S49152x1024) (k0_off137 v306) S16x1024.size (k0_off137_inb i v14 v306 k0_hw59 k0_h2)).WholeWords (EltTy.packing .bf16) := fun i v14 v306 k0_hw59 k0_h2 => k0_hw59.2.2 k0_h2 (k0_off137_inb i v14 v306 k0_hw59 k0_h2)

def k0_off138 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_122 : BitVec 32 := 32#32
  let v314 : BitVec 32 := Scalar.muli v26 c32_i32_122
  let c26_i32 : BitVec 32 := 26#32
  let v315 : BitVec 32 := Scalar.addi v314 c26_i32
  let v316 : Index := Scalar.indexCast v315
  ![v316.toNat]
def k0_mult59 (v317 : BitVec 32) : BitVec 32 :=
  let c16_i32_123 : BitVec 32 := 16#32
  let v318 : BitVec 32 := Scalar.muli v317 c16_i32_123
  v318

def k0_off139 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off140 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c416_i32 : BitVec 32 := 416#32
  let c0_i32_124 : BitVec 32 := 0#32
  ![v27.toNat, 416, 0]
def k0_off141 (v317 : BitVec 32) : Fin 2 → Nat :=
  let c16_i32_123 : BitVec 32 := 16#32
  let v318 : BitVec 32 := Scalar.muli v317 c16_i32_123
  let v319 : BitVec 32 := v318
  let c0_i32_125 : BitVec 32 := 0#32
  ![v319.toNat, 0]

def k0_chk60 (i : grid0.Coords) (v14 : BitVec 32) (v317 : BitVec 32) : Prop :=
  (∀ (k0_h2 : k0_cond2 i v14 = 1#1), 16 ∣ (k0_mult59 v317).toNat) ∧
  (∀ (k0_h2 : k0_cond2 i v14 = 1#1), ∀ a, (k0_off141 v317) a + S16x1024.size a ≤ S49152x1024.size a) ∧
  (∀ (k0_h2 : k0_cond2 i v14 = 1#1), ∀ (hinb : ∀ a, (k0_off141 v317) a + S16x1024.size a ≤ S49152x1024.size a), (Rect.unit (s := S49152x1024) (k0_off141 v317) S16x1024.size hinb).WholeWords (EltTy.packing .bf16))
theorem k0_mult59_dvd : ∀ (i : grid0.Coords) (v14 : BitVec 32) (v317 : BitVec 32) (k0_hw60 : k0_chk60 i v14 v317), ∀ (k0_h2 : k0_cond2 i v14 = 1#1), 16 ∣ (k0_mult59 v317).toNat := fun i v14 v317 k0_hw60 k0_h2 => k0_hw60.1 k0_h2
theorem k0_off141_inb : ∀ (i : grid0.Coords) (v14 : BitVec 32) (v317 : BitVec 32) (k0_hw60 : k0_chk60 i v14 v317), ∀ (k0_h2 : k0_cond2 i v14 = 1#1), ∀ a, (k0_off141 v317) a + S16x1024.size a ≤ S49152x1024.size a := fun i v14 v317 k0_hw60 k0_h2 => k0_hw60.2.1 k0_h2
theorem k0_off141_wordsbf16 : ∀ (i : grid0.Coords) (v14 : BitVec 32) (v317 : BitVec 32) (k0_hw60 : k0_chk60 i v14 v317), ∀ (k0_h2 : k0_cond2 i v14 = 1#1), (Rect.unit (s := S49152x1024) (k0_off141 v317) S16x1024.size (k0_off141_inb i v14 v317 k0_hw60 k0_h2)).WholeWords (EltTy.packing .bf16) := fun i v14 v317 k0_hw60 k0_h2 => k0_hw60.2.2 k0_h2 (k0_off141_inb i v14 v317 k0_hw60 k0_h2)

def k0_off142 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_126 : BitVec 32 := 32#32
  let v325 : BitVec 32 := Scalar.muli v26 c32_i32_126
  let c27_i32 : BitVec 32 := 27#32
  let v326 : BitVec 32 := Scalar.addi v325 c27_i32
  let v327 : Index := Scalar.indexCast v326
  ![v327.toNat]
def k0_mult60 (v328 : BitVec 32) : BitVec 32 :=
  let c16_i32_127 : BitVec 32 := 16#32
  let v329 : BitVec 32 := Scalar.muli v328 c16_i32_127
  v329

def k0_off143 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off144 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c432_i32 : BitVec 32 := 432#32
  let c0_i32_128 : BitVec 32 := 0#32
  ![v27.toNat, 432, 0]
def k0_off145 (v328 : BitVec 32) : Fin 2 → Nat :=
  let c16_i32_127 : BitVec 32 := 16#32
  let v329 : BitVec 32 := Scalar.muli v328 c16_i32_127
  let v330 : BitVec 32 := v329
  let c0_i32_129 : BitVec 32 := 0#32
  ![v330.toNat, 0]

def k0_chk61 (i : grid0.Coords) (v14 : BitVec 32) (v328 : BitVec 32) : Prop :=
  (∀ (k0_h2 : k0_cond2 i v14 = 1#1), 16 ∣ (k0_mult60 v328).toNat) ∧
  (∀ (k0_h2 : k0_cond2 i v14 = 1#1), ∀ a, (k0_off145 v328) a + S16x1024.size a ≤ S49152x1024.size a) ∧
  (∀ (k0_h2 : k0_cond2 i v14 = 1#1), ∀ (hinb : ∀ a, (k0_off145 v328) a + S16x1024.size a ≤ S49152x1024.size a), (Rect.unit (s := S49152x1024) (k0_off145 v328) S16x1024.size hinb).WholeWords (EltTy.packing .bf16))
theorem k0_mult60_dvd : ∀ (i : grid0.Coords) (v14 : BitVec 32) (v328 : BitVec 32) (k0_hw61 : k0_chk61 i v14 v328), ∀ (k0_h2 : k0_cond2 i v14 = 1#1), 16 ∣ (k0_mult60 v328).toNat := fun i v14 v328 k0_hw61 k0_h2 => k0_hw61.1 k0_h2
theorem k0_off145_inb : ∀ (i : grid0.Coords) (v14 : BitVec 32) (v328 : BitVec 32) (k0_hw61 : k0_chk61 i v14 v328), ∀ (k0_h2 : k0_cond2 i v14 = 1#1), ∀ a, (k0_off145 v328) a + S16x1024.size a ≤ S49152x1024.size a := fun i v14 v328 k0_hw61 k0_h2 => k0_hw61.2.1 k0_h2
theorem k0_off145_wordsbf16 : ∀ (i : grid0.Coords) (v14 : BitVec 32) (v328 : BitVec 32) (k0_hw61 : k0_chk61 i v14 v328), ∀ (k0_h2 : k0_cond2 i v14 = 1#1), (Rect.unit (s := S49152x1024) (k0_off145 v328) S16x1024.size (k0_off145_inb i v14 v328 k0_hw61 k0_h2)).WholeWords (EltTy.packing .bf16) := fun i v14 v328 k0_hw61 k0_h2 => k0_hw61.2.2 k0_h2 (k0_off145_inb i v14 v328 k0_hw61 k0_h2)

def k0_off146 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_130 : BitVec 32 := 32#32
  let v336 : BitVec 32 := Scalar.muli v26 c32_i32_130
  let c28_i32 : BitVec 32 := 28#32
  let v337 : BitVec 32 := Scalar.addi v336 c28_i32
  let v338 : Index := Scalar.indexCast v337
  ![v338.toNat]
def k0_mult61 (v339 : BitVec 32) : BitVec 32 :=
  let c16_i32_131 : BitVec 32 := 16#32
  let v340 : BitVec 32 := Scalar.muli v339 c16_i32_131
  v340

def k0_off147 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off148 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c448_i32 : BitVec 32 := 448#32
  let c0_i32_132 : BitVec 32 := 0#32
  ![v27.toNat, 448, 0]
def k0_off149 (v339 : BitVec 32) : Fin 2 → Nat :=
  let c16_i32_131 : BitVec 32 := 16#32
  let v340 : BitVec 32 := Scalar.muli v339 c16_i32_131
  let v341 : BitVec 32 := v340
  let c0_i32_133 : BitVec 32 := 0#32
  ![v341.toNat, 0]

def k0_chk62 (i : grid0.Coords) (v14 : BitVec 32) (v339 : BitVec 32) : Prop :=
  (∀ (k0_h2 : k0_cond2 i v14 = 1#1), 16 ∣ (k0_mult61 v339).toNat) ∧
  (∀ (k0_h2 : k0_cond2 i v14 = 1#1), ∀ a, (k0_off149 v339) a + S16x1024.size a ≤ S49152x1024.size a) ∧
  (∀ (k0_h2 : k0_cond2 i v14 = 1#1), ∀ (hinb : ∀ a, (k0_off149 v339) a + S16x1024.size a ≤ S49152x1024.size a), (Rect.unit (s := S49152x1024) (k0_off149 v339) S16x1024.size hinb).WholeWords (EltTy.packing .bf16))
theorem k0_mult61_dvd : ∀ (i : grid0.Coords) (v14 : BitVec 32) (v339 : BitVec 32) (k0_hw62 : k0_chk62 i v14 v339), ∀ (k0_h2 : k0_cond2 i v14 = 1#1), 16 ∣ (k0_mult61 v339).toNat := fun i v14 v339 k0_hw62 k0_h2 => k0_hw62.1 k0_h2
theorem k0_off149_inb : ∀ (i : grid0.Coords) (v14 : BitVec 32) (v339 : BitVec 32) (k0_hw62 : k0_chk62 i v14 v339), ∀ (k0_h2 : k0_cond2 i v14 = 1#1), ∀ a, (k0_off149 v339) a + S16x1024.size a ≤ S49152x1024.size a := fun i v14 v339 k0_hw62 k0_h2 => k0_hw62.2.1 k0_h2
theorem k0_off149_wordsbf16 : ∀ (i : grid0.Coords) (v14 : BitVec 32) (v339 : BitVec 32) (k0_hw62 : k0_chk62 i v14 v339), ∀ (k0_h2 : k0_cond2 i v14 = 1#1), (Rect.unit (s := S49152x1024) (k0_off149 v339) S16x1024.size (k0_off149_inb i v14 v339 k0_hw62 k0_h2)).WholeWords (EltTy.packing .bf16) := fun i v14 v339 k0_hw62 k0_h2 => k0_hw62.2.2 k0_h2 (k0_off149_inb i v14 v339 k0_hw62 k0_h2)

def k0_off150 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_134 : BitVec 32 := 32#32
  let v347 : BitVec 32 := Scalar.muli v26 c32_i32_134
  let c29_i32 : BitVec 32 := 29#32
  let v348 : BitVec 32 := Scalar.addi v347 c29_i32
  let v349 : Index := Scalar.indexCast v348
  ![v349.toNat]
def k0_mult62 (v350 : BitVec 32) : BitVec 32 :=
  let c16_i32_135 : BitVec 32 := 16#32
  let v351 : BitVec 32 := Scalar.muli v350 c16_i32_135
  v351

def k0_off151 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off152 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c464_i32 : BitVec 32 := 464#32
  let c0_i32_136 : BitVec 32 := 0#32
  ![v27.toNat, 464, 0]
def k0_off153 (v350 : BitVec 32) : Fin 2 → Nat :=
  let c16_i32_135 : BitVec 32 := 16#32
  let v351 : BitVec 32 := Scalar.muli v350 c16_i32_135
  let v352 : BitVec 32 := v351
  let c0_i32_137 : BitVec 32 := 0#32
  ![v352.toNat, 0]

def k0_chk63 (i : grid0.Coords) (v14 : BitVec 32) (v350 : BitVec 32) : Prop :=
  (∀ (k0_h2 : k0_cond2 i v14 = 1#1), 16 ∣ (k0_mult62 v350).toNat) ∧
  (∀ (k0_h2 : k0_cond2 i v14 = 1#1), ∀ a, (k0_off153 v350) a + S16x1024.size a ≤ S49152x1024.size a) ∧
  (∀ (k0_h2 : k0_cond2 i v14 = 1#1), ∀ (hinb : ∀ a, (k0_off153 v350) a + S16x1024.size a ≤ S49152x1024.size a), (Rect.unit (s := S49152x1024) (k0_off153 v350) S16x1024.size hinb).WholeWords (EltTy.packing .bf16))
theorem k0_mult62_dvd : ∀ (i : grid0.Coords) (v14 : BitVec 32) (v350 : BitVec 32) (k0_hw63 : k0_chk63 i v14 v350), ∀ (k0_h2 : k0_cond2 i v14 = 1#1), 16 ∣ (k0_mult62 v350).toNat := fun i v14 v350 k0_hw63 k0_h2 => k0_hw63.1 k0_h2
theorem k0_off153_inb : ∀ (i : grid0.Coords) (v14 : BitVec 32) (v350 : BitVec 32) (k0_hw63 : k0_chk63 i v14 v350), ∀ (k0_h2 : k0_cond2 i v14 = 1#1), ∀ a, (k0_off153 v350) a + S16x1024.size a ≤ S49152x1024.size a := fun i v14 v350 k0_hw63 k0_h2 => k0_hw63.2.1 k0_h2
theorem k0_off153_wordsbf16 : ∀ (i : grid0.Coords) (v14 : BitVec 32) (v350 : BitVec 32) (k0_hw63 : k0_chk63 i v14 v350), ∀ (k0_h2 : k0_cond2 i v14 = 1#1), (Rect.unit (s := S49152x1024) (k0_off153 v350) S16x1024.size (k0_off153_inb i v14 v350 k0_hw63 k0_h2)).WholeWords (EltTy.packing .bf16) := fun i v14 v350 k0_hw63 k0_h2 => k0_hw63.2.2 k0_h2 (k0_off153_inb i v14 v350 k0_hw63 k0_h2)

def k0_off154 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_138 : BitVec 32 := 32#32
  let v358 : BitVec 32 := Scalar.muli v26 c32_i32_138
  let c30_i32 : BitVec 32 := 30#32
  let v359 : BitVec 32 := Scalar.addi v358 c30_i32
  let v360 : Index := Scalar.indexCast v359
  ![v360.toNat]
def k0_mult63 (v361 : BitVec 32) : BitVec 32 :=
  let c16_i32_139 : BitVec 32 := 16#32
  let v362 : BitVec 32 := Scalar.muli v361 c16_i32_139
  v362

def k0_off155 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off156 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c480_i32 : BitVec 32 := 480#32
  let c0_i32_140 : BitVec 32 := 0#32
  ![v27.toNat, 480, 0]
def k0_off157 (v361 : BitVec 32) : Fin 2 → Nat :=
  let c16_i32_139 : BitVec 32 := 16#32
  let v362 : BitVec 32 := Scalar.muli v361 c16_i32_139
  let v363 : BitVec 32 := v362
  let c0_i32_141 : BitVec 32 := 0#32
  ![v363.toNat, 0]

def k0_chk64 (i : grid0.Coords) (v14 : BitVec 32) (v361 : BitVec 32) : Prop :=
  (∀ (k0_h2 : k0_cond2 i v14 = 1#1), 16 ∣ (k0_mult63 v361).toNat) ∧
  (∀ (k0_h2 : k0_cond2 i v14 = 1#1), ∀ a, (k0_off157 v361) a + S16x1024.size a ≤ S49152x1024.size a) ∧
  (∀ (k0_h2 : k0_cond2 i v14 = 1#1), ∀ (hinb : ∀ a, (k0_off157 v361) a + S16x1024.size a ≤ S49152x1024.size a), (Rect.unit (s := S49152x1024) (k0_off157 v361) S16x1024.size hinb).WholeWords (EltTy.packing .bf16))
theorem k0_mult63_dvd : ∀ (i : grid0.Coords) (v14 : BitVec 32) (v361 : BitVec 32) (k0_hw64 : k0_chk64 i v14 v361), ∀ (k0_h2 : k0_cond2 i v14 = 1#1), 16 ∣ (k0_mult63 v361).toNat := fun i v14 v361 k0_hw64 k0_h2 => k0_hw64.1 k0_h2
theorem k0_off157_inb : ∀ (i : grid0.Coords) (v14 : BitVec 32) (v361 : BitVec 32) (k0_hw64 : k0_chk64 i v14 v361), ∀ (k0_h2 : k0_cond2 i v14 = 1#1), ∀ a, (k0_off157 v361) a + S16x1024.size a ≤ S49152x1024.size a := fun i v14 v361 k0_hw64 k0_h2 => k0_hw64.2.1 k0_h2
theorem k0_off157_wordsbf16 : ∀ (i : grid0.Coords) (v14 : BitVec 32) (v361 : BitVec 32) (k0_hw64 : k0_chk64 i v14 v361), ∀ (k0_h2 : k0_cond2 i v14 = 1#1), (Rect.unit (s := S49152x1024) (k0_off157 v361) S16x1024.size (k0_off157_inb i v14 v361 k0_hw64 k0_h2)).WholeWords (EltTy.packing .bf16) := fun i v14 v361 k0_hw64 k0_h2 => k0_hw64.2.2 k0_h2 (k0_off157_inb i v14 v361 k0_hw64 k0_h2)

def k0_off158 (i : grid0.Coords) : Fin 1 → Nat :=
  let arg0 : BitVec 32 := BitVec.ofNat 32 (i 0).val
  let c1_i32_11 : BitVec 32 := 1#32
  let v26 : BitVec 32 := Scalar.addi arg0 c1_i32_11
  let c32_i32_142 : BitVec 32 := 32#32
  let v369 : BitVec 32 := Scalar.muli v26 c32_i32_142
  let c31_i32 : BitVec 32 := 31#32
  let v370 : BitVec 32 := Scalar.addi v369 c31_i32
  let v371 : Index := Scalar.indexCast v370
  ![v371.toNat]

def k0_chk33 (i : grid0.Coords) (v14 : BitVec 32) : Prop :=
  (∀ (k0_h2 : k0_cond2 i v14 = 1#1), ∀ a, (k0_off34 i) a + S1.size a ≤ S3520.size a) ∧
  (∀ (k0_h2 : k0_cond2 i v14 = 1#1), ∀ a, (k0_off38 i) a + S1.size a ≤ S3520.size a) ∧
  (∀ (k0_h2 : k0_cond2 i v14 = 1#1), ∀ a, (k0_off42 i) a + S1.size a ≤ S3520.size a) ∧
  (∀ (k0_h2 : k0_cond2 i v14 = 1#1), ∀ a, (k0_off46 i) a + S1.size a ≤ S3520.size a) ∧
  (∀ (k0_h2 : k0_cond2 i v14 = 1#1), ∀ a, (k0_off50 i) a + S1.size a ≤ S3520.size a) ∧
  (∀ (k0_h2 : k0_cond2 i v14 = 1#1), ∀ a, (k0_off54 i) a + S1.size a ≤ S3520.size a) ∧
  (∀ (k0_h2 : k0_cond2 i v14 = 1#1), ∀ a, (k0_off58 i) a + S1.size a ≤ S3520.size a) ∧
  (∀ (k0_h2 : k0_cond2 i v14 = 1#1), ∀ a, (k0_off62 i) a + S1.size a ≤ S3520.size a) ∧
  (∀ (k0_h2 : k0_cond2 i v14 = 1#1), ∀ a, (k0_off66 i) a + S1.size a ≤ S3520.size a) ∧
  (∀ (k0_h2 : k0_cond2 i v14 = 1#1), ∀ a, (k0_off70 i) a + S1.size a ≤ S3520.size a) ∧
  (∀ (k0_h2 : k0_cond2 i v14 = 1#1), ∀ a, (k0_off74 i) a + S1.size a ≤ S3520.size a) ∧
  (∀ (k0_h2 : k0_cond2 i v14 = 1#1), ∀ a, (k0_off78 i) a + S1.size a ≤ S3520.size a) ∧
  (∀ (k0_h2 : k0_cond2 i v14 = 1#1), ∀ a, (k0_off82 i) a + S1.size a ≤ S3520.size a) ∧
  (∀ (k0_h2 : k0_cond2 i v14 = 1#1), ∀ a, (k0_off86 i) a + S1.size a ≤ S3520.size a) ∧
  (∀ (k0_h2 : k0_cond2 i v14 = 1#1), ∀ a, (k0_off90 i) a + S1.size a ≤ S3520.size a) ∧
  (∀ (k0_h2 : k0_cond2 i v14 = 1#1), ∀ a, (k0_off94 i) a + S1.size a ≤ S3520.size a) ∧
  (∀ (k0_h2 : k0_cond2 i v14 = 1#1), ∀ a, (k0_off98 i) a + S1.size a ≤ S3520.size a) ∧
  (∀ (k0_h2 : k0_cond2 i v14 = 1#1), ∀ a, (k0_off102 i) a + S1.size a ≤ S3520.size a) ∧
  (∀ (k0_h2 : k0_cond2 i v14 = 1#1), ∀ a, (k0_off106 i) a + S1.size a ≤ S3520.size a) ∧
  (∀ (k0_h2 : k0_cond2 i v14 = 1#1), ∀ a, (k0_off110 i) a + S1.size a ≤ S3520.size a) ∧
  (∀ (k0_h2 : k0_cond2 i v14 = 1#1), ∀ a, (k0_off114 i) a + S1.size a ≤ S3520.size a) ∧
  (∀ (k0_h2 : k0_cond2 i v14 = 1#1), ∀ a, (k0_off118 i) a + S1.size a ≤ S3520.size a) ∧
  (∀ (k0_h2 : k0_cond2 i v14 = 1#1), ∀ a, (k0_off122 i) a + S1.size a ≤ S3520.size a) ∧
  (∀ (k0_h2 : k0_cond2 i v14 = 1#1), ∀ a, (k0_off126 i) a + S1.size a ≤ S3520.size a) ∧
  (∀ (k0_h2 : k0_cond2 i v14 = 1#1), ∀ a, (k0_off130 i) a + S1.size a ≤ S3520.size a) ∧
  (∀ (k0_h2 : k0_cond2 i v14 = 1#1), ∀ a, (k0_off134 i) a + S1.size a ≤ S3520.size a) ∧
  (∀ (k0_h2 : k0_cond2 i v14 = 1#1), ∀ a, (k0_off138 i) a + S1.size a ≤ S3520.size a) ∧
  (∀ (k0_h2 : k0_cond2 i v14 = 1#1), ∀ a, (k0_off142 i) a + S1.size a ≤ S3520.size a) ∧
  (∀ (k0_h2 : k0_cond2 i v14 = 1#1), ∀ a, (k0_off146 i) a + S1.size a ≤ S3520.size a) ∧
  (∀ (k0_h2 : k0_cond2 i v14 = 1#1), ∀ a, (k0_off150 i) a + S1.size a ≤ S3520.size a) ∧
  (∀ (k0_h2 : k0_cond2 i v14 = 1#1), ∀ a, (k0_off154 i) a + S1.size a ≤ S3520.size a) ∧
  (∀ (k0_h2 : k0_cond2 i v14 = 1#1), ∀ a, (k0_off158 i) a + S1.size a ≤ S3520.size a)
theorem k0_off34_inb : ∀ (i : grid0.Coords) (v14 : BitVec 32) (k0_hw33 : k0_chk33 i v14), ∀ (k0_h2 : k0_cond2 i v14 = 1#1), ∀ a, (k0_off34 i) a + S1.size a ≤ S3520.size a := fun i v14 k0_hw33 k0_h2 => k0_hw33.1 k0_h2
theorem k0_off38_inb : ∀ (i : grid0.Coords) (v14 : BitVec 32) (k0_hw33 : k0_chk33 i v14), ∀ (k0_h2 : k0_cond2 i v14 = 1#1), ∀ a, (k0_off38 i) a + S1.size a ≤ S3520.size a := fun i v14 k0_hw33 k0_h2 => k0_hw33.2.1 k0_h2
theorem k0_off42_inb : ∀ (i : grid0.Coords) (v14 : BitVec 32) (k0_hw33 : k0_chk33 i v14), ∀ (k0_h2 : k0_cond2 i v14 = 1#1), ∀ a, (k0_off42 i) a + S1.size a ≤ S3520.size a := fun i v14 k0_hw33 k0_h2 => k0_hw33.2.2.1 k0_h2
theorem k0_off46_inb : ∀ (i : grid0.Coords) (v14 : BitVec 32) (k0_hw33 : k0_chk33 i v14), ∀ (k0_h2 : k0_cond2 i v14 = 1#1), ∀ a, (k0_off46 i) a + S1.size a ≤ S3520.size a := fun i v14 k0_hw33 k0_h2 => k0_hw33.2.2.2.1 k0_h2
theorem k0_off50_inb : ∀ (i : grid0.Coords) (v14 : BitVec 32) (k0_hw33 : k0_chk33 i v14), ∀ (k0_h2 : k0_cond2 i v14 = 1#1), ∀ a, (k0_off50 i) a + S1.size a ≤ S3520.size a := fun i v14 k0_hw33 k0_h2 => k0_hw33.2.2.2.2.1 k0_h2
theorem k0_off54_inb : ∀ (i : grid0.Coords) (v14 : BitVec 32) (k0_hw33 : k0_chk33 i v14), ∀ (k0_h2 : k0_cond2 i v14 = 1#1), ∀ a, (k0_off54 i) a + S1.size a ≤ S3520.size a := fun i v14 k0_hw33 k0_h2 => k0_hw33.2.2.2.2.2.1 k0_h2
theorem k0_off58_inb : ∀ (i : grid0.Coords) (v14 : BitVec 32) (k0_hw33 : k0_chk33 i v14), ∀ (k0_h2 : k0_cond2 i v14 = 1#1), ∀ a, (k0_off58 i) a + S1.size a ≤ S3520.size a := fun i v14 k0_hw33 k0_h2 => k0_hw33.2.2.2.2.2.2.1 k0_h2
theorem k0_off62_inb : ∀ (i : grid0.Coords) (v14 : BitVec 32) (k0_hw33 : k0_chk33 i v14), ∀ (k0_h2 : k0_cond2 i v14 = 1#1), ∀ a, (k0_off62 i) a + S1.size a ≤ S3520.size a := fun i v14 k0_hw33 k0_h2 => k0_hw33.2.2.2.2.2.2.2.1 k0_h2
theorem k0_off66_inb : ∀ (i : grid0.Coords) (v14 : BitVec 32) (k0_hw33 : k0_chk33 i v14), ∀ (k0_h2 : k0_cond2 i v14 = 1#1), ∀ a, (k0_off66 i) a + S1.size a ≤ S3520.size a := fun i v14 k0_hw33 k0_h2 => k0_hw33.2.2.2.2.2.2.2.2.1 k0_h2
theorem k0_off70_inb : ∀ (i : grid0.Coords) (v14 : BitVec 32) (k0_hw33 : k0_chk33 i v14), ∀ (k0_h2 : k0_cond2 i v14 = 1#1), ∀ a, (k0_off70 i) a + S1.size a ≤ S3520.size a := fun i v14 k0_hw33 k0_h2 => k0_hw33.2.2.2.2.2.2.2.2.2.1 k0_h2
theorem k0_off74_inb : ∀ (i : grid0.Coords) (v14 : BitVec 32) (k0_hw33 : k0_chk33 i v14), ∀ (k0_h2 : k0_cond2 i v14 = 1#1), ∀ a, (k0_off74 i) a + S1.size a ≤ S3520.size a := fun i v14 k0_hw33 k0_h2 => k0_hw33.2.2.2.2.2.2.2.2.2.2.1 k0_h2
theorem k0_off78_inb : ∀ (i : grid0.Coords) (v14 : BitVec 32) (k0_hw33 : k0_chk33 i v14), ∀ (k0_h2 : k0_cond2 i v14 = 1#1), ∀ a, (k0_off78 i) a + S1.size a ≤ S3520.size a := fun i v14 k0_hw33 k0_h2 => k0_hw33.2.2.2.2.2.2.2.2.2.2.2.1 k0_h2
theorem k0_off82_inb : ∀ (i : grid0.Coords) (v14 : BitVec 32) (k0_hw33 : k0_chk33 i v14), ∀ (k0_h2 : k0_cond2 i v14 = 1#1), ∀ a, (k0_off82 i) a + S1.size a ≤ S3520.size a := fun i v14 k0_hw33 k0_h2 => k0_hw33.2.2.2.2.2.2.2.2.2.2.2.2.1 k0_h2
theorem k0_off86_inb : ∀ (i : grid0.Coords) (v14 : BitVec 32) (k0_hw33 : k0_chk33 i v14), ∀ (k0_h2 : k0_cond2 i v14 = 1#1), ∀ a, (k0_off86 i) a + S1.size a ≤ S3520.size a := fun i v14 k0_hw33 k0_h2 => k0_hw33.2.2.2.2.2.2.2.2.2.2.2.2.2.1 k0_h2
theorem k0_off90_inb : ∀ (i : grid0.Coords) (v14 : BitVec 32) (k0_hw33 : k0_chk33 i v14), ∀ (k0_h2 : k0_cond2 i v14 = 1#1), ∀ a, (k0_off90 i) a + S1.size a ≤ S3520.size a := fun i v14 k0_hw33 k0_h2 => k0_hw33.2.2.2.2.2.2.2.2.2.2.2.2.2.2.1 k0_h2
theorem k0_off94_inb : ∀ (i : grid0.Coords) (v14 : BitVec 32) (k0_hw33 : k0_chk33 i v14), ∀ (k0_h2 : k0_cond2 i v14 = 1#1), ∀ a, (k0_off94 i) a + S1.size a ≤ S3520.size a := fun i v14 k0_hw33 k0_h2 => k0_hw33.2.2.2.2.2.2.2.2.2.2.2.2.2.2.2.1 k0_h2
theorem k0_off98_inb : ∀ (i : grid0.Coords) (v14 : BitVec 32) (k0_hw33 : k0_chk33 i v14), ∀ (k0_h2 : k0_cond2 i v14 = 1#1), ∀ a, (k0_off98 i) a + S1.size a ≤ S3520.size a := fun i v14 k0_hw33 k0_h2 => k0_hw33.2.2.2.2.2.2.2.2.2.2.2.2.2.2.2.2.1 k0_h2
theorem k0_off102_inb : ∀ (i : grid0.Coords) (v14 : BitVec 32) (k0_hw33 : k0_chk33 i v14), ∀ (k0_h2 : k0_cond2 i v14 = 1#1), ∀ a, (k0_off102 i) a + S1.size a ≤ S3520.size a := fun i v14 k0_hw33 k0_h2 => k0_hw33.2.2.2.2.2.2.2.2.2.2.2.2.2.2.2.2.2.1 k0_h2
theorem k0_off106_inb : ∀ (i : grid0.Coords) (v14 : BitVec 32) (k0_hw33 : k0_chk33 i v14), ∀ (k0_h2 : k0_cond2 i v14 = 1#1), ∀ a, (k0_off106 i) a + S1.size a ≤ S3520.size a := fun i v14 k0_hw33 k0_h2 => k0_hw33.2.2.2.2.2.2.2.2.2.2.2.2.2.2.2.2.2.2.1 k0_h2
theorem k0_off110_inb : ∀ (i : grid0.Coords) (v14 : BitVec 32) (k0_hw33 : k0_chk33 i v14), ∀ (k0_h2 : k0_cond2 i v14 = 1#1), ∀ a, (k0_off110 i) a + S1.size a ≤ S3520.size a := fun i v14 k0_hw33 k0_h2 => k0_hw33.2.2.2.2.2.2.2.2.2.2.2.2.2.2.2.2.2.2.2.1 k0_h2
theorem k0_off114_inb : ∀ (i : grid0.Coords) (v14 : BitVec 32) (k0_hw33 : k0_chk33 i v14), ∀ (k0_h2 : k0_cond2 i v14 = 1#1), ∀ a, (k0_off114 i) a + S1.size a ≤ S3520.size a := fun i v14 k0_hw33 k0_h2 => k0_hw33.2.2.2.2.2.2.2.2.2.2.2.2.2.2.2.2.2.2.2.2.1 k0_h2
theorem k0_off118_inb : ∀ (i : grid0.Coords) (v14 : BitVec 32) (k0_hw33 : k0_chk33 i v14), ∀ (k0_h2 : k0_cond2 i v14 = 1#1), ∀ a, (k0_off118 i) a + S1.size a ≤ S3520.size a := fun i v14 k0_hw33 k0_h2 => k0_hw33.2.2.2.2.2.2.2.2.2.2.2.2.2.2.2.2.2.2.2.2.2.1 k0_h2
theorem k0_off122_inb : ∀ (i : grid0.Coords) (v14 : BitVec 32) (k0_hw33 : k0_chk33 i v14), ∀ (k0_h2 : k0_cond2 i v14 = 1#1), ∀ a, (k0_off122 i) a + S1.size a ≤ S3520.size a := fun i v14 k0_hw33 k0_h2 => k0_hw33.2.2.2.2.2.2.2.2.2.2.2.2.2.2.2.2.2.2.2.2.2.2.1 k0_h2
theorem k0_off126_inb : ∀ (i : grid0.Coords) (v14 : BitVec 32) (k0_hw33 : k0_chk33 i v14), ∀ (k0_h2 : k0_cond2 i v14 = 1#1), ∀ a, (k0_off126 i) a + S1.size a ≤ S3520.size a := fun i v14 k0_hw33 k0_h2 => k0_hw33.2.2.2.2.2.2.2.2.2.2.2.2.2.2.2.2.2.2.2.2.2.2.2.1 k0_h2
theorem k0_off130_inb : ∀ (i : grid0.Coords) (v14 : BitVec 32) (k0_hw33 : k0_chk33 i v14), ∀ (k0_h2 : k0_cond2 i v14 = 1#1), ∀ a, (k0_off130 i) a + S1.size a ≤ S3520.size a := fun i v14 k0_hw33 k0_h2 => k0_hw33.2.2.2.2.2.2.2.2.2.2.2.2.2.2.2.2.2.2.2.2.2.2.2.2.1 k0_h2
theorem k0_off134_inb : ∀ (i : grid0.Coords) (v14 : BitVec 32) (k0_hw33 : k0_chk33 i v14), ∀ (k0_h2 : k0_cond2 i v14 = 1#1), ∀ a, (k0_off134 i) a + S1.size a ≤ S3520.size a := fun i v14 k0_hw33 k0_h2 => k0_hw33.2.2.2.2.2.2.2.2.2.2.2.2.2.2.2.2.2.2.2.2.2.2.2.2.2.1 k0_h2
theorem k0_off138_inb : ∀ (i : grid0.Coords) (v14 : BitVec 32) (k0_hw33 : k0_chk33 i v14), ∀ (k0_h2 : k0_cond2 i v14 = 1#1), ∀ a, (k0_off138 i) a + S1.size a ≤ S3520.size a := fun i v14 k0_hw33 k0_h2 => k0_hw33.2.2.2.2.2.2.2.2.2.2.2.2.2.2.2.2.2.2.2.2.2.2.2.2.2.2.1 k0_h2
theorem k0_off142_inb : ∀ (i : grid0.Coords) (v14 : BitVec 32) (k0_hw33 : k0_chk33 i v14), ∀ (k0_h2 : k0_cond2 i v14 = 1#1), ∀ a, (k0_off142 i) a + S1.size a ≤ S3520.size a := fun i v14 k0_hw33 k0_h2 => k0_hw33.2.2.2.2.2.2.2.2.2.2.2.2.2.2.2.2.2.2.2.2.2.2.2.2.2.2.2.1 k0_h2
theorem k0_off146_inb : ∀ (i : grid0.Coords) (v14 : BitVec 32) (k0_hw33 : k0_chk33 i v14), ∀ (k0_h2 : k0_cond2 i v14 = 1#1), ∀ a, (k0_off146 i) a + S1.size a ≤ S3520.size a := fun i v14 k0_hw33 k0_h2 => k0_hw33.2.2.2.2.2.2.2.2.2.2.2.2.2.2.2.2.2.2.2.2.2.2.2.2.2.2.2.2.1 k0_h2
theorem k0_off150_inb : ∀ (i : grid0.Coords) (v14 : BitVec 32) (k0_hw33 : k0_chk33 i v14), ∀ (k0_h2 : k0_cond2 i v14 = 1#1), ∀ a, (k0_off150 i) a + S1.size a ≤ S3520.size a := fun i v14 k0_hw33 k0_h2 => k0_hw33.2.2.2.2.2.2.2.2.2.2.2.2.2.2.2.2.2.2.2.2.2.2.2.2.2.2.2.2.2.1 k0_h2
theorem k0_off154_inb : ∀ (i : grid0.Coords) (v14 : BitVec 32) (k0_hw33 : k0_chk33 i v14), ∀ (k0_h2 : k0_cond2 i v14 = 1#1), ∀ a, (k0_off154 i) a + S1.size a ≤ S3520.size a := fun i v14 k0_hw33 k0_h2 => k0_hw33.2.2.2.2.2.2.2.2.2.2.2.2.2.2.2.2.2.2.2.2.2.2.2.2.2.2.2.2.2.2.1 k0_h2
theorem k0_off158_inb : ∀ (i : grid0.Coords) (v14 : BitVec 32) (k0_hw33 : k0_chk33 i v14), ∀ (k0_h2 : k0_cond2 i v14 = 1#1), ∀ a, (k0_off158 i) a + S1.size a ≤ S3520.size a := fun i v14 k0_hw33 k0_h2 => k0_hw33.2.2.2.2.2.2.2.2.2.2.2.2.2.2.2.2.2.2.2.2.2.2.2.2.2.2.2.2.2.2.2 k0_h2

def k0_mult64 (v372 : BitVec 32) : BitVec 32 :=
  let c16_i32_143 : BitVec 32 := 16#32
  let v373 : BitVec 32 := Scalar.muli v372 c16_i32_143
  v373

def k0_off159 (i : grid0.Coords) : Fin 1 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  ![v27.toNat]
def k0_off160 (i : grid0.Coords) : Fin 3 → Nat :=
  let c1_i32_12 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_12 v9
  let c496_i32 : BitVec 32 := 496#32
  let c0_i32_144 : BitVec 32 := 0#32
  ![v27.toNat, 496, 0]
def k0_off161 (v372 : BitVec 32) : Fin 2 → Nat :=
  let c16_i32_143 : BitVec 32 := 16#32
  let v373 : BitVec 32 := Scalar.muli v372 c16_i32_143
  let v374 : BitVec 32 := v373
  let c0_i32_145 : BitVec 32 := 0#32
  ![v374.toNat, 0]

def k0_chk65 (i : grid0.Coords) (v14 : BitVec 32) (v372 : BitVec 32) : Prop :=
  (∀ (k0_h2 : k0_cond2 i v14 = 1#1), 16 ∣ (k0_mult64 v372).toNat) ∧
  (∀ (k0_h2 : k0_cond2 i v14 = 1#1), ∀ a, (k0_off161 v372) a + S16x1024.size a ≤ S49152x1024.size a) ∧
  (∀ (k0_h2 : k0_cond2 i v14 = 1#1), ∀ (hinb : ∀ a, (k0_off161 v372) a + S16x1024.size a ≤ S49152x1024.size a), (Rect.unit (s := S49152x1024) (k0_off161 v372) S16x1024.size hinb).WholeWords (EltTy.packing .bf16))
theorem k0_mult64_dvd : ∀ (i : grid0.Coords) (v14 : BitVec 32) (v372 : BitVec 32) (k0_hw65 : k0_chk65 i v14 v372), ∀ (k0_h2 : k0_cond2 i v14 = 1#1), 16 ∣ (k0_mult64 v372).toNat := fun i v14 v372 k0_hw65 k0_h2 => k0_hw65.1 k0_h2
theorem k0_off161_inb : ∀ (i : grid0.Coords) (v14 : BitVec 32) (v372 : BitVec 32) (k0_hw65 : k0_chk65 i v14 v372), ∀ (k0_h2 : k0_cond2 i v14 = 1#1), ∀ a, (k0_off161 v372) a + S16x1024.size a ≤ S49152x1024.size a := fun i v14 v372 k0_hw65 k0_h2 => k0_hw65.2.1 k0_h2
theorem k0_off161_wordsbf16 : ∀ (i : grid0.Coords) (v14 : BitVec 32) (v372 : BitVec 32) (k0_hw65 : k0_chk65 i v14 v372), ∀ (k0_h2 : k0_cond2 i v14 = 1#1), (Rect.unit (s := S49152x1024) (k0_off161 v372) S16x1024.size (k0_off161_inb i v14 v372 k0_hw65 k0_h2)).WholeWords (EltTy.packing .bf16) := fun i v14 v372 k0_hw65 k0_h2 => k0_hw65.2.2 k0_h2 (k0_off161_inb i v14 v372 k0_hw65 k0_h2)

def k0_off162 (i : grid0.Coords) : Fin 1 → Nat :=
  let arg0 : BitVec 32 := BitVec.ofNat 32 (i 0).val
  let v26 : Index := Scalar.indexCast arg0
  ![v26.toNat]
def k0_mult65 : BitVec 32 :=
  let c0_i32_13 : BitVec 32 := 0#32
  c0_i32_13
def k0_off163 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off164 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c0_i32_15 : BitVec 32 := 0#32
  ![v9.toNat, 0, 0]
def k0_mult66 : BitVec 32 :=
  let c0_i32_17 : BitVec 32 := 0#32
  c0_i32_17
def k0_off165 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32 : BitVec 32 := 16#32
  let c0_i32_18 : BitVec 32 := 0#32
  ![v9.toNat, 16, 0]
def k0_mult67 : BitVec 32 :=
  let c0_i32_20 : BitVec 32 := 0#32
  c0_i32_20
def k0_off166 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c32_i32 : BitVec 32 := 32#32
  let c0_i32_21 : BitVec 32 := 0#32
  ![v9.toNat, 32, 0]
def k0_mult68 : BitVec 32 :=
  let c0_i32_23 : BitVec 32 := 0#32
  c0_i32_23
def k0_off167 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c48_i32 : BitVec 32 := 48#32
  let c0_i32_24 : BitVec 32 := 0#32
  ![v9.toNat, 48, 0]
def k0_mult69 : BitVec 32 :=
  let c0_i32_26 : BitVec 32 := 0#32
  c0_i32_26
def k0_off168 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let c0_i32_27 : BitVec 32 := 0#32
  ![v9.toNat, 64, 0]
def k0_mult70 : BitVec 32 :=
  let c0_i32_29 : BitVec 32 := 0#32
  c0_i32_29
def k0_off169 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c80_i32 : BitVec 32 := 80#32
  let c0_i32_30 : BitVec 32 := 0#32
  ![v9.toNat, 80, 0]
def k0_mult71 : BitVec 32 :=
  let c0_i32_32 : BitVec 32 := 0#32
  c0_i32_32
def k0_off170 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c96_i32 : BitVec 32 := 96#32
  let c0_i32_33 : BitVec 32 := 0#32
  ![v9.toNat, 96, 0]
def k0_mult72 : BitVec 32 :=
  let c0_i32_35 : BitVec 32 := 0#32
  c0_i32_35
def k0_off171 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c112_i32 : BitVec 32 := 112#32
  let c0_i32_36 : BitVec 32 := 0#32
  ![v9.toNat, 112, 0]
def k0_mult73 : BitVec 32 :=
  let c0_i32_38 : BitVec 32 := 0#32
  c0_i32_38
def k0_off172 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c128_i32 : BitVec 32 := 128#32
  let c0_i32_39 : BitVec 32 := 0#32
  ![v9.toNat, 128, 0]
def k0_mult74 : BitVec 32 :=
  let c0_i32_41 : BitVec 32 := 0#32
  c0_i32_41
def k0_off173 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c144_i32 : BitVec 32 := 144#32
  let c0_i32_42 : BitVec 32 := 0#32
  ![v9.toNat, 144, 0]
def k0_mult75 : BitVec 32 :=
  let c0_i32_44 : BitVec 32 := 0#32
  c0_i32_44
def k0_off174 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let c0_i32_45 : BitVec 32 := 0#32
  ![v9.toNat, 160, 0]
def k0_mult76 : BitVec 32 :=
  let c0_i32_47 : BitVec 32 := 0#32
  c0_i32_47
def k0_off175 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c176_i32 : BitVec 32 := 176#32
  let c0_i32_48 : BitVec 32 := 0#32
  ![v9.toNat, 176, 0]
def k0_mult77 : BitVec 32 :=
  let c0_i32_50 : BitVec 32 := 0#32
  c0_i32_50
def k0_off176 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c192_i32 : BitVec 32 := 192#32
  let c0_i32_51 : BitVec 32 := 0#32
  ![v9.toNat, 192, 0]
def k0_mult78 : BitVec 32 :=
  let c0_i32_53 : BitVec 32 := 0#32
  c0_i32_53
def k0_off177 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c208_i32 : BitVec 32 := 208#32
  let c0_i32_54 : BitVec 32 := 0#32
  ![v9.toNat, 208, 0]
def k0_mult79 : BitVec 32 :=
  let c0_i32_56 : BitVec 32 := 0#32
  c0_i32_56
def k0_off178 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c224_i32 : BitVec 32 := 224#32
  let c0_i32_57 : BitVec 32 := 0#32
  ![v9.toNat, 224, 0]
def k0_mult80 : BitVec 32 :=
  let c0_i32_59 : BitVec 32 := 0#32
  c0_i32_59
def k0_off179 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c240_i32 : BitVec 32 := 240#32
  let c0_i32_60 : BitVec 32 := 0#32
  ![v9.toNat, 240, 0]
def k0_mult81 : BitVec 32 :=
  let c0_i32_62 : BitVec 32 := 0#32
  c0_i32_62
def k0_off180 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c256_i32 : BitVec 32 := 256#32
  let c0_i32_63 : BitVec 32 := 0#32
  ![v9.toNat, 256, 0]
def k0_mult82 : BitVec 32 :=
  let c0_i32_65 : BitVec 32 := 0#32
  c0_i32_65
def k0_off181 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c272_i32 : BitVec 32 := 272#32
  let c0_i32_66 : BitVec 32 := 0#32
  ![v9.toNat, 272, 0]
def k0_mult83 : BitVec 32 :=
  let c0_i32_68 : BitVec 32 := 0#32
  c0_i32_68
def k0_off182 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c288_i32 : BitVec 32 := 288#32
  let c0_i32_69 : BitVec 32 := 0#32
  ![v9.toNat, 288, 0]
def k0_mult84 : BitVec 32 :=
  let c0_i32_71 : BitVec 32 := 0#32
  c0_i32_71
def k0_off183 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c304_i32 : BitVec 32 := 304#32
  let c0_i32_72 : BitVec 32 := 0#32
  ![v9.toNat, 304, 0]
def k0_mult85 : BitVec 32 :=
  let c0_i32_74 : BitVec 32 := 0#32
  c0_i32_74
def k0_off184 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c320_i32 : BitVec 32 := 320#32
  let c0_i32_75 : BitVec 32 := 0#32
  ![v9.toNat, 320, 0]
def k0_mult86 : BitVec 32 :=
  let c0_i32_77 : BitVec 32 := 0#32
  c0_i32_77
def k0_off185 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c336_i32 : BitVec 32 := 336#32
  let c0_i32_78 : BitVec 32 := 0#32
  ![v9.toNat, 336, 0]
def k0_mult87 : BitVec 32 :=
  let c0_i32_80 : BitVec 32 := 0#32
  c0_i32_80
def k0_off186 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c352_i32 : BitVec 32 := 352#32
  let c0_i32_81 : BitVec 32 := 0#32
  ![v9.toNat, 352, 0]
def k0_mult88 : BitVec 32 :=
  let c0_i32_83 : BitVec 32 := 0#32
  c0_i32_83
def k0_off187 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c368_i32 : BitVec 32 := 368#32
  let c0_i32_84 : BitVec 32 := 0#32
  ![v9.toNat, 368, 0]
def k0_mult89 : BitVec 32 :=
  let c0_i32_86 : BitVec 32 := 0#32
  c0_i32_86
def k0_off188 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c384_i32 : BitVec 32 := 384#32
  let c0_i32_87 : BitVec 32 := 0#32
  ![v9.toNat, 384, 0]
def k0_mult90 : BitVec 32 :=
  let c0_i32_89 : BitVec 32 := 0#32
  c0_i32_89
def k0_off189 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c400_i32 : BitVec 32 := 400#32
  let c0_i32_90 : BitVec 32 := 0#32
  ![v9.toNat, 400, 0]
def k0_mult91 : BitVec 32 :=
  let c0_i32_92 : BitVec 32 := 0#32
  c0_i32_92
def k0_off190 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c416_i32 : BitVec 32 := 416#32
  let c0_i32_93 : BitVec 32 := 0#32
  ![v9.toNat, 416, 0]
def k0_mult92 : BitVec 32 :=
  let c0_i32_95 : BitVec 32 := 0#32
  c0_i32_95
def k0_off191 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c432_i32 : BitVec 32 := 432#32
  let c0_i32_96 : BitVec 32 := 0#32
  ![v9.toNat, 432, 0]
def k0_mult93 : BitVec 32 :=
  let c0_i32_98 : BitVec 32 := 0#32
  c0_i32_98
def k0_off192 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c448_i32 : BitVec 32 := 448#32
  let c0_i32_99 : BitVec 32 := 0#32
  ![v9.toNat, 448, 0]
def k0_mult94 : BitVec 32 :=
  let c0_i32_101 : BitVec 32 := 0#32
  c0_i32_101
def k0_off193 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c464_i32 : BitVec 32 := 464#32
  let c0_i32_102 : BitVec 32 := 0#32
  ![v9.toNat, 464, 0]
def k0_mult95 : BitVec 32 :=
  let c0_i32_104 : BitVec 32 := 0#32
  c0_i32_104
def k0_off194 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c480_i32 : BitVec 32 := 480#32
  let c0_i32_105 : BitVec 32 := 0#32
  ![v9.toNat, 480, 0]
def k0_mult96 : BitVec 32 :=
  let c0_i32_107 : BitVec 32 := 0#32
  c0_i32_107
def k0_off195 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c496_i32 : BitVec 32 := 496#32
  let c0_i32_108 : BitVec 32 := 0#32
  ![v9.toNat, 496, 0]
def k0_off196 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v223 : Index := Scalar.indexCast v9
  let c0_110 : Index := 0#32
  let c0_111 : Index := 0#32
  ![v223.toNat, 0, 0]
def k0_cond3 (i : grid0.Coords) (v18 : BitVec 32) : BitVec 1 :=
  let arg0 : BitVec 32 := BitVec.ofNat 32 (i 0).val
  let v19 : BitVec 1 := Scalar.cmpi .slt arg0 v18
  let v20 : BitVec 32 := Scalar.extui v19
  let c0_i32_8 : BitVec 32 := 0#32
  let v21 : BitVec 1 := Scalar.cmpi .ne v20 c0_i32_8
  v21

def k0_cond5 (i : grid0.Coords) (v22 : BitVec 32) : BitVec 1 :=
  let arg0 : BitVec 32 := BitVec.ofNat 32 (i 0).val
  let v23 : BitVec 1 := Scalar.cmpi .sge arg0 v22
  let v24 : BitVec 32 := Scalar.extui v23
  let c0_i32_10 : BitVec 32 := 0#32
  let v25 : BitVec 1 := Scalar.cmpi .ne v24 c0_i32_10
  v25

def cc0_transform_1 (k0_off1_inb : ∀ i : grid0.Coords, ∀ a, (k0_off1 i) a + S1.size a ≤ S110.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S110) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S110.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S110) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S110.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S110) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S110 : Shape := ⟨1, ![110]⟩
abbrev S1 : Shape := ⟨1, ![1]⟩
abbrev S3520 : Shape := ⟨1, ![3520]⟩
abbrev S49152x1024 : Shape := ⟨2, ![49152, 1024]⟩
abbrev S4x16x1024x512 : Shape := ⟨4, ![4, 16, 1024, 512]⟩
abbrev S4x16x512x1024 : Shape := ⟨4, ![4, 16, 512, 1024]⟩
abbrev S3072x16x1024 : Shape := ⟨3, ![3072, 16, 1024]⟩
abbrev S_ : Shape := ⟨0, ![]⟩
abbrev S3520x1 : Shape := ⟨2, ![3520, 1]⟩
abbrev S3520x16x1024 : Shape := ⟨3, ![3520, 16, 1024]⟩
abbrev S56320x1024 : Shape := ⟨2, ![56320, 1024]⟩
abbrev S110x1 : Shape := ⟨2, ![110, 1]⟩
abbrev S1x16 : Shape := ⟨2, ![1, 16]⟩
abbrev S110x16 : Shape := ⟨2, ![110, 16]⟩
abbrev S110x512x16 : Shape := ⟨3, ![110, 512, 16]⟩
abbrev S56320x16 : Shape := ⟨2, ![56320, 16]⟩
abbrev S1x16x1024x512 : Shape := ⟨4, ![1, 16, 1024, 512]⟩
abbrev S16x1024x512 : Shape := ⟨3, ![16, 1024, 512]⟩
abbrev S56320x16x512 : Shape := ⟨3, ![56320, 16, 512]⟩
abbrev S56320x16x1 : Shape := ⟨3, ![56320, 16, 1]⟩
abbrev S1x16x512x1024 : Shape := ⟨4, ![1, 16, 512, 1024]⟩
abbrev S16x512x1024 : Shape := ⟨3, ![16, 512, 1024]⟩

abbrev nBuf : Space → Nat
  | .hbm => 59
  | .vmem => 0
  | .smem => 0
  | _ => 0

abbrev bufTy : (tb : Table) → Fin (tcTables nBuf tb) → BufTy
  | .hbm, ⟨0, _⟩ => ⟨S110, .i32⟩
  | .hbm, ⟨1, _⟩ => ⟨S110, .i32⟩
  | .hbm, ⟨2, _⟩ => ⟨S1, .i32⟩
  | .hbm, ⟨3, _⟩ => ⟨S3520, .i32⟩
  | .hbm, ⟨4, _⟩ => ⟨S49152x1024, .bf16⟩
  | .hbm, ⟨5, _⟩ => ⟨S4x16x1024x512, .f32⟩
  | .hbm, ⟨6, _⟩ => ⟨S4x16x1024x512, .f32⟩
  | .hbm, ⟨7, _⟩ => ⟨S4x16x512x1024, .f32⟩
  | .hbm, ⟨8, _⟩ => ⟨S49152x1024, .f32⟩
  | .hbm, ⟨9, _⟩ => ⟨S3072x16x1024, .f32⟩
  | .hbm, ⟨10, _⟩ => ⟨S_, .i32⟩
  | .hbm, ⟨11, _⟩ => ⟨S3520, .i32⟩
  | .hbm, ⟨12, _⟩ => ⟨S3520, .i1⟩
  | .hbm, ⟨13, _⟩ => ⟨S_, .i32⟩
  | .hbm, ⟨14, _⟩ => ⟨S3520, .i32⟩
  | .hbm, ⟨15, _⟩ => ⟨S3520, .i32⟩
  | .hbm, ⟨16, _⟩ => ⟨S3520, .i32⟩
  | .hbm, ⟨17, _⟩ => ⟨S3520x1, .i32⟩
  | .hbm, ⟨18, _⟩ => ⟨S3520x16x1024, .f32⟩
  | .hbm, ⟨19, _⟩ => ⟨S56320x1024, .f32⟩
  | .hbm, ⟨20, _⟩ => ⟨S110, .i32⟩
  | .hbm, ⟨21, _⟩ => ⟨S_, .i32⟩
  | .hbm, ⟨22, _⟩ => ⟨S110, .i32⟩
  | .hbm, ⟨23, _⟩ => ⟨S110, .i1⟩
  | .hbm, ⟨24, _⟩ => ⟨S110x1, .i32⟩
  | .hbm, ⟨25, _⟩ => ⟨S1x16, .i32⟩
  | .hbm, ⟨26, _⟩ => ⟨S110x16, .i32⟩
  | .hbm, ⟨27, _⟩ => ⟨S110x16, .i32⟩
  | .hbm, ⟨28, _⟩ => ⟨S110x16, .i1⟩
  | .hbm, ⟨29, _⟩ => ⟨S110x16, .f32⟩
  | .hbm, ⟨30, _⟩ => ⟨S110, .f32⟩
  | .hbm, ⟨31, _⟩ => ⟨S110x1, .f32⟩
  | .hbm, ⟨32, _⟩ => ⟨S110x16, .f32⟩
  | .hbm, ⟨33, _⟩ => ⟨S110x16, .f32⟩
  | .hbm, ⟨34, _⟩ => ⟨S110x512x16, .f32⟩
  | .hbm, ⟨35, _⟩ => ⟨S56320x16, .f32⟩
  | .hbm, ⟨36, _⟩ => ⟨S1x16x1024x512, .f32⟩
  | .hbm, ⟨37, _⟩ => ⟨S16x1024x512, .f32⟩
  | .hbm, ⟨38, _⟩ => ⟨S56320x16x512, .f32⟩
  | .hbm, ⟨39, _⟩ => ⟨S56320x16x512, .f32⟩
  | .hbm, ⟨40, _⟩ => ⟨S56320x16x512, .f32⟩
  | .hbm, ⟨41, _⟩ => ⟨S_, .f32⟩
  | .hbm, ⟨42, _⟩ => ⟨S56320x16x512, .f32⟩
  | .hbm, ⟨43, _⟩ => ⟨S56320x16x512, .f32⟩
  | .hbm, ⟨44, _⟩ => ⟨S_, .f32⟩
  | .hbm, ⟨45, _⟩ => ⟨S56320x16x512, .f32⟩
  | .hbm, ⟨46, _⟩ => ⟨S56320x16x512, .f32⟩
  | .hbm, ⟨47, _⟩ => ⟨S56320x16x512, .f32⟩
  | .hbm, ⟨48, _⟩ => ⟨S1x16x1024x512, .f32⟩
  | .hbm, ⟨49, _⟩ => ⟨S16x1024x512, .f32⟩
  | .hbm, ⟨50, _⟩ => ⟨S56320x16x512, .f32⟩
  | .hbm, ⟨51, _⟩ => ⟨S56320x16x512, .f32⟩
  | .hbm, ⟨52, _⟩ => ⟨S56320x16x1, .f32⟩
  | .hbm, ⟨53, _⟩ => ⟨S56320x16x512, .f32⟩
  | .hbm, ⟨54, _⟩ => ⟨S56320x16x512, .f32⟩
  | .hbm, ⟨55, _⟩ => ⟨S1x16x512x1024, .f32⟩
  | .hbm, ⟨56, _⟩ => ⟨S16x512x1024, .f32⟩
  | .hbm, ⟨57, _⟩ => ⟨S56320x1024, .f32⟩
  | .hbm, ⟨58, _⟩ => ⟨S56320x1024, .bf16⟩
  | _, _ => ⟨S110, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel2.lean ====
abbrev S16384x1024 : Shape := ⟨2, ![16384, 1024]⟩
abbrev S4x8x6x1024 : Shape := ⟨4, ![4, 8, 6, 1024]⟩
abbrev S1x1024 : Shape := ⟨2, ![1, 1024]⟩
abbrev S256x256 : Shape := ⟨2, ![256, 256]⟩
abbrev S512x256 : Shape := ⟨2, ![512, 256]⟩
abbrev S2048x1024 : Shape := ⟨2, ![2048, 1024]⟩
abbrev S1x1x6x1024 : Shape := ⟨4, ![1, 1, 6, 1024]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x512 : Shape := ⟨2, ![256, 512]⟩
abbrev S8192x1024 : Shape := ⟨2, ![8192, 1024]⟩

abbrev nBuf : Space → Nat
  | .hbm => 14
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x8x6x1024, .f32⟩
  | .hbm, ⟨2, _⟩ => ⟨S1x1024, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S512x256, .f32⟩
  | .hbm, ⟨9, _⟩ => ⟨S512x256, .bf16⟩
  | .hbm, ⟨10, _⟩ => ⟨S256x256, .bf16⟩
  | .hbm, ⟨11, _⟩ => ⟨S256x256, .bf16⟩
  | .hbm, ⟨12, _⟩ => ⟨S16384x1024, .bf16⟩
  | .hbm, ⟨13, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1x6x1024, .f32⟩
  | .local _ .vmem, ⟨3, _⟩ => ⟨S1x1024, .f32⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S256x1024, .bf16⟩
  | .local _ .vmem, ⟨8, _⟩ => ⟨S256x1024, .bf16⟩
  | .local _ .vmem, ⟨9, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c8_i32 : BitVec 32 := 8#32
  let v58 : BitVec 32 := Scalar.addi c0_i32_33 c8_i32
  let c1_i32 : BitVec 32 := 1#32
  ⟨c0_i32_33, v58, c1_i32⟩
def k0_mult1 (k0_t1 : Fin k0_t1_loop.trips) : BitVec 32 :=
  let c0_i32_33 : BitVec 32 := 0#32
  let c1_i32 : BitVec 32 := 1#32
  let arg10 : BitVec 32 := Scf.iv c0_i32_33 c1_i32 k0_t1
  let c256_i32_35 : BitVec 32 := 256#32
  let v59 : BitVec 32 := Scalar.muli arg10 c256_i32_35
  v59
def k0_off1 (k0_t1 : Fin k0_t1_loop.trips) : Fin 2 → Nat :=
  let c0_i32_33 : BitVec 32 := 0#32
  let c1_i32 : BitVec 32 := 1#32
  let arg10 : BitVec 32 := Scf.iv c0_i32_33 c1_i32 k0_t1
  let c256_i32_35 : BitVec 32 := 256#32
  let v59 : BitVec 32 := Scalar.muli arg10 c256_i32_35
  let v60 : BitVec 32 := v59
  let v61 : Index := Scalar.indexCast v60
  let c0_36 : Index := 0#32
  ![v61.toNat, 0]
def k0_mult2 (i : grid0.Coords) : BitVec 32 :=
  let arg1 : BitVec 32 := BitVec.ofNat 32 (i 1).val
  let c256_i32 : BitVec 32 := 256#32
  let v3 : BitVec 32 := Scalar.muli arg1 c256_i32
  v3
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, c4_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8_i32 : BitVec 32 := 8#32
  let v1 : BitVec 32 := Scalar.muli v0 c8_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16384x1024 : Shape := ⟨2, ![16384, 1024]⟩
abbrev S4x8x6x1024 : Shape := ⟨4, ![4, 8, 6, 1024]⟩
abbrev S1x1024 : Shape := ⟨2, ![1, 1024]⟩
abbrev S256x256 : Shape := ⟨2, ![256, 256]⟩
abbrev S8192x1024 : Shape := ⟨2, ![8192, 1024]⟩
abbrev S32x256x1024 : Shape := ⟨3, ![32, 256, 1024]⟩
abbrev S1x1x1x1024 : Shape := ⟨4, ![1, 1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x4x256 : Shape := ⟨4, ![32, 256, 4, 256]⟩
abbrev S32x4x256x256 : Shape := ⟨4, ![32, 4, 256, 256]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x8x6x1024, .f32⟩
  | .hbm, ⟨2, _⟩ => ⟨S1x1024, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S8192x1024, .f32⟩
  | .hbm, ⟨8, _⟩ => ⟨S32x256x1024, .f32⟩
  | .hbm, ⟨9, _⟩ => ⟨S1x1x1x1024, .f32⟩
  | .hbm, ⟨10, _⟩ => ⟨S1024, .f32⟩
  | .hbm, ⟨11, _⟩ => ⟨S1x1x1x1024, .f32⟩
  | .hbm, ⟨12, _⟩ => ⟨S1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S32x256x4x256, .f32⟩
  | .hbm, ⟨40, _⟩ => ⟨S32x4x256x256, .f32⟩
  | .hbm, ⟨41, _⟩ => ⟨S32x256x4x256, .f32⟩
  | .hbm, ⟨42, _⟩ => ⟨S32x256x4x256, .f32⟩
  | .hbm, ⟨43, _⟩ => ⟨S32x4x256x256, .f32⟩
  | .hbm, ⟨44, _⟩ => ⟨S32x256x4x256, .f32⟩
  | .hbm, ⟨45, _⟩ => ⟨S256x256, .f32⟩
  | .hbm, ⟨46, _⟩ => ⟨S32x256x4x256, .f32⟩
  | .hbm, ⟨47, _⟩ => ⟨S32x256x4x256, .f32⟩
  | .hbm, ⟨48, _⟩ => ⟨S_, .f32⟩
  | .hbm, ⟨49, _⟩ => ⟨S32x256x4x256, .f32⟩
  | .hbm, ⟨50, _⟩ => ⟨S32x256x4x256, .f32⟩
  | .hbm, ⟨51, _⟩ => ⟨S8192x1024, .f32⟩
  | .hbm, ⟨52, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel3.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4x1x6144, .f32⟩
  | .hbm, ⟨13, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S4x6144x8, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel4.lean ====
abbrev S4x2048x1024 : Shape := ⟨3, ![4, 2048, 1024]⟩
abbrev S8192x1024 : Shape := ⟨2, ![8192, 1024]⟩
abbrev S2048 : Shape := ⟨1, ![2048]⟩
abbrev S_ : Shape := ⟨0, ![]⟩
abbrev S256 : Shape := ⟨1, ![256]⟩
abbrev S2048x1 : Shape := ⟨2, ![2048, 1]⟩
abbrev S1x256 : Shape := ⟨2, ![1, 256]⟩
abbrev S2048x256 : Shape := ⟨2, ![2048, 256]⟩
abbrev S2048x1024 : Shape := ⟨2, ![2048, 1024]⟩
abbrev S512x1024 : Shape := ⟨2, ![512, 1024]⟩

abbrev nBuf : Space → Nat
  | .hbm => 71
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S2048, .i32⟩
  | .hbm, ⟨3, _⟩ => ⟨S_, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S_, .i1⟩
  | .hbm, ⟨38, _⟩ => ⟨S2048, .i1⟩
  | .hbm, ⟨39, _⟩ => ⟨S2048, .i1⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S2048x1, .f32⟩
  | .hbm, ⟨56, _⟩ => ⟨S1x256, .f32⟩
  | .hbm, ⟨57, _⟩ => ⟨S2048x256, .f32⟩
  | .hbm, ⟨58, _⟩ => ⟨S2048x256, .f32⟩
  | .hbm, ⟨59, _⟩ => ⟨S2048x256, .f32⟩
  | .hbm, ⟨60, _⟩ => ⟨S2048x1, .f32⟩
  | .hbm, ⟨61, _⟩ => ⟨S1x256, .f32⟩
  | .hbm, ⟨62, _⟩ => ⟨S2048x256, .f32⟩
  | .hbm, ⟨63, _⟩ => ⟨S2048x256, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S2048x256, .f32⟩
  | .hbm, ⟨68, _⟩ => ⟨S2048x256, .f32⟩
  | .hbm, ⟨69, _⟩ => ⟨S2048x1024, .f32⟩
  | .hbm, ⟨70, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_cst_2 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4x2048x1024 : Shape := ⟨3, ![4, 2048, 1024]⟩
abbrev S2048 : Shape := ⟨1, ![2048]⟩
abbrev S_ : Shape := ⟨0, ![]⟩
abbrev S256 : Shape := ⟨1, ![256]⟩
abbrev S2048x1 : Shape := ⟨2, ![2048, 1]⟩
abbrev S1x256 : Shape := ⟨2, ![1, 256]⟩
abbrev S2048x256 : Shape := ⟨2, ![2048, 256]⟩
abbrev S2048x1024 : Shape := ⟨2, ![2048, 1024]⟩
abbrev S1x2048x1024 : Shape := ⟨3, ![1, 2048, 1024]⟩
abbrev S8192x1024 : Shape := ⟨2, ![8192, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048, .i32⟩
  | .hbm, ⟨2, _⟩ => ⟨S_, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S2048, .i32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S_, .i1⟩
  | .hbm, ⟨37, _⟩ => ⟨S2048, .i1⟩
  | .hbm, ⟨38, _⟩ => ⟨S2048, .i1⟩
  | .hbm, ⟨39, _⟩ => ⟨S2048, .i1⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S2048x1, .f32⟩
  | .hbm, ⟨55, _⟩ => ⟨S1x256, .f32⟩
  | .hbm, ⟨56, _⟩ => ⟨S2048x256, .f32⟩
  | .hbm, ⟨57, _⟩ => ⟨S2048x256, .f32⟩
  | .hbm, ⟨58, _⟩ => ⟨S2048x256, .f32⟩
  | .hbm, ⟨59, _⟩ => ⟨S2048x1, .f32⟩
  | .hbm, ⟨60, _⟩ => ⟨S1x256, .f32⟩
  | .hbm, ⟨61, _⟩ => ⟨S2048x256, .f32⟩
  | .hbm, ⟨62, _⟩ => ⟨S2048x256, .f32⟩
  | .hbm, ⟨63, _⟩ => ⟨S2048x256, .f32⟩
  | .hbm, ⟨64, _⟩ => ⟨S2048x256, .f32⟩
  | .hbm, ⟨65, _⟩ => ⟨S2048x256, .f32⟩
  | .hbm, ⟨66, _⟩ => ⟨S2048x256, .f32⟩
  | .hbm, ⟨67, _⟩ => ⟨S2048x256, .f32⟩
  | .hbm, ⟨68, _⟩ => ⟨S2048x1024, .f32⟩
  | .hbm, ⟨69, _⟩ => ⟨S1x2048x1024, .f32⟩
  | .hbm, ⟨70, _⟩ => ⟨S4x2048x1024, .f32⟩
  | .hbm, ⟨71, _⟩ => ⟨S4x2048x1024, .f32⟩
  | .hbm, ⟨72, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_cst : Ref sig .tc := ⟨.hbm, 45, rfl⟩
abbrev main_v6 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_cst_2 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Proof.Setup.lean ====
/-
The launch of the expert call: what the tables hold, the pipeline pinned at those contents, the memrefs the body is
handed, and the frame read off a run.
-/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Batch
public import Idealize.ShloMosaic.Lib.Transfers
public import Idealize.ShloMosaic.Lib.Tactic
public import Idealize.ShloMosaic.Lib.WordCmp
public import Idealize.ShloMosaic.Lib.Claim

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffer as the call finds it: as launched. -/
abbrev V (c : Dev nD) (b : Ref sig .tc) : Buf (Elt F) ((c : Thread nD τ).loc b) := m ((c : Thread nD τ).loc b)

set_option maxHeartbeats 800000 in
/-- The whole program is the one call. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-! ## The four tables -/

/-- What the tables hold (there is one device). -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- The position `t` of a table with one entry for each tile. -/
def at110 (t : ℕ) (h : t < 110) : S110.Idx := fun a => ⟨t, by obtain rfl : a = 0 := Subsingleton.elim _ _; exact h⟩
/-- The position `j` of the table of units. -/
def at3520 (j : ℕ) (h : j < 3520) : S3520.Idx := fun a => ⟨j, by obtain rfl : a = 0 := Subsingleton.elim _ _; exact h⟩
/-- The one position of the count. -/
def at1 : S1.Idx := fun a => ⟨0, by obtain rfl : a = 0 := Subsingleton.elim _ _; decide⟩

/-- Tile `t`'s expert. -/
def expertOf (t : ℕ) : BitVec 32 := if h : t < 110 then (tbl m 0 : S110.Idx → BitVec 32) (at110 t h) else 0#32
/-- Tile `t`'s mark: 1 where the expert's weights are to be taken anew. -/
def firstOf (t : ℕ) : BitVec 32 := if h : t < 110 then (tbl m 1 : S110.Idx → BitVec 32) (at110 t h) else 0#32
/-- How many tiles are live. -/
def liveTiles : BitVec 32 := (tbl m 2 : S1.Idx → BitVec 32) at1
/-- The row unit gathered as unit `j`. -/
def unitOf (j : ℕ) : BitVec 32 := if h : j < 3520 then (tbl m 3 : S3520.Idx → BitVec 32) (at3520 j h) else 0#32

/-- The live tiles as a number. -/
def nT : ℕ := (liveTiles m).toNat

/-- What the precondition says of the tables. -/
structure Good : Prop where
  expert : ∀ t, t < 110 → (expertOf m t).toNat < 16
  first : ∀ t, t < 110 → firstOf m t = 1#32 ∨ (0 < t ∧ expertOf m t = expertOf m (t - 1))
  live_pos : 1 ≤ nT m
  live_le : nT m ≤ 110
  unit : ∀ j, j < 3520 → (unitOf m j).toNat < 3072

/-- The pipeline's condition on the tables: the weight blocks they select are inside the weights. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The memrefs the body is handed -/

abbrev tbE : Memref sig .tc .smem S110 .i32 := Memref.whole main_arg0
abbrev tbF : Memref sig .tc .smem S110 .i32 := Memref.whole main_arg1
abbrev tbN : Memref sig .tc .smem S1 .i32 := Memref.whole main_arg2
abbrev tbS : Memref sig .tc .smem S3520 .i32 := Memref.whole main_arg3
/-- The rows, left in HBM. -/
abbrev hbX : Memref sig .tc .hbm S49152x1024 .bf16 := Memref.whole main_arg4
/-- The two slots the rows are gathered into. -/
abbrev scX : Memref sig .tc .vmem S2x512x1024 .bf16 := Memref.whole cc0_scratch0
/-- The three cast weights. -/
abbrev scG : Memref sig .tc .vmem S1024x512 .bf16 := Memref.whole cc0_scratch2
abbrev scU : Memref sig .tc .vmem S1024x512 .bf16 := Memref.whole cc0_scratch3
abbrev scD : Memref sig .tc .vmem S512x1024 .bf16 := Memref.whole cc0_scratch4

abbrev BufOf (F : FTy → Type) (c : Dev nD) {sp : Space} {S : Shape} {e : EltTy} (M : Memref sig .tc sp S e) : Type := Buf (Elt F) (M.view.loc (c : Thread nD τ))
/-- A table held for reading. -/
abbrev tbPt (c : Dev nD) {S : Shape} {e : EltTy} (M : Memref sig .tc .smem S e) (f : BufOf F c M) : sProp 𝕄 :=
  M.view.loc (c : Thread nD τ) ↦{fullShare.right} f
abbrev hbPt (c : Dev nD) {sp : Space} {S : Shape} {e : EltTy} (M : Memref sig .tc sp S e) (f : BufOf F c M) : sProp 𝕄 :=
  M.view.loc (c : Thread nD τ) ↦{fullShare} f

/-- The tables as the body holds them. -/
def tables (c : Dev nD) : sProp 𝕄 := iprop(tbPt c tbE (tbl m 0) ∗ tbPt c tbF (tbl m 1) ∗ tbPt c tbN (tbl m 2) ∗ tbPt c tbS (tbl m 3))

theorem tables_eq (c : Dev nD) : (Pipeline.ΦT pre0 (tbl m) c : sProp 𝕄) = tables m c := by
  unfold Pipeline.ΦT Pipeline.prefHeld tables
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The two semaphores of the gather, one for each slot. -/
abbrev osem : Fin 2 → SemLoc sig := fun j => (![SemLoc.dma 8, SemLoc.dma 9] : Fin 2 → SemLoc sig) j
theorem osemFacts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0) := by
  rw [Pipeline.ownSems0_eq_of_list c osem [0, 1] (by decide) (by decide)]; rfl

/-- The array the body reads by itself. -/
def Hx : Finset (Ref sig .tc) := {main_arg4}
theorem Hx_sub : Hx ⊆ Pipeline.restRefsP sig pre0 spec0 := by decide
theorem hx_eq (c : Dev nD) :
    (bigSep Hx (fun b => ((c : Thread nD τ).loc b) ↦{fullShare} V m c b) : sProp 𝕄) = iprop(hbPt c hbX (V m c main_arg4)) := by
  rw [BI.bigSep_eq_bigSepL_of_eq [main_arg4] (by decide) (by decide)]; rfl

/-- What the launch gives the body and takes back. -/
theorem given_eq (c : Dev nD) :
    (Pipeline.ΦD osem spec0 Hx (V m) c : sProp 𝕄)
      = iprop(iprop((∃ f, hbPt c scX f) ∗ (∃ d, owns (c : Thread nD τ) scG fullShare d) ∗ (∃ d, owns (c : Thread nD τ) scU fullShare d) ∗ (∃ d, owns (c : Thread nD τ) scD fullShare d)) ∗ (∃ r, prngReg c r) ∗ iprop(semVal ((c : Thread nD τ), SemLoc.dma 8) 0 ∗ semVal ((c : Thread nD τ), SemLoc.dma 9) 0) ∗ iprop(hbPt c hbX (V m c main_arg4))) := by
  rw [Pipeline.ΦD_eq, scopedRest0_eq, osem_eq, hx_eq]; simp only [scG, scU, scD, owns_whole]; rfl

/-! ## The windows -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's staging buffer holds its block at every point, for proof data over the launched arrays that leave the
    blocks in place. -/
theorem before_of0 (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The staging memrefs at point `t`. -/
abbrev ms0 (hO : Ok m) (t : Fin (cfgM m hO).N) : Memref sig .tc .vmem S1x1x1024x512 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x512x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S512x1024 .bf16 := spec0_3.stage ((cfgM m hO).slots t 3)
abbrev hs3 (hO : Ok m) (t : Fin (cfgM m hO).N) : (ms3 m hO t).IsWhole := hstage0_3 (((cfgM m hO).slots t 3).cast nbuf0_3)

/-- The body at point `t`. -/
abbrev bodyAt (hO : Ok m) (t : Fin (cfgM m hO).N) : Prog (TpuEff nD τ sig (Elt F) Λ₀ .tc) PUnit :=
  cc0_moe_ffn (grid0.coords t) tbE (Memref.isWhole_whole _) tbF (Memref.isWhole_whole _) tbN (Memref.isWhole_whole _) tbS (Memref.isWhole_whole _) hbX (Memref.isWhole_whole _) (ms0 m hO t) (hs0 m hO t) (ms1 m hO t) (hs1 m hO t) (ms2 m hO t) (hs2 m hO t) (ms3 m hO t) (hs3 m hO t) scX (Memref.isWhole_whole _) cc0_scratch1 scG (Memref.isWhole_whole _) scU (Memref.isWhole_whole _) scD (Memref.isWhole_whole _)

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-! ## The frame off a run -/

/-- A run to the library's post leaves every argument as launched. -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w)) {r}
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c).2 main_arg0 (by decide : main_arg0 ∈ Pipeline.restRefs sig spec0),
    (h c).2 main_arg1 (by decide : main_arg1 ∈ Pipeline.restRefs sig spec0),
    (h c).2 main_arg2 (by decide : main_arg2 ∈ Pipeline.restRefs sig spec0),
    (h c).2 main_arg3 (by decide : main_arg3 ∈ Pipeline.restRefs sig spec0),
    (h c).2 main_arg4 (by decide : main_arg4 ∈ Pipeline.restRefs sig spec0),
    ((h c).1 0).trans (((dats 0 c).arrAt_in 0 rfl _).trans (hA c 0)),
    ((h c).1 1).trans (((dats 0 c).arrAt_in 1 rfl _).trans (hA c 1)),
    ((h c).1 2).trans (((dats 0 c).arrAt_in 2 rfl _).trans (hA c 2))⟩

end Cert.KernelIdeal.Ffn

end
-- ==== Proof.Gather.lean ====
/-
The gather of one tile's rows: thirty-two copies of sixteen rows each, on one semaphore, into one of two slots.
-/
module

public import proofs.«01_k».proof.Proof.Setup
public import Idealize.ShloMosaic.Lib.ValueLayout

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The counters the copies are accounted with. -/
abbrev EC : UEmb Counters 𝕄 := countersEmb (U := Pipeline.UD sig nD τ)

/-! ## Windows -/

theorem slot_inb (k : Fin 2) (j : Fin 32) : ∀ a, (![k.val, 16 * j.val, 0] : Fin 3 → ℕ) a + S1x16x1024.size a ≤ S2x512x1024.size a := by
  have := k.isLt; have := j.isLt
  intro a; fin_cases a
  · show k.val + 1 ≤ 2; omega
  · show 16 * j.val + 16 ≤ 512; omega
  · show 0 + 1024 ≤ 1024; omega
theorem src_inb (s : Fin 3072) : ∀ a, (![16 * s.val, 0] : Fin 2 → ℕ) a + S16x1024.size a ≤ S49152x1024.size a := by
  have := s.isLt
  intro a; fin_cases a
  · show 16 * s.val + 16 ≤ 49152; omega
  · show 0 + 1024 ≤ 1024; omega

/-- Rows `16 j … 16 j + 15` of slot `k`. -/
def win (k : Fin 2) (j : Fin 32) : Finset S2x512x1024.Idx := (Rect.unit (s := S2x512x1024) ![k.val, 16 * j.val, 0] S1x16x1024.size (slot_inb k j)).set
/-- The sixteen rows of unit `s`. -/
def swin (s : Fin 3072) : Finset S49152x1024.Idx := (Rect.unit (s := S49152x1024) ![16 * s.val, 0] S16x1024.size (src_inb s)).set

/-- The unit of rows that lands as unit `j` of tile `tile`. -/
def src (tile : ℕ) (j : Fin 32) : Fin 3072 := ⟨(unitOf m (32 * tile + j.val)).toNat % 3072, Nat.mod_lt _ (by decide)⟩

/-- The row that lands as row `r` of a tile. -/
def rowOf (tile : ℕ) (r : Fin 512) : Fin 49152 :=
  ⟨16 * (src m tile ⟨r.val / 16, by omega⟩).val + r.val % 16, by
    have := (src m tile ⟨r.val / 16, by omega⟩).isLt; omega⟩

/-- A tile's rows, in either slot. -/
def rows (c : Dev nD) (tile : ℕ) : BufOf F c scX := fun p : S2x512x1024.Idx => (V m c main_arg4 : S49152x1024.Idx → Elt F .bf16) (ValueIdx.ix2 (rowOf m tile (p 1)) (p 2))

/-- The read share of copy `j` into slot `k`. -/
abbrev tok (k : Fin 2) (j : Fin 32) : PosShare TreeShare := Transfers.shareTok (Transfers.shareTok fullShare 2 k) 32 j

/-- The memrefs a copy names. -/
abbrev dstW (off : Fin 3 → ℕ) (h : ∀ a, off a + S1x16x1024.size a ≤ S2x512x1024.size a) : Memref sig .tc .vmem S16x1024 .bf16 :=
  (scX.slice (Rect.unit (s := S2x512x1024) off S1x16x1024.size h) (fun _ => rfl)).squeeze S16x1024 squeezes_S1x16x1024_S16x1024
abbrev srcW (off : Fin 2 → ℕ) (h : ∀ a, off a + S16x1024.size a ≤ S49152x1024.size a) : Memref sig .tc .hbm S16x1024 .bf16 :=
  hbX.slice (Rect.unit (s := S49152x1024) off S16x1024.size h) (fun _ => rfl)

theorem dstW_set (k : Fin 2) (j : Fin 32) : (dstW ![k.val, 16 * j.val, 0] (slot_inb k j)).view.set = win k j :=
  (View.set_reshape _ _).trans (View.set_slice_whole _ _)
theorem srcW_set (s : Fin 3072) : (srcW ![16 * s.val, 0] (src_inb s)).view.set = swin s := View.set_slice_whole _ _

/-! ## What is held -/

/-- Copy `j` into slot `k` before it is issued: the rows it overwrites and a share of the array it reads. -/
def FREE (c : Dev nD) (k : Fin 2) (j : Fin 32) : sProp 𝕄 :=
  iprop((∃ f, scX.view.loc (c : Thread nD τ) ↦[win k j]{fullShare} f) ∗ hbX.view.loc (c : Thread nD τ) ↦{tok k j} V m c main_arg4)
/-- The part of that share the copy leaves with the core. -/
def REST (c : Dev nD) (k : Fin 2) (tile : ℕ) (j : Fin 32) : sProp 𝕄 :=
  hbX.view.loc (c : Thread nD τ) ↦[Finset.univ \ swin (src m tile j)]{tok k j} V m c main_arg4
/-- What the copy delivers. -/
def DELIV (c : Dev nD) (k : Fin 2) (tile : ℕ) (j : Fin 32) : sProp 𝕄 :=
  iprop((scX.view.loc (c : Thread nD τ) ↦[win k j]{fullShare} rows m c tile) ∗ hbX.view.loc (c : Thread nD τ) ↦[swin (src m tile j)]{tok k j} V m c main_arg4)

instance (c : Dev nD) (k : Fin 2) (tile : ℕ) (j : Fin 32) : Storable (upEmb : UEmb _ 𝕄) (DELIV m c k tile j) := by
  unfold DELIV; infer_instance

/-- Slot `k`'s semaphore. -/
abbrev semOf (k : Fin 2) : DmaSem sig := (![8, 9] : Fin 2 → DmaSem sig) k
/-- What one copy signals. -/
def NB : ℕ := (dstW ![0, 0, 0] (slot_inb 0 0)).view.amount (SemLoc.dma (sig := sig) 8)

/-- Slot `k` idle. -/
def IDLE (c : Dev nD) (k : Fin 2) : sProp 𝕄 := iprop(semVal ((c : Thread nD τ), SemLoc.dma (semOf k)) 0 ∗ bigSep Finset.univ (FREE m c k))
/-- Slot `k` with the first `j` copies of `tile` issued. -/
def FILL (c : Dev nD) (k : Fin 2) (tile j : ℕ) : sProp 𝕄 :=
  iprop(Transfers.Batch (EC (F := F)) (c : Thread nD τ) (.dma (semOf k)) () NB (DELIV m c k tile) j 0
    ∗ bigSep (Transfers.pending j) (FREE m c k) ∗ bigSep (Transfers.issued j) (REST m c k tile))

/-! ## The steps -/

/-- The body's weakest precondition. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The index a unit rectangle at `n` names. -/
theorem emb_unit {N : ℕ} (n : ℕ) {inb} (x : (Rect.unit (s := ⟨1, ![N]⟩) ![n] S1.size inb).shape.Idx) :
    ((Rect.unit (s := ⟨1, ![N]⟩) ![n] S1.size inb).emb x 0).val = n := by
  have hx : (x 0).val < 1 := (x 0).isLt
  show n + 1 * (x 0).val = n
  omega

/-- Reading a word of a table: tile experts and marks, the count, the units. -/
theorem wp_word (c : Dev nD) {N : ℕ} (M : Memref sig .tc .smem ⟨1, ![N]⟩ .i32) (f : BufOf F c M) (w : BitVec 32) {off : Fin 1 → ℕ} (n : ℕ) (hoff : off = ![n])
    (hw : ∀ y : (⟨1, ![N]⟩ : Shape).Idx, (y 0).val = n → M.view.read (Elt F) f y = w) {inb h1 hp} {Q : BitVec 32 → sProp 𝕄} :
    tbPt c M f ⊢ iprop((tbPt c M f -∗ Q w) -∗ WP c (smemLoad M (Rect.unit (s := ⟨1, ![N]⟩) off S1.size inb) h1 hp) Q) := by
  subst hoff
  iintro H3 Hk
  unfold smemLoad
  unfold smemLoadElt
  iapply (wp_load (defs := defs₀ (F := F)) Variants.none (c : Thread nD τ) none Set.univ (m := M)
    (r := (Rect.unit (s := ⟨1, ![N]⟩) ![n] S1.size inb).toLoadRect) (q := fullShare.right) (f := f) (S := Finset.univ) (Finset.subset_univ _)) $$ H3
  iintro H3
  have e : M.view.readAt (Elt F) (Rect.unit (s := ⟨1, ![N]⟩) ![n] S1.size inb).toLoadRect f (Shape.Idx.first (h1.symm ▸ Nat.one_pos)) = w := by
    refine Eq.trans ?_ (hw ((Rect.unit (s := ⟨1, ![N]⟩) ![n] S1.size inb).emb (Shape.Idx.first (h1.symm ▸ Nat.one_pos))) ?_)
    · rfl
    · exact emb_unit n _
  rw [wp_ret, e]
  imodintro
  iapply Hk
  iexact H3

theorem one_idx {N : ℕ} (y z : (⟨1, ![N]⟩ : Shape).Idx) (h : (y 0).val = (z 0).val) : y = z := by
  funext a; obtain rfl : a = 0 := Subsingleton.elim _ _; exact Fin.ext h

theorem wp_unit (c : Dev nD) {off : Fin 1 → ℕ} (n : ℕ) (hn : n < 3520) (hoff : off = ![n]) {inb h1 hp} {Q : BitVec 32 → sProp 𝕄} :
    tables m c ⊢ iprop((tables m c -∗ Q (unitOf m n)) -∗ WP c (smemLoad tbS (Rect.unit (s := S3520) off S1.size inb) h1 hp) Q) := by
  unfold tables
  iintro ⟨H0, H1, H2, H3⟩ Hk
  iapply (wp_word c tbS (tbl m 3) (unitOf m n) n hoff ?_) $$ H3
  · intro y hy; unfold unitOf
    refine Eq.trans ?_ (dif_pos hn).symm
    exact congrArg (tbl m 3 : S3520.Idx → BitVec 32) (one_idx y _ (hy.trans rfl))
  iintro H3
  iapply Hk
  isplitl [H0]; · iexact H0
  isplitl [H1]; · iexact H1
  isplitl [H2]; · iexact H2
  iexact H3

theorem wp_first (c : Dev nD) {off : Fin 1 → ℕ} (n : ℕ) (hn : n < 110) (hoff : off = ![n]) {inb h1 hp} {Q : BitVec 32 → sProp 𝕄} :
    tables m c ⊢ iprop((tables m c -∗ Q (firstOf m n)) -∗ WP c (smemLoad tbF (Rect.unit (s := S110) off S1.size inb) h1 hp) Q) := by
  unfold tables
  iintro ⟨H0, H1, H2, H3⟩ Hk
  iapply (wp_word c tbF (tbl m 1) (firstOf m n) n hoff ?_) $$ H1
  · intro y hy; unfold firstOf
    refine Eq.trans ?_ (dif_pos hn).symm
    exact congrArg (tbl m 1 : S110.Idx → BitVec 32) (one_idx y _ (hy.trans rfl))
  iintro H1
  iapply Hk
  isplitl [H0]; · iexact H0
  isplitl [H1]; · iexact H1
  isplitl [H2]; · iexact H2
  iexact H3

theorem wp_live (c : Dev nD) {inb h1 hp} {Q : BitVec 32 → sProp 𝕄} :
    tables m c ⊢ iprop((tables m c -∗ Q (liveTiles m)) -∗ WP c (smemLoad tbN (Rect.unit (s := S1) ![0] S1.size inb) h1 hp) Q) := by
  unfold tables
  iintro ⟨H0, H1, H2, H3⟩ Hk
  iapply (wp_word c tbN (tbl m 2) (liveTiles m) 0 rfl ?_) $$ H2
  · intro y hy
    exact congrArg (tbl m 2 : S1.Idx → BitVec 32) (one_idx y _ (hy.trans rfl))
  iintro H2
  iapply Hk
  isplitl [H0]; · iexact H0
  isplitl [H1]; · iexact H1
  isplitl [H2]; · iexact H2
  iexact H3

/-- Passing a check that holds. -/
theorem wp_check (c : Dev nD) {P : Prop} {d : Decidable P} (h : P) {Q : PLift P → sProp 𝕄} :
    Q ⟨h⟩ ⊢ WP c (Prog.lift (TpuEff.assume P d)) Q := by
  iintro H
  iapply (wp_assume Variants.none (c : Thread nD τ) none Set.univ h)
  rw [wp_ret]
  imodintro; iexact H

/-- What a copy lands is the tile's rows. -/
theorem landed_rows (c : Dev nD) (k : Fin 2) (tile : ℕ) (j : Fin 32) (fd : BufOf F c scX) :
    ∀ p ∈ win k j, (dstW ![k.val, 16 * j.val, 0] (slot_inb k j)).view.write (Elt F) fd
      ((ReadAs.same (Val := Elt F) (s := S16x1024) (e := .bf16)).apply ((srcW ![16 * (src m tile j).val, 0] (src_inb _)).view.read (Elt F) (V m c main_arg4))) Finset.univ p
        = rows m c tile p := by
  intro p hp
  have hp' := (dstW_set k j).symm ▸ hp
  obtain ⟨x, -, rfl⟩ := Finset.mem_map.mp hp'
  rw [View.write_emb_of_mem _ _ (Finset.mem_univ x)]
  have hx : x = ValueIdx.ix2 (x 0) (x 1) := by funext a; fin_cases a <;> rfl
  have hr : Shape.reshapeEquiv squeezes_S1x16x1024_S16x1024.numel_eq x = ValueIdx.ix3 (⟨0, Nat.one_pos⟩ : Fin 1) (x 0) (x 1) := by
    rw [hx]; exact ValueIdx.reshapeEquiv_ix2_1ab _ _ _
  have h0 : (x 0).val < 16 := (x 0).isLt
  have hj := j.isLt
  have e1 : (((dstW ![k.val, 16 * j.val, 0] (slot_inb k j)).view.emb x : S2x512x1024.Idx) 1).val = 16 * j.val + (x 0).val := by
    show 16 * j.val + 1 * ((Shape.reshapeEquiv squeezes_S1x16x1024_S16x1024.numel_eq x : S1x16x1024.Idx) 1).val = _
    rw [hr]; show 16 * j.val + 1 * (x 0).val = _; omega
  have e2 : (((dstW ![k.val, 16 * j.val, 0] (slot_inb k j)).view.emb x : S2x512x1024.Idx) 2).val = (x 1).val := by
    show 0 + 1 * ((Shape.reshapeEquiv squeezes_S1x16x1024_S16x1024.numel_eq x : S1x16x1024.Idx) 2).val = _
    rw [hr]; show 0 + 1 * (x 1).val = _; omega
  show (V m c main_arg4 : S49152x1024.Idx → Elt F .bf16) ((srcW ![16 * (src m tile j).val, 0] (src_inb _)).view.emb x)
    = (V m c main_arg4 : S49152x1024.Idx → Elt F .bf16) (ValueIdx.ix2 _ _)
  refine congrArg _ ?_
  have hq : (⟨(((dstW ![k.val, 16 * j.val, 0] (slot_inb k j)).view.emb x : S2x512x1024.Idx) 1).val / 16, by rw [e1]; omega⟩ : Fin 32) = j := by
    apply Fin.ext; show _ / 16 = _; rw [e1]; omega
  funext a; apply Fin.ext; fin_cases a
  · show 16 * (src m tile j).val + 1 * (x 0).val = 16 * (src m tile ⟨_ / 16, _⟩).val + _ % 16
    rw [hq, e1]; omega
  · show 0 + 1 * (x 1).val = _
    exact (by omega : 0 + 1 * (x 1).val = (x 1).val).trans e2.symm

/-- Issuing copy `j` of a tile. -/
theorem wp_copy (c : Dev nD) (k : Fin 2) (tile j : ℕ) (hj : j < 32) {offs : Fin 2 → ℕ} {offd : Fin 3 → ℕ} {sm : DmaSem sig}
    (hs : offs = ![16 * (src m tile ⟨j, hj⟩).val, 0]) (hd : offd = ![k.val, 16 * j, 0]) (hsm : sm = semOf k) {is id ws wd hsem} {Q : PUnit → sProp 𝕄} :
    FILL m c k tile j ⊢ iprop((FILL m c k tile (j + 1) -∗ Q ⟨⟩)
      -∗ WP c (Prog.lift (TpuEff.enqueueDma (srcW offs is) (.here (dstW offd id)) (.dma sm) ws wd hsem)) Q) := by
  subst hs hd hsm
  unfold FILL
  have hi : iprop(REST m c k tile ⟨j, hj⟩ ∗ bigSep (Transfers.issued j) (REST m c k tile)) ⊢ bigSep (Transfers.issued (j + 1)) (REST m c k tile) :=
    Entails.of_eq (by rw [Transfers.issued_succ hj, bigSep_insert (Transfers.not_mem_issued hj)]; rfl)
  rw [Transfers.bigSep_pending_step _ j hj]
  unfold FREE
  iintro ⟨HB, ⟨⟨⟨%fd, Hd⟩, Hx⟩, HP⟩, HR⟩ Hk
  ihave Hx' := (pointsTo_split_subset (Finset.subset_univ (swin (src m tile ⟨j, hj⟩)))).1 $$ Hx
  icases Hx' with ⟨Hs, Hrest⟩
  iapply (Transfers.wp_dmaBatch (EC (F := F)) Variants.none (c : Thread nD τ) none (src := srcW ![16 * (src m tile ⟨j, hj⟩).val, 0] is)
    (dst := dstW ![k.val, 16 * j, 0] id) (Sd := win k ⟨j, hj⟩) () NB rfl (dstW_set k ⟨j, hj⟩).subset (D := DELIV m c k tile) (j := j) (u := 0) hj (Nat.zero_le _) ?_) $$ [Hs Hd HB]
  · unfold DELIV
    rw [show (srcW ![16 * (src m tile ⟨j, hj⟩).val, 0] is).view.set = swin (src m tile ⟨j, hj⟩) from srcW_set _]
    exact sep_mono (Entails.of_eq (pointsTo_congr (landed_rows m c k tile ⟨j, hj⟩ fd))) .rfl
  · isplitl [Hs]; · rw [show (srcW ![16 * (src m tile ⟨j, hj⟩).val, 0] is).view.set = swin (src m tile ⟨j, hj⟩) from srcW_set _]; iexact Hs
    isplitl [Hd]; · iexact Hd
    iexact HB
  iintro HB
  rw [wp_ret]
  imodintro
  iapply Hk
  isplitl [HB]; · iexact HB
  isplitl [HP]; · iexact HP
  iapply hi
  isplitl [Hrest]; · unfold REST; iexact Hrest
  iexact HR

/-! ## Waiting -/

theorem NB_pos : 0 < NB := by unfold NB; decide

/-- A semaphore of the pair, by its offset. -/
theorem sem_eq (k : Fin 2) {off : Fin 1 → ℕ} (hoff : off = ![k.val]) {h} :
    ((cc0_scratch1.slice (Rect.unit (s := S2) off S1.size h)).squeeze S_ squeezes_S1_S_).sem = semOf k := by
  subst hoff
  have h0 : ((cc0_scratch1.slice (Rect.unit (s := S2) ![0] S1.size (by decide))).squeeze S_ squeezes_S1_S_).sem = semOf 0 := by decide +kernel
  have h1 : ((cc0_scratch1.slice (Rect.unit (s := S2) ![1] S1.size (by decide))).squeeze S_ squeezes_S1_S_).sem = semOf 1 := by decide +kernel
  revert h
  match k with
  | 0 => exact fun _ => h0
  | 1 => exact fun _ => h1

/-- The copies of a tile all issued, the first `u` awaited. -/
def AWAIT (c : Dev nD) (k : Fin 2) (tile u : ℕ) : sProp 𝕄 :=
  iprop(Transfers.Batch (EC (F := F)) (c : Thread nD τ) (.dma (semOf k)) () NB (DELIV m c k tile) 32 (u * NB) ∗ ∃ W, owes (c : Thread nD τ) 0 W)

/-- Awaiting a copy that is not the last. -/
theorem wp_arrive (c : Dev nD) (k : Fin 2) (tile u : ℕ) (hu : u < 31) {offs : Fin 2 → ℕ} {offd : Fin 3 → ℕ} {sm : DmaSem sig}
    (hsm : sm = semOf k) {is id ws wd} {Q : PUnit → sProp 𝕄} :
    AWAIT m c k tile u ⊢ iprop((AWAIT m c k tile (u + 1) -∗ Q ⟨⟩) -∗ WP c (Prog.lift (TpuEff.waitDma2 sm (srcW offs is) (dstW offd id) ws wd)) Q) := by
  subst hsm
  unfold AWAIT
  iintro ⟨HB, ⟨%W, HO⟩⟩ Hk
  iapply (Transfers.wp_waitBatch (EC (F := F)) Variants.none (c : Thread nD τ) none (srcw := srcW offs is) (dstw := dstW offd id) () (N := NB) rfl
    (D := DELIV m c k tile) (u := u * NB) (by have : (u + 1) * NB ≤ 31 * NB := Nat.mul_le_mul_right _ hu
                                              rw [Nat.succ_mul] at this
                                              have := NB_pos; omega)) $$ [HB HO]
  · isplitl [HB]; · iexact HB
    iexact HO
  iintro ⟨HB, HO⟩
  rw [wp_ret]
  imodintro
  iapply Hk
  isplitl [HB]; · rw [Nat.succ_mul]; iexact HB
  iexists _; iexact HO

/-- Awaiting the last. -/
theorem wp_arrive_last (c : Dev nD) (k : Fin 2) (tile : ℕ) {offs : Fin 2 → ℕ} {offd : Fin 3 → ℕ} {sm : DmaSem sig}
    (hsm : sm = semOf k) {is id ws wd} {Q : PUnit → sProp 𝕄} :
    AWAIT m c k tile 31 ⊢ iprop((iprop(bigSep Finset.univ (DELIV m c k tile) ∗ semVal ((c : Thread nD τ), SemLoc.dma (semOf k)) 0 ∗ ∃ W, owes (c : Thread nD τ) 0 W) -∗ Q ⟨⟩)
      -∗ WP c (Prog.lift (TpuEff.waitDma2 sm (srcW offs is) (dstW offd id) ws wd)) Q) := by
  subst hsm
  unfold AWAIT
  iintro ⟨HB, ⟨%W, HO⟩⟩ Hk
  iapply (Transfers.wp_waitBatchLast (EC (F := F)) Variants.none (c : Thread nD τ) none (srcw := srcW offs is) (dstw := dstW offd id) () (N := NB) rfl NB_pos
    (D := DELIV m c k tile) (u := 31 * NB) (by omega)) $$ [HB HO]
  · isplitl [HB]; · iexact HB
    iexact HO
  iintro ⟨HD, HS, HO⟩
  rw [wp_ret]
  imodintro
  iapply Hk
  isplitl [HD]; · iexact HD
  isplitl [HS]; · iexact HS
  iexists _; iexact HO

/-! ## The words the body computes -/

/-- The slot of a point, as the body computes it. -/
def slotWord (w : BitVec 32) : BitVec 32 :=
  let v1 : BitVec 32 := Scalar.select (Scalar.cmpi .eq 2#32 0#32) 1#32 2#32
  let v2 : BitVec 32 := Scalar.remsi w v1
  Scalar.select (Scalar.andi (Scalar.xori (Scalar.cmpi .slt v2 0#32) (Scalar.cmpi .slt v1 0#32)) (Scalar.cmpi .ne v2 0#32)) (Scalar.addi v2 v1) v2

theorem slotWord_all : ∀ t : Fin 110, (slotWord (BitVec.ofNat 32 t.val)).toNat = t.val % 2 ∧ (Scalar.subi 1#32 (slotWord (BitVec.ofNat 32 t.val))).toNat = (t.val + 1) % 2 := by
  decide +kernel

/-- The slot of tile `t`. -/
abbrev slotOf (t : ℕ) : Fin 2 := ⟨t % 2, Nat.mod_lt _ (by decide)⟩

/-- A unit's word is a unit number, and its rows' offset is as the body computes it. -/
theorem off_unit (hG : Good m) (tile j : ℕ) (hj : j < 32) (ht : tile < 110) :
    (![(Scalar.muli (unitOf m (32 * tile + j)) 16#32).toNat, 0] : Fin 2 → ℕ) = ![16 * (src m tile ⟨j, hj⟩).val, 0] := by
  have h := hG.unit (32 * tile + j) (by omega)
  have e : (Scalar.muli (unitOf m (32 * tile + j)) 16#32).toNat = 16 * (src m tile ⟨j, hj⟩).val := by
    show (unitOf m (32 * tile + j) * 16#32).toNat = 16 * ((unitOf m (32 * tile + j)).toNat % 3072)
    rw [BitVec.toNat_mul, Nat.mod_eq_of_lt h]; show (_ * 16) % _ = _; omega
  rw [e]

/-- What the body checks of a unit's word. -/
theorem check_unit {P : Prop} (v : BitVec 32) (hv : v.toNat < 3072) :
    (P → 16 ∣ (Scalar.muli v 16#32).toNat) ∧
    (P → ∀ a, (![(Scalar.muli v 16#32).toNat, 0] : Fin 2 → ℕ) a + S16x1024.size a ≤ S49152x1024.size a) ∧
    (P → ∀ (hinb : ∀ a, (![(Scalar.muli v 16#32).toNat, 0] : Fin 2 → ℕ) a + S16x1024.size a ≤ S49152x1024.size a),
      (Rect.unit (s := S49152x1024) ![(Scalar.muli v 16#32).toNat, 0] S16x1024.size hinb).WholeWords (EltTy.packing .bf16)) := by
  have e : (Scalar.muli v 16#32).toNat = 16 * v.toNat := by
    show (v * 16#32).toNat = _
    rw [BitVec.toNat_mul]; show (_ * 16) % _ = _; omega
  rw [e]
  exact ⟨fun _ => ⟨_, rfl⟩, fun _ => src_inb ⟨v.toNat, hv⟩, fun _ hinb => Rect.PackedRows.wholeWords
    (.inr ⟨le_refl 2, rfl, .inl ⟨Dvd.dvd.mul_right (by decide) _, (by decide : EltTy.packing .bf16 ∣ 16)⟩⟩)⟩

/-! ## The same steps before a rest -/

theorem unit_then {α : Type} {Q : α → sProp 𝕄} (c : Dev nD) {off : Fin 1 → ℕ} (n : ℕ) (hn : n < 3520) (hoff : off = ![n]) {inb h1 hp}
    {k : BitVec 32 → Prog (TpuEff nD τ sig (Elt F) Λ₀ .tc) α} :
    tables m c ⊢ iprop((tables m c -∗ WP c (k (unitOf m n)) Q) -∗ WP c (smemLoad tbS (Rect.unit (s := S3520) off S1.size inb) h1 hp >>= k) Q) := by
  unfold WP; rw [wp_bind]; exact wp_unit m c n hn hoff (Q := fun a => WP c (k a) Q)

theorem check_then {α : Type} {Q : α → sProp 𝕄} (c : Dev nD) {P : Prop} {d : Decidable P} (h : P) {k : PLift P → Prog (TpuEff nD τ sig (Elt F) Λ₀ .tc) α} :
    WP c (k ⟨h⟩) Q ⊢ WP c (Prog.lift (TpuEff.assume P d) >>= k) Q := by
  unfold WP; rw [wp_bind]; exact wp_check (F := F) c h (Q := fun a => WP c (k a) Q)

theorem copy_then {α : Type} {Q : α → sProp 𝕄} (c : Dev nD) (k : Fin 2) (tile j : ℕ) (hj : j < 32) {offs : Fin 2 → ℕ} {offd : Fin 3 → ℕ} {sm : DmaSem sig}
    (hs : offs = ![16 * (src m tile ⟨j, hj⟩).val, 0]) (hd : offd = ![k.val, 16 * j, 0]) (hsm : sm = semOf k) {is id ws wd hsem}
    {r : PUnit → Prog (TpuEff nD τ sig (Elt F) Λ₀ .tc) α} :
    FILL m c k tile j ⊢ iprop((FILL m c k tile (j + 1) -∗ WP c (r ⟨⟩) Q)
      -∗ WP c (Prog.lift (TpuEff.enqueueDma (srcW offs is) (.here (dstW offd id)) (.dma sm) ws wd hsem) >>= r) Q) := by
  unfold WP; rw [wp_bind]; exact wp_copy m c k tile j hj hs hd hsm (Q := fun a => WP c (r a) Q)

end Cert.KernelIdeal.Ffn

end
-- ==== Proof.Slots.lean ====
module

public import proofs.«01_k».proof.Proof.Gather
public import Idealize.SL.ProofMode.BigOp

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The rows of a slot -/

theorem mem_win (k : Fin 2) (j : Fin 32) (p : S2x512x1024.Idx) : p ∈ win k j ↔ (p 0).val = k.val ∧ (p 1).val / 16 = j.val := by
  have h1 : (p 1).val < 512 := (p 1).isLt
  have h2 : (p 2).val < 1024 := (p 2).isLt
  rw [win, LoadRect.mem_set]
  constructor
  · intro h
    obtain ⟨x0, e0⟩ := h 0
    obtain ⟨x1, e1⟩ := h 1
    have hx0 : x0 < 1 := e0.1
    have hx1 : x1 < 16 := e1.1
    have e0' : (p 0).val = k.val + 1 * x0 := e0.2
    have e1' : (p 1).val = 16 * j.val + 1 * x1 := e1.2
    omega
  · rintro ⟨e0, e1⟩ a
    fin_cases a
    · exact ⟨0, (by decide : 0 < 1), (by omega : (p 0).val = k.val + 1 * 0)⟩
    · exact ⟨(p 1).val % 16, (Nat.mod_lt _ (by decide) : _ < 16), (by omega : (p 1).val = 16 * j.val + 1 * ((p 1).val % 16))⟩
    · exact ⟨(p 2).val, h2, (by omega : (p 2).val = 0 + 1 * (p 2).val)⟩

theorem win_disjoint (k : Fin 2) : ∀ t ∈ (Finset.univ : Finset (Fin 32)), ∀ t' ∈ (Finset.univ : Finset (Fin 32)), t ≠ t' → Disjoint (win k t) (win k t') := by
  intro t _ t' _ h
  rw [Finset.disjoint_left]
  intro p hp hq
  rw [mem_win] at hp hq
  exact h (Fin.ext (hp.2.symm.trans hq.2))

/-- The rows of slot `k`. -/
def slot (k : Fin 2) : Finset S2x512x1024.Idx := Finset.univ.biUnion (win k)

theorem mem_slot (k : Fin 2) (p : S2x512x1024.Idx) : p ∈ slot k ↔ (p 0).val = k.val := by
  have h1 : (p 1).val < 512 := (p 1).isLt
  rw [slot, Finset.mem_biUnion]
  constructor
  · rintro ⟨j, -, hj⟩; exact ((mem_win k j p).1 hj).1
  · intro h; exact ⟨⟨(p 1).val / 16, by omega⟩, Finset.mem_univ _, (mem_win k _ p).2 ⟨h, rfl⟩⟩

theorem slot_disjoint : ∀ t ∈ (Finset.univ : Finset (Fin 2)), ∀ t' ∈ (Finset.univ : Finset (Fin 2)), t ≠ t' → Disjoint (slot t) (slot t') := by
  intro t _ t' _ h
  rw [Finset.disjoint_left]
  intro p hp hq
  rw [mem_slot] at hp hq
  exact h (Fin.ext (hp.symm.trans hq))

theorem slots_univ : (Finset.univ : Finset (Fin 2)).biUnion slot = (Finset.univ : Finset S2x512x1024.Idx) := by
  ext p
  have h0 : (p 0).val < 2 := (p 0).isLt
  simp only [Finset.mem_biUnion, Finset.mem_univ, true_and, iff_true]
  exact ⟨⟨(p 0).val, h0⟩, (mem_slot _ _).2 rfl⟩

/-! ## A slot through its copies -/

theorem bigSep_unzip {I : Type} (s : Finset I) (Φ Ψ : I → sProp 𝕄) : bigSep s (fun i => iprop(Φ i ∗ Ψ i)) ⊢ iprop(bigSep s Φ ∗ bigSep s Ψ) :=
  Entails.of_eq (bigSep_sep s Φ Ψ)
theorem bigSep_zip {I : Type} (s : Finset I) (Φ Ψ : I → sProp 𝕄) : iprop(bigSep s Φ ∗ bigSep s Ψ) ⊢ bigSep s (fun i => iprop(Φ i ∗ Ψ i)) :=
  Entails.of_eq (bigSep_sep s Φ Ψ).symm

theorem slot_split (c : Dev nD) (k : Fin 2) (f : BufOf F c scX) :
    (scX.view.loc (c : Thread nD τ) ↦[slot k]{fullShare} f : sProp 𝕄) = bigSep Finset.univ fun j => scX.view.loc (c : Thread nD τ) ↦[win k j]{fullShare} f :=
  pointsTo_biUnion (ℓ := scX.view.loc (c : Thread nD τ)) Finset.univ (win k) (win_disjoint k)

theorem slots_split (c : Dev nD) (f : BufOf F c scX) :
    (hbPt c scX f : sProp 𝕄) = iprop((scX.view.loc (c : Thread nD τ) ↦[slot 0]{fullShare} f) ∗ (scX.view.loc (c : Thread nD τ) ↦[slot 1]{fullShare} f)) := by
  have h : (scX.view.loc (c : Thread nD τ) ↦[Finset.univ.biUnion slot]{fullShare} f : sProp 𝕄) = bigSep Finset.univ fun k => scX.view.loc (c : Thread nD τ) ↦[slot k]{fullShare} f :=
    pointsTo_biUnion (ℓ := scX.view.loc (c : Thread nD τ)) Finset.univ slot slot_disjoint
  exact ((by rw [slots_univ] : (hbPt c scX f : sProp 𝕄) = _).trans h).trans (bigSep_fin_two _)

/-- A slot's rows at some contents and the read shares of its copies. -/
def LOOSE (c : Dev nD) (k : Fin 2) : sProp 𝕄 :=
  iprop((∃ f, scX.view.loc (c : Thread nD τ) ↦[slot k]{fullShare} f) ∗ bigSep Finset.univ (fun j : Fin 32 => hbX.view.loc (c : Thread nD τ) ↦{tok k j} V m c main_arg4))

theorem free_of (c : Dev nD) (k : Fin 2) (j : Fin 32) (f : BufOf F c scX) :
    iprop((scX.view.loc (c : Thread nD τ) ↦[win k j]{fullShare} f) ∗ hbX.view.loc (c : Thread nD τ) ↦{tok k j} V m c main_arg4) ⊢ FREE m c k j := by
  unfold FREE
  iintro ⟨H1, H2⟩
  isplitl [H1]; · iexists f; iexact H1
  iexact H2

theorem loose_free (c : Dev nD) (k : Fin 2) : LOOSE m c k ⊢ bigSep Finset.univ (FREE m c k) := by
  unfold LOOSE
  iintro ⟨⟨%f, Hf⟩, HT⟩
  ihave Hf' := (Entails.of_eq (slot_split c k f)) $$ Hf
  ihave H := (bigSep_zip Finset.univ (fun j : Fin 32 => scX.view.loc (c : Thread nD τ) ↦[win k j]{fullShare} f) (fun j : Fin 32 => hbX.view.loc (c : Thread nD τ) ↦{tok k j} V m c main_arg4)) $$ [Hf' HT]
  · isplitl [Hf']; · iexact Hf'
    iexact HT
  have e : bigSep Finset.univ (fun j : Fin 32 => iprop((scX.view.loc (c : Thread nD τ) ↦[win k j]{fullShare} f) ∗ hbX.view.loc (c : Thread nD τ) ↦{tok k j} V m c main_arg4)) ⊢ bigSep Finset.univ (FREE m c k) :=
    bigSep_mono fun j _ => free_of m c k j f
  iapply e $$ H

theorem free_loose (c : Dev nD) (k : Fin 2) : bigSep Finset.univ (FREE m c k) ⊢ LOOSE m c k := by
  unfold LOOSE FREE
  iintro H
  ihave H' := (bigSep_unzip Finset.univ (fun j : Fin 32 => iprop(∃ f, scX.view.loc (c : Thread nD τ) ↦[win k j]{fullShare} f)) (fun j : Fin 32 => hbX.view.loc (c : Thread nD τ) ↦{tok k j} V m c main_arg4)) $$ H
  icases H' with ⟨H1, H2⟩
  isplitl [H1]
  · ihave H1' := (bigSep_exists_pi (Finset.univ : Finset (Fin 32)) (fun (j : Fin 32) f => scX.view.loc (c : Thread nD τ) ↦[win k j]{fullShare} f)) $$ H1
    icases H1' with ⟨%fs, H1'⟩
    ihave H1'' := (pointsTo_biUnion_join (ℓ := scX.view.loc (c : Thread nD τ)) Finset.univ (win k) fs (fs 0) (win_disjoint k)) $$ H1'
    icases H1'' with ⟨%g, -, Hg⟩
    iexists g
    iexact Hg
  iexact H2

theorem idle_of (c : Dev nD) (k : Fin 2) : iprop(semVal ((c : Thread nD τ), SemLoc.dma (semOf k)) 0 ∗ LOOSE m c k) ⊢ IDLE m c k := by
  unfold IDLE
  iintro ⟨HS, HL⟩
  isplitl [HS]; · iexact HS
  iapply (loose_free m c k) $$ HL

/-- Beginning to fill a slot. -/
theorem idle_to_fill (c : Dev nD) (k : Fin 2) (tile : ℕ) : IDLE m c k ⊢ (iprop(|={Set.univ}=> FILL m c k tile 0) : sProp 𝕄) := by
  unfold IDLE FILL
  iintro ⟨HS, HF⟩
  imod (Transfers.batch_alloc' (Lvl := ℕ) (EC (F := F)) (c : Thread nD τ) () NB (DELIV m c k tile) (sm := .dma (semOf k)) (E := Set.univ)) $$ HS with HB
  imodintro
  isplitl [HB]; · iexact HB
  isplitl [HF]; · rw [Transfers.pending_zero]; iexact HF
  rw [Transfers.issued_zero, bigSep_empty]
  iempintro

/-- All copies issued, before the first is awaited. -/
theorem fill_to_await (c : Dev nD) (k : Fin 2) (tile : ℕ) :
    iprop(FILL m c k tile 32 ∗ ∃ W, owes (c : Thread nD τ) 0 W) ⊢ iprop(AWAIT m c k tile 0 ∗ bigSep Finset.univ (REST m c k tile)) := by
  unfold FILL AWAIT
  iintro ⟨⟨HB, -, HR⟩, HW⟩
  isplitl [HB HW]
  · isplitl [HB]; · rw [Nat.zero_mul]; iexact HB
    iexact HW
  rw [show (Finset.univ : Finset (Fin 32)) = Transfers.issued 32 from (by decide)]
  iexact HR

/-- A slot filled: its rows hold the tile's. -/
theorem landed (c : Dev nD) (k : Fin 2) (tile : ℕ) :
    iprop(bigSep Finset.univ (DELIV m c k tile) ∗ bigSep Finset.univ (REST m c k tile))
      ⊢ iprop((scX.view.loc (c : Thread nD τ) ↦[slot k]{fullShare} rows m c tile) ∗ bigSep Finset.univ (fun j : Fin 32 => hbX.view.loc (c : Thread nD τ) ↦{tok k j} V m c main_arg4)) := by
  unfold DELIV
  iintro ⟨HD, HR⟩
  ihave HD' := (bigSep_unzip Finset.univ (fun j : Fin 32 => scX.view.loc (c : Thread nD τ) ↦[win k j]{fullShare} rows m c tile) (fun j : Fin 32 => hbX.view.loc (c : Thread nD τ) ↦[swin (src m tile j)]{tok k j} V m c main_arg4)) $$ HD
  icases HD' with ⟨H1, H2⟩
  isplitl [H1]
  · iapply (Entails.of_eq (slot_split c k (rows m c tile)).symm) $$ H1
  ihave H := (bigSep_zip Finset.univ (fun j : Fin 32 => hbX.view.loc (c : Thread nD τ) ↦[swin (src m tile j)]{tok k j} V m c main_arg4) (REST m c k tile)) $$ [H2 HR]
  · isplitl [H2]; · iexact H2
    iexact HR
  have e : bigSep Finset.univ (fun j : Fin 32 => iprop((hbX.view.loc (c : Thread nD τ) ↦[swin (src m tile j)]{tok k j} V m c main_arg4) ∗ REST m c k tile j))
      ⊢ bigSep Finset.univ (fun j : Fin 32 => hbX.view.loc (c : Thread nD τ) ↦{tok k j} V m c main_arg4) :=
    bigSep_mono fun j _ => by
      unfold REST
      exact (pointsTo_split_subset (Finset.subset_univ _)).2
  iapply e $$ H

/-! ## The ends of the run -/

/-- What is left of the array's ownership once every copy into slot `k` has its read share. -/
abbrev left (k : Fin 2) : PosShare TreeShare := Transfers.shareDrop (Transfers.shareTok fullShare 2 k) 32

/-- What is left of the array's ownership once every copy has its read share. -/
def LEFT (c : Dev nD) : sProp 𝕄 :=
  iprop((hbX.view.loc (c : Thread nD τ) ↦{Transfers.shareDrop fullShare 2} V m c main_arg4)
    ∗ (hbX.view.loc (c : Thread nD τ) ↦{left 0} V m c main_arg4) ∗ (hbX.view.loc (c : Thread nD τ) ↦{left 1} V m c main_arg4))

theorem toks_two (c : Dev nD) :
    (hbPt c hbX (V m c main_arg4) : sProp 𝕄) ⊣⊢ iprop((hbX.view.loc (c : Thread nD τ) ↦{Transfers.shareDrop fullShare 2} V m c main_arg4)
      ∗ (hbX.view.loc (c : Thread nD τ) ↦{Transfers.shareTok fullShare 2 0} V m c main_arg4) ∗ (hbX.view.loc (c : Thread nD τ) ↦{Transfers.shareTok fullShare 2 1} V m c main_arg4)) :=
  have e := bigSep_fin_two (fun k : Fin 2 => (hbX.view.loc (c : Thread nD τ) ↦{Transfers.shareTok fullShare 2 k} V m c main_arg4 : sProp 𝕄))
  ⟨(Transfers.pointsTo_toks_split fullShare 2).trans (sep_mono .rfl (Entails.of_eq e)), (sep_mono .rfl (Entails.of_eq e.symm)).trans (Transfers.pointsTo_toks_join fullShare 2)⟩

theorem deal (c : Dev nD) : iprop((∃ f, hbPt c scX f) ∗ hbPt c hbX (V m c main_arg4)) ⊢ iprop(LEFT m c ∗ LOOSE m c 0 ∗ LOOSE m c 1) := by
  unfold LEFT LOOSE
  iintro ⟨⟨%f, Hf⟩, HX⟩
  ihave HX' := (toks_two m c).1 $$ HX
  icases HX' with ⟨Hd, H0, H1⟩
  ihave Hf' := (Entails.of_eq (slots_split c f)) $$ Hf
  icases Hf' with ⟨Hf0, Hf1⟩
  ihave H0' := (Transfers.pointsTo_toks_split (Transfers.shareTok fullShare 2 0) 32) $$ H0
  icases H0' with ⟨H0d, H0⟩
  ihave H1' := (Transfers.pointsTo_toks_split (Transfers.shareTok fullShare 2 1) 32) $$ H1
  icases H1' with ⟨H1d, H1⟩
  isplitl [Hd H0d H1d]
  · isplitl [Hd]; · iexact Hd
    isplitl [H0d]; · iexact H0d
    iexact H1d
  isplitl [Hf0 H0]
  · isplitl [Hf0]; · iexists f; iexact Hf0
    iexact H0
  isplitl [Hf1]; · iexists f; iexact Hf1
  iexact H1

theorem undeal (c : Dev nD) : iprop(LEFT m c ∗ LOOSE m c 0 ∗ LOOSE m c 1) ⊢ iprop((∃ f, hbPt c scX f) ∗ hbPt c hbX (V m c main_arg4)) := by
  unfold LEFT LOOSE
  iintro ⟨⟨Hd, H0d, H1d⟩, ⟨⟨%f, Hf0⟩, H0⟩, ⟨%g, Hf1⟩, H1⟩
  isplitl [Hf0 Hf1]
  · iexists (fun p : S2x512x1024.Idx => if (p 0).val = 0 then f p else g p)
    iapply (Entails.of_eq (slots_split c _).symm)
    isplitl [Hf0]
    · iapply (Entails.of_eq (pointsTo_congr (g := fun p : S2x512x1024.Idx => if (p 0).val = 0 then f p else g p) fun p hp => (if_pos ((mem_slot 0 p).1 hp)).symm)) $$ Hf0
    · iapply (Entails.of_eq (pointsTo_congr (g := fun p : S2x512x1024.Idx => if (p 0).val = 0 then f p else g p) fun p hp => (if_neg (by
        have := (mem_slot 1 p).1 hp; rw [this]; decide)).symm)) $$ Hf1
  iapply (toks_two m c).2
  isplitl [Hd]; · iexact Hd
  isplitl [H0d H0]
  · iapply (Transfers.pointsTo_toks_join (Transfers.shareTok fullShare 2 0) 32)
    isplitl [H0d]; · iexact H0d
    iexact H0
  iapply (Transfers.pointsTo_toks_join (Transfers.shareTok fullShare 2 1) 32)
  isplitl [H1d]; · iexact H1d
  iexact H1

end Cert.KernelIdeal.Ffn

end
-- ==== Proof.Words.lean ====
module

public import proofs.«01_k».proof.Proof.Slots

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The conditions the body branches on -/

theorem guard_iff (b : BitVec 1) : Scalar.cmpi .ne (Scalar.extui b : BitVec 32) 0#32 = 1#1 ↔ b = 1#1 := by
  revert b; decide

theorem ofBool_one (b : Bool) : BitVec.ofBool b = 1#1 ↔ b = true := by cases b <;> decide

variable (i : grid0.Coords)

theorem point_lt : (i 0).val < 110 := (i 0).isLt

theorem cond1_iff : k0_cond1 i = 1#1 ↔ (i 0).val = 0 := by
  have h := point_lt i
  unfold k0_cond1
  rw [guard_iff]
  show BitVec.ofBool (BitVec.ofNat 32 (i 0).val == 0#32) = 1#1 ↔ _
  rw [ofBool_one, beq_iff_eq]
  constructor
  · intro e
    have := congrArg BitVec.toNat e
    rw [BitVec.toNat_ofNat, Nat.mod_eq_of_lt (by omega)] at this
    exact this
  · intro e; rw [e]

theorem toInt_small (v : BitVec 32) (h : v.toNat ≤ 110) : v.toInt = v.toNat := by
  rw [BitVec.toInt_eq_toNat_of_lt (by omega)]
theorem toNat_point : (BitVec.ofNat 32 (i 0).val).toNat = (i 0).val := by
  have h := point_lt i
  rw [BitVec.toNat_ofNat, Nat.mod_eq_of_lt (by omega)]
theorem toNat_next : (BitVec.ofNat 32 (i 0).val + 1#32).toNat = (i 0).val + 1 := by
  have h := point_lt i
  rw [BitVec.toNat_add, toNat_point]; show ((i 0).val + 1) % _ = _; omega

theorem cond2_iff (v : BitVec 32) (hv : v.toNat ≤ 110) : k0_cond2 i v = 1#1 ↔ (i 0).val + 1 < v.toNat := by
  have h := point_lt i
  unfold k0_cond2
  rw [guard_iff]
  show BitVec.ofBool ((BitVec.ofNat 32 (i 0).val + 1#32).slt v) = 1#1 ↔ _
  rw [ofBool_one, BitVec.slt_iff_toInt_lt, toInt_small v hv, toInt_small _ (by rw [toNat_next]; omega), toNat_next]
  omega

theorem cond3_iff (v : BitVec 32) (hv : v.toNat ≤ 110) : k0_cond3 i v = 1#1 ↔ (i 0).val < v.toNat := by
  have h := point_lt i
  unfold k0_cond3
  rw [guard_iff]
  show BitVec.ofBool ((BitVec.ofNat 32 (i 0).val).slt v) = 1#1 ↔ _
  rw [ofBool_one, BitVec.slt_iff_toInt_lt, toInt_small v hv, toInt_small _ (by rw [toNat_point]; omega), toNat_point]
  omega

theorem cond5_iff (v : BitVec 32) (hv : v.toNat ≤ 110) : k0_cond5 i v = 1#1 ↔ v.toNat ≤ (i 0).val := by
  have h := point_lt i
  unfold k0_cond5
  rw [guard_iff]
  show BitVec.ofBool (v.sle (BitVec.ofNat 32 (i 0).val)) = 1#1 ↔ _
  rw [ofBool_one, BitVec.sle_iff_toInt_le, toInt_small v hv, toInt_small _ (by rw [toNat_point]; omega), toNat_point]
  omega

/-! ## The offsets -/

/-- The unit `j` of the next tile. -/
theorem next_unit (j : ℕ) (hj : j < 32) :
    (![(Scalar.indexCast (Scalar.addi (Scalar.muli (Scalar.addi (BitVec.ofNat 32 (i 0).val) 1#32) 32#32) (BitVec.ofNat 32 j))).toNat] : Fin 1 → ℕ)
      = ![32 * ((i 0).val + 1) + j] := by
  have h := point_lt i
  have e : (Scalar.indexCast (Scalar.addi (Scalar.muli (Scalar.addi (BitVec.ofNat 32 (i 0).val) 1#32) 32#32) (BitVec.ofNat 32 j))).toNat = 32 * ((i 0).val + 1) + j := by
    show ((BitVec.ofNat 32 (i 0).val + 1#32) * 32#32 + BitVec.ofNat 32 j).toNat = _
    rw [BitVec.toNat_add, BitVec.toNat_mul, toNat_next, BitVec.toNat_ofNat]
    show (((i 0).val + 1) * 32 % _ + j % _) % _ = _
    omega
  rw [e]

theorem cur_slot : (slotWord (BitVec.ofNat 32 (i 0).val)).toNat = (slotOf (i 0).val).val := (slotWord_all ⟨(i 0).val, point_lt i⟩).1
theorem next_slot : (Scalar.subi 1#32 (slotWord (BitVec.ofNat 32 (i 0).val))).toNat = (slotOf ((i 0).val + 1)).val := (slotWord_all ⟨(i 0).val, point_lt i⟩).2

theorem next_sem_off : (![(Scalar.subi 1#32 (slotWord (BitVec.ofNat 32 (i 0).val))).toNat] : Fin 1 → ℕ) = ![(slotOf ((i 0).val + 1)).val] := by rw [next_slot]
theorem cur_sem_off : (![(slotWord (BitVec.ofNat 32 (i 0).val)).toNat] : Fin 1 → ℕ) = ![(slotOf (i 0).val).val] := by rw [cur_slot]
theorem next_dst_off (j : ℕ) : (![(Scalar.subi 1#32 (slotWord (BitVec.ofNat 32 (i 0).val))).toNat, 16 * j, 0] : Fin 3 → ℕ) = ![(slotOf ((i 0).val + 1)).val, 16 * j, 0] := by rw [next_slot]

theorem next_inb (j : ℕ) (hj : j < 32) (hi : (i 0).val + 1 < 110) :
    ∀ a, (![(Scalar.indexCast (Scalar.addi (Scalar.muli (Scalar.addi (BitVec.ofNat 32 (i 0).val) 1#32) 32#32) (BitVec.ofNat 32 j))).toNat] : Fin 1 → ℕ) a + S1.size a ≤ S3520.size a := by
  rw [next_unit i j hj]
  intro a; fin_cases a
  show 32 * ((i 0).val + 1) + j + 1 ≤ 3520
  omega

/-- The bounds the body checks before it reads the next tile's units. -/
theorem check_words (v : BitVec 32) (hv : v.toNat ≤ 110) : k0_chk33 i v := by
  have H : ∀ h : k0_cond2 i v = 1#1, (i 0).val + 1 < 110 := fun h => by have := (cond2_iff i v hv).1 h; omega
  unfold k0_chk33
  repeat' apply And.intro
  all_goals exact fun h => next_inb i _ (by decide) (H h)

end Cert.KernelIdeal.Ffn

end
-- ==== Proof.Tables.lean ====
module

public import proofs.«01_k».proof.Defs
public import proofs.«01_k».proof.Proof.Words
public import Idealize.ShloMosaic.Lib.ValueLayout

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The precondition, read off the tables -/

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide

theorem word_eq (v w : BitVec 32) (h : IntOp.cmpi .eq v w = 1#1) : v = w := by
  simp only [IntOp.cmpi, ofBool_one, beq_iff_eq] at h; exact h

/-- A word between 0 and `k`, signed. -/
theorem word_lt (v : BitVec 32) (k : ℕ) (hk : k < 2 ^ 31) (h0 : IntOp.cmpi .sge v 0#32 = 1#1) (h1 : IntOp.cmpi .slt v (BitVec.ofNat 32 k) = 1#1) : v.toNat < k := by
  simp only [IntOp.cmpi, ofBool_one, BitVec.sle, BitVec.slt, decide_eq_true_eq, BitVec.toInt, BitVec.toNat_ofNat] at h0 h1
  have := v.isLt
  omega

/-- A word between 1 and `k`, signed. -/
theorem word_le (v : BitVec 32) (k : ℕ) (hk : k < 2 ^ 31) (h0 : IntOp.cmpi .sge v 1#32 = 1#1) (h1 : IntOp.cmpi .sle v (BitVec.ofNat 32 k) = 1#1) : 1 ≤ v.toNat ∧ v.toNat ≤ k := by
  simp only [IntOp.cmpi, ofBool_one, BitVec.sle, BitVec.slt, decide_eq_true_eq, BitVec.toInt, BitVec.toNat_ofNat] at h0 h1
  have := v.isLt
  omega

abbrev S109 : Shape := Cert.Pre_schedule_in_range.S109
def at109 (t : ℕ) (h : t < 109) : S109.Idx := fun a => ⟨t, by obtain rfl : a = 0 := Subsingleton.elim (α := Fin 1) _ _; exact h⟩

theorem join_first (x : S1.Idx → BitVec 1) (y : S109.Idx → BitVec 1) (h : Shape.Concatenates [S1, S109] S110 0) (j : S110.Idx) (hj : (j 0).val = 0) :
    concatenate S110 0 [⟨S1, x⟩, ⟨S109, y⟩] h j = x at1 :=
  concatenate_pair_apply_left (0 : Fin S110.rank) x y h j rfl at1 fun b => by
    obtain rfl : b = 0 := Subsingleton.elim (α := Fin 1) _ _; exact hj.symm

theorem join_rest (x : S1.Idx → BitVec 1) (y : S109.Idx → BitVec 1) (h : Shape.Concatenates [S1, S109] S110 0) (j : S110.Idx) (t : ℕ) (hj : (j 0).val = t) (hp : 0 < t) (ht : t < 110) :
    concatenate S110 0 [⟨S1, x⟩, ⟨S109, y⟩] h j = y (at109 (t - 1) (by omega)) :=
  concatenate_pair_apply_right (0 : Fin S110.rank) x y h j rfl rfl (at109 (t - 1) (by omega))
    (fun b hb => absurd (Subsingleton.elim (α := Fin 1) _ _) hb) (by
      show t - 1 + 1 = (j 0).val
      omega)

variable [Cert.Pre_schedule_in_range.Facts]

/-- The precondition at tile `t` and its unit `u`. -/
theorem words_of_pre (E T : S110.Idx → BitVec 32) (N : S1.Idx → BitVec 32) (U : S3520.Idx → BitVec 32) (X wg wu wd)
    (h : Cert.Pre_schedule_in_range.fn (F := F) E T N U X wg wu wd = fun _ => 1#1) (t u : ℕ) (ht : t < 110) (hu : u < 32) :
    (U (at3520 (32 * t + u) (by omega))).toNat < 3072 ∧ (E (at110 t ht)).toNat < 16
      ∧ (T (at110 t ht) = 1#32 ∨ (0 < t ∧ E (at110 t ht) = E (at110 (t - 1) (by omega)))) ∧ 1 ≤ (N at1).toNat ∧ (N at1).toNat ≤ 110 := by
  have e := congrFun h (ValueIdx.ix2 (⟨t, ht⟩ : Fin 110) (⟨u, hu⟩ : Fin 32))
  simp only [Cert.Pre_schedule_in_range.fn, Cert.Pre_schedule_in_range.fn_part1, andi, ori, cmpi, broadcastInDim, constantI, and_one, or_one] at e
  obtain ⟨eU, ⟨⟨e1, e2⟩, e3⟩, e4, e5⟩ := e
  have g1 : IntOp.cmpi .sge (E (at110 t ht)) 0#32 = 1#1 := (congrArg (fun i => IntOp.cmpi .sge (E i) 0#32) (by
    funext a; obtain rfl : a = 0 := Subsingleton.elim (α := Fin 1) _ _; rfl)).trans e1
  have g2 : IntOp.cmpi .slt (E (at110 t ht)) 16#32 = 1#1 := (congrArg (fun i => IntOp.cmpi .slt (E i) 16#32) (by
    funext a; obtain rfl : a = 0 := Subsingleton.elim (α := Fin 1) _ _; rfl)).trans e2
  have g4 : IntOp.cmpi .sge (N at1) 1#32 = 1#1 := (congrArg (fun i => IntOp.cmpi .sge (N i) 1#32) (by
    funext a; obtain rfl : a = 0 := Subsingleton.elim (α := Fin 1) _ _; rfl)).trans e4
  have g5 : IntOp.cmpi .sle (N at1) 110#32 = 1#1 := (congrArg (fun i => IntOp.cmpi .sle (N i) 110#32) (by
    funext a; obtain rfl : a = 0 := Subsingleton.elim (α := Fin 1) _ _; rfl)).trans e5
  have gU := (shapeCast_apply _ _ _ (at3520 (32 * t + u) (by omega)) (by
    rw [Shape.rowMajor_val_one, Shape.rowMajor_val_two]
    show 32 * t + u = t * 32 + u
    omega)).symm.trans eU
  obtain ⟨u1, u2⟩ := (and_one _ _).1 gU
  refine ⟨word_lt _ 3072 (by decide) u1 u2, word_lt _ 16 (by decide) g1 g2, ?_, word_le _ 110 (by decide) g4 g5⟩
  rcases e3 with e3 | e3
  · exact Or.inl (word_eq _ _ ((congrArg (fun i => IntOp.cmpi .eq (T i) 1#32) (by
      funext a; obtain rfl : a = 0 := Subsingleton.elim (α := Fin 1) _ _; rfl)).trans e3))
  · refine Or.inr ?_
    rcases Nat.eq_zero_or_pos t with h0 | hp
    · refine absurd ((join_first _ _ _ _ (show t = 0 from h0)).symm.trans e3) ?_
      show ¬ (0#1 = 1#1)
      decide
    · refine ⟨hp, ?_⟩
      have e6 := (join_rest _ _ _ _ t rfl hp ht).symm.trans e3
      have e7 := word_eq _ _ e6
      rw [extractStridedSlice_apply _ _ _ _ (at110 t ht) (by
          intro b; obtain rfl : b = 0 := Subsingleton.elim (α := Fin 1) _ _; show t = 1 + (t - 1); omega),
        extractStridedSlice_apply _ _ _ _ (at110 (t - 1) (by omega)) (by
          intro b; obtain rfl : b = 0 := Subsingleton.elim (α := Fin 1) _ _; show t - 1 = 0 + (t - 1); omega)] at e7
      exact e7

/-- The precondition gives what the run asks of the tables. -/
theorem good_of_words (h : Cert.Pre_schedule_in_range.fn (F := F) (V m 0 main_arg0) (V m 0 main_arg1) (V m 0 main_arg2) (V m 0 main_arg3) (V m 0 main_arg4) (V m 0 main_arg5) (V m 0 main_arg6) (V m 0 main_arg7) = fun _ => 1#1) : Good m := by
  have w := words_of_pre _ _ _ _ _ _ _ _ h
  have e : ∀ t (ht : t < 110), expertOf m t = (V m 0 main_arg0 : S110.Idx → BitVec 32) (at110 t ht) := fun t ht => dif_pos ht
  refine ⟨fun t ht => ?_, fun t ht => ?_, (w 0 0 (by decide) (by decide)).2.2.2.1, (w 0 0 (by decide) (by decide)).2.2.2.2, fun j hj => ?_⟩
  · rw [e t ht]; exact (w t 0 ht (by decide)).2.1
  · rcases (w t 0 ht (by decide)).2.2.1 with hf | ⟨hp, he⟩
    · exact Or.inl ((dif_pos ht).trans hf)
    · refine Or.inr ⟨hp, ?_⟩
      rw [e t ht, e (t - 1) (by omega)]; exact he
  · have hu := (w (j / 32) (j % 32) (by omega) (by omega)).1
    have q : unitOf m j = (V m 0 main_arg3 : S3520.Idx → BitVec 32) (at3520 j hj) := dif_pos hj
    rw [q]
    refine lt_of_eq_of_lt (congrArg (fun i => ((V m 0 main_arg3 : S3520.Idx → BitVec 32) i).toNat) ?_) hu
    funext a; apply Fin.ext; show j = 32 * (j / 32) + j % 32; omega

end Cert.KernelIdeal.Ffn

end
-- ==== Proof.Blocks.lean ====
module

public import proofs.«01_k».proof.Proof.Setup

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The weights a tile is computed with -/

/-- An index of a window's block, placed in the weights: layer 0, expert `e`. -/
def atExp (e : ℕ) {n k : ℕ} (y : Shape.Idx ⟨4, ![1, 1, n, k]⟩) : Shape.Idx ⟨4, ![4, 16, n, k]⟩ := fun a =>
  match a with
  | ⟨0, _⟩ => ⟨0, (by decide : 0 < 4)⟩
  | ⟨1, _⟩ => ⟨e % 16, Nat.mod_lt _ (by decide : 0 < 16)⟩
  | ⟨2, _⟩ => ⟨(y 2).val, (y 2).isLt⟩
  | ⟨3, _⟩ => ⟨(y 3).val, (y 3).isLt⟩

/-- The point's coordinate is its number. -/
theorem coords_val (t : Fin grid0.N) : (grid0.coords t 0).val = t.val := by
  revert t; decide +kernel

/-- A word of the table of experts, read where an index map reads it. -/
theorem expert_at (i : grid0.Coords) (inb : ∀ a, (![(Scalar.indexCast (BitVec.ofNat 32 (i 0).val)).toNat] : Fin 1 → ℕ) a + S1.size a ≤ S110.size a) (h1 : S1.numel = 1) :
    (tbl m).at 0 (Rect.unit (s := S110) ![(Scalar.indexCast (BitVec.ofNat 32 (i 0).val)).toNat] S1.size inb) h1 = expertOf m (i 0).val := by
  have h : (i 0).val < 110 := (i 0).isLt
  refine Eq.trans ?_ (dif_pos h).symm
  show (tbl m 0 : S110.Idx → BitVec 32) _ = (tbl m 0 : S110.Idx → BitVec 32) _
  congr 1
  funext a
  obtain rfl : a = (0 : Fin 1) := Subsingleton.elim (α := Fin 1) _ _
  apply Fin.ext
  have h0 : ((Shape.Idx.first (h1.symm ▸ Nat.one_pos) : S1.Idx) 0).val < 1 := ((Shape.Idx.first (h1.symm ▸ Nat.one_pos) : S1.Idx) 0).isLt
  show (BitVec.ofNat 32 (i 0).val).toNat + 1 * ((Shape.Idx.first (h1.symm ▸ Nat.one_pos) : S1.Idx) 0).val = (i 0).val
  rw [BitVec.toNat_ofNat, Nat.mod_eq_of_lt (by omega)]
  omega

theorem index0 (i : grid0.Coords) : cc0_transform_1 k0_off1_inb numel1_S1 (tbl m) i = ![0, (expertOf m (i 0).val).toNat, 0, 0] := by
  have h := expert_at m i (k0_off1_inb i) numel1_S1
  unfold cc0_transform_1
  exact congrArg (fun v : BitVec 32 => ![0, v.toNat, 0, 0]) h
theorem index1 (i : grid0.Coords) : cc0_transform_2 k0_off1_inb numel1_S1 (tbl m) i = ![0, (expertOf m (i 0).val).toNat, 0, 0] := by
  have h := expert_at m i (k0_off1_inb i) numel1_S1
  unfold cc0_transform_2
  exact congrArg (fun v : BitVec 32 => ![0, v.toNat, 0, 0]) h
theorem index2 (i : grid0.Coords) : cc0_transform_3 k0_off1_inb numel1_S1 (tbl m) i = ![0, (expertOf m (i 0).val).toNat, 0, 0] := by
  have h := expert_at m i (k0_off1_inb i) numel1_S1
  unfold cc0_transform_3
  exact congrArg (fun v : BitVec 32 => ![0, v.toNat, 0, 0]) h

/-- The tables the precondition admits select blocks inside the weights. -/
theorem ok_of_good (hG : Good m) : Ok m := by
  have ht : ∀ i : grid0.Coords, (expertOf m (i 0).val).toNat < 16 := fun i => hG.expert _ (i 0).isLt
  refine ⟨fun i => ⟨?_, Or.inl rfl⟩, fun i => ⟨?_, Or.inl rfl⟩, fun i => ⟨?_, Or.inl rfl⟩⟩
  · rw [index0 m i]
    have := ht i
    intro a
    match a with
    | ⟨0, _⟩ => show (0 + 1) * 1 ≤ 4; omega
    | ⟨1, _⟩ => show ((expertOf m (i 0).val).toNat + 1) * 1 ≤ 16; omega
    | ⟨2, _⟩ => show (0 + 1) * 1024 ≤ 1024; omega
    | ⟨3, _⟩ => show (0 + 1) * 512 ≤ 512; omega
  · rw [index1 m i]
    have := ht i
    intro a
    match a with
    | ⟨0, _⟩ => show (0 + 1) * 1 ≤ 4; omega
    | ⟨1, _⟩ => show ((expertOf m (i 0).val).toNat + 1) * 1 ≤ 16; omega
    | ⟨2, _⟩ => show (0 + 1) * 1024 ≤ 1024; omega
    | ⟨3, _⟩ => show (0 + 1) * 512 ≤ 512; omega
  · rw [index2 m i]
    have := ht i
    intro a
    match a with
    | ⟨0, _⟩ => show (0 + 1) * 1 ≤ 4; omega
    | ⟨1, _⟩ => show ((expertOf m (i 0).val).toNat + 1) * 1 ≤ 16; omega
    | ⟨2, _⟩ => show (0 + 1) * 512 ≤ 512; omega
    | ⟨3, _⟩ => show (0 + 1) * 1024 ≤ 1024; omega

variable {m}

/-- The gate weights' block at a point is layer 0 of its tile's expert. -/
theorem iblk0_apply (hG : Good m) (hO : Ok m) (c : Dev nD) (t : Fin (cfgM m hO).N) (y : S1x1x1024x512.Idx) :
    (iblk m hO c 0 t : S1x1x1024x512.Idx → Elt F .f32) y = V m c main_arg5 (atExp (expertOf m t.val).toNat y) := by
  have hi := index0 m (grid0.coords t)
  rw [coords_val t] at hi
  have he := hG.expert t.val t.isLt
  show V m c main_arg5 ((((cfgM m hO).win 0).blk t).view.emb y) = _
  congr 1
  funext a
  apply Fin.ext
  match a with
  | ⟨0, _⟩ =>
    show cc0_transform_1 k0_off1_inb numel1_S1 (tbl m) (grid0.coords t) 0 * 1 + 1 * (y 0).val = 0
    have h0 : (y 0).val < 1 := (y 0).isLt
    rw [hi]; show 0 * 1 + 1 * (y 0).val = 0; omega
  | ⟨1, _⟩ =>
    show cc0_transform_1 k0_off1_inb numel1_S1 (tbl m) (grid0.coords t) 1 * 1 + 1 * (y 1).val = (expertOf m t.val).toNat % 16
    have h0 : (y 1).val < 1 := (y 1).isLt
    rw [hi]; show (expertOf m t.val).toNat * 1 + 1 * (y 1).val = _; omega
  | ⟨2, _⟩ =>
    show cc0_transform_1 k0_off1_inb numel1_S1 (tbl m) (grid0.coords t) 2 * 1024 + 1 * (y 2).val = (y 2).val
    rw [hi]; show 0 * 1024 + 1 * (y 2).val = _; omega
  | ⟨3, _⟩ =>
    show cc0_transform_1 k0_off1_inb numel1_S1 (tbl m) (grid0.coords t) 3 * 512 + 1 * (y 3).val = (y 3).val
    rw [hi]; show 0 * 512 + 1 * (y 3).val = _; omega

/-- The up weights' block at a point is layer 0 of its tile's expert. -/
theorem iblk1_apply (hG : Good m) (hO : Ok m) (c : Dev nD) (t : Fin (cfgM m hO).N) (y : S1x1x1024x512.Idx) :
    (iblk m hO c 1 t : S1x1x1024x512.Idx → Elt F .f32) y = V m c main_arg6 (atExp (expertOf m t.val).toNat y) := by
  have hi := index1 m (grid0.coords t)
  rw [coords_val t] at hi
  have he := hG.expert t.val t.isLt
  show V m c main_arg6 ((((cfgM m hO).win 1).blk t).view.emb y) = _
  congr 1
  funext a
  apply Fin.ext
  match a with
  | ⟨0, _⟩ =>
    show cc0_transform_2 k0_off1_inb numel1_S1 (tbl m) (grid0.coords t) 0 * 1 + 1 * (y 0).val = 0
    have h0 : (y 0).val < 1 := (y 0).isLt
    rw [hi]; show 0 * 1 + 1 * (y 0).val = 0; omega
  | ⟨1, _⟩ =>
    show cc0_transform_2 k0_off1_inb numel1_S1 (tbl m) (grid0.coords t) 1 * 1 + 1 * (y 1).val = (expertOf m t.val).toNat % 16
    have h0 : (y 1).val < 1 := (y 1).isLt
    rw [hi]; show (expertOf m t.val).toNat * 1 + 1 * (y 1).val = _; omega
  | ⟨2, _⟩ =>
    show cc0_transform_2 k0_off1_inb numel1_S1 (tbl m) (grid0.coords t) 2 * 1024 + 1 * (y 2).val = (y 2).val
    rw [hi]; show 0 * 1024 + 1 * (y 2).val = _; omega
  | ⟨3, _⟩ =>
    show cc0_transform_2 k0_off1_inb numel1_S1 (tbl m) (grid0.coords t) 3 * 512 + 1 * (y 3).val = (y 3).val
    rw [hi]; show 0 * 512 + 1 * (y 3).val = _; omega

/-- The down weights' block at a point is layer 0 of its tile's expert. -/
theorem iblk2_apply (hG : Good m) (hO : Ok m) (c : Dev nD) (t : Fin (cfgM m hO).N) (y : S1x1x512x1024.Idx) :
    (iblk m hO c 2 t : S1x1x512x1024.Idx → Elt F .f32) y = V m c main_arg7 (atExp (expertOf m t.val).toNat y) := by
  have hi := index2 m (grid0.coords t)
  rw [coords_val t] at hi
  have he := hG.expert t.val t.isLt
  show V m c main_arg7 ((((cfgM m hO).win 2).blk t).view.emb y) = _
  congr 1
  funext a
  apply Fin.ext
  match a with
  | ⟨0, _⟩ =>
    show cc0_transform_3 k0_off1_inb numel1_S1 (tbl m) (grid0.coords t) 0 * 1 + 1 * (y 0).val = 0
    have h0 : (y 0).val < 1 := (y 0).isLt
    rw [hi]; show 0 * 1 + 1 * (y 0).val = 0; omega
  | ⟨1, _⟩ =>
    show cc0_transform_3 k0_off1_inb numel1_S1 (tbl m) (grid0.coords t) 1 * 1 + 1 * (y 1).val = (expertOf m t.val).toNat % 16
    have h0 : (y 1).val < 1 := (y 1).isLt
    rw [hi]; show (expertOf m t.val).toNat * 1 + 1 * (y 1).val = _; omega
  | ⟨2, _⟩ =>
    show cc0_transform_3 k0_off1_inb numel1_S1 (tbl m) (grid0.coords t) 2 * 512 + 1 * (y 2).val = (y 2).val
    rw [hi]; show 0 * 512 + 1 * (y 2).val = _; omega
  | ⟨3, _⟩ =>
    show cc0_transform_3 k0_off1_inb numel1_S1 (tbl m) (grid0.coords t) 3 * 1024 + 1 * (y 3).val = (y 3).val
    rw [hi]; show 0 * 1024 + 1 * (y 3).val = _; omega

/-- Two tiles of one expert are computed with the same blocks. -/
theorem same0 (hG : Good m) (hO : Ok m) (c : Dev nD) (s t : Fin (cfgM m hO).N) (h : expertOf m s.val = expertOf m t.val) :
    (iblk m hO c 0 s : S1x1x1024x512.Idx → Elt F .f32) = (iblk m hO c 0 t : S1x1x1024x512.Idx → Elt F .f32) :=
  funext fun y => (iblk0_apply hG hO c s y).trans ((congrArg (fun e : BitVec 32 => V m c main_arg5 (atExp e.toNat y)) h).trans (iblk0_apply hG hO c t y).symm)
theorem same1 (hG : Good m) (hO : Ok m) (c : Dev nD) (s t : Fin (cfgM m hO).N) (h : expertOf m s.val = expertOf m t.val) :
    (iblk m hO c 1 s : S1x1x1024x512.Idx → Elt F .f32) = (iblk m hO c 1 t : S1x1x1024x512.Idx → Elt F .f32) :=
  funext fun y => (iblk1_apply hG hO c s y).trans ((congrArg (fun e : BitVec 32 => V m c main_arg6 (atExp e.toNat y)) h).trans (iblk1_apply hG hO c t y).symm)
theorem same2 (hG : Good m) (hO : Ok m) (c : Dev nD) (s t : Fin (cfgM m hO).N) (h : expertOf m s.val = expertOf m t.val) :
    (iblk m hO c 2 s : S1x1x512x1024.Idx → Elt F .f32) = (iblk m hO c 2 t : S1x1x512x1024.Idx → Elt F .f32) :=
  funext fun y => (iblk2_apply hG hO c s y).trans ((congrArg (fun e : BitVec 32 => V m c main_arg7 (atExp e.toNat y)) h).trans (iblk2_apply hG hO c t y).symm)

end Cert.KernelIdeal.Ffn

end
-- ==== Proof.Steps.lean ====
module

public import proofs.«01_k».proof.Proof.Words
public import Idealize.ShloMosaic.Lib.VecWindow

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Loads and stores of a whole memref -/

/-- A load of all that a memref shows. -/
theorem wp_load_full (c : Dev nD) {cs : CoreSpace} {s : Shape} {e : EltTy} (M : Memref sig .tc cs s e) (x : s.Idx → Elt F e)
    {off : Fin s.rank → ℕ} {inb : ∀ a, off a + s.size a ≤ s.size a} {hl} {Q : (s.Idx → Elt F e) → sProp 𝕄} :
    (owns (c : Thread nD τ) M fullShare x : sProp 𝕄) ⊢ iprop((owns (c : Thread nD τ) M fullShare x -∗ Q x)
      -∗ WP c (Prog.lift (TpuEff.load M (Rect.unit off s.size inb).toLoadRect hl)) Q) := by
  have h : ∀ f : Buf (Elt F) (M.view.loc (c : Thread nD τ)), M.view.read (Elt F) f = x → ((M.view.loc (c : Thread nD τ) ↦[M.view.set]{fullShare} f : sProp 𝕄) ⊢ iprop(((M.view.loc (c : Thread nD τ) ↦[M.view.set]{fullShare} f) -∗ Q x)
      -∗ WP c (Prog.lift (TpuEff.load M (Rect.unit off s.size inb).toLoadRect hl)) Q)) := by
    intro f hf
    have h := wp_load (defs := defs₀ (F := F)) Variants.none (c : Thread nD τ) none (Γ := .empty) Set.univ (m := M) (r := (Rect.unit off s.size inb).toLoadRect) (hl := hl)
      (k := .ret) (q := fullShare) (f := f) (S := M.view.set) (Q := Q) (View.setOn_subset_set _ _)
    refine h.trans (wand_mono_left (wand_mono_right ?_))
    rw [wp_ret, View.readAt_full, hf]
    exact fupd_intro
  unfold owns
  iintro ⟨%f, %hf, H⟩ Hk
  iapply (h f hf) $$ H
  iintro H
  iapply Hk
  iexists f
  isplitr; · ipureintro; exact hf
  iexact H

/-- A store over all that a memref shows. -/
theorem wp_store_full (c : Dev nD) {cs : CoreSpace} {s : Shape} {e : EltTy} (M : Memref sig .tc cs s e) (x w : s.Idx → Elt F e)
    {off : Fin s.rank → ℕ} {inb : ∀ a, off a + s.size a ≤ s.size a} {hx hm} {Q : PUnit → sProp 𝕄} :
    (owns (c : Thread nD τ) M fullShare x : sProp 𝕄) ⊢ iprop((owns (c : Thread nD τ) M fullShare w -∗ Q ⟨⟩)
      -∗ WP c (Prog.lift (TpuEff.store M (Rect.unit off s.size inb) w Finset.univ hx hm)) Q) := by
  have h : ∀ f : Buf (Elt F) (M.view.loc (c : Thread nD τ)), ((M.view.loc (c : Thread nD τ) ↦[M.view.set]{fullShare} f : sProp 𝕄) ⊢ iprop(((M.view.loc (c : Thread nD τ) ↦[M.view.set]{fullShare} M.view.writes (Elt F) f [⟨Rect.unit off s.size inb, w⟩]) -∗ Q ⟨⟩)
      -∗ WP c (Prog.lift (TpuEff.store M (Rect.unit off s.size inb) w Finset.univ hx hm)) Q)) := by
    intro f
    have h := wp_store (defs := defs₀ (F := F)) Variants.none (c : Thread nD τ) none (Γ := .empty) Set.univ (m := M) (r := Rect.unit off s.size inb) (w := w) (Mk := Finset.univ) (hx := hx) (hm := hm)
      (k := .ret) (f := f) (S := M.view.set) (Q := Q) ((View.setOn_subset_set _ _).trans (View.set_slice_subset _ _))
    refine h.trans (wand_mono_left (wand_mono_right ?_))
    rw [wp_ret]
    exact fupd_intro
  unfold owns
  iintro ⟨%f, %hf, H⟩ Hk
  iapply (h f) $$ H
  iintro H
  iapply Hk
  iexists _
  isplitr
  · ipureintro; exact View.read_writes_full M.view f inb w []
  iexact H

/-- The gathered rows of tile `a`, as the body loads them: one slot. -/
def gx (c : Dev nD) (a : ℕ) : S1x512x1024.Idx → Elt F .bf16 :=
  fun y => (V m c main_arg4 : S49152x1024.Idx → Elt F .bf16) (ValueIdx.ix2 (rowOf m a (y 1)) (y 2))

/-- The load of a filled slot. -/
theorem wp_load_slot (c : Dev nD) (a : ℕ) (k : Fin 2) {off : Fin 3 → ℕ} (hoff : off = ![k.val, 0, 0])
    {inb : ∀ b, off b + S1x512x1024.size b ≤ S2x512x1024.size b} {hl} {Q : (S1x512x1024.Idx → Elt F .bf16) → sProp 𝕄} :
    (((scX).view.loc (c : Thread nD τ) ↦[slot k]{fullShare} rows m c a) : sProp 𝕄) ⊢ iprop((((scX).view.loc (c : Thread nD τ) ↦[slot k]{fullShare} rows m c a) -∗ Q (gx m c a))
      -∗ WP c (Prog.lift (TpuEff.load scX (Rect.unit (s := S2x512x1024) off S1x512x1024.size inb).toLoadRect hl)) Q) := by
  subst hoff
  have hz : ∀ p ∈ (Rect.unit (s := S2x512x1024) ![k.val, 0, 0] S1x512x1024.size inb).toLoadRect.set, (p 0).val = k.val := by
    intro p hp
    obtain ⟨x, hx, e⟩ := (LoadRect.mem_set _).1 hp 0
    have hx : x < 1 := hx
    have e : (p 0).val = k.val + 1 * x := e
    omega
  have h := wp_load (defs := defs₀ (F := F)) Variants.none (c : Thread nD τ) none (Γ := .empty) Set.univ (m := scX) (r := (Rect.unit (s := S2x512x1024) ![k.val, 0, 0] S1x512x1024.size inb).toLoadRect) (hl := hl)
      (k := .ret) (q := fullShare) (f := rows m c a) (S := slot k) (Q := Q) (by
        intro p hp
        rw [mem_slot]
        obtain ⟨x, hx, rfl⟩ := Finset.mem_map.1 hp
        exact hz x hx)
  refine h.trans (wand_mono_left (wand_mono_right ?_))
  rw [wp_ret, show (scX).view.readAt (Elt F) (Rect.unit (s := S2x512x1024) ![k.val, 0, 0] S1x512x1024.size inb).toLoadRect (rows m c a) = gx m c a from ?_]
  · exact fupd_intro
  funext y
  show (V m c main_arg4 : S49152x1024.Idx → Elt F .bf16) (ValueIdx.ix2 (rowOf m a ⟨0 + 1 * (y 1).val, _⟩) ⟨0 + 1 * (y 2).val, _⟩) = _
  unfold gx
  congr 2
  · congr 1; exact Fin.ext (by show 0 + 1 * (y 1).val = (y 1).val; omega)
  · exact Fin.ext (by show 0 + 1 * (y 2).val = (y 2).val; omega)

/-! ## The same steps before a rest -/

theorem first_then {α : Type} {Q : α → sProp 𝕄} (c : Dev nD) {off : Fin 1 → ℕ} (n : ℕ) (hn : n < 110) (hoff : off = ![n]) {inb h1 hp}
    {k : BitVec 32 → Prog (TpuEff nD τ sig (Elt F) Λ₀ .tc) α} :
    tables m c ⊢ iprop((tables m c -∗ WP c (k (firstOf m n)) Q) -∗ WP c (smemLoad tbF (Rect.unit (s := S110) off S1.size inb) h1 hp >>= k) Q) := by
  unfold WP; rw [wp_bind]; exact wp_first m c n hn hoff (Q := fun a => WP c (k a) Q)

theorem load_then {α : Type} {Q : α → sProp 𝕄} (c : Dev nD) {cs : CoreSpace} {s : Shape} {e : EltTy} (M : Memref sig .tc cs s e) (x : s.Idx → Elt F e)
    {off : Fin s.rank → ℕ} {inb : ∀ a, off a + s.size a ≤ s.size a} {hl} {k : (s.Idx → Elt F e) → Prog (TpuEff nD τ sig (Elt F) Λ₀ .tc) α} :
    (owns (c : Thread nD τ) M fullShare x : sProp 𝕄) ⊢ iprop((owns (c : Thread nD τ) M fullShare x -∗ WP c (k x) Q)
      -∗ WP c (Prog.lift (TpuEff.load M (Rect.unit off s.size inb).toLoadRect hl) >>= k) Q) := by
  unfold WP; rw [wp_bind]; exact wp_load_full c M x (Q := fun a => WP c (k a) Q)

theorem store_then {α : Type} {Q : α → sProp 𝕄} (c : Dev nD) {cs : CoreSpace} {s : Shape} {e : EltTy} (M : Memref sig .tc cs s e) (x w : s.Idx → Elt F e)
    {off : Fin s.rank → ℕ} {inb : ∀ a, off a + s.size a ≤ s.size a} {hx hm} {k : PUnit → Prog (TpuEff nD τ sig (Elt F) Λ₀ .tc) α} :
    (owns (c : Thread nD τ) M fullShare x : sProp 𝕄) ⊢ iprop((owns (c : Thread nD τ) M fullShare w -∗ WP c (k ⟨⟩) Q)
      -∗ WP c (Prog.lift (TpuEff.store M (Rect.unit off s.size inb) w Finset.univ hx hm) >>= k) Q) := by
  unfold WP; rw [wp_bind]; exact wp_store_full c M x w (Q := fun a => WP c (k a) Q)

theorem slot_then {α : Type} {Q : α → sProp 𝕄} (c : Dev nD) (a : ℕ) (k : Fin 2) {off : Fin 3 → ℕ} (hoff : off = ![k.val, 0, 0])
    {inb : ∀ b, off b + S1x512x1024.size b ≤ S2x512x1024.size b} {hl} {r : (S1x512x1024.Idx → Elt F .bf16) → Prog (TpuEff nD τ sig (Elt F) Λ₀ .tc) α} :
    (((scX).view.loc (c : Thread nD τ) ↦[slot k]{fullShare} rows m c a) : sProp 𝕄) ⊢ iprop((((scX).view.loc (c : Thread nD τ) ↦[slot k]{fullShare} rows m c a) -∗ WP c (r (gx m c a)) Q)
      -∗ WP c (Prog.lift (TpuEff.load scX (Rect.unit (s := S2x512x1024) off S1x512x1024.size inb).toLoadRect hl) >>= r) Q) := by
  unfold WP; rw [wp_bind]; exact wp_load_slot m c a k hoff (Q := fun a => WP c (r a) Q)

theorem arrive_then {α : Type} {Q : α → sProp 𝕄} (c : Dev nD) (k : Fin 2) (tile u : ℕ) (hu : u < 31) {offs : Fin 2 → ℕ} {offd : Fin 3 → ℕ} {sm : DmaSem sig}
    (hsm : sm = semOf k) {is id ws wd} {r : PUnit → Prog (TpuEff nD τ sig (Elt F) Λ₀ .tc) α} :
    AWAIT m c k tile u ⊢ iprop((AWAIT m c k tile (u + 1) -∗ WP c (r ⟨⟩) Q) -∗ WP c (Prog.lift (TpuEff.waitDma2 sm (srcW offs is) (dstW offd id) ws wd) >>= r) Q) := by
  unfold WP; rw [wp_bind]; exact wp_arrive m c k tile u hu hsm (Q := fun a => WP c (r a) Q)

theorem arrive_last_then {α : Type} {Q : α → sProp 𝕄} (c : Dev nD) (k : Fin 2) (tile : ℕ) {offs : Fin 2 → ℕ} {offd : Fin 3 → ℕ} {sm : DmaSem sig}
    (hsm : sm = semOf k) {is id ws wd} {r : PUnit → Prog (TpuEff nD τ sig (Elt F) Λ₀ .tc) α} :
    AWAIT m c k tile 31 ⊢ iprop((iprop(bigSep Finset.univ (DELIV m c k tile) ∗ semVal ((c : Thread nD τ), SemLoc.dma (semOf k)) 0 ∗ ∃ W, owes (c : Thread nD τ) 0 W) -∗ WP c (r ⟨⟩) Q)
      -∗ WP c (Prog.lift (TpuEff.waitDma2 sm (srcW offs is) (dstW offd id) ws wd) >>= r) Q) := by
  unfold WP; rw [wp_bind]; exact wp_arrive_last m c k tile hsm (Q := fun a => WP c (r a) Q)

end Cert.KernelIdeal.Ffn

end
-- ==== Proof.Body.lean ====
module

public import proofs.«01_k».proof.Proof.Steps

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Sequencing -/

theorem bind_wp {α β : Type} {Q : β → sProp 𝕄} (c : Dev nD) (p : Prog (TpuEff nD τ sig (Elt F) Λ₀ .tc) α) (k : α → Prog (TpuEff nD τ sig (Elt F) Λ₀ .tc) β) :
    WP c p (fun a => WP c (k a) Q) ⊢ WP c (p >>= k) Q := by
  unfold WP; rw [wp_bind]

theorem pure_wp {α : Type} {Q : α → sProp 𝕄} (c : Dev nD) (x : α) : Q x ⊢ WP c (Pure.pure x) Q := by
  unfold WP
  change _ ⊢ wp _ _ _ (Prog.ret x) _
  rw [wp_ret]
  iintro H
  imodintro
  iexact H

theorem pure_then {α β : Type} {Q : β → sProp 𝕄} (c : Dev nD) (x : α) (k : α → Prog (TpuEff nD τ sig (Elt F) Λ₀ .tc) β) :
    WP c (k x) Q ⊢ WP c (Pure.pure x >>= k) Q := (pure_wp (Q := fun a => WP c (k a) Q) c x).trans (bind_wp c _ k)

theorem live_then {α : Type} {Q : α → sProp 𝕄} (c : Dev nD) {inb h1 hp} {k : BitVec 32 → Prog (TpuEff nD τ sig (Elt F) Λ₀ .tc) α} :
    tables m c ⊢ iprop((tables m c -∗ WP c (k (liveTiles m)) Q) -∗ WP c (smemLoad tbN (Rect.unit (s := S1) ![0] S1.size inb) h1 hp >>= k) Q) := by
  unfold WP; rw [wp_bind]; exact wp_live m c (Q := fun a => WP c (k a) Q)

/-- A conditional before a rest: each branch reaches what the rest needs. -/
theorem branch {α : Type} {Q : α → sProp 𝕄} (c : Dev nD) {p : Prop} [Decidable p] (P J : sProp 𝕄)
    {A : p → Prog (TpuEff nD τ sig (Elt F) Λ₀ .tc) α} {R : Prog (TpuEff nD τ sig (Elt F) Λ₀ .tc) α}
    (hR : J ⊢ WP c R Q) (hA : ∀ h, (J ⊢ WP c R Q) → P ⊢ WP c (A h) Q) (hB : ¬p → P ⊢ J) :
    P ⊢ WP c (if h : p then A h else R) Q := by
  by_cases h : p
  · rw [dif_pos h]; exact hA h hR
  · rw [dif_neg h]; exact (hB h).trans hR

/-- The slot that holds tile `a`, before point `a`'s own copies. -/
def CUR (c : Dev nD) (a : ℕ) : sProp 𝕄 := if 0 < a ∧ a < nT m then FILL m c (slotOf a) a 32 else IDLE m c (slotOf a)
/-- The slot of tile `a`, filled if the tile is live. -/
def READY (c : Dev nD) (a : ℕ) : sProp 𝕄 := if a < nT m then FILL m c (slotOf a) a 32 else IDLE m c (slotOf a)

/-- A conditional with no evidence before a rest. -/
theorem branch_if {α : Type} {Q : α → sProp 𝕄} (c : Dev nD) {p : Prop} [Decidable p] (P J : sProp 𝕄) {A R : Prog (TpuEff nD τ sig (Elt F) Λ₀ .tc) α}
    (hR : J ⊢ WP c R Q) (hA : p → (J ⊢ WP c R Q) → P ⊢ WP c A Q) (hB : ¬p → P ⊢ J) :
    P ⊢ WP c (if p then A else R) Q := by
  by_cases h : p
  · rw [if_pos h]; exact hA h hR
  · rw [if_neg h]; exact (hB h).trans hR

theorem cur_word_off (i : grid0.Coords) : (![(BitVec.ofNat 32 (i 0).val).toNat] : Fin 1 → ℕ) = ![(i 0).val] := by rw [toNat_point]

theorem cur_slot_off (i : grid0.Coords) : (![(slotWord (BitVec.ofNat 32 (i 0).val)).toNat, 0, 0] : Fin 3 → ℕ) = ![(slotOf (i 0).val).val, 0, 0] := by rw [cur_slot]

/-- What the staging buffers and the three weight scratches hold. -/
abbrev HELD (hO : Ok m) (c : Dev nD) (t : Fin (cfgM m hO).N) (x0 x1 : S1x1x1024x512.Idx → Elt F .f32) (x2 : S1x1x512x1024.Idx → Elt F .f32)
    (d3 : S512x1024.Idx → Elt F .bf16) (dG dU : S1024x512.Idx → Elt F .bf16) (dD : S512x1024.Idx → Elt F .bf16) : sProp 𝕄 :=
  iprop(owns (c : Thread nD τ) (ms0 m hO t) fullShare x0 ∗ owns (c : Thread nD τ) (ms1 m hO t) fullShare x1 ∗ owns (c : Thread nD τ) (ms2 m hO t) fullShare x2 ∗ owns (c : Thread nD τ) (ms3 m hO t) fullShare d3
    ∗ owns (c : Thread nD τ) scG fullShare dG ∗ owns (c : Thread nD τ) scU fullShare dU ∗ owns (c : Thread nD τ) scD fullShare dD)

set_option maxHeartbeats 4000000 in
theorem sound (hG : Good m) (hO : Ok m) (c : Dev nD) (t : Fin (cfgM m hO).N) (x0 x1 : S1x1x1024x512.Idx → Elt F .f32) (x2 : S1x1x512x1024.Idx → Elt F .f32)
    (d3 : S512x1024.Idx → Elt F .bf16) (dG dU : S1024x512.Idx → Elt F .bf16) (dD : S512x1024.Idx → Elt F .bf16)
    (hw : (grid0.coords t 0).val < nT m → firstOf m (grid0.coords t 0).val ≠ 1#32 → dG = k0_pay3 x0 ∧ dU = k0_pay4 x1 ∧ dD = k0_pay5 x2)
    (X : sProp 𝕄) (hX : iprop(iprop(∃ W, owes (c : Thread nD τ) 0 W) ∗ HELD m hO c t x0 x1 x2 d3 dG dU dD) = X) (Q : PUnit → sProp 𝕄)
    (hQ : (fun _ : PUnit => iprop(tables m c ∗ IDLE m c (slotOf (grid0.coords t 0).val) ∗ READY m c ((grid0.coords t 0).val + 1) ∗ iprop(∃ W, owes (c : Thread nD τ) 0 W)
        ∗ HELD m hO c t x0 x1 x2 (if (grid0.coords t 0).val < nT m then k0_pay1 (gx m c (grid0.coords t 0).val) (k0_pay3 x0) (k0_pay4 x1) (k0_pay5 x2) else k0_pay2 (F := F))
          (if (grid0.coords t 0).val < nT m then k0_pay3 x0 else dG) (if (grid0.coords t 0).val < nT m then k0_pay4 x1 else dU) (if (grid0.coords t 0).val < nT m then k0_pay5 x2 else dD))) = Q) :
    iprop(tables m c ∗ CUR m c (grid0.coords t 0).val ∗ IDLE m c (slotOf ((grid0.coords t 0).val + 1)) ∗ X) ⊢ WP c (bodyAt m hO t) Q := by
  have hn : (liveTiles m).toNat ≤ 110 := hG.live_le
  have hpos : 0 < (liveTiles m).toNat := hG.live_pos
  unfold bodyAt
  rw [cc0_moe_ffn_eq_skeleton]; unfold cc0_moe_ffn_skel
  dsimp only
  refine branch c _ (iprop(tables m c ∗ READY m c (grid0.coords t 0).val ∗ IDLE m c (slotOf ((grid0.coords t 0).val + 1)) ∗ X)) ?_ ?_ ?_
  · iintro ⟨HT, HC, HI, HX⟩
    iapply (live_then m c) $$ HT
    iintro HT
    iapply (check_then c (check_words _ _ hn))
    iapply (branch c (iprop(tables m c ∗ READY m c (grid0.coords t 0).val ∗ IDLE m c (slotOf ((grid0.coords t 0).val + 1)) ∗ X)) (iprop(tables m c ∗ READY m c (grid0.coords t 0).val ∗ READY m c ((grid0.coords t 0).val + 1) ∗ X)) ?hR ?hA ?hB) $$ [HT HC HI HX]
    case hR =>
      subst hX; subst hQ
      iintro ⟨HT, HC, HN, HW, HH⟩
      iapply (live_then m c) $$ HT
      iintro HT
      iapply (branch c (iprop(tables m c ∗ READY m c (grid0.coords t 0).val ∗ READY m c ((grid0.coords t 0).val + 1) ∗ iprop(∃ W, owes (c : Thread nD τ) 0 W) ∗ HELD m hO c t x0 x1 x2 d3 dG dU dD))
        (iprop(tables m c ∗ IDLE m c (slotOf (grid0.coords t 0).val) ∗ READY m c ((grid0.coords t 0).val + 1) ∗ iprop(∃ W, owes (c : Thread nD τ) 0 W)
          ∗ HELD m hO c t x0 x1 x2 (if (grid0.coords t 0).val < nT m then k0_pay1 (gx m c (grid0.coords t 0).val) (k0_pay3 x0) (k0_pay4 x1) (k0_pay5 x2) else d3)
          (if (grid0.coords t 0).val < nT m then k0_pay3 x0 else dG) (if (grid0.coords t 0).val < nT m then k0_pay4 x1 else dU) (if (grid0.coords t 0).val < nT m then k0_pay5 x2 else dD))) ?hR3 ?hA3 ?hB3) $$ [HT HC HN HW HH]
      case hR3 =>
        iintro ⟨HT, HC, HN, HW, H0, H1, H2, H3, HR⟩
        iapply (live_then m c) $$ HT
        iintro HT
        by_cases h5 : (grid0.coords t 0).val < nT m
        · rw [dif_neg (fun h => absurd ((cond5_iff _ _ hn).1 h) (by have : (grid0.coords t 0).val < (liveTiles m).toNat := h5; omega))]
          iapply (pure_wp c)
          simp only [if_pos h5]
          isplitl [HT]; · iexact HT
          isplitl [HC]; · iexact HC
          isplitl [HN]; · iexact HN
          isplitl [HW]; · iexact HW
          isplitl [H0]; · iexact H0
          isplitl [H1]; · iexact H1
          isplitl [H2]; · iexact H2
          isplitl [H3]; · iexact H3
          iexact HR
        · rw [dif_pos ((cond5_iff _ _ hn).2 (by have : ¬ (grid0.coords t 0).val < (liveTiles m).toNat := h5; omega))]
          iapply (load_then c (ms3 m hO t)) $$ H3
          iintro H3
          iapply (store_then c (ms3 m hO t)) $$ H3
          iintro H3
          iapply (pure_wp c)
          simp only [if_neg h5]
          isplitl [HT]; · iexact HT
          isplitl [HC]; · iexact HC
          isplitl [HN]; · iexact HN
          isplitl [HW]; · iexact HW
          isplitl [H0]; · iexact H0
          isplitl [H1]; · iexact H1
          isplitl [H2]; · iexact H2
          isplitl [H3]; · iexact H3
          iexact HR
      case hA3 =>
        intro h3 hR
        have h0 : (grid0.coords t 0).val < nT m := (cond3_iff _ _ hn).1 h3
        rw [show READY m c (grid0.coords t 0).val = FILL m c (slotOf (grid0.coords t 0).val) (grid0.coords t 0).val 32 from if_pos h0]
        iintro ⟨HT, HF, HN, HW, HH⟩
        iapply (bind_wp c)
        rw [k0_part20_eq_skeleton]; unfold k0_part20_skel; dsimp only
        iapply (first_then m c (grid0.coords t 0).val ?hn (cur_word_off (grid0.coords t))) $$ HT
        case hn => exact point_lt _
        iintro HT
        iapply (branch_if c (iprop(tables m c ∗ FILL m c (slotOf (grid0.coords t 0).val) (grid0.coords t 0).val 32 ∗ READY m c ((grid0.coords t 0).val + 1) ∗ iprop(∃ W, owes (c : Thread nD τ) 0 W) ∗ HELD m hO c t x0 x1 x2 d3 dG dU dD))
          (iprop(tables m c ∗ FILL m c (slotOf (grid0.coords t 0).val) (grid0.coords t 0).val 32 ∗ READY m c ((grid0.coords t 0).val + 1) ∗ iprop(∃ W, owes (c : Thread nD τ) 0 W) ∗ HELD m hO c t x0 x1 x2 d3 (k0_pay3 x0) (k0_pay4 x1) (k0_pay5 x2))) ?hR2 ?hA2 ?hB2) $$ [HT HF HN HW HH]
        case hA2 =>
          intro h hR2
          iintro ⟨HT, HF, HN, HW, H0, H1, H2, H3, HG, HU, HD⟩
          iapply (load_then c (ms0 m hO t)) $$ H0
          iintro H0
          iapply (load_then c scG) $$ HG
          iintro HG
          iapply (store_then c scG) $$ HG
          iintro HG
          iapply (load_then c (ms1 m hO t)) $$ H1
          iintro H1
          iapply (load_then c scU) $$ HU
          iintro HU
          iapply (store_then c scU) $$ HU
          iintro HU
          iapply (load_then c (ms2 m hO t)) $$ H2
          iintro H2
          iapply (load_then c scD) $$ HD
          iintro HD
          iapply (store_then c scD) $$ HD
          iintro HD
          iapply hR2
          isplitl [HT]; · iexact HT
          isplitl [HF]; · iexact HF
          isplitl [HN]; · iexact HN
          isplitl [HW]; · iexact HW
          isplitl [H0]; · iexact H0
          isplitl [H1]; · iexact H1
          isplitl [H2]; · iexact H2
          isplitl [H3]; · iexact H3
          isplitl [HG]; · iexact HG
          isplitl [HU]; · iexact HU
          iexact HD
        case hB2 =>
          intro h
          have hf : firstOf m (grid0.coords t 0).val ≠ 1#32 := fun e => h (by rw [e]; decide)
          obtain ⟨e1, e2, e3⟩ := hw h0 hf
          rw [e1, e2, e3]
        case hR2 =>
          iintro ⟨HT, HF, HN, HW, H0, H1, H2, H3, HG, HU, HD⟩
          ihave HA := (fill_to_await m c (slotOf (grid0.coords t 0).val) (grid0.coords t 0).val) $$ [HF HW]
          · isplitl [HF]; · iexact HF
            iexact HW
          icases HA with ⟨HA, HRest⟩
          iterate 4
            iapply (arrive_then m c (slotOf (grid0.coords t 0).val) (grid0.coords t 0).val _ ?hu (sem_eq (slotOf (grid0.coords t 0).val) (cur_sem_off (grid0.coords t)))) $$ HA
            case hu => decide
            iintro HA
          iapply (pure_wp c)
          iapply (bind_wp c)
          rw [k0_part21_eq_skeleton]; unfold k0_part21_skel; dsimp only
          iterate 6
            iapply (arrive_then m c (slotOf (grid0.coords t 0).val) (grid0.coords t 0).val _ ?hu (sem_eq (slotOf (grid0.coords t 0).val) (cur_sem_off (grid0.coords t)))) $$ HA
            case hu => decide
            iintro HA
          iapply (pure_wp c)
          iapply (bind_wp c)
          rw [k0_part22_eq_skeleton]; unfold k0_part22_skel; dsimp only
          iterate 5
            iapply (arrive_then m c (slotOf (grid0.coords t 0).val) (grid0.coords t 0).val _ ?hu (sem_eq (slotOf (grid0.coords t 0).val) (cur_sem_off (grid0.coords t)))) $$ HA
            case hu => decide
            iintro HA
          iapply (pure_wp c)
          iapply (bind_wp c)
          rw [k0_part23_eq_skeleton]; unfold k0_part23_skel; dsimp only
          iterate 6
            iapply (arrive_then m c (slotOf (grid0.coords t 0).val) (grid0.coords t 0).val _ ?hu (sem_eq (slotOf (grid0.coords t 0).val) (cur_sem_off (grid0.coords t)))) $$ HA
            case hu => decide
            iintro HA
          iapply (pure_wp c)
          iapply (bind_wp c)
          rw [k0_part24_eq_skeleton]; unfold k0_part24_skel; dsimp only
          iterate 5
            iapply (arrive_then m c (slotOf (grid0.coords t 0).val) (grid0.coords t 0).val _ ?hu (sem_eq (slotOf (grid0.coords t 0).val) (cur_sem_off (grid0.coords t)))) $$ HA
            case hu => decide
            iintro HA
          iapply (pure_wp c)
          iapply (bind_wp c)
          rw [k0_part25_eq_skeleton]; unfold k0_part25_skel; dsimp only
          iterate 5
            iapply (arrive_then m c (slotOf (grid0.coords t 0).val) (grid0.coords t 0).val _ ?hu (sem_eq (slotOf (grid0.coords t 0).val) (cur_sem_off (grid0.coords t)))) $$ HA
            case hu => decide
            iintro HA
          iapply (arrive_last_then m c (slotOf (grid0.coords t 0).val) (grid0.coords t 0).val (sem_eq (slotOf (grid0.coords t 0).val) (cur_sem_off (grid0.coords t)))) $$ HA
          iintro ⟨HDel, HS, HW⟩
          iapply (pure_wp c)
          ihave HL := (landed m c (slotOf (grid0.coords t 0).val) (grid0.coords t 0).val) $$ [HDel HRest]
          · isplitl [HDel]; · iexact HDel
            iexact HRest
          icases HL with ⟨HX, HK⟩
          iapply (slot_then m c (grid0.coords t 0).val (slotOf (grid0.coords t 0).val) (cur_slot_off (grid0.coords t))) $$ HX
          iintro HX
          iapply (load_then c scG) $$ HG
          iintro HG
          iapply (load_then c scU) $$ HU
          iintro HU
          iapply (load_then c scD) $$ HD
          iintro HD
          iapply (load_then c (ms3 m hO t)) $$ H3
          iintro H3
          iapply (store_then c (ms3 m hO t)) $$ H3
          iintro H3
          iapply hR
          rw [if_pos h0, if_pos h0, if_pos h0, if_pos h0]
          isplitl [HT]; · iexact HT
          isplitl [HS HX HK]
          · iapply (idle_of m c (slotOf (grid0.coords t 0).val))
            isplitl [HS]; · iexact HS
            unfold LOOSE
            isplitl [HX]; · iexists _; iexact HX
            iexact HK
          isplitl [HN]; · iexact HN
          isplitl [HW]; · iexact HW
          isplitl [H0]; · iexact H0
          isplitl [H1]; · iexact H1
          isplitl [H2]; · iexact H2
          isplitl [H3]; · iexact H3
          isplitl [HG]; · iexact HG
          isplitl [HU]; · iexact HU
          iexact HD
        isplitl [HT]; · iexact HT
        isplitl [HF]; · iexact HF
        isplitl [HN]; · iexact HN
        isplitl [HW]; · iexact HW
        iexact HH
      case hB3 =>
        intro h3
        have h0 : ¬ (grid0.coords t 0).val < nT m := fun h => h3 ((cond3_iff _ _ hn).2 h)
        rw [if_neg h0, if_neg h0, if_neg h0, if_neg h0]
        rw [show READY m c (grid0.coords t 0).val = IDLE m c (slotOf (grid0.coords t 0).val) from if_neg h0]
      isplitl [HT]; · iexact HT
      isplitl [HC]; · iexact HC
      isplitl [HN]; · iexact HN
      isplitl [HW]; · iexact HW
      iexact HH
    case hA =>
      intro h2 hR
      have h0 : (grid0.coords t 0).val + 1 < (liveTiles m).toNat := (cond2_iff _ _ hn).1 h2
      iintro ⟨HT, HC, HI, HX⟩
      imod (idle_to_fill m c (slotOf ((grid0.coords t 0).val + 1)) ((grid0.coords t 0).val + 1)) $$ HI with HF
      iapply (bind_wp c)
      rw [k0_part10_eq_skeleton]; unfold k0_part10_skel; dsimp only
      iapply (unit_then m c _ ?hn (next_unit (grid0.coords t) _ ?hj)) $$ HT
      case hn => omega
      case hj => decide
      iintro HT
      iapply (check_then c (check_unit _ (hG.unit _ ?hn)))
      case hn => omega
      iterate 2
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (pure_wp c)
      iapply (bind_wp c)
      rw [k0_part11_eq_skeleton]; unfold k0_part11_skel; dsimp only
      iterate 3
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
      case hj => decide
      case ht => omega
      iintro HF
      iapply (pure_wp c)
      iapply (bind_wp c)
      rw [k0_part12_eq_skeleton]; unfold k0_part12_skel; dsimp only
      iapply (unit_then m c _ ?hn (next_unit (grid0.coords t) _ ?hj)) $$ HT
      case hn => omega
      case hj => decide
      iintro HT
      iapply (check_then c (check_unit _ (hG.unit _ ?hn)))
      case hn => omega
      iterate 2
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
      case hj => decide
      case ht => omega
      iintro HF
      iapply (pure_wp c)
      iapply (bind_wp c)
      rw [k0_part13_eq_skeleton]; unfold k0_part13_skel; dsimp only
      iapply (unit_then m c _ ?hn (next_unit (grid0.coords t) _ ?hj)) $$ HT
      case hn => omega
      case hj => decide
      iintro HT
      iapply (check_then c (check_unit _ (hG.unit _ ?hn)))
      case hn => omega
      iterate 3
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (pure_wp c)
      iapply (bind_wp c)
      rw [k0_part14_eq_skeleton]; unfold k0_part14_skel; dsimp only
      iterate 3
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (pure_wp c)
      iapply (bind_wp c)
      rw [k0_part15_eq_skeleton]; unfold k0_part15_skel; dsimp only
      iterate 3
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (pure_wp c)
      iapply (bind_wp c)
      rw [k0_part16_eq_skeleton]; unfold k0_part16_skel; dsimp only
      iterate 3
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (pure_wp c)
      iapply (bind_wp c)
      rw [k0_part17_eq_skeleton]; unfold k0_part17_skel; dsimp only
      iterate 3
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
      case hj => decide
      case ht => omega
      iintro HF
      iapply (pure_wp c)
      iapply (bind_wp c)
      rw [k0_part18_eq_skeleton]; unfold k0_part18_skel; dsimp only
      iapply (unit_then m c _ ?hn (next_unit (grid0.coords t) _ ?hj)) $$ HT
      case hn => omega
      case hj => decide
      iintro HT
      iapply (check_then c (check_unit _ (hG.unit _ ?hn)))
      case hn => omega
      iterate 2
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
      case hj => decide
      case ht => omega
      iintro HF
      iapply (pure_wp c)
      iapply (bind_wp c)
      rw [k0_part19_eq_skeleton]; unfold k0_part19_skel; dsimp only
      iapply (unit_then m c _ ?hn (next_unit (grid0.coords t) _ ?hj)) $$ HT
      case hn => omega
      case hj => decide
      iintro HT
      iapply (check_then c (check_unit _ (hG.unit _ ?hn)))
      case hn => omega
      iterate 3
        iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
        case hj => decide
        case ht => omega
        iintro HF
        iapply (unit_then m c _ ?hn (next_unit (grid0.coords t) _ ?hj)) $$ HT
        case hn => omega
        case hj => decide
        iintro HT
        iapply (check_then c (check_unit _ (hG.unit _ ?hn)))
        case hn => omega
      iapply (pure_wp c)
      iapply (copy_then m c (slotOf ((grid0.coords t 0).val + 1)) ((grid0.coords t 0).val + 1) _ ?hj (off_unit m hG ((grid0.coords t 0).val + 1) _ ?hj ?ht) (next_dst_off (grid0.coords t) _) (sem_eq (slotOf ((grid0.coords t 0).val + 1)) (next_sem_off (grid0.coords t)))) $$ HF
      case hj => decide
      case ht => omega
      iintro HF
      iapply hR
      isplitl [HT]; · iexact HT
      isplitl [HC]; · iexact HC
      isplitl [HF]
      · unfold READY; rw [if_pos (show (grid0.coords t 0).val + 1 < nT m from h0)]; iexact HF
      iexact HX
    case hB =>
      intro h2
      have h0 : ¬ (grid0.coords t 0).val + 1 < nT m := fun h => h2 ((cond2_iff _ _ hn).2 h)
      iintro ⟨HT, HC, HI, HX⟩
      isplitl [HT]; · iexact HT
      isplitl [HC]; · iexact HC
      isplitl [HI]
      · unfold READY; rw [if_neg h0]; iexact HI
      iexact HX
    isplitl [HT]; · iexact HT
    isplitl [HC]; · iexact HC
    isplitl [HI]; · iexact HI
    iexact HX
  · intro h1 hR
    have h0 : (grid0.coords t 0).val = 0 := (cond1_iff _).1 h1
    unfold CUR
    rw [if_neg (by omega)]
    rw [show slotOf (grid0.coords t 0).val = slotOf 0 by rw [h0]]
    iintro ⟨HT, HI, HN⟩
    imod (idle_to_fill m c (slotOf 0) 0) $$ HI with HF
    iapply (bind_wp c)
    rw [k0_part1_eq_skeleton]; unfold k0_part1_skel; dsimp only
    iapply (unit_then m c _ ?hn rfl) $$ HT
    case hn => decide
    iintro HT
    iapply (check_then c (check_unit _ (hG.unit _ ?hn)))
    case hn => decide
    iterate 3
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (pure_wp c)
    iapply (bind_wp c)
    rw [k0_part2_eq_skeleton]; unfold k0_part2_skel; dsimp only
    iterate 3
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (copy_then m c (slotOf 0) 0 _ ?hj (off_unit m hG 0 _ ?hj ?ht) rfl (sem_eq (slotOf 0) rfl)) $$ HF
    case hj => decide
    case ht => decide
    iintro HF
    iapply (pure_wp c)
    iapply (bind_wp c)
    rw [k0_part3_eq_skeleton]; unfold k0_part3_skel; dsimp only
    iapply (unit_then m c _ ?hn rfl) $$ HT
    case hn => decide
    iintro HT
    iapply (check_then c (check_unit _ (hG.unit _ ?hn)))
    case hn => decide
    iterate 3
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (pure_wp c)
    iapply (bind_wp c)
    rw [k0_part4_eq_skeleton]; unfold k0_part4_skel; dsimp only
    iterate 3
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (copy_then m c (slotOf 0) 0 _ ?hj (off_unit m hG 0 _ ?hj ?ht) rfl (sem_eq (slotOf 0) rfl)) $$ HF
    case hj => decide
    case ht => decide
    iintro HF
    iapply (wp_unit m c _ ?hn rfl) $$ HT
    case hn => decide
    iintro HT
    iapply (bind_wp c)
    rw [k0_part5_eq_skeleton]; unfold k0_part5_skel; dsimp only
    iapply (check_then c (check_unit _ (hG.unit _ ?hn)))
    case hn => decide
    iterate 3
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (pure_wp c)
    iapply (bind_wp c)
    rw [k0_part6_eq_skeleton]; unfold k0_part6_skel; dsimp only
    iterate 4
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (pure_wp c)
    iapply (bind_wp c)
    rw [k0_part7_eq_skeleton]; unfold k0_part7_skel; dsimp only
    iterate 3
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (pure_wp c)
    iapply (bind_wp c)
    rw [k0_part8_eq_skeleton]; unfold k0_part8_skel; dsimp only
    iterate 4
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (pure_wp c)
    iapply (bind_wp c)
    rw [k0_part9_eq_skeleton]; unfold k0_part9_skel; dsimp only
    iterate 3
      iapply (copy_then m c (slotOf 0) 0 _ ?hj (off_unit m hG 0 _ ?hj ?ht) rfl (sem_eq (slotOf 0) rfl)) $$ HF
      case hj => decide
      case ht => decide
      iintro HF
      iapply (unit_then m c _ ?hn rfl) $$ HT
      case hn => decide
      iintro HT
      iapply (check_then c (check_unit _ (hG.unit _ ?hn)))
      case hn => decide
    iapply (pure_wp c)
    iapply (copy_then m c (slotOf 0) 0 _ ?hj (off_unit m hG 0 _ ?hj ?ht) rfl (sem_eq (slotOf 0) rfl)) $$ HF
    case hj => decide
    case ht => decide
    iintro HF
    iapply hR
    isplitl [HT]; · iexact HT
    isplitl [HF]
    · unfold READY; rw [h0, if_pos (show 0 < nT m from hpos)]; iexact HF
    iexact HN
  · intro h1
    have h0 : (grid0.coords t 0).val ≠ 0 := fun h => h1 ((cond1_iff _).2 h)
    iintro ⟨HT, HC, HN⟩
    isplitl [HT]; · iexact HT
    isplitl [HC]
    · unfold CUR READY
      by_cases h : (grid0.coords t 0).val < nT m
      · rw [if_pos ⟨by omega, h⟩, if_pos h]; exact .rfl
      · rw [if_neg (fun h' => h h'.2), if_neg h]; exact .rfl
    iexact HN

end Cert.KernelIdeal.Ffn

end
-- ==== Proof.Run.lean ====
module

public import proofs.«01_k».proof.Proof.Blocks
public import proofs.«01_k».proof.Proof.Body

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What holds between two points -/

/-- The point before point `t` has left its weights, cast, where its successor looks for them. -/
def WTS (hO : Ok m) (c : Dev nD) (t : ℕ) : sProp 𝕄 :=
  iprop(∃ dG, ∃ dU, ∃ dD, ⌜∀ s : Fin (cfgM m hO).N, s.val + 1 = t → s.val < nT m → dG = k0_pay3 (iblk m hO c 0 s) ∧ dU = k0_pay4 (iblk m hO c 1 s) ∧ dD = k0_pay5 (iblk m hO c 2 s)⌝
    ∗ owns (c : Thread nD τ) scG fullShare dG ∗ owns (c : Thread nD τ) scU fullShare dU ∗ owns (c : Thread nD τ) scD fullShare dD)

/-- The invariant before point `t`: the tables, the random register, what is left of the rows, the cast weights, the slot
    the point computes with, and the slot it fills. -/
def INV (hO : Ok m) (c : Dev nD) (t : ℕ) : sProp 𝕄 :=
  iprop(tables m c ∗ (∃ r, prngReg c r) ∗ LEFT m c ∗ WTS m hO c t ∗ CUR m c t ∗ IDLE m c (slotOf (t + 1)))

/-- What the body leaves in the output's staging buffer at point `t`. -/
def outT (hO : Ok m) (c : Dev nD) (t : Fin (cfgM m hO).N) : S512x1024.Idx → Elt F .bf16 :=
  if t.val < nT m then k0_pay1 (gx m c t.val) (k0_pay3 (iblk m hO c 0 t)) (k0_pay4 (iblk m hO c 1 t)) (k0_pay5 (iblk m hO c 2 t)) else k0_pay2 (F := F)

def dats (hO : Ok m) (_ : Fin 1) (c : Dev nD) : Dat τ (Elt F) Unit ℕ (Pipeline.UD sig nD τ) ℕ (cfgM m hO) c where
  A w := V m c (Pipeline.arrRef spec0 w)
  after w t := match w with | ⟨0, _⟩ => iblk m hO c 0 t | ⟨1, _⟩ => iblk m hO c 1 t | ⟨2, _⟩ => iblk m hO c 2 t | ⟨3, _⟩ => outT m hO c t
  Φ t := INV m hO c t.val
  q _ := fullShare
  owed _ := 0

theorem A_eq (hO : Ok m) (c : Dev nD) (w : Fin (cfgM m hO).W) : (dats m hO 0 c).A w = V m c (Pipeline.arrRef spec0 w) := by dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outT m hO c t := by dsimp only [dats]; try rfl
theorem before0 (hO : Ok m) (c : Dev nD) (t : Fin (cfgM m hO).N) (d) : (dats m hO 0 c).before 0 t d = iblk m hO c 0 t := before_of0 m hO (dats m hO 0 c) (A_eq m hO c 0) (after0 m hO c) t d
theorem before1 (hO : Ok m) (c : Dev nD) (t : Fin (cfgM m hO).N) (d) : (dats m hO 0 c).before 1 t d = iblk m hO c 1 t := before_of1 m hO (dats m hO 0 c) (A_eq m hO c 1) (after1 m hO c) t d
theorem before2 (hO : Ok m) (c : Dev nD) (t : Fin (cfgM m hO).N) (d) : (dats m hO 0 c).before 2 t d = iblk m hO c 2 t := before_of2 m hO (dats m hO 0 c) (A_eq m hO c 2) (after2 m hO c) t d

theorem slot_two (t : ℕ) : slotOf (t + 1 + 1) = slotOf t := by
  unfold slotOf; apply Fin.ext; simp only []; omega

theorem cur_ready (c : Dev nD) (t : ℕ) : READY m c (t + 1) = CUR m c (t + 1) := by
  unfold READY CUR
  by_cases h : t + 1 < nT m
  · rw [if_pos h, if_pos ⟨Nat.succ_pos t, h⟩]
  · rw [if_neg h, if_neg (fun e => h e.2)]

/-- One point: from the invariant and the staging buffers to the next point's invariant and what is left in them. -/
theorem step (hG : Good m) (hO : Ok m) (c : Dev nD) (t : Fin (cfgM m hO).N) (d3 : S512x1024.Idx → Elt F .bf16) :
    iprop(INV m hO c t.val ∗ iprop(∃ W, owes (c : Thread nD τ) 0 W)
        ∗ owns (c : Thread nD τ) (ms0 m hO t) fullShare (iblk m hO c 0 t) ∗ owns (c : Thread nD τ) (ms1 m hO t) fullShare (iblk m hO c 1 t)
        ∗ owns (c : Thread nD τ) (ms2 m hO t) fullShare (iblk m hO c 2 t) ∗ owns (c : Thread nD τ) (ms3 m hO t) fullShare d3)
      ⊢ WP c (bodyAt m hO t) fun _ => iprop(INV m hO c (t.val + 1) ∗ iprop(∃ W, owes (c : Thread nD τ) 0 W)
        ∗ owns (c : Thread nD τ) (ms0 m hO t) fullShare (iblk m hO c 0 t) ∗ owns (c : Thread nD τ) (ms1 m hO t) fullShare (iblk m hO c 1 t)
        ∗ owns (c : Thread nD τ) (ms2 m hO t) fullShare (iblk m hO c 2 t) ∗ owns (c : Thread nD τ) (ms3 m hO t) fullShare (outT m hO c t)) := by
  unfold INV WTS
  iintro ⟨⟨HT, HP, HL, ⟨%dG, %dU, %dD, %hw, HG, HU, HD⟩, HC, HI⟩, HW, H0, H1, H2, H3⟩
  have hw' : t.val < nT m → firstOf m t.val ≠ 1#32 → dG = k0_pay3 (iblk m hO c 0 t) ∧ dU = k0_pay4 (iblk m hO c 1 t) ∧ dD = k0_pay5 (iblk m hO c 2 t) := by
    intro hn hf
    rcases hG.first t.val t.isLt with h | ⟨hp, he⟩
    · exact absurd h hf
    · have hs : t.val - 1 < (cfgM m hO).N := lt_of_le_of_lt (Nat.sub_le _ _) t.isLt
      obtain ⟨e0, e1, e2⟩ := hw ⟨t.val - 1, hs⟩ (Nat.sub_add_cancel hp) (lt_of_le_of_lt (Nat.sub_le _ _) hn)
      have q : expertOf m (⟨t.val - 1, hs⟩ : Fin (cfgM m hO).N).val = expertOf m t.val := he.symm
      refine ⟨e0.trans (congrArg k0_pay3 (same0 hG hO c _ t q)), e1.trans (congrArg k0_pay4 (same1 hG hO c _ t q)), e2.trans (congrArg k0_pay5 (same2 hG hO c _ t q))⟩
  have S := sound m hG hO c t (iblk m hO c 0 t) (iblk m hO c 1 t) (iblk m hO c 2 t) d3 dG dU dD (by rw [coords_val t]; exact hw') _ rfl _ rfl
  rw [coords_val t] at S
  iapply (wp_wand (Q := _) _ _ _) $$ [HT HC HI HW H0 H1 H2 H3 HG HU HD]
  · iapply S
    isplitl [HT]; · iexact HT
    isplitl [HC]; · iexact HC
    isplitl [HI]; · iexact HI
    isplitl [HW]; · iexact HW
    isplitl [H0]; · iexact H0
    isplitl [H1]; · iexact H1
    isplitl [H2]; · iexact H2
    isplitl [H3]; · iexact H3
    isplitl [HG]; · iexact HG
    isplitl [HU]; · iexact HU
    iexact HD
  iintro %u ⟨HT, HI, HC, HW, H0, H1, H2, H3, HG, HU, HD⟩
  isplitl [HT HP HL HG HU HD HC HI]
  · isplitl [HT]; · iexact HT
    isplitl [HP]; · iexact HP
    isplitl [HL]; · iexact HL
    isplitl [HG HU HD]
    · iexists (if t.val < nT m then k0_pay3 (iblk m hO c 0 t) else dG)
      iexists (if t.val < nT m then k0_pay4 (iblk m hO c 1 t) else dU)
      iexists (if t.val < nT m then k0_pay5 (iblk m hO c 2 t) else dD)
      isplitr
      · ipureintro
        intro s hs hn
        obtain rfl : s = t := Fin.ext (by omega)
        exact ⟨if_pos hn, if_pos hn, if_pos hn⟩
      isplitl [HG]; · iexact HG
      isplitl [HU]; · iexact HU
      iexact HD
    isplitl [HC]
    · iapply (Entails.of_eq (cur_ready m c t.val)) $$ HC
    rw [slot_two]
    iexact HI
  isplitl [HW]; · iexact HW
  isplitl [H0]; · iexact H0
  isplitl [H1]; · iexact H1
  isplitl [H2]; · iexact H2
  unfold outT
  iexact H3

/-! ## The body's obligation -/

/-- The output is written back at every point. -/
theorem flush3 (hO : Ok m) (t : Fin (cfgM m hO).N) : ((cfgM m hO).win 3).flush t = true :=
  (fun t => (Pipeline.Window.flushOf_reads cc0_transform_4 reads0_3 hreads0_3 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true) t

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d)) ∗ (∃ d, owns (c : Thread nD τ) (ms1 m hO t) fullShare ((dats m hO 0 c).before 1 t d))
    ∗ (∃ d, owns (c : Thread nD τ) (ms2 m hO t) fullShare ((dats m hO 0 c).before 2 t d)) ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t) ∗ owns (c : Thread nD τ) (ms1 m hO t) fullShare ((dats m hO 0 c).after 1 t)
    ∗ owns (c : Thread nD τ) (ms2 m hO t) fullShare ((dats m hO 0 c).after 2 t) ∗ owns (c : Thread nD τ) (ms3 m hO t) fullShare ((dats m hO 0 c).after 3 t))

theorem sound_body (hG : Good m) (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before0, before1, before2]
  rw [after0, after1, after2, after3]
  unfold Dat.owesAt Pipeline.owesWithin
  rw [show (dats m hO 0 c).owed t.castSucc = 0 from rfl, show (dats m hO 0 c).owed t.succ = 0 from rfl,
    show (dats m hO 0 c).Φ t.castSucc = INV m hO c t.val from rfl, show (dats m hO 0 c).Φ t.succ = INV m hO c (t.val + 1) from rfl]
  iintro ⟨HI, ⟨%W, -, HW⟩, ⟨%_, H0⟩, ⟨%_, H1⟩, ⟨%_, H2⟩, ⟨%d, H3⟩⟩
  iapply (wp_wand (Q := _) _ _ _) $$ [HI HW H0 H1 H2 H3]
  · iapply (step m hG hO c t _)
    isplitl [HI]; · iexact HI
    isplitl [HW]; · iexists W; iexact HW
    isplitl [H0]; · iexact H0
    isplitl [H1]; · iexact H1
    isplitl [H2]; · iexact H2
    iexact H3
  iintro %_ ⟨HI, ⟨%W', HW⟩, H⟩
  isplitl [HI]; · iexact HI
  isplitl [HW]
  · iexists W'
    isplitr; · ipureintro; exact fun _ _ => Or.inl trivial
    iexact HW
  iexact H

theorem body_obligation (hG : Good m) (hO : Ok m) (c : Dev nD) : BodyObligation (dats (F := F) m hO 0 c) (defs₀ (F := F)) Variants.none () Set.univ := fun t => by
  rw [bigSep_W0, bigSep_W0, defs_row m hO]
  refine triple_restated (sound_body m hG hO c t) rfl .rfl fun _ => ?_
  unfold bodyPost
  refine sep_mono .rfl (sep_mono .rfl (sep_mono .rfl (sep_mono .rfl (sep_mono .rfl ?_))))
  have hf := flush3 m hO t
  dsimp only
  split
  · split
    · rename_i h
      exact absurd (hf.symm.trans h) (by decide)
    · exact Entails.of_eq rfl
  · exact Entails.of_eq rfl

/-! ## The launch -/

theorem inv_enter (hG : Good m) (hO : Ok m) (c : Dev nD) : iprop(Pipeline.ΦD osem spec0 Hx (V m) c ∗ Pipeline.ΦT pre0 (tbl m) c) ⊢ INV m hO c 0 := by
  have hp := hG.live_pos
  rw [given_eq, tables_eq]
  unfold INV WTS CUR
  rw [if_neg (fun e => absurd e.1 (Nat.lt_irrefl 0))]
  iintro ⟨⟨⟨HX, ⟨%dG, HG⟩, ⟨%dU, HU⟩, %dD, HD⟩, HP, ⟨HS0, HS1⟩, HR⟩, HT⟩
  ihave H := (deal m c) $$ [HX HR]
  · isplitl [HX]; · iexact HX
    iexact HR
  icases H with ⟨HL, H0, H1⟩
  isplitl [HT]; · iexact HT
  isplitl [HP]; · iexact HP
  isplitl [HL]; · iexact HL
  isplitl [HG HU HD]
  · iexists dG, dU, dD
    isplitr
    · ipureintro
      intro s hs
      exact absurd hs (Nat.succ_ne_zero _)
    isplitl [HG]; · iexact HG
    isplitl [HU]; · iexact HU
    iexact HD
  isplitl [HS0 H0]
  · iapply (idle_of m c 0)
    isplitl [HS0]; · iexact HS0
    iexact H0
  · iapply (idle_of m c 1)
    isplitl [HS1]; · iexact HS1
    iexact H1

theorem inv_leave (hG : Good m) (hO : Ok m) (c : Dev nD) : INV m hO c 110 ⊢ Pipeline.ΦD osem spec0 Hx (V m) c := by
  have hp := hG.live_le
  rw [given_eq]
  unfold INV WTS CUR
  rw [if_neg (fun e => absurd e.2 (Nat.not_lt.2 hp)), show slotOf 110 = 0 from rfl, show slotOf (110 + 1) = 1 from rfl]
  unfold IDLE
  iintro ⟨-, HP, HL, ⟨%dG, %dU, %dD, -, HG, HU, HD⟩, ⟨HS0, H0⟩, HS1, H1⟩
  ihave H := (undeal m c) $$ [HL H0 H1]
  · isplitl [HL]; · iexact HL
    isplitl [H0]; · iapply (free_loose m c 0) $$ H0
    iapply (free_loose m c 1) $$ H1
  icases H with ⟨HX, HR⟩
  isplitl [HX HG HU HD]
  · isplitl [HX]; · iexact HX
    isplitl [HG]; · iexists dG; iexact HG
    isplitl [HU]; · iexists dU; iexact HU
    iexists dD; iexact HD
  isplitl [HP]; · iexact HP
  isplitl [HS0 HS1]
  · isplitl [HS0]; · iexact HS0
    iexact HS1
  iexact HR

-- the launch theorem's implicit arguments are found by unfolding plain definitions in a metavariable's type
set_option backward.isDefEq.respectTransparency.types false in
/-- The launch: every array of the pipeline at what the proof data computes, every counter at zero. -/
theorem run_quiescent (hG : Good m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem defs₀ Variants.none osemFacts Hx Hx_sub m ρ main
    (hbody := fun c => (body_obligation m hG hO c).loose) (hshare := fun c => (dats m hO 0 c).share_full fun _ => rfl)
    (howed := fun _ _ => rfl) (V := V m) (hmain := hmain m Variants.none) (hA := A_eq m hO) (hpf := V_pre m)
    (hin := fun c => inv_enter m hG hO c) (hout := fun c => inv_leave m hG hO c)

/-- The frame at any values: the arguments end unchanged and every counter is zero. -/
theorem frame (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨frame_of m (ok_of_good m hG) (dats m (ok_of_good m hG)) (A_eq m (ok_of_good m hG)) h.1, h.2⟩) (run_quiescent m ρ hG (ok_of_good m hG))

end Cert.KernelIdeal.Ffn

end
-- ==== Proof.HostOps.lean ====
/- Three array operations of the reference, read at one index: the product that keeps an axis between its row and its
column, the product summed over two axes, and the gather of blocks of rows; and the
expert feed-forward that the kernel and the reference both come to. -/
module

public import Idealize.ShloMosaic.PureOps.Ideal.Laws
public import Idealize.ShloMosaic.Lib.ValueIdxCore
public import Idealize.ShloMosaic.Lib.ValueLayout
public import Idealize.ShloMosaic.Lib.TwoAxisContraction

@[expose] public section

noncomputable section

namespace Cert.Ffn

open Idealize.ShloMosaic Idealize.ShloMosaic.ValueIdx
open scoped BigOperators

/-- One expert's feed-forward of one row, at one column: the hidden unit is silu of the gate's product times the up
product, and the hidden units are summed against the down weights. -/
def feed (x : Fin 1024 → EReal) (g u : Fin 1024 → Fin 512 → EReal) (w : Fin 512 → EReal) : EReal :=
  ∑ f : Fin 512, ((∑ d, x d * g d f) * Ideal.logistic (∑ d, x d * g d f) * ∑ d, x d * u d f) * w f

section Products
variable {T D E N : Nat} {φ₁ φ₂ : FTy}

/-- Every row against every expert's matrix: entry (t, e, f) is the sum over d of A[t, d] * B[e, d, f]. -/
theorem project_apply (w : DotDims.WF ⟨2, ![T, D]⟩ ⟨3, ![E, D, N]⟩ ⟨3, ![T, E, N]⟩ [1] [1] [0] [0, 2] [] [])
    (prec : Option ContractPrecision) (A : FVec Ideal ⟨2, ![T, D]⟩ φ₁) (B : FVec Ideal ⟨3, ![E, D, N]⟩ φ₂)
    (t : Fin T) (e : Fin E) (f : Fin N) :
    Host.dotGeneral (⟨[1], [1], [0], [0, 2], [], [], w⟩ : DotDims _ _ _) prec A B (ix3 t e f)
      = ∑ d : Fin D, A (ix2 t d) * B (ix3 e d f) := by
  show FloatOps.dotGeneral _ prec _ A B (ix3 t e f) = _
  rw [Ideal.dotGeneral_apply,
    ← Equiv.sum_comp (contrEquiv1 (⟨[1], [1], [0], [0, 2], [], [], w⟩ : DotDims _ _ _) D rfl rfl).symm]
  refine Finset.sum_congr rfl fun d _ => ?_
  have hd := contrEquiv1_symm_val
    (⟨[1], [1], [0], [0, 2], [], [], w⟩ : DotDims ⟨2, ![T, D]⟩ ⟨3, ![E, D, N]⟩ ⟨3, ![T, E, N]⟩) D rfl rfl d
  have hl : (⟨[1], [1], [0], [0, 2], [], [], w⟩ : DotDims ⟨2, ![T, D]⟩ ⟨3, ![E, D, N]⟩ ⟨3, ![T, E, N]⟩).lhsIdx (ix3 t e f)
      ((contrEquiv1 _ D rfl rfl).symm d) = ix2 t d := by
    funext ax; apply Fin.ext
    match ax with
    | ⟨0, _⟩ => simp [DotDims.lhsIdx]; rfl
    | ⟨1, _⟩ => simp [DotDims.lhsIdx]; exact hd
  have hr : (⟨[1], [1], [0], [0, 2], [], [], w⟩ : DotDims ⟨2, ![T, D]⟩ ⟨3, ![E, D, N]⟩ ⟨3, ![T, E, N]⟩).rhsIdx (ix3 t e f)
      ((contrEquiv1 _ D rfl rfl).symm d) = ix3 e d f := by
    funext ax; apply Fin.ext
    match ax with
    | ⟨0, _⟩ => simp [DotDims.rhsIdx]; rfl
    | ⟨1, _⟩ => simp [DotDims.rhsIdx]; exact hd
    | ⟨2, _⟩ => simp [DotDims.rhsIdx]; rfl
  rw [hl, hr]

/-- The sum over experts and hidden units: entry (t, d) is the sum over e and f of A[t, e, f] * B[e, f, d]. -/
theorem collect_apply (w : DotDims.WF ⟨3, ![T, E, N]⟩ ⟨3, ![E, N, D]⟩ ⟨2, ![T, D]⟩ [1, 2] [0, 1] [0] [2] [] [])
    (prec : Option ContractPrecision) (A : FVec Ideal ⟨3, ![T, E, N]⟩ φ₁) (B : FVec Ideal ⟨3, ![E, N, D]⟩ φ₂)
    (t : Fin T) (d : Fin D) :
    Host.dotGeneral (⟨[1, 2], [0, 1], [0], [2], [], [], w⟩ : DotDims _ _ _) prec A B (ix2 t d)
      = ∑ e : Fin E, ∑ f : Fin N, A (ix3 t e f) * B (ix3 e f d) := by
  show FloatOps.dotGeneral _ prec _ A B (ix2 t d) = _
  rw [Ideal.dotGeneral_apply,
    sum_contr2 (⟨[1, 2], [0, 1], [0], [2], [], [], w⟩ : DotDims _ _ _) E N rfl rfl rfl]
  refine Finset.sum_congr rfl fun e _ => Finset.sum_congr rfl fun f _ => ?_
  have h0 := contrEquiv2_symm_val0
    (⟨[1, 2], [0, 1], [0], [2], [], [], w⟩ : DotDims ⟨3, ![T, E, N]⟩ ⟨3, ![E, N, D]⟩ ⟨2, ![T, D]⟩) E N rfl rfl rfl (e, f)
  have h1 := contrEquiv2_symm_val1
    (⟨[1, 2], [0, 1], [0], [2], [], [], w⟩ : DotDims ⟨3, ![T, E, N]⟩ ⟨3, ![E, N, D]⟩ ⟨2, ![T, D]⟩) E N rfl rfl rfl (e, f)
  have hl : (⟨[1, 2], [0, 1], [0], [2], [], [], w⟩ : DotDims ⟨3, ![T, E, N]⟩ ⟨3, ![E, N, D]⟩ ⟨2, ![T, D]⟩).lhsIdx (ix2 t d)
      ((contrEquiv2 _ E N rfl rfl rfl).symm (e, f)) = ix3 t e f := by
    funext ax; apply Fin.ext
    match ax with
    | ⟨0, _⟩ => simp [DotDims.lhsIdx]; rfl
    | ⟨1, _⟩ => simp [DotDims.lhsIdx]; exact h0
    | ⟨2, _⟩ => simp [DotDims.lhsIdx]; exact h1
  have hr : (⟨[1, 2], [0, 1], [0], [2], [], [], w⟩ : DotDims ⟨3, ![T, E, N]⟩ ⟨3, ![E, N, D]⟩ ⟨2, ![T, D]⟩).rhsIdx (ix2 t d)
      ((contrEquiv2 _ E N rfl rfl rfl).symm (e, f)) = ix3 e f d := by
    funext ax; apply Fin.ext
    match ax with
    | ⟨0, _⟩ => simp [DotDims.rhsIdx]; exact h0
    | ⟨1, _⟩ => simp [DotDims.rhsIdx]; exact h1
    | ⟨2, _⟩ => simp [DotDims.rhsIdx]; rfl
  rw [hl, hr]

end Products

/-- Blocks of rows by number: entry (j, r, d) is the block of the number at j, read signed and kept below the number of
blocks, at (r, d). -/
theorem blocks_apply {α : Type} {B R D J w : Nat} (hB : 0 < B)
    (wf : GatherDims.WF ⟨3, ![B, R, D]⟩ ⟨2, ![J, 1]⟩ ⟨3, ![J, R, D]⟩ [1, 2] [0] [] [0] [] 1 ![1, R, D])
    (x : (⟨3, ![B, R, D]⟩ : Shape).Idx → α) (idx : IVec ⟨2, ![J, 1]⟩ w) (j : Fin J) (r : Fin R) (d : Fin D) :
    Host.gather (⟨[1, 2], [0], [], [], [0], 1, ![1, R, D], wf⟩ : GatherDims _ _ _) x idx (ix3 j r d)
      = x (ix3 ⟨min (idx (ix2 j 0)).toInt.toNat (B - 1), by omega⟩ r d) := by
  unfold Host.gather
  congr 1
  funext a
  refine Fin.ext ?_
  set G : GatherDims ⟨3, ![B, R, D]⟩ ⟨2, ![J, 1]⟩ ⟨3, ![J, R, D]⟩ := ⟨[1, 2], [0], [], [], [0], 1, ![1, R, D], wf⟩ with hG
  show G.start (ix3 j r d) idx a + G.batchCoord (ix3 j r d) a + G.offCoord (ix3 j r d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    show G.start (ix3 j r d) idx 0 = min (idx (ix2 j 0)).toInt.toNat (B - 1)
    unfold GatherDims.start
    rw [dif_pos (show (0 : Fin 3) ∈ G.startIndexMap from List.mem_singleton.mpr rfl)]
    have hsi : G.siIdx (ix3 j r d) ⟨List.idxOf (0 : Fin 3) G.startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  | ⟨1, _⟩ =>
    have hs : G.start (ix3 j r d) idx 1 = 0 := by
      unfold GatherDims.start
      exact dif_neg (show (1 : Fin 3) ∉ [(0 : Fin 3)] by decide)
    have ho : G.offCoord (ix3 j r d) 1 = r.val := by
      unfold GatherDims.offCoord
      rw [dif_pos ((GatherDims.mem_sKept _ _).mpr ⟨show (1 : Fin 3) ∉ [(0 : Fin 3)] by decide, List.not_mem_nil⟩)]
      rfl
    show G.start (ix3 j r d) idx 1 + 0 + G.offCoord (ix3 j r d) 1 = r.val
    rw [hs, ho]; omega
  | ⟨2, _⟩ =>
    have hs : G.start (ix3 j r d) idx 2 = 0 := by
      unfold GatherDims.start
      exact dif_neg (show (2 : Fin 3) ∉ [(0 : Fin 3)] by decide)
    have ho : G.offCoord (ix3 j r d) 2 = d.val := by
      unfold GatherDims.offCoord
      rw [dif_pos ((GatherDims.mem_sKept _ _).mpr ⟨show (2 : Fin 3) ∉ [(0 : Fin 3)] by decide, List.not_mem_nil⟩)]
      rfl
    show G.start (ix3 j r d) idx 2 + 0 + G.offCoord (ix3 j r d) 2 = d.val
    rw [hs, ho]; omega

end Cert.Ffn

end
-- ==== Proof.Reference.lean ====
/- What the reference computes, read at one row and column: over the extended reals its sum over experts, weighted by the
one-hot gate, is the feed-forward of the row's own expert, or zero past the live tiles. -/
module

public import proofs.«01_k».proof.Proof.Gen.ReferenceIdeal
public import proofs.«01_k».proof.Proof.HostOps
public import Idealize.ShloMosaic.Lib.IdealHost
public import Idealize.ShloMosaic.Lib.Pipeline.Value

@[expose] public section

set_option maxRecDepth 16384

noncomputable section

namespace Cert.ReferenceIdeal.Ffn

open Cert.ReferenceIdeal Cert.ReferenceIdeal.Gen
open Idealize.ShloMosaic Idealize.ShloMosaic.ValueIdx
open Cert.Ffn (feed)
open scoped BigOperators

/-! ## The stages of the reference -/

/-- The gathered rows. -/
def rows (U : IVec S3520 32) (X : FVec Ideal S49152x1024 .bf16) : FVec Ideal S56320x1024 .f32 :=
  shapeCast _ (Host.gather gather_S3072x16x1024_S3520x1_S3520x16x1024_12_0_n_n_0_1_1161024
    (shapeCast _ (extf .f32 X bitsLt_bf16_f32) shapeCasts_S49152x1024_S3072x16x1024)
    (broadcastInDim S3520x1 ![0] bcast_S3520_S3520x1_0
      (select (cmpi .slt U (broadcastInDim S3520 ![] bcast_S_S3520 (constantI S_ 32 0#32)))
        (addi U (broadcastInDim S3520 ![] bcast_S_S3520 (constantI S_ 32 3072#32))) U)))
    shapeCasts_S3520x16x1024_S56320x1024

/-- The first layer's weights of the gate or of the up product. -/
def layer (w : FVec Ideal S4x16x1024x512 .f32) : FVec Ideal S16x1024x512 .f32 :=
  shapeCast _ (extractStridedSlice S1x16x1024x512 ![0, 0, 0, 0] w slices_S4x16x1024x512_S1x16x1024x512_0_0_0_0) shapeCasts_S1x16x1024x512_S16x1024x512

/-- The first layer's down weights. -/
def layerDown (w : FVec Ideal S4x16x512x1024 .f32) : FVec Ideal S16x512x1024 .f32 :=
  shapeCast _ (extractStridedSlice S1x16x512x1024 ![0, 0, 0, 0] w slices_S4x16x512x1024_S1x16x512x1024_0_0_0_0) shapeCasts_S1x16x512x1024_S16x512x1024

/-- Every row against every expert. -/
def proj (x : FVec Ideal S56320x1024 .f32) (w : FVec Ideal S16x1024x512 .f32) : FVec Ideal S56320x16x512 .f32 :=
  Host.dotGeneral dot_S56320x1024_S16x1024x512_S56320x16x512_1_1_0_02_n_n none x w

/-- 1 / (1 + exp (-a)). -/
def logi (a : FVec Ideal S56320x16x512 .f32) : FVec Ideal S56320x16x512 .f32 :=
  Host.divf (broadcastInDim S56320x16x512 ![] bcast_S_S56320x16x512 (constant S_ .f32 0x3F800000#32))
    (addf (broadcastInDim S56320x16x512 ![] bcast_S_S56320x16x512 (constant S_ .f32 0x3F800000#32)) (Host.exp (Host.negf a)))

/-- The one-hot gate of each tile, 0 past the live tiles. -/
def hot (E : IVec S110 32) (N : IVec S1 32) : FVec Ideal S110x16 .f32 :=
  mulf (uitofp .f32 (cmpi .eq (broadcastInDim S110x16 ![0, 1] bcast_S110x1_S110x16_0_1 (broadcastInDim S110x1 ![0] bcast_S110_S110x1_0 E))
      (broadcastInDim S110x16 ![0, 1] bcast_S1x16_S110x16_0_1 (iotaInDim S1x16 32 1))))
    (broadcastInDim S110x16 ![0, 1] bcast_S110x1_S110x16_0_1 (broadcastInDim S110x1 ![0] bcast_S110_S110x1_0
      (uitofp .f32 (cmpi .slt (iotaInDim S110 32 0) (broadcastInDim S110 ![] bcast_S_S110 (shapeCast _ N shapeCasts_S1_S_))))))

/-- The gate of each row, over the hidden units. -/
def gate (h : FVec Ideal S110x16 .f32) : FVec Ideal S56320x16x512 .f32 :=
  broadcastInDim S56320x16x512 ![0, 1, 2] bcast_S56320x16x1_S56320x16x512_0_1_2
    (broadcastInDim S56320x16x1 ![0, 1] bcast_S56320x16_S56320x16x1_0_1
      (shapeCast _ (broadcastInDim S110x512x16 ![0, 2] bcast_S110x16_S110x512x16_0_2 h) shapeCasts_S110x512x16_S56320x16))

/-- The reference's result. -/
def result (E : IVec S110 32) (N : IVec S1 32) (U : IVec S3520 32) (X : FVec Ideal S49152x1024 .bf16)
    (wg wu : FVec Ideal S4x16x1024x512 .f32) (wd : FVec Ideal S4x16x512x1024 .f32) : FVec Ideal S56320x1024 .bf16 :=
  truncf .bf16 (Host.dotGeneral dot_S56320x16x512_S16x512x1024_S56320x1024_12_01_0_2_n_n none
    (mulf (mulf (mulf (proj (rows U X) (layer wg)) (logi (proj (rows U X) (layer wg)))) (proj (rows U X) (layer wu))) (gate (hot E N)))
    (layerDown wd)) bitsLt_bf16_f32

/-! ## Each stage at an index -/

/-- A number below 3072 is not negative: it is the row block itself. -/
theorem wrap_apply (v w : BitVec 32) (h : v.toNat < 3072) : (Scalar.select (IntOp.cmpi .slt v 0#32) w v).toInt.toNat = v.toNat := by
  have e : IntOp.cmpi .slt v 0#32 = 0#1 := by
    have hi : v.toInt = v.toNat := by rw [BitVec.toInt_eq_toNat_of_lt]; omega
    have : v.slt 0#32 = false := by
      simp only [BitVec.slt, hi, decide_eq_false_iff_not]
      show ¬ ((v.toNat : ℤ) < 0)
      omega
    show BitVec.ofBool (v.slt 0#32) = 0#1
    rw [this]; rfl
  rw [e]
  show v.toInt.toNat = v.toNat
  rw [BitVec.toInt_eq_toNat_of_lt (by omega)]
  rfl

theorem rows_apply (U : IVec S3520 32) (X : FVec Ideal S49152x1024 .bf16) (hU : ∀ j, (U j).toNat < 3072) (t : Fin 56320) (d : Fin 1024) :
    rows U X (ix2 t d) = X (ix2 ⟨16 * (U (ix1 ⟨t.val / 16, by omega⟩)).toNat + t.val % 16, by
      have := hU (ix1 ⟨t.val / 16, by omega⟩); omega⟩ d) := by
  unfold rows
  have hj : t.val / 16 < 3520 := by omega
  have hr : t.val % 16 < 16 := by omega
  refine (shapeCast_apply _ shapeCasts_S3520x16x1024_S56320x1024 (ix2 t d) (ix3 ⟨t.val / 16, hj⟩ ⟨t.val % 16, hr⟩ d) (by
    rw [Shape.rowMajor_val_three, Shape.rowMajor_val_two]
    show (t.val / 16 * 16 + t.val % 16) * 1024 + d.val = t.val * 1024 + d.val
    omega)).trans ?_
  refine (Cert.Ffn.blocks_apply (by decide) gather_S3072x16x1024_S3520x1_S3520x16x1024_12_0_n_n_0_1_1161024_wf _ _ _ _ _).trans ?_
  have hb : (broadcastInDim S3520x1 ![0] bcast_S3520_S3520x1_0
      (select (cmpi .slt U (broadcastInDim S3520 ![] bcast_S_S3520 (constantI S_ 32 0#32)))
        (addi U (broadcastInDim S3520 ![] bcast_S_S3520 (constantI S_ 32 3072#32))) U) (ix2 ⟨t.val / 16, hj⟩ (0 : Fin 1))).toInt.toNat
      = (U (ix1 ⟨t.val / 16, hj⟩)).toNat := by
    rw [broadcastInDim_apply ![0] bcast_S3520_S3520x1_0 _ (ix2 ⟨t.val / 16, hj⟩ (0 : Fin 1)) (ix1 ⟨t.val / 16, hj⟩) (fun a => by
      obtain rfl : a = 0 := Subsingleton.elim _ _
      rfl)]
    exact wrap_apply _ _ (hU _)
  have hlt := hU (ix1 ⟨t.val / 16, hj⟩)
  refine (shapeCast_apply _ shapeCasts_S49152x1024_S3072x16x1024 _ (ix2 ⟨16 * (U (ix1 ⟨t.val / 16, hj⟩)).toNat + t.val % 16, by omega⟩ d) (by
    rw [Shape.rowMajor_val_three, Shape.rowMajor_val_two]
    show (16 * (U (ix1 ⟨t.val / 16, hj⟩)).toNat + t.val % 16) * 1024 + d.val = (min _ (3072 - 1) * 16 + t.val % 16) * 1024 + d.val
    rw [hb]
    omega)).trans ?_
  rfl

theorem layer_apply (w : FVec Ideal S4x16x1024x512 .f32) (e : Fin 16) (d : Fin 1024) (f : Fin 512) :
    layer w (ix3 e d f) = w (ix4 0 e d f) := by
  unfold layer
  refine (shapeCast_apply _ shapeCasts_S1x16x1024x512_S16x1024x512 (ix3 e d f) (ix4 0 e d f) (by
    rw [Shape.rowMajor_val_three, Shape.rowMajor_val_four]
    show ((0 * 16 + e.val) * 1024 + d.val) * 512 + f.val = (e.val * 1024 + d.val) * 512 + f.val
    omega)).trans ?_
  exact extractStridedSlice_apply _ _ _ _ _ (fun a => by
    match a with
    | ⟨0, _⟩ => rfl
    | ⟨1, _⟩ => show e.val = 0 + e.val; omega
    | ⟨2, _⟩ => show d.val = 0 + d.val; omega
    | ⟨3, _⟩ => show f.val = 0 + f.val; omega)

theorem layerDown_apply (w : FVec Ideal S4x16x512x1024 .f32) (e : Fin 16) (f : Fin 512) (d : Fin 1024) :
    layerDown w (ix3 e f d) = w (ix4 0 e f d) := by
  unfold layerDown
  refine (shapeCast_apply _ shapeCasts_S1x16x512x1024_S16x512x1024 (ix3 e f d) (ix4 0 e f d) (by
    rw [Shape.rowMajor_val_three, Shape.rowMajor_val_four]
    show ((0 * 16 + e.val) * 512 + f.val) * 1024 + d.val = (e.val * 512 + f.val) * 1024 + d.val
    omega)).trans ?_
  exact extractStridedSlice_apply _ _ _ _ _ (fun a => by
    match a with
    | ⟨0, _⟩ => rfl
    | ⟨1, _⟩ => show e.val = 0 + e.val; omega
    | ⟨2, _⟩ => show f.val = 0 + f.val; omega
    | ⟨3, _⟩ => show d.val = 0 + d.val; omega)

theorem proj_apply (x : FVec Ideal S56320x1024 .f32) (w : FVec Ideal S16x1024x512 .f32) (t : Fin 56320) (e : Fin 16) (f : Fin 512) :
    proj x w (ix3 t e f) = ∑ d : Fin 1024, x (ix2 t d) * w (ix3 e d f) :=
  Cert.Ffn.project_apply dot_S56320x1024_S16x1024x512_S56320x16x512_1_1_0_02_n_n_wf none x w t e f

theorem logi_apply (a : FVec Ideal S56320x16x512 .f32) (i : S56320x16x512.Idx) : logi a i = Ideal.logistic (a i) := by
  show Ideal.div (Ideal.ofBits .f32 0x3F800000#32) (Ideal.ofBits .f32 0x3F800000#32 + Ideal.exp (-(a i))) = _
  rw [Ideal.ofBits_one_f32]
  rfl

/-- A comparison's bit as a number. -/
theorem bit_value (b : Bool) : (FloatOps.uitofp (F := Ideal) .f32 (BitVec.ofBool b) : EReal) = if b = true then 1 else 0 := by
  show (((BitVec.ofBool b).toNat : ℝ) : EReal) = _
  cases b <;> simp

theorem hot_apply (E : IVec S110 32) (N : IVec S1 32) (hE : ∀ j, (E j).toNat < 16) (hN : ∀ j, (N j).toNat ≤ 110) (t : Fin 110) (e : Fin 16) :
    hot E N (ix2 t e) = (if e.val = (E (ix1 t)).toNat then 1 else 0) * (if t.val < (N (ix1 0)).toNat then (1 : EReal) else 0) := by
  unfold hot
  refine congrArg₂ (fun a b : EReal => a * b) ?_ ?_
  · have h1 : broadcastInDim S110x16 ![0, 1] bcast_S110x1_S110x16_0_1 (broadcastInDim S110x1 ![0] bcast_S110_S110x1_0 E) (ix2 t e) = E (ix1 t) := by
      rw [broadcastInDim_apply ![0, 1] bcast_S110x1_S110x16_0_1 _ (ix2 t e) (ix2 t (0 : Fin 1)) (fun a => by
        match a with
        | ⟨0, _⟩ => rfl
        | ⟨1, _⟩ => rfl)]
      exact broadcastInDim_apply ![0] bcast_S110_S110x1_0 E (ix2 t (0 : Fin 1)) (ix1 t) (fun a => by
        obtain rfl : a = 0 := Subsingleton.elim _ _
        rfl)
    have h2 : broadcastInDim S110x16 ![0, 1] bcast_S1x16_S110x16_0_1 (iotaInDim S1x16 32 1) (ix2 t e) = BitVec.ofNat 32 e.val :=
      broadcastInDim_apply ![0, 1] bcast_S1x16_S110x16_0_1 _ (ix2 t e) (ix2 (0 : Fin 1) e) (fun a => by
        match a with
        | ⟨0, _⟩ => rfl
        | ⟨1, _⟩ => rfl)
    show FloatOps.uitofp (F := Ideal) .f32 (IntOp.cmpi .eq (broadcastInDim S110x16 ![0, 1] bcast_S110x1_S110x16_0_1 (broadcastInDim S110x1 ![0] bcast_S110_S110x1_0 E) (ix2 t e))
      (broadcastInDim S110x16 ![0, 1] bcast_S1x16_S110x16_0_1 (iotaInDim S1x16 32 1) (ix2 t e))) = _
    rw [h1, h2]
    refine (bit_value _).trans (if_congr ?_ rfl rfl)
    rw [beq_iff_eq, ← BitVec.toNat_inj, BitVec.toNat_ofNat, Nat.mod_eq_of_lt (by omega)]
    exact eq_comm
  · have h1 : shapeCast S_ N shapeCasts_S1_S_ = fun _ => N (ix1 0) := funext fun i =>
      shapeCast_apply N shapeCasts_S1_S_ i (ix1 0) (by
        have h0 := (S1.rowMajor (ix1 (0 : Fin 1))).isLt
        have h1 := (S_.rowMajor i).isLt
        have e0 : S1.numel = 1 := by decide
        have e1 : S_.numel = 1 := by decide
        omega)
    rw [h1]
    rw [broadcastInDim_apply ![0, 1] bcast_S110x1_S110x16_0_1 _ (ix2 t e) (ix2 t (0 : Fin 1)) (fun a => by
        match a with
        | ⟨0, _⟩ => rfl
        | ⟨1, _⟩ => rfl)]
    rw [broadcastInDim_apply ![0] bcast_S110_S110x1_0 _ (ix2 t (0 : Fin 1)) (ix1 t) (fun a => by
        obtain rfl : a = 0 := Subsingleton.elim _ _
        rfl)]
    show FloatOps.uitofp (F := Ideal) .f32 (IntOp.cmpi .slt (BitVec.ofNat 32 t.val) (N (ix1 0))) = _
    refine (bit_value _).trans (if_congr ?_ rfl rfl)
    have hn := hN (ix1 0)
    have ht : (BitVec.ofNat 32 t.val).toNat = t.val := by rw [BitVec.toNat_ofNat]; omega
    rw [BitVec.slt, decide_eq_true_eq, BitVec.toInt_eq_toNat_of_lt (by omega), BitVec.toInt_eq_toNat_of_lt (by omega), ht]
    omega

theorem gate_apply (h : FVec Ideal S110x16 .f32) (t : Fin 56320) (e : Fin 16) (f : Fin 512) :
    gate h (ix3 t e f) = h (ix2 ⟨t.val / 512, by omega⟩ e) := by
  unfold gate
  rw [broadcastInDim_apply ![0, 1, 2] bcast_S56320x16x1_S56320x16x512_0_1_2 _ (ix3 t e f) (ix3 t e (0 : Fin 1)) (fun a => by
    match a with
    | ⟨0, _⟩ => rfl
    | ⟨1, _⟩ => rfl
    | ⟨2, _⟩ => rfl)]
  rw [broadcastInDim_apply ![0, 1] bcast_S56320x16_S56320x16x1_0_1 _ (ix3 t e (0 : Fin 1)) (ix2 t e) (fun a => by
    match a with
    | ⟨0, _⟩ => rfl
    | ⟨1, _⟩ => rfl)]
  rw [shapeCast_apply _ shapeCasts_S110x512x16_S56320x16 (ix2 t e) (ix3 (⟨t.val / 512, by omega⟩ : Fin 110) (⟨t.val % 512, by omega⟩ : Fin 512) e) (by
    rw [Shape.rowMajor_val_three, Shape.rowMajor_val_two]
    show (t.val / 512 * 512 + t.val % 512) * 16 + e.val = t.val * 16 + e.val
    omega)]
  exact broadcastInDim_apply ![0, 2] bcast_S110x16_S110x512x16_0_2 h (ix3 (⟨t.val / 512, by omega⟩ : Fin 110) (⟨t.val % 512, by omega⟩ : Fin 512) e) (ix2 (⟨t.val / 512, by omega⟩ : Fin 110) e) (fun a => by
    match a with
    | ⟨0, _⟩ => rfl
    | ⟨1, _⟩ => rfl)

/-! ## The result -/

/-- A sum over experts and hidden units whose gate is 1 at one expert and 0 at the others is that expert's sum. -/
theorem gated_sum (e₀ : Fin 16) (live : Prop) [Decidable live] (a : Fin 16 → Fin 512 → EReal) (w : Fin 16 → Fin 512 → EReal) :
    ∑ e : Fin 16, ∑ f : Fin 512, (a e f * ((if e.val = e₀.val then 1 else 0) * (if live then (1 : EReal) else 0))) * w e f
      = if live then ∑ f : Fin 512, a e₀ f * w e₀ f else 0 := by
  by_cases h : live
  · rw [if_pos h, if_pos h, Finset.sum_eq_single e₀]
    · refine Finset.sum_congr rfl fun f _ => ?_
      rw [if_pos rfl, mul_one, mul_one]
    · intro e _ he
      refine Finset.sum_eq_zero fun f _ => ?_
      rw [if_neg (fun q => he (Fin.ext q)), zero_mul, mul_zero, zero_mul]
    · intro q; exact absurd (Finset.mem_univ _) q
  · rw [if_neg h, if_neg h]
    refine Finset.sum_eq_zero fun e _ => Finset.sum_eq_zero fun f _ => ?_
    rw [mul_zero, mul_zero, zero_mul]

/-- The reference at row t and column d: the feed-forward of the row by its tile's expert where the tile is live, else 0. -/
theorem result_apply (E : IVec S110 32) (N : IVec S1 32) (U : IVec S3520 32) (X : FVec Ideal S49152x1024 .bf16)
    (wg wu : FVec Ideal S4x16x1024x512 .f32) (wd : FVec Ideal S4x16x512x1024 .f32)
    (hE : ∀ j, (E j).toNat < 16) (hN : ∀ j, (N j).toNat ≤ 110) (hU : ∀ j, (U j).toNat < 3072) (t : Fin 56320) (d : Fin 1024) :
    result E N U X wg wu wd (ix2 t d)
      = if t.val / 512 < (N (ix1 0)).toNat then
          feed (fun k => X (ix2 ⟨16 * (U (ix1 ⟨t.val / 16, by omega⟩)).toNat + t.val % 16, by
              have := hU (ix1 ⟨t.val / 16, by omega⟩); omega⟩ k))
            (fun k f => wg (ix4 0 ⟨(E (ix1 ⟨t.val / 512, by omega⟩)).toNat, hE _⟩ k f))
            (fun k f => wu (ix4 0 ⟨(E (ix1 ⟨t.val / 512, by omega⟩)).toNat, hE _⟩ k f))
            (fun f => wd (ix4 0 ⟨(E (ix1 ⟨t.val / 512, by omega⟩)).toNat, hE _⟩ f d))
        else 0 := by
  unfold result feed
  refine Eq.trans (Cert.Ffn.collect_apply dot_S56320x16x512_S16x512x1024_S56320x1024_12_01_0_2_n_n_wf none _ _ t d) ?_
  rw [← gated_sum ⟨(E (ix1 ⟨t.val / 512, by omega⟩)).toNat, hE _⟩ (t.val / 512 < (N (ix1 0)).toNat)
    (fun e f => (∑ k : Fin 1024, X (ix2 ⟨16 * (U (ix1 ⟨t.val / 16, by omega⟩)).toNat + t.val % 16, by
              have := hU (ix1 ⟨t.val / 16, by omega⟩); omega⟩ k) * wg (ix4 0 e k f))
        * Ideal.logistic (∑ k : Fin 1024, X (ix2 ⟨16 * (U (ix1 ⟨t.val / 16, by omega⟩)).toNat + t.val % 16, by
              have := hU (ix1 ⟨t.val / 16, by omega⟩); omega⟩ k) * wg (ix4 0 e k f))
        * ∑ k : Fin 1024, X (ix2 ⟨16 * (U (ix1 ⟨t.val / 16, by omega⟩)).toNat + t.val % 16, by
              have := hU (ix1 ⟨t.val / 16, by omega⟩); omega⟩ k) * wu (ix4 0 e k f))
    (fun e f => wd (ix4 0 e f d))]
  have hp : ∀ (w : FVec Ideal S4x16x1024x512 .f32) (e : Fin 16) (f : Fin 512), proj (rows U X) (layer w) (ix3 t e f)
      = ∑ k : Fin 1024, X (ix2 ⟨16 * (U (ix1 ⟨t.val / 16, by omega⟩)).toNat + t.val % 16, by
              have := hU (ix1 ⟨t.val / 16, by omega⟩); omega⟩ k) * w (ix4 0 e k f) := fun w e f => by
    rw [proj_apply]
    refine Finset.sum_congr rfl fun k _ => ?_
    rw [rows_apply U X hU, layer_apply]
  refine Finset.sum_congr rfl fun e _ => Finset.sum_congr rfl fun f _ => ?_
  refine congrArg₂ (fun a b : EReal => a * b) ?_ (layerDown_apply wd e f d)
  refine congrArg₂ (fun a b : EReal => a * b) ?_ ((gate_apply _ t e f).trans (hot_apply E N hE hN _ e))
  refine congrArg₂ (fun a b : EReal => a * b) (congrArg₂ (fun a b : EReal => a * b) (hp wg e f) ?_) (hp wu e f)
  rw [logi_apply, hp wg e f]

end Cert.ReferenceIdeal.Ffn

end
-- ==== Proof.Value.lean ====
/- What the kernel leaves: every live tile's block of the result holds its expert's feed-forward of the gathered rows, every
other block holds zeros; and this is the reference's result. -/
module

public import proofs.«01_k».proof.Proof.Run
public import proofs.«01_k».proof.Proof.Reference
public import Idealize.ShloMosaic.Lib.MatmulPlain
public import Idealize.ShloMosaic.Lib.Pipeline.ValueKit.Geometry

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

open Idealize.ShloMosaic.ValueIdx
open Cert.Ffn (feed)
open scoped BigOperators

/-! ## The block a tile leaves, at an index -/

theorem pay3_apply (v : Vec Ideal S1x1x1024x512 .f32) (k : Fin 1024) (f : Fin 512) : k0_pay3 v (ix2 k f) = v (ix4 0 0 k f) := by
  unfold k0_pay3
  refine (shapeCast_apply _ shapeCasts_S1024x512_S1024x512 (ix2 k f) (ix2 k f) rfl).trans ?_
  exact shapeCast_apply v shapeCasts_S1x1x1024x512_S1024x512 (ix2 k f) (ix4 0 0 k f) (by
    rw [Shape.rowMajor_val_two, Shape.rowMajor_val_four]
    show ((0 * 1 + 0) * 1024 + k.val) * 512 + f.val = k.val * 512 + f.val
    omega)

theorem pay4_apply (v : Vec Ideal S1x1x1024x512 .f32) (k : Fin 1024) (f : Fin 512) : k0_pay4 v (ix2 k f) = v (ix4 0 0 k f) :=
  pay3_apply v k f

theorem pay5_apply (v : Vec Ideal S1x1x512x1024 .f32) (f : Fin 512) (d : Fin 1024) : k0_pay5 v (ix2 f d) = v (ix4 0 0 f d) := by
  unfold k0_pay5
  refine (shapeCast_apply _ shapeCasts_S512x1024_S512x1024 (ix2 f d) (ix2 f d) rfl).trans ?_
  exact shapeCast_apply v shapeCasts_S1x1x512x1024_S512x1024 (ix2 f d) (ix4 0 0 f d) (by
    rw [Shape.rowMajor_val_two, Shape.rowMajor_val_four]
    show ((0 * 1 + 0) * 512 + f.val) * 1024 + d.val = f.val * 1024 + d.val
    omega)

/-- A tile's rows against one weight matrix. -/
theorem product_apply (x : Vec Ideal S1x512x1024 .bf16) (w : Vec Ideal S1024x512 .bf16) (r f : Fin 512) :
    matmul (F := Ideal) (φ₁ := .bf16) (φ₂ := .bf16) dot_S512x1024_S1024x512_S512x512_1_0_0_1_n_n none (shapeCast S512x1024 x shapeCasts_S1x512x1024_S512x1024 : FVec Ideal S512x1024 .bf16)
      (w : FVec Ideal S1024x512 .bf16) (constant S512x512 .f32 0x00000000#32) (ix2 r f)
      = ∑ k : Fin 1024, x (ix3 0 r k) * w (ix2 k f) := by
  refine (Ideal.matmul_plain_apply (M := 512) (K := 1024) (N := 512) (φ₁ := .bf16) (φ₂ := .bf16) none _ _ _ r f).trans ?_
  show Ideal.ofBits .f32 0x00000000#32 + _ = _
  rw [Ideal.ofBits_zero_f32, zero_add]
  refine Finset.sum_congr rfl fun k _ => ?_
  refine congrArg (fun a : EReal => a * w (ix2 k f)) ?_
  exact shapeCast_apply x shapeCasts_S1x512x1024_S512x1024 (ix2 r k) (ix3 0 r k) (by
    rw [Shape.rowMajor_val_two, Shape.rowMajor_val_three]
    show (0 * 512 + r.val) * 1024 + k.val = r.val * 1024 + k.val
    omega)

theorem pay1_apply (x : Vec Ideal S1x512x1024 .bf16) (g u : Vec Ideal S1024x512 .bf16) (w : Vec Ideal S512x1024 .bf16) (r : Fin 512) (d : Fin 1024) :
    k0_pay1 x g u w (ix2 r d) = feed (fun k => x (ix3 0 r k)) (fun k f => g (ix2 k f)) (fun k f => u (ix2 k f)) (fun f => w (ix2 f d)) := by
  unfold k0_pay1 feed
  refine (Ideal.matmul_plain_apply (M := 512) (K := 512) (N := 1024) (φ₁ := .bf16) (φ₂ := .bf16) none _ _ _ r d).trans ?_
  show Ideal.ofBits .f32 0x00000000#32 + _ = _
  rw [Ideal.ofBits_zero_f32, zero_add]
  refine Finset.sum_congr rfl fun f _ => ?_
  refine congrArg (fun a : EReal => a * w (ix2 f d)) ?_
  have hg := product_apply x g r f
  have hu := product_apply x u r f
  exact congrArg₂ (fun a b : EReal => a * b) (congrArg₂ (fun a b : EReal => a * b) hg (congrArg Ideal.logistic hg)) hu

theorem pay2_apply (j : S512x1024.Idx) : (k0_pay2 (F := Ideal)) j = (0 : EReal) := by
  show Ideal.ofBits .bf16 0x0000#16 = 0
  exact Ideal.ofBits_zero_bf16

/-! ## The result array -/

/-- The result at row t and column d. -/
def value (c : Dev nD) : S56320x1024.Idx → EReal := fun y =>
  Cert.ReferenceIdeal.Ffn.result (V m c main_arg0) (V m c main_arg2) (V m c main_arg3) (V m c main_arg4) (V m c main_arg5) (V m c main_arg6) (V m c main_arg7) y

variable {m}

theorem expert_word (c : Dev nD) (t : ℕ) (h : t < 110) : expertOf m t = (V m c main_arg0 : S110.Idx → BitVec 32) (ix1 ⟨t, h⟩) := by
  obtain rfl : c = 0 := Subsingleton.elim _ _
  refine (dif_pos h).trans ?_
  show (V m 0 main_arg0 : S110.Idx → BitVec 32) _ = _
  congr 1
  funext a
  obtain rfl : a = (0 : Fin 1) := Subsingleton.elim (α := Fin 1) _ _
  rfl

theorem unit_word (c : Dev nD) (j : ℕ) (h : j < 3520) : unitOf m j = (V m c main_arg3 : S3520.Idx → BitVec 32) (ix1 ⟨j, h⟩) := by
  obtain rfl : c = 0 := Subsingleton.elim _ _
  refine (dif_pos h).trans ?_
  show (V m 0 main_arg3 : S3520.Idx → BitVec 32) _ = _
  congr 1
  funext a
  obtain rfl : a = (0 : Fin 1) := Subsingleton.elim (α := Fin 1) _ _
  rfl

theorem live_word (c : Dev nD) : nT m = ((V m c main_arg2 : S1.Idx → BitVec 32) (ix1 0)).toNat := by
  obtain rfl : c = 0 := Subsingleton.elim _ _
  show ((V m 0 main_arg2 : S1.Idx → BitVec 32) _).toNat = _
  congr 2
  funext a
  obtain rfl : a = (0 : Fin 1) := Subsingleton.elim (α := Fin 1) _ _
  rfl

/-- Tile t's block is the reference's rows 512 t … 512 t + 511. -/
theorem tile_value (hG : Good m) (hO : Ok m) (c : Dev nD) (t : Fin (cfgM m hO).N) (r : Fin 512) (d : Fin 1024) (row : Fin 56320)
    (hrow : row.val = 512 * t.val + r.val) : outT m hO c t (ix2 r d) = value m c (ix2 row d) := by
  have ht : t.val < 110 := t.isLt
  have hq : row.val / 512 = t.val := by omega
  have hE : ∀ j : S110.Idx, ((V m c main_arg0 : S110.Idx → BitVec 32) j).toNat < 16 := fun j => by
    have := hG.expert (j 0).val (j 0).isLt
    rw [expert_word c _ (j 0).isLt] at this
    rw [eq_ix1 j]; exact this
  have hN : ∀ j : S1.Idx, ((V m c main_arg2 : S1.Idx → BitVec 32) j).toNat ≤ 110 := fun j => by
    have := hG.live_le
    rw [live_word c] at this
    have e : j = ix1 0 := by
      funext a
      obtain rfl : a = (0 : Fin 1) := Subsingleton.elim (α := Fin 1) _ _
      exact Subsingleton.elim (α := Fin 1) _ _
    rw [e]; exact this
  have hU : ∀ j : S3520.Idx, ((V m c main_arg3 : S3520.Idx → BitVec 32) j).toNat < 3072 := fun j => by
    have := hG.unit (j 0).val (j 0).isLt
    rw [unit_word c _ (j 0).isLt] at this
    rw [eq_ix1 j]; exact this
  refine Eq.trans ?_ (Cert.ReferenceIdeal.Ffn.result_apply (V m c main_arg0) (V m c main_arg2) (V m c main_arg3) (V m c main_arg4) (V m c main_arg5)
    (V m c main_arg6) (V m c main_arg7) hE hN hU row d).symm
  unfold outT
  by_cases hl : t.val < nT m
  · have hl' : row.val / 512 < ((V m c main_arg2 : S1.Idx → BitVec 32) (ix1 0)).toNat := by rw [← live_word c, hq]; exact hl
    rw [if_pos hl, if_pos hl', pay1_apply]
    have he : (expertOf m t.val).toNat = ((V m c main_arg0 : S110.Idx → BitVec 32) (ix1 ⟨row.val / 512, by omega⟩)).toNat := by
      rw [expert_word c t.val ht]
      congr 3
      exact Fin.ext hq.symm
    have hx : rowOf m t.val r = ⟨16 * ((V m c main_arg3 : S3520.Idx → BitVec 32) (ix1 ⟨row.val / 16, by omega⟩)).toNat + row.val % 16, by
        have := hU (ix1 ⟨row.val / 16, by omega⟩); omega⟩ := by
      apply Fin.ext
      have hj : 32 * t.val + r.val / 16 < 3520 := by omega
      have hu := hU (ix1 ⟨row.val / 16, by omega⟩)
      have e : (unitOf m (32 * t.val + r.val / 16)).toNat = ((V m c main_arg3 : S3520.Idx → BitVec 32) (ix1 ⟨row.val / 16, by omega⟩)).toNat := by
        rw [unit_word c _ hj]
        congr 3
        apply Fin.ext
        show 32 * t.val + r.val / 16 = row.val / 16
        omega
      show 16 * ((unitOf m (32 * t.val + r.val / 16)).toNat % 3072) + r.val % 16 = 16 * _ + row.val % 16
      rw [e]
      omega
    have hk : ∀ (k : Fin 1024) (f : Fin 512), (atExp (expertOf m t.val).toNat (ix4 0 0 k f) : S4x16x1024x512.Idx)
        = ix4 0 ⟨((V m c main_arg0 : S110.Idx → BitVec 32) (ix1 ⟨row.val / 512, by omega⟩)).toNat, hE _⟩ k f := fun k f => by
      funext a
      apply Fin.ext
      match a with
      | ⟨0, _⟩ => rfl
      | ⟨1, _⟩ =>
        show (expertOf m t.val).toNat % 16 = _
        rw [he]; exact Nat.mod_eq_of_lt (hE _)
      | ⟨2, _⟩ => rfl
      | ⟨3, _⟩ => rfl
    have hk' : ∀ (f : Fin 512) (d : Fin 1024), (atExp (expertOf m t.val).toNat (ix4 0 0 f d) : S4x16x512x1024.Idx)
        = ix4 0 ⟨((V m c main_arg0 : S110.Idx → BitVec 32) (ix1 ⟨row.val / 512, by omega⟩)).toNat, hE _⟩ f d := fun f d => by
      funext a
      apply Fin.ext
      match a with
      | ⟨0, _⟩ => rfl
      | ⟨1, _⟩ =>
        show (expertOf m t.val).toNat % 16 = _
        rw [he]; exact Nat.mod_eq_of_lt (hE _)
      | ⟨2, _⟩ => rfl
      | ⟨3, _⟩ => rfl
    have e1 : (fun k => gx m c t.val (ix3 0 r k)) = fun k => (V m c main_arg4 : S49152x1024.Idx → EReal) (ix2 ⟨16 * ((V m c main_arg3 : S3520.Idx → BitVec 32) (ix1 ⟨row.val / 16, by omega⟩)).toNat + row.val % 16, by
        have := hU (ix1 ⟨row.val / 16, by omega⟩); omega⟩ k) := funext fun k => by
      show (V m c main_arg4 : S49152x1024.Idx → EReal) (ix2 (rowOf m t.val r) k) = _
      rw [hx]
    have e2 : (fun (k : Fin 1024) (f : Fin 512) => k0_pay3 (iblk m hO c 0 t) (ix2 k f)) = fun k f => (V m c main_arg5 : S4x16x1024x512.Idx → EReal) (ix4 0 ⟨((V m c main_arg0 : S110.Idx → BitVec 32) (ix1 ⟨row.val / 512, by omega⟩)).toNat, hE _⟩ k f) :=
      funext fun k => funext fun f =>
        (pay3_apply _ k f).trans ((iblk0_apply hG hO c t _).trans (congrArg (V m c main_arg5) (hk k f)))
    have e3 : (fun (k : Fin 1024) (f : Fin 512) => k0_pay4 (iblk m hO c 1 t) (ix2 k f)) = fun k f => (V m c main_arg6 : S4x16x1024x512.Idx → EReal) (ix4 0 ⟨((V m c main_arg0 : S110.Idx → BitVec 32) (ix1 ⟨row.val / 512, by omega⟩)).toNat, hE _⟩ k f) :=
      funext fun k => funext fun f =>
        (pay4_apply _ k f).trans ((iblk1_apply hG hO c t _).trans (congrArg (V m c main_arg6) (hk k f)))
    have e4 : (fun (f : Fin 512) => k0_pay5 (iblk m hO c 2 t) (ix2 f d)) = fun f => (V m c main_arg7 : S4x16x512x1024.Idx → EReal) (ix4 0 ⟨((V m c main_arg0 : S110.Idx → BitVec 32) (ix1 ⟨row.val / 512, by omega⟩)).toNat, hE _⟩ f d) :=
      funext fun f =>
        (pay5_apply _ f d).trans ((iblk2_apply hG hO c t _).trans (congrArg (V m c main_arg7) (hk' f d)))
    rw [e1, e2, e3, e4]
  · have hl' : ¬ row.val / 512 < ((V m c main_arg2 : S1.Idx → BitVec 32) (ix1 0)).toNat := by rw [← live_word c, hq]; exact hl
    rw [if_neg hl, if_neg hl', pay2_apply]

/-- The result's blocks lie one under the other. -/
theorem index3 (i : grid0.Coords) : cc0_transform_4 i = ![(i 0).val, 0] := by
  have h : (i 0).val < 110 := (i 0).isLt
  have e : (BitVec.ofNat 32 (i 0).val).toNat = (i 0).val := by rw [BitVec.toNat_ofNat]; omega
  show ![(BitVec.ofNat 32 (i 0).val).toNat, 0] = _
  rw [e]

theorem covers3 (hO : Ok m) : ((cfgM m hO).win 3).Covers := by
  refine ⟨fun a => ?_, fun β => ?_⟩
  · match a with
    | ⟨0, _⟩ => exact (by decide : 0 < 512)
    | ⟨1, _⟩ => exact (by decide : 0 < 1024)
  · have n0 : ((cfgM m hO).win 3).nblk (⟨0, (by decide : 0 < 2)⟩ : Fin 2) = 110 :=
      congrArg₂ (fun a b : ℕ => (a + b - 1) / b) (show ((cfgM m hO).win 3).shape.size (⟨0, (by decide : 0 < 2)⟩ : Fin 2) = 56320 from rfl)
        (show ((cfgM m hO).win 3).size (⟨0, (by decide : 0 < 2)⟩ : Fin 2) = 512 from rfl)
    have n1 : ((cfgM m hO).win 3).nblk (⟨1, (by decide : 1 < 2)⟩ : Fin 2) = 1 :=
      congrArg₂ (fun a b : ℕ => (a + b - 1) / b) (show ((cfgM m hO).win 3).shape.size (⟨1, (by decide : 1 < 2)⟩ : Fin 2) = 1024 from rfl)
        (show ((cfgM m hO).win 3).size (⟨1, (by decide : 1 < 2)⟩ : Fin 2) = 1024 from rfl)
    have l0 : ∀ b : Fin (((cfgM m hO).win 3).nblk (⟨0, (by decide : 0 < 2)⟩ : Fin 2)), b.val < 110 := fun b => lt_of_lt_of_eq b.isLt n0
    have l1 : ∀ b : Fin (((cfgM m hO).win 3).nblk (⟨1, (by decide : 1 < 2)⟩ : Fin 2)), b.val < 1 := fun b => lt_of_lt_of_eq b.isLt n1
    have h0 := l0 (β (⟨0, (by decide : 0 < 2)⟩ : Fin 2))
    have h1 := l1 (β (⟨1, (by decide : 1 < 2)⟩ : Fin 2))
    refine ⟨(⟨(β (⟨0, (by decide : 0 < 2)⟩ : Fin 2)).val, h0⟩ : Fin 110), flush3 m hO _, fun a => ⟨?_, Or.inl rfl⟩⟩
    have e : cc0_transform_4 (grid0.coords (⟨(β (⟨0, (by decide : 0 < 2)⟩ : Fin 2)).val, h0⟩ : Fin 110))
        = ![(β (⟨0, (by decide : 0 < 2)⟩ : Fin 2)).val, 0] :=
      (index3 _).trans (congrArg (fun n : ℕ => ![n, 0]) (coords_val _))
    match a with
    | ⟨0, _⟩ => exact congrFun e 0
    | ⟨1, _⟩ => exact (congrFun e 1).trans (Nat.lt_one_iff.mp h1).symm

/-- After the run the result array is the reference's. -/
theorem final (hG : Good m) (hO : Ok m) (c : Dev nD) : (dats m hO 0 c).arrAt 3 (cfgM m hO).N = value m c := by
  refine (dats m hO 0 c).arrAt_eq_of_covers 3 (value m c) (covers3 hO) (fun t hf (y : S512x1024.Idx) => ?_)
  rw [after3]
  have h0 : (y 0).val < 512 := (y 0).isLt
  have h1 : (y 1).val < 1024 := (y 1).isLt
  have ht : t.val < 110 := t.isLt
  have hy : ((((cfgM m hO).win 3).blk t).view.emb y : S56320x1024.Idx) = ix2 ⟨512 * t.val + (y 0).val, by omega⟩ ⟨(y 1).val, h1⟩ := by
    funext a
    apply Fin.ext
    match a with
    | ⟨0, _⟩ =>
      show cc0_transform_4 (grid0.coords t) 0 * 512 + 1 * (y 0).val = 512 * t.val + (y 0).val
      rw [index3, coords_val]; show t.val * 512 + 1 * (y 0).val = _; omega
    | ⟨1, _⟩ =>
      show cc0_transform_4 (grid0.coords t) 1 * 1024 + 1 * (y 1).val = (y 1).val
      rw [index3]; show 0 * 1024 + 1 * (y 1).val = _; omega
  refine Eq.trans ?_ (congrArg (value m c) hy).symm
  refine Eq.trans ?_ (tile_value hG hO c t ⟨(y 0).val, h0⟩ ⟨(y 1).val, h1⟩ ⟨512 * t.val + (y 0).val, by omega⟩ rfl)
  show outT m hO c t _ = _
  congr 1
  funext a
  match a with
  | ⟨0, _⟩ => rfl
  | ⟨1, _⟩ => rfl

/-- The run with its result: every device's result array is the reference's, its arguments as they were. -/
theorem run_value (hG : Good m) : θ_run defs (onTc (τ := τ) (main (F := Ideal))) ⟨m, fun _ => 0, ρ⟩ (fun r => ∀ c : Dev nD,
      r.2.mem ((c.tc : Thread nD τ).loc main_v0) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 3).trans (final hG (ok_of_good m hG) c),
    frame_of m (ok_of_good m hG) (dats m (ok_of_good m hG)) (A_eq m (ok_of_good m hG)) h.1 c⟩) (run_quiescent m ρ hG (ok_of_good m hG))

end Cert.KernelIdeal.Ffn

end
-- ==== Proof.Same.lean ====
/- The kernel's program and its idealization are the same text: their body tables and their mains are equal, over any
values, so a run of one is a run of the other. -/
module

public import proofs.«01_k».proof.Proof.Gen.Kernel
public import proofs.«01_k».proof.Proof.Gen.KernelIdeal

@[expose] public section

set_option maxRecDepth 65536
set_option maxHeartbeats 4000000

noncomputable section

namespace Cert.Proof

open Idealize.ShloMosaic Idealize.SL.Sem

variable {F : FTy → Type} [FloatOps F]

/-- The kernels' bodies agree. -/
theorem bodies_same : (Cert.Kernel.defs₀ (F := F)) = Cert.KernelIdeal.defs₀ (F := F) := by
  refine congrArg Defs.onTc (funext fun l => ?_)
  match l with
  | ⟨0, _⟩ =>
    funext x
    obtain ⟨t, s⟩ := x
    rfl

/-- The body tables agree. -/
theorem tables_same : (Cert.Kernel.defs (F := F)) = Cert.KernelIdeal.defs (F := F) :=
  congrArg (Pipeline.defs (Cert.KernelIdeal.pcfgs (F := F))) bodies_same

/-- The mains agree. -/
theorem mains_same : (Cert.Kernel.main (F := F)) = Cert.KernelIdeal.main (F := F) := rfl

/-- A run of the idealization is a run of the kernel's program. -/
theorem run_same (s : MemSt Cert.Kernel.nD Cert.Kernel.τ Cert.Kernel.sig (Elt F)) (Q : (PUnit × MemSt Cert.Kernel.nD Cert.Kernel.τ Cert.Kernel.sig (Elt F)) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [tables_same, mains_same]
  exact h

end Cert.Proof

end
-- ==== Proof.FourierLoop.lean ====
/- The Fourier step's hidden rows: the loop that normalises a block's 2048 rows into the scratch, 256 rows a trip. -/
module

public import proofs.«01_k».proof.Proof.Gen.Kernel2Ideal.Skeleton
public import proofs.«01_k».proof.Proof.Gen.Kernel2Ideal.Frame
public import Idealize.ShloMosaic.Lib.WritesUnit
public import Idealize.ShloMosaic.Lib.MatmulPlain
public import Idealize.ShloMosaic.Lib.Pipeline.ValueKit.Geometry

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- The 256 rows of a block that tile `k` holds. -/
def tileOf {e : EltTy} (x : Vec F S2048x1024 e) (k : ℕ) : Vec F S256x1024 e := fun z =>
  x (ix2 (Fin.ofNat 2048 (256 * k + (z 0).val)) (z 1))

/-- The block's rows, normalised and modulated, as the scratch holds them. -/
def hid (x : Vec F S2048x1024 .f32) (v : Vec F S1x1x6x1024 .f32) (g : Vec F S1x1024 .f32) : Vec F S2048x1024 .bf16 := fun y =>
  k0_pay3 v g (tileOf x ((y 0).val / 256)) (ix2 (Fin.ofNat 256 (y 0).val) (y 1))

theorem readAt_tile {e : EltTy} (v : View sig .tc .vmem S2048x1024 e) (f : BufTy.Contents (Elt F) v.ty) (off : Fin 2 → ℕ) (inb) (k : ℕ) (hk : k < 8) (hoff : off = ![256 * k, 0]) :
    View.readAt (Elt F) v (Rect.unit (s := S2048x1024) off S256x1024.size inb).toLoadRect f = tileOf (v.read (Elt F) f) k := by
  subst hoff
  funext z
  have hz : (z 0).val < 256 := (z 0).isLt
  show v.read (Elt F) f ((Rect.unit (s := S2048x1024) ![256 * k, 0] S256x1024.size inb).emb z) = v.read (Elt F) f (ix2 _ _)
  congr 1
  funext a
  apply Fin.ext
  match a with
  | ⟨0, _⟩ =>
    show 256 * k + 1 * (z 0).val = (256 * k + (z 0).val) % 2048
    omega
  | ⟨1, _⟩ =>
    show 0 + 1 * (z 1).val = (z 1).val
    omega

set_option warn.classDefReducibility false in
/-- Before trip `k` the scratch's rows below `256 k` are the block's hidden rows. -/
@[sl_loop] def loopInv (𝒱 : Variants) (c : Dev nD) (bd : Option 𝒱.V) (E : Set ℕ) (i : grid0.Coords) (arg2 : Memref sig .tc .vmem S2048x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S512x256 .bf16) (harg7 : arg7.IsWhole) (arg8 : Memref sig .tc .vmem S256x1024 .bf16) (harg8 : arg8.IsWhole) (arg9 : Memref sig .tc .vmem S2048x1024 .bf16) (harg9 : arg9.IsWhole) (k0_h1 : k0_cond1 i = 1#1) (v55 : Vec F S1x1x6x1024 .f32) (v57 : Vec F S1x1024 .f32) (X : BufTy.Contents (Elt F) arg2.view.ty) :
    Idealize.ShloMosaic.LoopInv (M := 𝕄) Idealize.ShloMosaic.frame (wpE (defs₀ (F := F)) 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 k0_h1 v55 v57) where
  inv k _ := iprop((arg2.view.loc (c : Thread nD τ) ↦[arg2.view.set]{fullShare} X) ∗ (∃ f, (arg9.view.loc (c : Thread nD τ) ↦[arg9.view.set]{fullShare} f)
    ∗ ⌜∀ y : S2048x1024.Idx, (y 0).val < 256 * k → arg9.view.read (Elt F) f y = hid (arg2.view.read (Elt F) X) v55 v57 y⌝))
  step k acc := by
    have hk : k.val < 8 := Nat.lt_of_lt_of_le k.isLt k0_t1_abs.2.1
    unfold k0_t1_body
    iintro ⟨HR, ⟨%f, HW, %hf⟩⟩
    sl_exec
    sl_step
    isplitl [HR]; · iexact HR
    iexists _
    isplitl [HW]; · iexact HW
    ipureintro
    intro y hy
    by_cases h : (y 0).val < 256 * k.val
    · exact (View.read_writes_cons_rows_of_not_mem _ _ _ _ _ y (k0_off1_eq k) rfl (Or.inl h)).trans (hf y h)
    · have hr : (y 0).val - 256 * k.val < 256 := by omega
      refine (View.read_writes_cons_rows_of_mem _ _ _ _ _ y (ix2 (⟨(y 0).val - 256 * k.val, hr⟩ : Fin 256) (y 1)) (k0_off1_eq k) ?_ rfl).trans ?_
      · show (y 0).val = 256 * k.val + ((y 0).val - 256 * k.val)
        omega
      unfold hid
      rw [readAt_tile _ _ _ _ k.val hk (k0_off1_eq k), show (y 0).val / 256 = k.val by omega]
      congr 2
      apply Fin.ext
      show (y 0).val - 256 * k.val = (y 0).val % 256
      omega

/-! ## The rows a point leaves -/

/-- A point's output: four groups of 256 columns, each transformed in its own columns. -/
def outB (h : Vec F S256x1024 .bf16) (cl sl : Vec F S256x256 .bf16) (cc : Vec F S512x256 .bf16) : Vec F S256x1024 .bf16 := fun y =>
  let z : S256x256.Idx := ix2 (y 0) (Fin.ofNat 256 (y 1).val)
  if (y 1).val < 256 then k0_pay6 h cl sl cc z
  else if (y 1).val < 512 then k0_pay7 h cl sl cc z
  else if (y 1).val < 768 then k0_pay1 (k0_pay4 h cl) (k0_pay5 h sl) cc z
  else k0_pay2 (k0_pay4 h cl) (k0_pay5 h sl) cc z

theorem coord_lt (i : grid0.Coords) : (i 1).val < 8 := (i 1).isLt

theorem trips_eq : Scf.trips k0_t1_loop.lb k0_t1_loop.ub k0_t1_loop.st = 8 := by decide

theorem readAt_all {s : Shape} {e : EltTy} (v : View sig .tc .vmem s e) (f : BufTy.Contents (Elt F) v.ty) (off : Fin s.rank → ℕ) (inb) (hoff : ∀ a, off a = 0) :
    View.readAt (Elt F) v (Rect.unit (s := s) off s.size inb).toLoadRect f = v.read (Elt F) f := by
  funext z
  show v.read (Elt F) f ((Rect.unit (s := s) off s.size inb).emb z) = v.read (Elt F) f z
  congr 1
  funext a
  apply Fin.ext
  show off a + 1 * (z a).val = (z a).val
  rw [hoff a]
  omega

theorem zero2 : ∀ a : Fin 2, (![0, 0] : Fin 2 → ℕ) a = 0 := by decide
theorem zero4 : ∀ a : Fin 4, (![0, 0, 0, 0] : Fin 4 → ℕ) a = 0 := by decide

theorem reads_out (v : View sig .tc .vmem S256x1024 .bf16) (f : BufTy.Contents (Elt F) v.ty) (w0 w1 w2 w3 : S256x256.Idx → Elt F .bf16) (y : S256x1024.Idx) :
    v.read (Elt F) (v.writes (Elt F) f
      [⟨Rect.unit (s := S256x1024) ![0, 768] S256x256.size inb_S256x1024_S256x256_0_768, w3⟩,
        ⟨Rect.unit (s := S256x1024) ![0, 512] S256x256.size inb_S256x1024_S256x256_0_512, w2⟩,
        ⟨Rect.unit (s := S256x1024) ![0, 256] S256x256.size inb_S256x1024_S256x256_0_256, w1⟩,
        ⟨Rect.unit (s := S256x1024) ![0, 0] S256x256.size inb_S256x1024_S256x256_0_0, w0⟩]) y
      = (let z : S256x256.Idx := ix2 (y 0) (Fin.ofNat 256 (y 1).val)
        if (y 1).val < 256 then w0 z else if (y 1).val < 512 then w1 z else if (y 1).val < 768 then w2 z else w3 z) := by
  have h1 : (y 1).val < 1024 := (y 1).isLt
  have hit : ∀ (o : ℕ) (inb) (w : S256x256.Idx → Elt F .bf16) (L : List (View.Piece (Elt F) S256x1024 .bf16)), o ≤ (y 1).val → (y 1).val < o + 256 → o % 256 = 0 →
      v.read (Elt F) (v.writes (Elt F) f (⟨Rect.unit (s := S256x1024) ![0, o] S256x256.size inb, w⟩ :: L)) y = w (ix2 (y 0) (Fin.ofNat 256 (y 1).val)) := by
    intro o inb w L ha hb hm
    refine View.read_writes_cons_unit_of_mem v f inb w L y (ix2 (y 0) (Fin.ofNat 256 (y 1).val)) rfl (Fin.forall_fin_two.mpr ⟨(Nat.zero_add _).symm, ?_⟩)
    show (y 1).val = o + (y 1).val % 256
    omega
  have miss : ∀ (o : ℕ) (inb) (w : S256x256.Idx → Elt F .bf16) (L : List (View.Piece (Elt F) S256x1024 .bf16)), (y 1).val < o →
      v.read (Elt F) (v.writes (Elt F) f (⟨Rect.unit (s := S256x1024) ![0, o] S256x256.size inb, w⟩ :: L)) y = v.read (Elt F) (v.writes (Elt F) f L) y := by
    intro o inb w L ha
    exact View.read_writes_cons_unit_of_not_mem v f inb w L y rfl (1 : Fin 2) (Or.inl ha)
  dsimp only
  by_cases a : (y 1).val < 256
  · rw [if_pos a]
    exact (miss 768 _ _ _ (by omega)).trans ((miss 512 _ _ _ (by omega)).trans ((miss 256 _ _ _ a).trans (hit 0 _ _ _ (Nat.zero_le _) (by omega) rfl)))
  rw [if_neg a]
  by_cases b : (y 1).val < 512
  · rw [if_pos b]
    exact (miss 768 _ _ _ (by omega)).trans ((miss 512 _ _ _ b).trans (hit 256 _ _ _ (by omega) (by omega) rfl))
  rw [if_neg b]
  by_cases d : (y 1).val < 768
  · rw [if_pos d]
    exact (miss 768 _ _ _ d).trans (hit 512 _ _ _ (by omega) (by omega) rfl)
  rw [if_neg d]
  exact hit 768 _ _ _ (by omega) (by omega) rfl

theorem outB_congr {h h' : Vec F S256x1024 .bf16} {cl cl' sl sl' : Vec F S256x256 .bf16} {cc cc' : Vec F S512x256 .bf16} (e : h = h') (e1 : cl = cl') (e2 : sl = sl') (e3 : cc = cc') :
    outB h cl sl cc = outB h' cl' sl' cc' := by subst e e1 e2 e3; rfl

set_option maxHeartbeats 1000000 in
/-- A block's first point: the loop fills the scratch with the block's hidden rows. -/
theorem body_first (c : Dev nD) (i : grid0.Coords) (arg2 : Memref sig .tc .vmem S2048x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S512x256 .bf16) (harg7 : arg7.IsWhole) (arg8 : Memref sig .tc .vmem S256x1024 .bf16) (harg8 : arg8.IsWhole) (arg9 : Memref sig .tc .vmem S2048x1024 .bf16) (harg9 : arg9.IsWhole) (hc0 : k0_cond1 i = 1#1)
    (x0 : Vec F S2048x1024 .f32) (x1 : Vec F S1x1x6x1024 .f32) (x2 : Vec F S1x1024 .f32) (x3 : Vec F S256x256 .bf16) (x4 : Vec F S256x256 .bf16) (x5 : Vec F S512x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
          ∗ owns (c : Thread nD τ) arg8 fullShare (outB (tileOf (hid x0 x1 x2) (i 1).val) x3 x4 x5) ∗ owns (c : Thread nD τ) arg9 fullShare (hid x0 x1 x2)) -∗ K ⟨⟩))
      ⊢ wp frame (wpE (defs₀ (F := F)) Variants.none c none) E (cc0_fourier_ctx i arg2 harg2 arg3 harg3 arg4 harg4 arg5 harg5 arg6 harg6 arg7 harg7 arg8 harg8 arg9 harg9) K := by
  simp only [cc0_fourier_ctx_eq_skeleton]; unfold cc0_fourier_ctx_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  have hs : arg9.view.read (Elt F) fL0 = hid x0 x1 x2 := funext fun y => by
    refine (hL2 y (by rw [trips_eq]; exact (y 0).isLt)).trans ?_
    rw [hf0, readAt_all arg3.view _ _ _ zero4, readAt_all arg4.view _ _ _ zero2, hf1, hf2]
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    funext y
    exact (reads_out _ _ _ _ _ _ y).trans (congrFun (outB_congr ((readAt_tile _ _ _ _ (i 1).val (coord_lt i) (k0_off2_eq i)).trans (congrArg (fun d => tileOf d (i 1).val) hs))
      ((readAt_all _ _ _ _ zero2).trans hf3) ((readAt_all _ _ _ _ zero2).trans hf4) ((readAt_all _ _ _ _ zero2).trans hf5)) y)
  iexists _; isplitr; swap; · iexact HS0
  ipureintro
  exact hs

set_option maxHeartbeats 1000000 in
/-- A later point of a block: the scratch already holds the hidden rows. -/
theorem body_later (c : Dev nD) (i : grid0.Coords) (arg2 : Memref sig .tc .vmem S2048x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S512x256 .bf16) (harg7 : arg7.IsWhole) (arg8 : Memref sig .tc .vmem S256x1024 .bf16) (harg8 : arg8.IsWhole) (arg9 : Memref sig .tc .vmem S2048x1024 .bf16) (harg9 : arg9.IsWhole) (hc0 : ¬ k0_cond1 i = 1#1)
    (x0 : Vec F S2048x1024 .f32) (x1 : Vec F S1x1x6x1024 .f32) (x2 : Vec F S1x1024 .f32) (x3 : Vec F S256x256 .bf16) (x4 : Vec F S256x256 .bf16) (x5 : Vec F S512x256 .bf16) (d : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
          ∗ owns (c : Thread nD τ) arg8 fullShare (outB (tileOf d (i 1).val) x3 x4 x5) ∗ owns (c : Thread nD τ) arg9 fullShare d) -∗ K ⟨⟩))
      ⊢ wp frame (wpE (defs₀ (F := F)) Variants.none c none) E (cc0_fourier_ctx i arg2 harg2 arg3 harg3 arg4 harg4 arg5 harg5 arg6 harg6 arg7 harg7 arg8 harg8 arg9 harg9) K := by
  simp only [cc0_fourier_ctx_eq_skeleton]; unfold cc0_fourier_ctx_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hs0
  sl_exec (disch := first | sl_exact hc0)
  have hs : arg9.view.read (Elt F) (harg9.unread d) = d := hs0
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    funext y
    exact (reads_out _ _ _ _ _ _ y).trans (congrFun (outB_congr ((readAt_tile _ _ _ _ (i 1).val (coord_lt i) (k0_off2_eq i)).trans (congrArg (fun d => tileOf d (i 1).val) hs))
      ((readAt_all _ _ _ _ zero2).trans hf3) ((readAt_all _ _ _ _ zero2).trans hf4) ((readAt_all _ _ _ _ zero2).trans hf5)) y)
  iexists _; isplitr; swap; · iexact HS0
  ipureintro
  exact hs

end Cert.Kernel2Ideal.Mix

end
-- ==== Proof.FourierRun.lean ====
/- The Fourier step's run: what each point's staging buffers and the scratch hold, the body's obligation, and the launch. -/
module

public import proofs.«01_k».proof.Proof.FourierLoop
public import Idealize.ShloMosaic.Lib.Claim

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

theorem point_lt (t : Fin cfg0.N) : t.val < 32 := Nat.lt_of_lt_of_eq t.isLt N_0
theorem coords0 (t : Fin cfg0.N) : (grid0.coords t 0).val = t.val / 8 :=
  (Pipeline.Grid.coords_val t 0 (by decide) rfl : _ = t.val / 8 % 4).trans (Nat.mod_eq_of_lt (by have := point_lt t; omega))
theorem coords1 (t : Fin cfg0.N) : (grid0.coords t 1).val = t.val % 8 :=
  (Pipeline.Grid.coords_val t 1 (by decide) rfl : _ = t.val / 1 % 8).trans (by rw [Nat.div_one])

theorem first_iff (t : Fin cfg0.N) : k0_cond1 (grid0.coords t) = 1#1 ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val % 8 = 0) t

theorem index0 (i : grid0.Coords) : cc0_transform_0 i = ![(i 0).val, 0] := by
  have h : (i 0).val < 4 := (i 0).isLt
  have e : (BitVec.ofNat 32 (i 0).val + 0#32).toNat = (i 0).val := by rw [BitVec.add_zero, BitVec.toNat_ofNat]; omega
  show ![(BitVec.ofNat 32 (i 0).val + 0#32).toNat, 0] = _
  rw [e]

theorem index6 (i : grid0.Coords) : cc0_transform_6 i = ![8 * (i 0).val + (i 1).val, 0] := by
  have h : (i 0).val < 4 := (i 0).isLt
  have h' : (i 1).val < 8 := (i 1).isLt
  have e : ((BitVec.ofNat 32 (i 0).val + 0#32) * 8#32 + BitVec.ofNat 32 (i 1).val).toNat = 8 * (i 0).val + (i 1).val := by
    rw [BitVec.add_zero, BitVec.toNat_add, BitVec.toNat_mul, BitVec.toNat_ofNat, BitVec.toNat_ofNat]
    show ((i 0).val % 2 ^ 32 * 8 % 2 ^ 32 + (i 1).val % 2 ^ 32) % 2 ^ 32 = _
    omega
  show ![((BitVec.ofNat 32 (i 0).val + 0#32) * 8#32 + BitVec.ofNat 32 (i 1).val).toNat, 0] = _
  rw [e]

/-- The rows' block is the array's rows from 2048 times the block's number. -/
theorem iblk0_apply (c : Dev nD) (t : Fin cfg0.N) (y : S2048x1024.Idx) :
    (iblk m c 0 t : S2048x1024.Idx → Elt F .f32) y = (V m c main_arg0 : S16384x1024.Idx → Elt F .f32) (ix2 (Fin.ofNat 16384 (2048 * (t.val / 8) + (y 0).val)) (y 1)) := by
  have ht := point_lt t
  have h0 : (y 0).val < 2048 := (y 0).isLt
  show (V m c main_arg0 : S16384x1024.Idx → Elt F .f32) (((cfg0.win 0).blk t).view.emb y) = _
  congr 1
  funext a
  apply Fin.ext
  match a with
  | ⟨0, _⟩ =>
    show cc0_transform_0 (grid0.coords t) 0 * 2048 + 1 * (y 0).val = (2048 * (t.val / 8) + (y 0).val) % 16384
    rw [index0, coords0]; show t.val / 8 * 2048 + 1 * (y 0).val = _; omega
  | ⟨1, _⟩ =>
    show cc0_transform_0 (grid0.coords t) 1 * 1024 + 1 * (y 1).val = (y 1).val
    rw [index0]; show 0 * 1024 + 1 * (y 1).val = _; omega

/-- The modulation's block is layer 1's row 4, at every point. -/
theorem iblk1_apply (c : Dev nD) (t : Fin cfg0.N) (y : S1x1x6x1024.Idx) :
    (iblk m c 1 t : S1x1x6x1024.Idx → Elt F .f32) y = (V m c main_arg1 : S4x8x6x1024.Idx → Elt F .f32) (ix4 1 4 (y 2) (y 3)) := by
  have h0 : (y 0).val < 1 := (y 0).isLt
  have h1 : (y 1).val < 1 := (y 1).isLt
  show (V m c main_arg1 : S4x8x6x1024.Idx → Elt F .f32) (((cfg0.win 1).blk t).view.emb y) = _
  congr 1
  funext a
  apply Fin.ext
  match a with
  | ⟨0, _⟩ => show 1 * 1 + 1 * (y 0).val = 1; omega
  | ⟨1, _⟩ => show 4 * 1 + 1 * (y 1).val = 4; omega
  | ⟨2, _⟩ => show 0 * 6 + 1 * (y 2).val = (y 2).val; omega
  | ⟨3, _⟩ => show 0 * 1024 + 1 * (y 3).val = (y 3).val; omega

theorem iblk2_apply (c : Dev nD) (t : Fin cfg0.N) (y : S1x1024.Idx) :
    (iblk m c 2 t : S1x1024.Idx → Elt F .f32) y = (V m c main_arg2 : S1x1024.Idx → Elt F .f32) y := by
  show (V m c main_arg2 : S1x1024.Idx → Elt F .f32) (((cfg0.win 2).blk t).view.emb y) = _
  congr 1
  funext a
  apply Fin.ext
  match a with
  | ⟨0, _⟩ => show 0 * 1 + 1 * (y 0).val = (y 0).val; omega
  | ⟨1, _⟩ => show 0 * 1024 + 1 * (y 1).val = (y 1).val; omega

theorem iblk3_apply (c : Dev nD) (t : Fin cfg0.N) (y : S256x256.Idx) :
    (iblk m c 3 t : S256x256.Idx → Elt F .bf16) y = (V m c main_v3 : S256x256.Idx → Elt F .bf16) y := by
  show (V m c main_v3 : S256x256.Idx → Elt F .bf16) (((cfg0.win 3).blk t).view.emb y) = _
  congr 1
  funext a
  apply Fin.ext
  match a with
  | ⟨0, _⟩ => show 0 * 256 + 1 * (y 0).val = (y 0).val; omega
  | ⟨1, _⟩ => show 0 * 256 + 1 * (y 1).val = (y 1).val; omega

theorem iblk4_apply (c : Dev nD) (t : Fin cfg0.N) (y : S256x256.Idx) :
    (iblk m c 4 t : S256x256.Idx → Elt F .bf16) y = (V m c main_v4 : S256x256.Idx → Elt F .bf16) y := by
  show (V m c main_v4 : S256x256.Idx → Elt F .bf16) (((cfg0.win 4).blk t).view.emb y) = _
  congr 1
  funext a
  apply Fin.ext
  match a with
  | ⟨0, _⟩ => show 0 * 256 + 1 * (y 0).val = (y 0).val; omega
  | ⟨1, _⟩ => show 0 * 256 + 1 * (y 1).val = (y 1).val; omega

theorem iblk5_apply (c : Dev nD) (t : Fin cfg0.N) (y : S512x256.Idx) :
    (iblk m c 5 t : S512x256.Idx → Elt F .bf16) y = (V m c main_v2 : S512x256.Idx → Elt F .bf16) y := by
  show (V m c main_v2 : S512x256.Idx → Elt F .bf16) (((cfg0.win 5).blk t).view.emb y) = _
  congr 1
  funext a
  apply Fin.ext
  match a with
  | ⟨0, _⟩ => show 0 * 512 + 1 * (y 0).val = (y 0).val; omega
  | ⟨1, _⟩ => show 0 * 256 + 1 * (y 1).val = (y 1).val; omega

/-! ## What holds between two points -/

/-- The block's hidden rows at a point. -/
def hidT (c : Dev nD) (t : Fin cfg0.N) : Vec F S2048x1024 .bf16 := hid (iblk m c 0 t) (iblk m c 1 t) (iblk m c 2 t)

/-- Two points of one block have the same hidden rows. -/
theorem hidT_eq (c : Dev nD) (s t : Fin cfg0.N) (h : s.val / 8 = t.val / 8) : hidT m c s = hidT m c t := by
  have e0 : (iblk m c 0 s : S2048x1024.Idx → Elt F .f32) = iblk m c 0 t := funext fun y => by rw [iblk0_apply, iblk0_apply, h]
  have e1 : (iblk m c 1 s : S1x1x6x1024.Idx → Elt F .f32) = iblk m c 1 t := funext fun y => by rw [iblk1_apply, iblk1_apply]
  have e2 : (iblk m c 2 s : S1x1024.Idx → Elt F .f32) = iblk m c 2 t := funext fun y => by rw [iblk2_apply, iblk2_apply]
  unfold hidT
  rw [e0, e1, e2]

/-- Before point `t` the scratch holds what the point before left in it. -/
def INV (c : Dev nD) (t : ℕ) : sProp 𝕄 :=
  iprop((∃ d, ⌜∀ s : Fin cfg0.N, s.val + 1 = t → d = hidT m c s⌝ ∗ owns (c : Thread nD τ) (Memref.whole cc0_scratch0) fullShare d) ∗ (∃ r, prngReg c r))

/-- What the body leaves in the output's staging buffer at point `t`. -/
def outT (c : Dev nD) (t : Fin cfg0.N) : S256x1024.Idx → Elt F .bf16 :=
  outB (tileOf (hidT m c t) (t.val % 8)) (iblk m c 3 t) (iblk m c 4 t) (iblk m c 5 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outT m c t
  Φ t := INV m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outT m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-! ## The body's obligation -/

abbrev ms0 (t : Fin cfg0.N) : Memref sig .tc .vmem S2048x1024 .f32 := win0_0.stage (cfg0.slots t 0)
abbrev ms1 (t : Fin cfg0.N) : Memref sig .tc .vmem S1x1x6x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S256x256 .bf16 := win0_3.stage (cfg0.slots t 3)
abbrev ms4 (t : Fin cfg0.N) : Memref sig .tc .vmem S256x256 .bf16 := win0_4.stage (cfg0.slots t 4)
abbrev ms5 (t : Fin cfg0.N) : Memref sig .tc .vmem S512x256 .bf16 := win0_5.stage (cfg0.slots t 5)
abbrev ms6 (t : Fin cfg0.N) : Memref sig .tc .vmem S256x1024 .bf16 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.castSucc = INV m c t.val from rfl, show (dats m 0 c).Φ t.succ = INV m c (t.val + 1) from rfl]
  unfold INV outT
  have e1 := coords1 t
  by_cases h0 : t.val % 8 = 0
  · iintro ⟨⟨⟨%ds, -, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    rw [e1]
    iintro ⟨H0, H1, H2, H3, H4, H5, H6, HS⟩
    isplitl [HS Hg]
    · isplitl [HS]
      · iexists _
        isplitr; swap; · iexact HS
        ipureintro
        intro s hs
        obtain rfl : s = t := Fin.ext (by omega)
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩⟩
    have hds : ds = hidT m c t :=
      (hs ⟨t.val - 1, lt_of_le_of_lt (Nat.sub_le _ _) t.isLt⟩ (show t.val - 1 + 1 = t.val by omega)).trans (hidT_eq m c _ t (show (t.val - 1) / 8 = t.val / 8 by omega))
    subst hds
    iapply (body_later c (grid0.coords t) _ _ _ _ _ _ _ _ _ _ _ _ _ _ _ _ (fun h => h0 ((first_iff t).mp h)) (iblk m c 0 t) (iblk m c 1 t) (iblk m c 2 t) (iblk m c 3 t) (iblk m c 4 t) (iblk m c 5 t) (hidT m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    rw [e1]
    iintro ⟨H0, H1, H2, H3, H4, H5, H6, HS⟩
    isplitl [HS Hg]
    · isplitl [HS]
      · iexists _
        isplitr; swap; · iexact HS
        ipureintro
        intro s hs
        obtain rfl : s = t := Fin.ext (by omega)
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  refine triple_restated (sound_body m c t) rfl .rfl fun _ => ?_
  unfold bodyPost
  refine sep_mono .rfl (sep_mono .rfl (sep_mono .rfl (sep_mono .rfl (sep_mono .rfl (sep_mono .rfl (sep_mono .rfl (sep_mono .rfl ?_)))))))
  exact .rfl

/-! ## The launch -/

theorem between_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem inv_enter (c : Dev nD) : (Pipeline.ΦA spec0 c : sProp 𝕄) ⊢ INV m c 0 := by
  rw [between_eq]
  unfold INV
  iintro ⟨⟨%d, HS⟩, Hg⟩
  isplitl [HS]
  · iexists d
    isplitr
    · ipureintro
      intro s hs
      exact absurd hs (Nat.succ_ne_zero _)
    iexact HS
  iexact Hg

theorem inv_leave (c : Dev nD) (t : ℕ) : INV m c t ⊢ (Pipeline.ΦA spec0 c : sProp 𝕄) := by
  rw [between_eq]
  unfold INV
  iintro ⟨⟨%d, -, HS⟩, Hg⟩
  isplitl [HS]
  · iexists d; iexact HS
  iexact Hg

-- the launch theorem's implicit arguments are found by unfolding plain definitions in a metavariable's type
set_option backward.isDefEq.respectTransparency.types false in
set_option maxHeartbeats 800000 in
/-- The launch: every array at what the proof data computes, the lines after the region applied, every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => inv_enter m c) (hout := fun c => inv_leave m c _)

/-- The frame at any values: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ))) ((θ_run defs _ _).mono (fun _ h => h.2) (run_quiescent m ρ))

end Cert.Kernel2Ideal.Mix

end
-- ==== Proof.FourierOps.lean ====
/- What the Fourier step computes at one row and column — the normalised row, its two products with the position tables and
their two products with the channel tables — and the host's two products read at an index. -/
module

public import Idealize.ShloMosaic.PureOps.Ideal.Laws
public import Idealize.ShloMosaic.Lib.ValueIdxCore
public import Idealize.ShloMosaic.Lib.ValueLayout
public import Idealize.ShloMosaic.Lib.IdealHost
public import Idealize.ShloMosaic.Lib.TwoAxisContraction

@[expose] public section

noncomputable section

namespace Cert.Mix

open Idealize.ShloMosaic Idealize.ShloMosaic.ValueIdx
open scoped BigOperators

/-- A row normalised by its mean square, times the norm's weight, scaled and shifted; at column d. -/
def normed (x g shift scale : Fin 1024 → EReal) (d : Fin 1024) : EReal :=
  x d * Ideal.rsqrt (Ideal.div (∑ k : Fin 1024, x k * x k) (Ideal.ofBits .f32 0x44800000#32) + Ideal.ofBits .f32 0x358637BD#32) * g d
    * (Ideal.ofBits .f32 0x3F800000#32 + scale d) + shift d

/-- The real part of the transform over the positions l and the channels j, before its scale. -/
def mixed (h : Fin 256 → Fin 256 → EReal) (cl sl cc sc : Fin 256 → EReal) : EReal :=
  (∑ j : Fin 256, (∑ l : Fin 256, cl l * h l j) * cc j) + ∑ j : Fin 256, (∑ l : Fin 256, sl l * h l j) * -(sc j)

theorem bits_256 : Ideal.ofBits .f32 0x43800000#32 = ((256 : ℝ) : EReal) := by
  simp [Ideal.ofBits, Ideal.ieee, -EReal.coe_mul]; norm_num

theorem bits_256th : Ideal.ofBits .f32 0x3B800000#32 = (((256 : ℝ)⁻¹ : ℝ) : EReal) := by
  simp [Ideal.ofBits, Ideal.ieee, -EReal.coe_mul]; norm_num

/-- Times 1/256 is divided by 256, at every extended real. -/
theorem scale_eq (x : EReal) : x * Ideal.ofBits .f32 0x3B800000#32 = Ideal.div x (Ideal.ofBits .f32 0x43800000#32) := by
  rw [bits_256, bits_256th]
  unfold Ideal.div
  rw [if_neg (by norm_num), EReal.coe_inv]

section Products
variable {B L G J K C : Nat} {φ₁ φ₂ : FTy}

/-- The product over the positions: entry (b, g, j, k) is the sum over l of A[b, l, g, j] * T[k, l]. -/
theorem positions_apply (w : DotDims.WF ⟨4, ![B, L, G, J]⟩ ⟨2, ![K, L]⟩ ⟨4, ![B, G, J, K]⟩ [1] [1] [0, 2, 3] [0] [] [])
    (prec : Option ContractPrecision) (A : FVec Ideal ⟨4, ![B, L, G, J]⟩ φ₁) (T : FVec Ideal ⟨2, ![K, L]⟩ φ₂)
    (b : Fin B) (g : Fin G) (j : Fin J) (k : Fin K) :
    Host.dotGeneral (⟨[1], [1], [0, 2, 3], [0], [], [], w⟩ : DotDims _ _ _) prec A T (ix4 b g j k)
      = ∑ l : Fin L, A (ix4 b l g j) * T (ix2 k l) := by
  show FloatOps.dotGeneral _ prec _ A T (ix4 b g j k) = _
  rw [Ideal.dotGeneral_apply,
    ← Equiv.sum_comp (contrEquiv1 (⟨[1], [1], [0, 2, 3], [0], [], [], w⟩ : DotDims _ _ _) L rfl rfl).symm]
  refine Finset.sum_congr rfl fun l _ => ?_
  have hd := contrEquiv1_symm_val
    (⟨[1], [1], [0, 2, 3], [0], [], [], w⟩ : DotDims ⟨4, ![B, L, G, J]⟩ ⟨2, ![K, L]⟩ ⟨4, ![B, G, J, K]⟩) L rfl rfl l
  have hl : (⟨[1], [1], [0, 2, 3], [0], [], [], w⟩ : DotDims ⟨4, ![B, L, G, J]⟩ ⟨2, ![K, L]⟩ ⟨4, ![B, G, J, K]⟩).lhsIdx (ix4 b g j k)
      ((contrEquiv1 _ L rfl rfl).symm l) = ix4 b l g j := by
    funext ax; apply Fin.ext
    match ax with
    | ⟨0, _⟩ => simp [DotDims.lhsIdx]; rfl
    | ⟨1, _⟩ => simp [DotDims.lhsIdx]; exact hd
    | ⟨2, _⟩ => simp [DotDims.lhsIdx]; rfl
    | ⟨3, _⟩ => simp [DotDims.lhsIdx]; rfl
  have hr : (⟨[1], [1], [0, 2, 3], [0], [], [], w⟩ : DotDims ⟨4, ![B, L, G, J]⟩ ⟨2, ![K, L]⟩ ⟨4, ![B, G, J, K]⟩).rhsIdx (ix4 b g j k)
      ((contrEquiv1 _ L rfl rfl).symm l) = ix2 k l := by
    funext ax; apply Fin.ext
    match ax with
    | ⟨0, _⟩ => simp [DotDims.rhsIdx]; rfl
    | ⟨1, _⟩ => simp [DotDims.rhsIdx]; exact hd
  rw [hl, hr]

/-- The product over the channels: entry (b, k, g, c) is the sum over j of A[b, k, g, j] * T[j, c]. -/
theorem channels_apply (w : DotDims.WF ⟨4, ![B, K, G, J]⟩ ⟨2, ![J, C]⟩ ⟨4, ![B, K, G, C]⟩ [3] [0] [0, 1, 2] [1] [] [])
    (prec : Option ContractPrecision) (A : FVec Ideal ⟨4, ![B, K, G, J]⟩ φ₁) (T : FVec Ideal ⟨2, ![J, C]⟩ φ₂)
    (b : Fin B) (k : Fin K) (g : Fin G) (c : Fin C) :
    Host.dotGeneral (⟨[3], [0], [0, 1, 2], [1], [], [], w⟩ : DotDims _ _ _) prec A T (ix4 b k g c)
      = ∑ j : Fin J, A (ix4 b k g j) * T (ix2 j c) := by
  show FloatOps.dotGeneral _ prec _ A T (ix4 b k g c) = _
  rw [Ideal.dotGeneral_apply,
    ← Equiv.sum_comp (contrEquiv1 (⟨[3], [0], [0, 1, 2], [1], [], [], w⟩ : DotDims _ _ _) J rfl rfl).symm]
  refine Finset.sum_congr rfl fun j _ => ?_
  have hd := contrEquiv1_symm_val
    (⟨[3], [0], [0, 1, 2], [1], [], [], w⟩ : DotDims ⟨4, ![B, K, G, J]⟩ ⟨2, ![J, C]⟩ ⟨4, ![B, K, G, C]⟩) J rfl rfl j
  have hl : (⟨[3], [0], [0, 1, 2], [1], [], [], w⟩ : DotDims ⟨4, ![B, K, G, J]⟩ ⟨2, ![J, C]⟩ ⟨4, ![B, K, G, C]⟩).lhsIdx (ix4 b k g c)
      ((contrEquiv1 _ J rfl rfl).symm j) = ix4 b k g j := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hd
  have hr : (⟨[3], [0], [0, 1, 2], [1], [], [], w⟩ : DotDims ⟨4, ![B, K, G, J]⟩ ⟨2, ![J, C]⟩ ⟨4, ![B, K, G, C]⟩).rhsIdx (ix4 b k g c)
      ((contrEquiv1 _ J rfl rfl).symm j) = ix2 j c := by
    funext ax; apply Fin.ext
    match ax with
    | ⟨0, _⟩ => simp [DotDims.rhsIdx]; exact hd
    | ⟨1, _⟩ => simp [DotDims.rhsIdx]; rfl
  rw [hl, hr]

end Products

end Cert.Mix

end
-- ==== Proof.FourierReference.lean ====
/- What the Fourier step's reference computes, read at one row and column. -/
module

public import proofs.«01_k».proof.Proof.Gen.Reference2Ideal
public import proofs.«01_k».proof.Proof.Gen.Reference2Ideal.Run
public import proofs.«01_k».proof.Proof.FourierOps
public import Idealize.ShloMosaic.Lib.Pipeline.Value
public import Idealize.ShloMosaic.Lib.Pointwise.Reduce

@[expose] public section

set_option maxRecDepth 16384

noncomputable section

namespace Cert.Reference2Ideal.Mix

open Cert.Reference2Ideal Cert.Reference2Ideal.Gen
open Idealize.ShloMosaic hiding ix1 ix2 ix3 ix4
open Idealize.ShloMosaic.ValueIdx
open Cert.Mix (normed mixed)
open scoped BigOperators

/-! ## The stages of the reference -/

/-- The prompt rows, by sequence. -/
def seqs (X : FVec Ideal S16384x1024 .f32) : FVec Ideal S32x256x1024 .f32 :=
  shapeCast _ (extractStridedSlice S8192x1024 ![0, 0] X slices_S16384x1024_S8192x1024_0_0) shapeCasts_S8192x1024_S32x256x1024

/-- The shift of the modulation. -/
def shiftRow (M : FVec Ideal S4x8x6x1024 .f32) : FVec Ideal S1024 .f32 :=
  shapeCast _ (extractStridedSlice S1x1x1x1024 ![1, 4, 0, 0] M slices_S4x8x6x1024_S1x1x1x1024_1_4_0_0) shapeCasts_S1x1x1x1024_S1024

/-- The scale of the modulation. -/
def scaleRow (M : FVec Ideal S4x8x6x1024 .f32) : FVec Ideal S1024 .f32 :=
  shapeCast _ (extractStridedSlice S1x1x1x1024 ![1, 4, 1, 0] M slices_S4x8x6x1024_S1x1x1x1024_1_4_1_0) shapeCasts_S1x1x1x1024_S1024

/-- One row over every position of every sequence. -/
def spread (v : FVec Ideal S1024 .f32) : FVec Ideal S32x256x1024 .f32 :=
  broadcastInDim S32x256x1024 ![0, 1, 2] bcast_S1x1x1024_S32x256x1024_0_1_2 (broadcastInDim S1x1x1024 ![2] bcast_S1024_S1x1x1024_2 v)

/-- The reciprocal root of each row's mean square. -/
def invRms (x : FVec Ideal S32x256x1024 .f32) : FVec Ideal S32x256x1 .f32 :=
  Host.rsqrt (addf (Host.divf (broadcastInDim S32x256x1 ![0, 1] bcast_S32x256_S32x256x1_0_1
      (Host.reduceAdd (mulf x x) (constant S_ .f32 0x00000000#32) reducesTo_S32x256x1024_S32x256_d2 h_S_))
    (broadcastInDim S32x256x1 ![] bcast_S_S32x256x1 (constant S_ .f32 0x44800000#32)))
    (broadcastInDim S32x256x1 ![] bcast_S_S32x256x1 (constant S_ .f32 0x358637BD#32)))

/-- The hidden rows. -/
def hidden (X : FVec Ideal S16384x1024 .f32) (M : FVec Ideal S4x8x6x1024 .f32) (N : FVec Ideal S1x1024 .f32) : FVec Ideal S32x256x1024 .f32 :=
  addf (mulf (mulf (mulf (seqs X) (broadcastInDim S32x256x1024 ![0, 1, 2] bcast_S32x256x1_S32x256x1024_0_1_2 (invRms (seqs X))))
      (spread (shapeCast _ N shapeCasts_S1x1024_S1024)))
    (spread (addf (broadcastInDim S1024 ![] bcast_S_S1024 (constant S_ .f32 0x3F800000#32)) (scaleRow M)))) (spread (shiftRow M))

/-- The hidden rows against a position table, then against a channel table. -/
def twice (h : FVec Ideal S32x256x4x256 .f32) (p q : FVec Ideal S256x256 .f32) : FVec Ideal S32x256x4x256 .f32 :=
  Host.dotGeneral dot_S32x256x4x256_S256x256_S32x256x4x256_3_0_012_1_n_n none
    (transpose S32x256x4x256 [0, 3, 1, 2] (Host.dotGeneral dot_S32x256x4x256_S256x256_S32x4x256x256_1_1_023_0_n_n none h p)
      transposes_S32x4x256x256_S32x256x4x256_0_3_1_2) q

/-- The transformed rows. -/
def rows (X : FVec Ideal S16384x1024 .f32) (M : FVec Ideal S4x8x6x1024 .f32) (N : FVec Ideal S1x1024 .f32)
    (cl sl cc sc : FVec Ideal S256x256 .f32) : FVec Ideal S8192x1024 .f32 :=
  shapeCast S8192x1024 (Host.divf
    (addf (twice (shapeCast _ (hidden X M N) shapeCasts_S32x256x1024_S32x256x4x256) cl cc)
      (twice (shapeCast _ (hidden X M N) shapeCasts_S32x256x1024_S32x256x4x256) sl (Host.negf sc)))
    (broadcastInDim S32x256x4x256 ![] bcast_S_S32x256x4x256 (constant S_ .f32 0x43800000#32))) shapeCasts_S32x256x4x256_S8192x1024

/-- The reference's result. -/
def result (X : FVec Ideal S16384x1024 .f32) (M : FVec Ideal S4x8x6x1024 .f32) (N : FVec Ideal S1x1024 .f32)
    (cl sl cc sc : FVec Ideal S256x256 .f32) : FVec Ideal S8192x1024 .bf16 :=
  truncf .bf16 (rows X M N cl sl cc sc) bitsLt_bf16_f32

/-! ## Each stage at an index -/

theorem seqs_apply (X : FVec Ideal S16384x1024 .f32) (b : Fin 32) (l : Fin 256) (d : Fin 1024) :
    seqs X (ix3 b l d) = X (ix2 ⟨256 * b.val + l.val, by omega⟩ d) := by
  unfold seqs
  refine (shapeCast_apply _ shapeCasts_S8192x1024_S32x256x1024 (ix3 b l d) (ix2 ⟨256 * b.val + l.val, by omega⟩ d) (by
    rw [Shape.rowMajor_val_three, Shape.rowMajor_val_two]
    show (256 * b.val + l.val) * 1024 + d.val = (b.val * 256 + l.val) * 1024 + d.val
    omega)).trans ?_
  exact extractStridedSlice_apply _ _ _ _ _ (fun a => by
    match a with
    | ⟨0, _⟩ => show 256 * b.val + l.val = 0 + (256 * b.val + l.val); omega
    | ⟨1, _⟩ => show d.val = 0 + d.val; omega)

theorem shiftRow_apply (M : FVec Ideal S4x8x6x1024 .f32) (d : Fin 1024) : shiftRow M (ix1 d) = M (ix4 1 4 0 d) := by
  unfold shiftRow
  refine (shapeCast_apply _ shapeCasts_S1x1x1x1024_S1024 (ix1 d) (ix4 0 0 0 d) (by
    rw [Shape.rowMajor_val_one, Shape.rowMajor_val_four]
    show ((0 * 1 + 0) * 1 + 0) * 1024 + d.val = d.val
    omega)).trans ?_
  exact extractStridedSlice_apply _ _ _ _ _ (fun a => by
    match a with
    | ⟨0, _⟩ => rfl
    | ⟨1, _⟩ => rfl
    | ⟨2, _⟩ => rfl
    | ⟨3, _⟩ => show d.val = 0 + d.val; omega)

theorem scaleRow_apply (M : FVec Ideal S4x8x6x1024 .f32) (d : Fin 1024) : scaleRow M (ix1 d) = M (ix4 1 4 1 d) := by
  unfold scaleRow
  refine (shapeCast_apply _ shapeCasts_S1x1x1x1024_S1024 (ix1 d) (ix4 0 0 0 d) (by
    rw [Shape.rowMajor_val_one, Shape.rowMajor_val_four]
    show ((0 * 1 + 0) * 1 + 0) * 1024 + d.val = d.val
    omega)).trans ?_
  exact extractStridedSlice_apply _ _ _ _ _ (fun a => by
    match a with
    | ⟨0, _⟩ => rfl
    | ⟨1, _⟩ => rfl
    | ⟨2, _⟩ => rfl
    | ⟨3, _⟩ => show d.val = 0 + d.val; omega)

theorem spread_apply (v : FVec Ideal S1024 .f32) (b : Fin 32) (l : Fin 256) (d : Fin 1024) : spread v (ix3 b l d) = v (ix1 d) := by
  unfold spread
  refine (broadcastInDim_apply _ bcast_S1x1x1024_S32x256x1024_0_1_2 _ (ix3 b l d) (ix3 0 0 d) (fun a => by
    match a with
    | ⟨0, _⟩ => rfl
    | ⟨1, _⟩ => rfl
    | ⟨2, _⟩ => rfl)).trans ?_
  exact broadcastInDim_apply _ bcast_S1024_S1x1x1024_2 v (ix3 0 0 d) (ix1 d) (fun a => by
    match a with
    | ⟨0, _⟩ => rfl)

theorem weight_apply (N : FVec Ideal S1x1024 .f32) (d : Fin 1024) :
    (shapeCast S1024 N shapeCasts_S1x1024_S1024 : FVec Ideal S1024 .f32) (ix1 d) = N (ix2 0 d) :=
  shapeCast_apply N shapeCasts_S1x1024_S1024 (ix1 d) (ix2 0 d) (by
    rw [Shape.rowMajor_val_one, Shape.rowMajor_val_two]
    show 0 * 1024 + d.val = d.val
    omega)

theorem squares_apply (x : FVec Ideal S32x256x1024 .f32) (b : Fin 32) (l : Fin 256) :
    Host.reduceAdd (mulf x x) (constant S_ .f32 0x00000000#32) reducesTo_S32x256x1024_S32x256_d2 h_S_ (ix2 b l)
      = ∑ k : Fin 1024, x (ix3 b l k) * x (ix3 b l k) := by
  refine (Ideal.hostReduceAdd_r3_a2 (t := S32x256) reducesTo_S32x256x1024_S32x256_d2 (mulf x x) (Ideal.ofBits .f32 0x00000000#32) (ix2 b l)).trans ?_
  rw [Ideal.ofBits_zero_f32, zero_add]
  rfl

theorem invRms_apply (x : FVec Ideal S32x256x1024 .f32) (b : Fin 32) (l : Fin 256) :
    invRms x (ix3 b l 0) = Ideal.rsqrt (Ideal.div (∑ k : Fin 1024, x (ix3 b l k) * x (ix3 b l k)) (Ideal.ofBits .f32 0x44800000#32)
      + Ideal.ofBits .f32 0x358637BD#32) := by
  rw [← squares_apply x b l]
  unfold invRms
  refine congrArg (fun a : EReal => Ideal.rsqrt (Ideal.div a (Ideal.ofBits .f32 0x44800000#32) + Ideal.ofBits .f32 0x358637BD#32)) ?_
  exact broadcastInDim_apply _ bcast_S32x256_S32x256x1_0_1 _ (ix3 b l 0) (ix2 b l) (fun a => by
    match a with
    | ⟨0, _⟩ => rfl
    | ⟨1, _⟩ => rfl)

theorem hidden_apply (X : FVec Ideal S16384x1024 .f32) (M : FVec Ideal S4x8x6x1024 .f32) (N : FVec Ideal S1x1024 .f32)
    (b : Fin 32) (l : Fin 256) (d : Fin 1024) :
    hidden X M N (ix3 b l d) = normed (fun k => X (ix2 ⟨256 * b.val + l.val, by omega⟩ k)) (fun k => N (ix2 0 k))
      (fun k => M (ix4 1 4 0 k)) (fun k => M (ix4 1 4 1 k)) d := by
  unfold hidden normed
  have er : broadcastInDim S32x256x1024 ![0, 1, 2] bcast_S32x256x1_S32x256x1024_0_1_2 (invRms (seqs X)) (ix3 b l d) = invRms (seqs X) (ix3 b l 0) :=
    broadcastInDim_apply _ bcast_S32x256x1_S32x256x1024_0_1_2 _ (ix3 b l d) (ix3 b l 0) (fun a => by
      match a with
      | ⟨0, _⟩ => rfl
      | ⟨1, _⟩ => rfl
      | ⟨2, _⟩ => rfl)
  show seqs X (ix3 b l d) * broadcastInDim S32x256x1024 ![0, 1, 2] bcast_S32x256x1_S32x256x1024_0_1_2 (invRms (seqs X)) (ix3 b l d)
      * spread (shapeCast _ N shapeCasts_S1x1024_S1024) (ix3 b l d)
      * spread (addf (broadcastInDim S1024 ![] bcast_S_S1024 (constant S_ .f32 0x3F800000#32)) (scaleRow M)) (ix3 b l d)
      + spread (shiftRow M) (ix3 b l d) = _
  rw [er, invRms_apply, spread_apply, spread_apply, spread_apply, weight_apply, shiftRow_apply, seqs_apply]
  simp only [seqs_apply]
  show _ * (Ideal.ofBits .f32 0x3F800000#32 + scaleRow M (ix1 d)) + _ = _
  rw [scaleRow_apply]

theorem groups_apply (h : FVec Ideal S32x256x1024 .f32) (b : Fin 32) (l : Fin 256) (g : Fin 4) (j : Fin 256) :
    (shapeCast S32x256x4x256 h shapeCasts_S32x256x1024_S32x256x4x256 : FVec Ideal S32x256x4x256 .f32) (ix4 b l g j)
      = h (ix3 b l ⟨256 * g.val + j.val, by omega⟩) :=
  shapeCast_apply h shapeCasts_S32x256x1024_S32x256x4x256 (ix4 b l g j) (ix3 b l ⟨256 * g.val + j.val, by omega⟩) (by
    rw [Shape.rowMajor_val_three, Shape.rowMajor_val_four]
    show (b.val * 256 + l.val) * 1024 + (256 * g.val + j.val) = ((b.val * 256 + l.val) * 4 + g.val) * 256 + j.val
    omega)

theorem twice_apply (h : FVec Ideal S32x256x4x256 .f32) (p q : FVec Ideal S256x256 .f32) (b : Fin 32) (k : Fin 256) (g : Fin 4) (c : Fin 256) :
    twice h p q (ix4 b k g c) = ∑ j : Fin 256, (∑ l : Fin 256, p (ix2 k l) * h (ix4 b l g j)) * q (ix2 j c) := by
  unfold twice
  refine (Cert.Mix.channels_apply dot_S32x256x4x256_S256x256_S32x256x4x256_3_0_012_1_n_n_wf none _ q b k g c).trans ?_
  refine Finset.sum_congr rfl fun j _ => congrArg (fun a : EReal => a * q (ix2 j c)) ?_
  refine (transpose_apply _ _ transposes_S32x4x256x256_S32x256x4x256_0_3_1_2 (ix4 b k g j) (ix4 b g j k) (fun a => by
    match a with
    | ⟨0, _⟩ => rfl
    | ⟨1, _⟩ => rfl
    | ⟨2, _⟩ => rfl
    | ⟨3, _⟩ => rfl)).trans ?_
  refine (Cert.Mix.positions_apply dot_S32x256x4x256_S256x256_S32x4x256x256_1_1_023_0_n_n_wf none h p b g j k).trans ?_
  exact Finset.sum_congr rfl fun l _ => mul_comm _ _

/-- The reference's result at sequence b, position k, group g and channel c. -/
theorem result_apply (X : FVec Ideal S16384x1024 .f32) (M : FVec Ideal S4x8x6x1024 .f32) (N : FVec Ideal S1x1024 .f32)
    (cl sl cc sc : FVec Ideal S256x256 .f32) (b : Fin 32) (k : Fin 256) (g : Fin 4) (c : Fin 256) :
    result X M N cl sl cc sc (ix2 ⟨256 * b.val + k.val, by omega⟩ ⟨256 * g.val + c.val, by omega⟩)
      = Ideal.div (mixed (fun l j => normed (fun d => X (ix2 ⟨256 * b.val + l.val, by omega⟩ d)) (fun d => N (ix2 0 d))
          (fun d => M (ix4 1 4 0 d)) (fun d => M (ix4 1 4 1 d)) ⟨256 * g.val + j.val, by omega⟩)
        (fun l => cl (ix2 k l)) (fun l => sl (ix2 k l)) (fun j => cc (ix2 j c)) (fun j => sc (ix2 j c))) (Ideal.ofBits .f32 0x43800000#32) := by
  show rows X M N cl sl cc sc _ = _
  unfold rows mixed
  refine (shapeCast_apply _ shapeCasts_S32x256x4x256_S8192x1024 (ix2 ⟨256 * b.val + k.val, by omega⟩ ⟨256 * g.val + c.val, by omega⟩) (ix4 b k g c) (by
    rw [Shape.rowMajor_val_two, Shape.rowMajor_val_four]
    show ((b.val * 256 + k.val) * 4 + g.val) * 256 + c.val = (256 * b.val + k.val) * 1024 + (256 * g.val + c.val)
    omega)).trans ?_
  refine congrArg (fun a : EReal => Ideal.div a (Ideal.ofBits .f32 0x43800000#32)) ?_
  refine congrArg₂ (fun a b : EReal => a + b) ?_ ?_
  · refine (twice_apply _ cl cc b k g c).trans ?_
    simp only [groups_apply, hidden_apply]
  · refine (twice_apply _ sl (Host.negf sc) b k g c).trans ?_
    simp only [groups_apply, hidden_apply]
    rfl

end Cert.Reference2Ideal.Mix

end
-- ==== Proof.FourierTile.lean ====
/- What one tile of the Fourier step holds at an index, over the extended reals. -/
module

public import proofs.«01_k».proof.Proof.FourierRun
public import proofs.«01_k».proof.Proof.FourierOps
public import Idealize.ShloMosaic.Lib.MatmulPlain
public import Idealize.ShloMosaic.Lib.Pipeline.Value
public import Idealize.ShloMosaic.Lib.Pointwise.Reduce

@[expose] public section

set_option maxRecDepth 16384

noncomputable section

namespace Cert.Kernel2Ideal.Mix

open Cert.Kernel2Ideal.Gen
open Idealize.ShloMosaic hiding ix1 ix2 ix3 ix4
open Idealize.ShloMosaic.ValueIdx
open Cert.Mix (normed mixed)
open scoped BigOperators

/-- A tile's hidden rows. -/
theorem pay3_apply (v : Vec Ideal S1x1x6x1024 .f32) (g : Vec Ideal S1x1024 .f32) (x : Vec Ideal S256x1024 .f32) (r : Fin 256) (d : Fin 1024) :
    k0_pay3 v g x (ix2 r d) = normed (fun k => x (ix2 r k)) (fun k => g (ix2 0 k)) (fun k => v (ix4 0 0 0 k)) (fun k => v (ix4 0 0 1 k)) d := by
  unfold k0_pay3 normed
  refine (shapeCast_apply _ shapeCasts_S256x1024_S256x1024 (ix2 r d) (ix2 r d) rfl).trans ?_
  refine congrArg₂ (fun a b : EReal => a + b) (congrArg₂ (fun a b : EReal => a * b) (congrArg₂ (fun a b : EReal => a * b)
    (congrArg (fun a : EReal => x (ix2 r d) * a) ?_) ?_) ?_) ?_
  · refine (broadcastTo_apply _ broadcasts_S256x1_S256x1024 (ix2 r d) (ix2 r 0) (fun a => by
      match a with
      | ⟨0, _⟩ => rfl
      | ⟨1, _⟩ => rfl)).trans ?_
    refine congrArg (fun a : EReal => Ideal.rsqrt (Ideal.div a (Ideal.ofBits .f32 0x44800000#32) + Ideal.ofBits .f32 0x358637BD#32)) ?_
    refine (shapeCast_apply _ shapeCasts_S256_S256x1 (ix2 r 0) (ix1 r) (by
      rw [Shape.rowMajor_val_two, Shape.rowMajor_val_one]
      show r.val = r.val * 1 + 0
      omega)).trans ?_
    exact Ideal.reduceAdd_r2_a1 (t := S256) reduces_S256x1024_S256 (fun i => (x i : EReal) * x i) (ix1 r)
  · exact broadcastTo_apply _ broadcasts_S1x1024_S256x1024 (ix2 r d) (ix2 0 d) (fun a => by
      match a with
      | ⟨0, _⟩ => rfl
      | ⟨1, _⟩ => rfl)
  · refine (broadcastTo_apply _ broadcasts_S1x1024_S256x1024 (ix2 r d) (ix2 0 d) (fun a => by
      match a with
      | ⟨0, _⟩ => rfl
      | ⟨1, _⟩ => rfl)).trans ?_
    refine congrArg (fun a : EReal => Ideal.ofBits .f32 0x3F800000#32 + a) ?_
    refine (extractStridedSlice_apply _ _ slices_S6x1024_o1_0_S1x1024 (ix2 0 d) (ix2 1 d) (fun a => by
      match a with
      | ⟨0, _⟩ => rfl
      | ⟨1, _⟩ => show d.val = 0 + d.val; omega)).trans ?_
    exact shapeCast_apply v shapeCasts_S1x1x6x1024_S6x1024 (ix2 1 d) (ix4 0 0 1 d) (by
      rw [Shape.rowMajor_val_two, Shape.rowMajor_val_four]
      show ((0 * 1 + 0) * 6 + 1) * 1024 + d.val = 1 * 1024 + d.val
      omega)
  · refine (broadcastTo_apply _ broadcasts_S1x1024_S256x1024 (ix2 r d) (ix2 0 d) (fun a => by
      match a with
      | ⟨0, _⟩ => rfl
      | ⟨1, _⟩ => rfl)).trans ?_
    refine (extractStridedSlice_apply _ _ slices_S6x1024_o0_0_S1x1024 (ix2 0 d) (ix2 0 d) (fun a => by
      match a with
      | ⟨0, _⟩ => rfl
      | ⟨1, _⟩ => show d.val = 0 + d.val; omega)).trans ?_
    exact shapeCast_apply v shapeCasts_S1x1x6x1024_S6x1024 (ix2 0 d) (ix4 0 0 0 d) (by
      rw [Shape.rowMajor_val_two, Shape.rowMajor_val_four]
      show ((0 * 1 + 0) * 6 + 0) * 1024 + d.val = 0 * 1024 + d.val
      omega)

/-- A position table against a tile's hidden rows. -/
theorem pay4_apply (h : Vec Ideal S256x1024 .bf16) (p : Vec Ideal S256x256 .bf16) (k : Fin 256) (d : Fin 1024) :
    k0_pay4 h p (ix2 k d) = ∑ l : Fin 256, p (ix2 k l) * h (ix2 l d) := by
  unfold k0_pay4
  refine (Ideal.matmul_plain_apply (M := 256) (K := 256) (N := 1024) (φ₁ := .bf16) (φ₂ := .bf16) none _ _ _ k d).trans ?_
  show Ideal.ofBits .f32 0x00000000#32 + _ = _
  rw [Ideal.ofBits_zero_f32, zero_add]
  exact Finset.sum_congr rfl fun l _ => congrArg (fun a : EReal => a * h (ix2 l d))
    (shapeCast_apply p shapeCasts_S256x256_S256x256 (ix2 k l) (ix2 k l) rfl)

theorem pay5_apply (h : Vec Ideal S256x1024 .bf16) (p : Vec Ideal S256x256 .bf16) (k : Fin 256) (d : Fin 1024) :
    k0_pay5 h p (ix2 k d) = ∑ l : Fin 256, p (ix2 k l) * h (ix2 l d) := pay4_apply h p k d

/-- One group's columns of the two position products, side by side, against the channel tables, times 1/256. -/
def groupOf (off : ℕ) (hs : S256x1024.Slices ![0, off] S256x256) (zc zs : FVec Ideal S256x1024 .bf16) (w : Vec Ideal S512x256 .bf16) : FVec Ideal S256x256 .f32 :=
  mulf (matmul dot_S256x512_S512x256_S256x256_1_0_0_1_n_n none
    (concatenate S256x512 1 [⟨S256x256, extractStridedSlice S256x256 ![0, off] zc hs⟩, ⟨S256x256, extractStridedSlice S256x256 ![0, off] zs hs⟩] concatenates_S256x256_S256x256_S256x512_d1 : FVec Ideal S256x512 .bf16)
    (shapeCast S512x256 w shapeCasts_S512x256_S512x256 : FVec Ideal S512x256 .bf16) (constant S256x256 .f32 0x00000000#32))
    (broadcast S256x256 (Scalar.ofBits .f32 0x3B800000#32))

theorem groupOf_apply (off : ℕ) (ho : off + 256 ≤ 1024) (hs : S256x1024.Slices ![0, off] S256x256) (zc zs : FVec Ideal S256x1024 .bf16) (w : Vec Ideal S512x256 .bf16)
    (k c : Fin 256) :
    groupOf off hs zc zs w (ix2 k c)
      = ((∑ j : Fin 256, zc (ix2 k ⟨off + j.val, by omega⟩) * w (ix2 ⟨j.val, by omega⟩ c))
        + ∑ j : Fin 256, zs (ix2 k ⟨off + j.val, by omega⟩) * w (ix2 ⟨256 + j.val, by omega⟩ c)) * Ideal.ofBits .f32 0x3B800000#32 := by
  unfold groupOf
  refine congrArg (fun a : EReal => a * Ideal.ofBits .f32 0x3B800000#32) ?_
  refine (Ideal.matmul_plain_apply (M := 256) (K := 512) (N := 256) (φ₁ := .bf16) (φ₂ := .bf16) none _ _ _ k c).trans ?_
  show Ideal.ofBits .f32 0x00000000#32 + _ = _
  rw [Ideal.ofBits_zero_f32, zero_add]
  refine (Fin.sum_univ_add (a := 256) (b := 256) _).trans ?_
  refine congrArg₂ (fun a b : EReal => a + b) (Finset.sum_congr rfl fun j _ => congrArg₂ (fun a b : EReal => a * b) ?_ ?_)
    (Finset.sum_congr rfl fun j _ => congrArg₂ (fun a b : EReal => a * b) ?_ ?_)
  · refine (concatenate_pair_apply_left (t := S256x512) (s₁ := S256x256) (s₂ := S256x256) 1 _ _ concatenates_S256x256_S256x256_S256x512_d1 (ix2 k (Fin.castAdd 256 j)) rfl (ix2 k j) (fun a => by
      match a with
      | ⟨0, _⟩ => rfl
      | ⟨1, _⟩ => rfl)).trans ?_
    exact extractStridedSlice_apply _ zc hs (ix2 k j) (ix2 k ⟨off + j.val, by omega⟩) (fun a => by
      match a with
      | ⟨0, _⟩ => show k.val = 0 + k.val; omega
      | ⟨1, _⟩ => rfl)
  · exact shapeCast_apply w shapeCasts_S512x256_S512x256 _ (ix2 ⟨j.val, by omega⟩ c) rfl
  · refine (concatenate_pair_apply_right (t := S256x512) (s₁ := S256x256) (s₂ := S256x256) 1 _ _ concatenates_S256x256_S256x256_S256x512_d1 (ix2 k (Fin.natAdd 256 j)) rfl rfl (ix2 k j) (fun a ha => by
      match a, ha with
      | ⟨0, _⟩, _ => rfl
      | ⟨1, _⟩, ha => exact absurd rfl ha) (by show j.val + 256 = 256 + j.val; omega)).trans ?_
    exact extractStridedSlice_apply _ zs hs (ix2 k j) (ix2 k ⟨off + j.val, by omega⟩) (fun a => by
      match a with
      | ⟨0, _⟩ => show k.val = 0 + k.val; omega
      | ⟨1, _⟩ => rfl)
  · exact shapeCast_apply w shapeCasts_S512x256_S512x256 _ (ix2 ⟨256 + j.val, by omega⟩ c) rfl

/-- The group's columns at a channel. -/
theorem group_value (off : ℕ) (ho : off + 256 ≤ 1024) (hs : S256x1024.Slices ![0, off] S256x256) (h : Vec Ideal S256x1024 .bf16)
    (cl sl : Vec Ideal S256x256 .bf16) (w : Vec Ideal S512x256 .bf16) (cc sc : Fin 256 → EReal) (k c : Fin 256)
    (hc : ∀ j : Fin 256, w (ix2 ⟨j.val, by omega⟩ c) = cc j) (hn : ∀ j : Fin 256, w (ix2 ⟨256 + j.val, by omega⟩ c) = -(sc j)) :
    groupOf off hs (k0_pay4 h cl) (k0_pay5 h sl) w (ix2 k c)
      = Ideal.div (mixed (fun l j => h (ix2 l ⟨off + j.val, by omega⟩)) (fun l => cl (ix2 k l)) (fun l => sl (ix2 k l)) cc sc) (Ideal.ofBits .f32 0x43800000#32) := by
  rw [groupOf_apply off ho, ← Cert.Mix.scale_eq]
  unfold mixed
  simp only [pay4_apply, pay5_apply, hc, hn]

/-- A tile's result at position k, group g and channel c. -/
theorem outB_apply (h : Vec Ideal S256x1024 .bf16) (cl sl : Vec Ideal S256x256 .bf16) (w : Vec Ideal S512x256 .bf16) (cc sc : Fin 256 → EReal)
    (k : Fin 256) (g : Fin 4) (c : Fin 256)
    (hc : ∀ j : Fin 256, w (ix2 ⟨j.val, by omega⟩ c) = cc j) (hn : ∀ j : Fin 256, w (ix2 ⟨256 + j.val, by omega⟩ c) = -(sc j)) :
    outB h cl sl w (ix2 k ⟨256 * g.val + c.val, by omega⟩)
      = Ideal.div (mixed (fun l j => h (ix2 l ⟨256 * g.val + j.val, by omega⟩)) (fun l => cl (ix2 k l)) (fun l => sl (ix2 k l)) cc sc) (Ideal.ofBits .f32 0x43800000#32) := by
  have hz : ∀ n : ℕ, (Fin.ofNat 256 (256 * n + c.val) : Fin 256) = c := fun n => Fin.ext (show (256 * n + c.val) % 256 = c.val by omega)
  unfold outB
  match g with
  | ⟨0, _⟩ =>
    refine (if_pos (show 256 * 0 + c.val < 256 by omega)).trans ?_
    show k0_pay6 h cl sl w (ix2 k (Fin.ofNat 256 (256 * 0 + c.val))) = _
    rw [hz]
    exact group_value (256 * 0) (by omega) slices_S256x1024_o0_0_S256x256 h cl sl w cc sc k c hc hn
  | ⟨1, _⟩ =>
    refine (if_neg (show ¬ 256 * 1 + c.val < 256 by omega)).trans ((if_pos (show 256 * 1 + c.val < 512 by omega)).trans ?_)
    show k0_pay7 h cl sl w (ix2 k (Fin.ofNat 256 (256 * 1 + c.val))) = _
    rw [hz]
    exact group_value (256 * 1) (by omega) slices_S256x1024_o0_256_S256x256 h cl sl w cc sc k c hc hn
  | ⟨2, _⟩ =>
    refine (if_neg (show ¬ 256 * 2 + c.val < 256 by omega)).trans ((if_neg (show ¬ 256 * 2 + c.val < 512 by omega)).trans
      ((if_pos (show 256 * 2 + c.val < 768 by omega)).trans ?_))
    show k0_pay1 (k0_pay4 h cl) (k0_pay5 h sl) w (ix2 k (Fin.ofNat 256 (256 * 2 + c.val))) = _
    rw [hz]
    exact group_value (256 * 2) (by omega) slices_S256x1024_o0_512_S256x256 h cl sl w cc sc k c hc hn
  | ⟨3, _⟩ =>
    refine (if_neg (show ¬ 256 * 3 + c.val < 256 by omega)).trans ((if_neg (show ¬ 256 * 3 + c.val < 512 by omega)).trans
      ((if_neg (show ¬ 256 * 3 + c.val < 768 by omega)).trans ?_))
    show k0_pay2 (k0_pay4 h cl) (k0_pay5 h sl) w (ix2 k (Fin.ofNat 256 (256 * 3 + c.val))) = _
    rw [hz]
    exact group_value (256 * 3) (by omega) slices_S256x1024_o0_768_S256x256 h cl sl w cc sc k c hc hn

end Cert.Kernel2Ideal.Mix

end
-- ==== Proof.FourierValue.lean ====
/- What the Fourier step's kernel leaves: the prompt rows of the result are the reference's. -/
module

public import proofs.«01_k».proof.Proof.FourierTile
public import proofs.«01_k».proof.Proof.FourierReference
public import Idealize.ShloMosaic.Lib.Pipeline.ValueKit.Geometry

@[expose] public section

set_option maxRecDepth 16384

noncomputable section

namespace Cert.Kernel2Ideal.Mix

open Cert.Kernel2Ideal.Gen
open Idealize.ShloMosaic hiding ix1 ix2 ix3 ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.Mix (normed mixed)
open scoped BigOperators

variable (m : (ℓ : Loc nD τ sig) → Buf (Elt Ideal) ℓ) (ρ : Dev nD → PrngReg)

/-! ## The tables the region finds -/

theorem V_main_v3 (c : Dev nD) : (V m c main_v3 : S256x256.Idx → EReal) = m ((c : Thread nD τ).loc main_arg3) := by
  show StableHlo.after (hostOps0 : List (HloOp τ sig (Elt Ideal))) _ (Proc.devRef .tc main_v3) = _
  after_results_simp <;> rfl

theorem V_main_v4 (c : Dev nD) : (V m c main_v4 : S256x256.Idx → EReal) = m ((c : Thread nD τ).loc main_arg4) := by
  show StableHlo.after (hostOps0 : List (HloOp τ sig (Elt Ideal))) _ (Proc.devRef .tc main_v4) = _
  after_results_simp <;> rfl

/-- A table with every entry's sign changed. -/
def negated (a : S256x256.Idx → EReal) : S256x256.Idx → EReal := fun y => -(a y)

theorem V_main_v2 (c : Dev nD) : (V m c main_v2 : S512x256.Idx → EReal)
    = concatenate S512x256 0 [⟨S256x256, (m ((c : Thread nD τ).loc main_arg5) : S256x256.Idx → EReal)⟩,
        ⟨S256x256, negated (m ((c : Thread nD τ).loc main_arg6))⟩] concatenates_S256x256_S256x256_S512x256_d0 := by
  show StableHlo.after (hostOps0 : List (HloOp τ sig (Elt Ideal))) _ (Proc.devRef .tc main_v2) = _
  after_results_simp <;> rfl

theorem cos_apply (c : Dev nD) (j d : Fin 256) :
    (V m c main_v2 : S512x256.Idx → EReal) (ix2 ⟨j.val, by omega⟩ d) = (m ((c : Thread nD τ).loc main_arg5) : S256x256.Idx → EReal) (ix2 j d) := by
  rw [V_main_v2]
  exact concatenate_pair_apply_left (t := S512x256) (s₁ := S256x256) (s₂ := S256x256) 0 _ _ concatenates_S256x256_S256x256_S512x256_d0 (ix2 ⟨j.val, by omega⟩ d) rfl (ix2 j d) (fun a => by
    match a with
    | ⟨0, _⟩ => rfl
    | ⟨1, _⟩ => rfl)

theorem sin_apply (c : Dev nD) (j d : Fin 256) :
    (V m c main_v2 : S512x256.Idx → EReal) (ix2 ⟨256 + j.val, by omega⟩ d) = negated (m ((c : Thread nD τ).loc main_arg6)) (ix2 j d) := by
  rw [V_main_v2]
  exact concatenate_pair_apply_right (t := S512x256) (s₁ := S256x256) (s₂ := S256x256) 0 _ _ concatenates_S256x256_S256x256_S512x256_d0 (ix2 ⟨256 + j.val, by omega⟩ d) rfl rfl (ix2 j d) (fun a ha => by
    match a, ha with
    | ⟨0, _⟩, ha => exact absurd rfl ha
    | ⟨1, _⟩, _ => rfl) (by show j.val + 256 = 256 + j.val; omega)

/-! ## The result array -/

/-- The result: the reference's. -/
def value (c : Dev nD) : S8192x1024.Idx → EReal :=
  Cert.Reference2Ideal.Mix.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- A point's hidden rows are the sequence's. -/
theorem hidden_value (c : Dev nD) (t : Fin cfg0.N) (l : Fin 256) (d : Fin 1024) :
    (tileOf (hidT m c t) (t.val % 8) : S256x1024.Idx → EReal) (ix2 l d)
      = normed (fun k => (m ((c : Thread nD τ).loc main_arg0) : S16384x1024.Idx → EReal) (ix2 ⟨256 * t.val + l.val, by have := point_lt t; omega⟩ k))
        (fun k => (m ((c : Thread nD τ).loc main_arg2) : S1x1024.Idx → EReal) (ix2 0 k))
        (fun k => (m ((c : Thread nD τ).loc main_arg1) : S4x8x6x1024.Idx → EReal) (ix4 1 4 0 k))
        (fun k => (m ((c : Thread nD τ).loc main_arg1) : S4x8x6x1024.Idx → EReal) (ix4 1 4 1 k)) d := by
  have ht := point_lt t
  have hl := l.isLt
  have e1 : (Fin.ofNat 2048 (256 * (t.val % 8) + l.val)).val / 256 = t.val % 8 := by
    show (256 * (t.val % 8) + l.val) % 2048 / 256 = _
    omega
  have e2 : (Fin.ofNat 256 (Fin.ofNat 2048 (256 * (t.val % 8) + l.val)).val : Fin 256) = l := Fin.ext (by
    show (256 * (t.val % 8) + l.val) % 2048 % 256 = l.val
    omega)
  show k0_pay3 (iblk m c 1 t) (iblk m c 2 t) (tileOf (iblk m c 0 t) ((Fin.ofNat 2048 (256 * (t.val % 8) + l.val)).val / 256))
    (ix2 (Fin.ofNat 256 (Fin.ofNat 2048 (256 * (t.val % 8) + l.val)).val) d) = _
  rw [e1, e2, pay3_apply]
  have h0 : (fun k : Fin 1024 => (tileOf (iblk m c 0 t) (t.val % 8) : S256x1024.Idx → EReal) (ix2 l k))
      = fun k => (m ((c : Thread nD τ).loc main_arg0) : S16384x1024.Idx → EReal) (ix2 ⟨256 * t.val + l.val, by omega⟩ k) := funext fun k => by
    refine (iblk0_apply m c t (ix2 (Fin.ofNat 2048 (256 * (t.val % 8) + l.val)) k)).trans ?_
    rw [V_main_arg0]
    refine congrArg (fun a : Fin 16384 => (m ((c : Thread nD τ).loc main_arg0) : S16384x1024.Idx → EReal) (ix2 a k)) (Fin.ext ?_)
    show (2048 * (t.val / 8) + (256 * (t.val % 8) + l.val) % 2048) % 16384 = 256 * t.val + l.val
    omega
  have h2 : (fun k : Fin 1024 => (iblk m c 2 t : S1x1024.Idx → EReal) (ix2 0 k)) = fun k => (m ((c : Thread nD τ).loc main_arg2) : S1x1024.Idx → EReal) (ix2 0 k) :=
    funext fun k => (iblk2_apply m c t (ix2 0 k)).trans (by rw [V_main_arg2])
  have h1 : ∀ q : Fin 6, (fun k : Fin 1024 => (iblk m c 1 t : S1x1x6x1024.Idx → EReal) (ix4 0 0 q k)) = fun k => (m ((c : Thread nD τ).loc main_arg1) : S4x8x6x1024.Idx → EReal) (ix4 1 4 q k) :=
    fun q => funext fun k => (iblk1_apply m c t (ix4 0 0 q k)).trans (by rw [V_main_arg1])
  exact congrFun (congr (congr (congr (congrArg normed h0) h2) (h1 0)) (h1 1)) d

/-- Point t's block is the reference's rows 256 t … 256 t + 255. -/
theorem tile_value (c : Dev nD) (t : Fin cfg0.N) (k : Fin 256) (g : Fin 4) (d : Fin 256) :
    (outT m c t : S256x1024.Idx → EReal) (ix2 k ⟨256 * g.val + d.val, by omega⟩)
      = value m c (ix2 ⟨256 * t.val + k.val, by have := point_lt t; omega⟩ ⟨256 * g.val + d.val, by omega⟩) := by
  have ht := point_lt t
  refine Eq.trans ?_ (Cert.Reference2Ideal.Mix.result_apply _ _ _ _ _ _ _ ⟨t.val, ht⟩ k g d).symm
  unfold outT
  refine (outB_apply _ _ _ _ (fun j => (m ((c : Thread nD τ).loc main_arg5) : S256x256.Idx → EReal) (ix2 j d))
    (fun j => (m ((c : Thread nD τ).loc main_arg6) : S256x256.Idx → EReal) (ix2 j d)) k g d
    (fun j => (iblk5_apply m c t _).trans (cos_apply m c j d)) (fun j => (iblk5_apply m c t _).trans (sin_apply m c j d))).trans ?_
  refine congrArg (fun a : EReal => Ideal.div a (Ideal.ofBits .f32 0x43800000#32)) ?_
  have h0 := funext fun l : Fin 256 => funext fun j : Fin 256 => hidden_value m c t l ⟨256 * g.val + j.val, by omega⟩
  have h3 : (fun l : Fin 256 => (iblk m c 3 t : S256x256.Idx → EReal) (ix2 k l)) = fun l => (m ((c : Thread nD τ).loc main_arg3) : S256x256.Idx → EReal) (ix2 k l) :=
    funext fun l => (iblk3_apply m c t _).trans (congrFun (V_main_v3 m c) _)
  have h4 : (fun l : Fin 256 => (iblk m c 4 t : S256x256.Idx → EReal) (ix2 k l)) = fun l => (m ((c : Thread nD τ).loc main_arg4) : S256x256.Idx → EReal) (ix2 k l) :=
    funext fun l => (iblk4_apply m c t _).trans (congrFun (V_main_v4 m c) _)
  exact congrFun (congrFun (congr (congr (congrArg mixed h0) h3) h4) _) _

/-- Row y of point t's result block is row 256 t + y of the array. -/
theorem block_rows (t : Fin cfg0.N) (y : S256x1024.Idx) : (((cfg0.win 6).blk t).view.emb y : S16384x1024.Idx)
    = ix2 ⟨256 * t.val + (y 0).val, by have := point_lt t; have h0 : (y 0).val < 256 := (y 0).isLt; omega⟩ ⟨(y 1).val, (y 1).isLt⟩ := by
  have ht := point_lt t
  funext a
  apply Fin.ext
  match a with
  | ⟨0, _⟩ =>
    show cc0_transform_6 (grid0.coords t) 0 * 256 + 1 * (y 0).val = 256 * t.val + (y 0).val
    rw [index6, coords0, coords1]; show (8 * (t.val / 8) + t.val % 8) * 256 + 1 * (y 0).val = _; omega
  | ⟨1, _⟩ =>
    show cc0_transform_6 (grid0.coords t) 1 * 1024 + 1 * (y 1).val = (y 1).val
    rw [index6]; show 0 * 1024 + 1 * (y 1).val = _; omega

/-- After the run every prompt row of the written array is the reference's. -/
theorem written (c : Dev nD) (r : Fin 8192) (d : Fin 1024) :
    ((dats m 0 c).arrAt 6 cfg0.N : S16384x1024.Idx → EReal) (ix2 ⟨r.val, by omega⟩ d) = value m c (ix2 r d) := by
  have hr := r.isLt
  have hN : cfg0.N = 32 := N_0
  obtain ⟨t, ht⟩ : ∃ t : Fin cfg0.N, t.val = r.val / 256 := ⟨⟨r.val / 256, by rw [hN]; omega⟩, rfl⟩
  have he : (((cfg0.win 6).blk t).view.emb (ix2 ⟨r.val % 256, by omega⟩ d : S256x1024.Idx) : S16384x1024.Idx) = ix2 ⟨r.val, by omega⟩ d :=
    (block_rows t _).trans (congrArg (fun a : Fin 16384 => (ix2 a d : S16384x1024.Idx)) (Fin.ext (by show 256 * t.val + r.val % 256 = r.val; omega)))
  have key := (dats m 0 c).arrAt_forall_of_flushed 6
    (fun (i : S16384x1024.Idx) (v : EReal) => v = value m c (ix2 (Fin.ofNat 8192 (i 0).val) (i 1))) (fun t hf (y : S256x1024.Idx) => by
      have ht := point_lt t
      have h0 : (y 0).val < 256 := (y 0).isLt
      have h1 : (y 1).val < 1024 := (y 1).isLt
      rw [show (((cfg0.win 6).blk t).view.emb y : S16384x1024.Idx) = _ from block_rows t y]
      have hv := tile_value m c t ⟨(y 0).val, h0⟩ ⟨(y 1).val / 256, by omega⟩ ⟨(y 1).val % 256, by omega⟩
      show (dats m 0 c).after 6 t _ = _
      rw [after6]
      refine Eq.trans (congrArg (outT m c t) ?_) (hv.trans (congrArg (value m c) ?_))
      · funext a
        apply Fin.ext
        match a with
        | ⟨0, _⟩ => rfl
        | ⟨1, _⟩ => show (y 1).val = 256 * ((y 1).val / 256) + (y 1).val % 256; omega
      · funext a
        apply Fin.ext
        match a with
        | ⟨0, _⟩ => show 256 * t.val + (y 0).val = (256 * t.val + (y 0).val) % 8192; omega
        | ⟨1, _⟩ => show 256 * ((y 1).val / 256) + (y 1).val % 256 = (y 1).val; omega)
    cfg0.N t (ix2 ⟨r.val, by omega⟩ d : S16384x1024.Idx) t.isLt (flush0_6 t) (he ▸ View.emb_mem_set _ _)
  refine key.trans (congrArg (value m c) ?_)
  funext a
  apply Fin.ext
  match a with
  | ⟨0, _⟩ => show r.val % 8192 = r.val; omega
  | ⟨1, _⟩ => rfl

/-- The result's buffer after the lines that follow the region. -/
theorem result_final (c : Dev nD) : Pipeline.afterTail₀ cfgs (dats m) 0 (V0 m) [hostOps1] c main_v6 = value m c := by
  have e : (Pipeline.afterTail₀ cfgs (dats m) 0 (V0 m) [hostOps1] c main_v6 : S8192x1024.Idx → EReal)
      = extractStridedSlice S8192x1024 ![0, 0] ((dats m 0 c).arrAt 6 cfg0.N : S16384x1024.Idx → EReal) slices_S16384x1024_S8192x1024_0_0 := by
    unfold Pipeline.afterTail₀
    show StableHlo.after (hostOps1 : List (HloOp τ sig (Elt Ideal))) _ (Proc.devRef .tc main_v6) = _
    after_results_simp
    exact congrArg (fun a : S16384x1024.Idx → EReal => extractStridedSlice S8192x1024 ![0, 0] a slices_S16384x1024_S8192x1024_0_0)
      (Pipeline.withArrays_arr spec0 (by decide) c (V0 m c) (fun w => (dats m 0 c).arrAt w cfg0.N) 6)
  rw [e]
  funext y
  obtain ⟨r, d, rfl⟩ : ∃ (r : Fin 8192) (d : Fin 1024), y = ix2 r d := ⟨y 0, y 1, ValueIdx.eq_ix2 y⟩
  refine (extractStridedSlice_apply _ _ slices_S16384x1024_S8192x1024_0_0 (ix2 r d) (ix2 ⟨r.val, by omega⟩ d) (fun a => by
    match a with
    | ⟨0, _⟩ => show r.val = 0 + r.val; omega
    | ⟨1, _⟩ => show d.val = 0 + d.val; omega)).trans ?_
  exact written m c r d

/-- The run with its result: every device's result array is the reference's, its arguments as they were. -/
theorem run_value : θ_run defs (onTc (τ := τ) (main (F := Ideal))) ⟨m, fun _ => 0, ρ⟩ (fun r => ∀ c : Dev nD,
      r.2.mem ((c.tc : Thread nD τ).loc main_v6) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).2 main_v6 (Pipeline.mem_restRefs_of main_v6 (by decide) (by decide))).trans (result_final m c), h.2.1 c⟩)
    (θ_run_and (run_quiescent m ρ) (frame m ρ))

end Cert.Kernel2Ideal.Mix

end
-- ==== Proof.FourierSame.lean ====
/- The Fourier step's program and its idealization are the same text: their body tables and their mains are equal, over any
values, so a run of one is a run of the other. -/
module

public import proofs.«01_k».proof.Proof.Gen.Kernel2
public import proofs.«01_k».proof.Proof.Gen.Kernel2Ideal

@[expose] public section

set_option maxRecDepth 65536
set_option maxHeartbeats 4000000

noncomputable section

namespace Cert.Proof

open Idealize.ShloMosaic Idealize.SL.Sem

variable {F : FTy → Type} [FloatOps F]

/-- The kernels' bodies agree. -/
theorem bodies_same2 : (Cert.Kernel2.defs₀ (F := F)) = Cert.Kernel2Ideal.defs₀ (F := F) := by
  refine congrArg Defs.onTc (funext fun l => ?_)
  match l with
  | ⟨0, _⟩ =>
    funext x
    obtain ⟨t, s⟩ := x
    rfl

/-- The body tables agree. -/
theorem tables_same2 : (Cert.Kernel2.defs (F := F)) = Cert.Kernel2Ideal.defs (F := F) :=
  congrArg (Pipeline.defs (Cert.Kernel2Ideal.pcfgs (F := F))) bodies_same2

/-- The mains agree. -/
theorem mains_same2 : (Cert.Kernel2.main (F := F)) = Cert.Kernel2Ideal.main (F := F) := rfl

/-- A run of the idealization is a run of the kernel's program. -/
theorem run_same2 (s : MemSt Cert.Kernel2.nD Cert.Kernel2.τ Cert.Kernel2.sig (Elt F)) (Q : (PUnit × MemSt Cert.Kernel2.nD Cert.Kernel2.τ Cert.Kernel2.sig (Elt F)) → Prop)
    (h : θ_run (Cert.Kernel2Ideal.defs (F := F)) (onTc (τ := Cert.Kernel2Ideal.τ) (Cert.Kernel2Ideal.main (F := F))) s Q) :
    θ_run (Cert.Kernel2.defs (F := F)) (onTc (τ := Cert.Kernel2.τ) (Cert.Kernel2.main (F := F))) s Q := by
  rw [tables_same2, mains_same2]
  exact h

end Cert.Proof

end
-- ==== Proof.ModMath.lean ====
/- The conditioning's arithmetic over the extended reals: a finite value less itself is zero, silu keeps a finite value finite,
and what the precondition says of each entry. -/
module

public import proofs.«01_k».proof.Pre_finite
public import Idealize.ShloMosaic.Lib.ReduceAll
public import Idealize.ShloMosaic.Lib.IdealHost
public import Idealize.ShloMosaic.PureOps.Ideal.Laws

@[expose] public section

set_option maxRecDepth 16384

noncomputable section

namespace Cert.Mod

open Idealize.ShloMosaic
open scoped BigOperators

/-- Neither infinity. -/
def Proper (x : EReal) : Prop := ∃ r : ℝ, x = (r : EReal)

theorem Proper.zero : Proper 0 := ⟨0, rfl⟩

theorem Proper.sub_self {x : EReal} (h : Proper x) : x - x = 0 := by
  obtain ⟨r, rfl⟩ := h
  rw [← EReal.coe_sub, _root_.sub_self]
  rfl

/-- A value times its logistic. -/
def silu (x : EReal) : EReal := x * Ideal.logistic x

theorem Proper.silu {x : EReal} (h : Proper x) : Proper (silu x) := by
  obtain ⟨r, rfl⟩ := h
  have hp : 1 + Real.exp (-r) ≠ 0 := by have := Real.exp_pos (-r); linarith
  refine ⟨r * (1 * (1 + Real.exp (-r))⁻¹), ?_⟩
  have e : Ideal.exp (-(r : EReal)) = ((Real.exp (-r) : ℝ) : EReal) := by rw [← EReal.coe_neg]; rfl
  have d : (1 : EReal) + Ideal.exp (-(r : EReal)) = ((1 + Real.exp (-r) : ℝ) : EReal) := by rw [e, EReal.coe_add]; rfl
  unfold Mod.silu Ideal.logistic Ideal.div
  rw [d, if_neg (by rw [← EReal.coe_zero]; exact fun q => hp (EReal.coe_injective q)), ← EReal.coe_inv, ← EReal.coe_one, ← EReal.coe_mul, ← EReal.coe_mul]

/-- With every factor finite the parts a split leaves behind are zero, and the three products are one. -/
theorem split_sum (s w : Fin 1024 → EReal) (hs : ∀ k, Proper (s k)) (hw : ∀ k, Proper (w k)) :
    (∑ k, s k * w k) + ((∑ k, s k * (w k - w k)) + ∑ k, (s k - s k) * w k) = ∑ k, w k * s k := by
  have h1 : (∑ k, s k * (w k - w k)) = 0 := Finset.sum_eq_zero fun k _ => by rw [(hw k).sub_self, mul_zero]
  have h2 : (∑ k, (s k - s k) * w k) = 0 := Finset.sum_eq_zero fun k _ => by rw [(hs k).sub_self, zero_mul]
  rw [h1, h2, add_zero, add_zero]
  exact Finset.sum_congr rfl fun k _ => mul_comm _ _

/-! ## The precondition -/

/-- The shape relations the precondition's operations take. -/
theorem finite_facts : Cert.Pre_finite.Facts where
  bcast_S_S4x1024 := by decide
  reducesTo_S4x1024_S_d0_1 := by decide
  h_S_ := by decide
  bcast_S_S1024 := by decide
  reducesTo_S1024_S_d0 := by decide
  bcast_S_S4x1024x6144 := by decide
  reducesTo_S4x1024x6144_S_d0_1_2 := by decide

attribute [local instance] finite_facts

theorem infinity : Ideal.ofBits .f32 0x7F800000#32 = ⊤ := by simp [Ideal.ofBits, Ideal.ieee]

theorem real_of_lt {x : EReal} (h : Ideal.cmp .olt (max x (-x)) (Ideal.ofBits .f32 0x7F800000#32) = 1#1) : Proper x := by
  rw [infinity] at h
  have h' : max x (-x) < ⊤ := by
    by_contra q
    unfold Ideal.cmp at h
    simp only [decide_eq_false q] at h
    exact absurd h (by decide)
  induction x using EReal.rec with
  | bot => exact absurd h' (by simp)
  | top => exact absurd h' (by simp)
  | coe r => exact ⟨r, rfl⟩

theorem both (a b : BitVec 1) (h : IntOp.andi a b = 1#1) : a = 1#1 ∧ b = 1#1 := by revert a b; decide

/-- Every entry of the conditioning and of the weights is finite. -/
theorem real_of_finite (x0 : FVec Ideal Cert.Pre_finite.S4x1024 .f32) (x1 : FVec Ideal Cert.Pre_finite.S1024 .f32) (x2 : FVec Ideal Cert.Pre_finite.S4x1024x6144 .f32)
    (x3 : FVec Ideal Cert.Pre_finite.S4x6144 .f32) (h : Cert.Pre_finite.fn (F := Ideal) x0 x1 x2 x3 = fun _ => 1#1) :
    (∀ i, Proper (x0 i)) ∧ (∀ i, Proper (x1 i)) ∧ ∀ i, Proper (x2 i) := by
  have h0 := congrFun h (Shape.Idx.first finite_facts.h_S_)
  obtain ⟨h1, h2⟩ := both _ _ h0
  obtain ⟨h3, h4⟩ := both _ _ h1
  haveI : Subsingleton Cert.Pre_finite.S_.Idx := ⟨fun a b => funext fun q => q.elim0⟩
  exact ⟨fun i => real_of_lt (Host.reduce_andi_all _ _ _ _ _ h3 i), fun i => real_of_lt (Host.reduce_andi_all _ _ _ _ _ h4 i),
    fun i => real_of_lt (Host.reduce_andi_all _ _ _ _ _ h2 i)⟩

end Cert.Mod

end
-- ==== Proof.ModRows.lean ====
/- The conditioning's eight rows, as the kernel's program sets them and as the reference joins them: the four samples', the
context's, and three of zeros. -/
module

public import proofs.«01_k».proof.Proof.Gen.Kernel3Ideal.Value
public import proofs.«01_k».proof.Proof.Gen.Reference3Ideal.Read
public import proofs.«01_k».proof.Proof.ModMath
public import Idealize.ShloMosaic.Lib.Routing.OpsPair
public import Idealize.ShloMosaic.Lib.Routing.OpsSet
public import Idealize.ShloMosaic.Lib.Pipeline.Value
public import Idealize.ShloMosaic.Lib.Pointwise

@[expose] public section

set_option maxRecDepth 16384

noncomputable section

namespace Cert.Kernel3Ideal.Cond

open Cert.Kernel3Ideal.Gen
open Idealize.ShloMosaic hiding ix1 ix2 ix3 ix4
open Idealize.ShloMosaic.TcCoe Idealize.ShloMosaic.Tactic
open Idealize.ShloMosaic.ValueIdx
open Idealize.ShloMosaic.Routing

/-- Row q of the conditioning. -/
def row (x : S4x1024.Idx → EReal) (y : S1024.Idx → EReal) (q : Fin 8) (k : Fin 1024) : EReal :=
  if h : q.val < 4 then x (ix2 ⟨q.val, h⟩ k) else if q.val = 4 then y (ix1 k) else 0

theorem row_real (x : S4x1024.Idx → EReal) (y : S1024.Idx → EReal) (hx : ∀ i, Mod.Proper (x i)) (hy : ∀ i, Mod.Proper (y i)) (q : Fin 8) (k : Fin 1024) :
    Mod.Proper (row x y q k) := by
  unfold row
  split
  · exact hx _
  · split
    · exact hy _
    · exact Mod.Proper.zero

/-! ## Where an update lands -/

theorem lands_block (idx : IVec S1 32) (hidx : ∀ i, idx i = 0#32) (a : Fin 4) (b : Fin 1024) (q : Fin 8) (k : Fin 1024) :
    scatter_S8x1024_S1_S4x1024_01_n_0_0.resultIdx? (ix2 a b) idx = some (ix2 q k) ↔ a.val = q.val ∧ b = k := by
  have s0 : scatter_S8x1024_S1_S4x1024_01_n_0_0.start (ix2 a b) idx 0 = 0 := by
    unfold ScatterDims.start
    rw [dif_pos (show (0 : Fin S8x1024.rank) ∈ scatter_S8x1024_S1_S4x1024_01_n_0_0.scatterDimsToOperandDims by decide), hidx]
    rfl
  have s1 : scatter_S8x1024_S1_S4x1024_01_n_0_0.start (ix2 a b) idx 1 = 0 := by
    unfold ScatterDims.start
    rw [dif_neg (show ¬(1 : Fin S8x1024.rank) ∈ scatter_S8x1024_S1_S4x1024_01_n_0_0.scatterDimsToOperandDims by decide)]
  have w0 : scatter_S8x1024_S1_S4x1024_01_n_0_0.window (ix2 a b) 0 = a.val := by
    unfold ScatterDims.window
    rw [dif_pos (show (0 : Fin S8x1024.rank) ∈ scatter_S8x1024_S1_S4x1024_01_n_0_0.sKept by decide)]
    rfl
  have w1 : scatter_S8x1024_S1_S4x1024_01_n_0_0.window (ix2 a b) 1 = b.val := by
    unfold ScatterDims.window
    rw [dif_pos (show (1 : Fin S8x1024.rank) ∈ scatter_S8x1024_S1_S4x1024_01_n_0_0.sKept by decide)]
    rfl
  rw [Fin.ext_iff]
  refine (resultIdx?_ix2 scatter_S8x1024_S1_S4x1024_01_n_0_0 (ix2 a b) idx q k).trans ?_
  rw [s0, s1, w0, w1]
  omega

theorem lands_row (idx : IVec S1 32) (hidx : ∀ i, idx i = 4#32) (b : Fin 1024) (q : Fin 8) (k : Fin 1024) :
    scatter_S8x1024_S1_S1024_0_0_0_0.resultIdx? (ix1 b) idx = some (ix2 q k) ↔ q.val = 4 ∧ b = k := by
  have s0 : scatter_S8x1024_S1_S1024_0_0_0_0.start (ix1 b) idx 0 = 4 := by
    unfold ScatterDims.start
    rw [dif_pos (show (0 : Fin S8x1024.rank) ∈ scatter_S8x1024_S1_S1024_0_0_0_0.scatterDimsToOperandDims by decide), hidx]
    rfl
  have s1 : scatter_S8x1024_S1_S1024_0_0_0_0.start (ix1 b) idx 1 = 0 := by
    unfold ScatterDims.start
    rw [dif_neg (show ¬(1 : Fin S8x1024.rank) ∈ scatter_S8x1024_S1_S1024_0_0_0_0.scatterDimsToOperandDims by decide)]
  have w0 : scatter_S8x1024_S1_S1024_0_0_0_0.window (ix1 b) 0 = 0 := by
    unfold ScatterDims.window
    rw [dif_neg (show ¬(0 : Fin S8x1024.rank) ∈ scatter_S8x1024_S1_S1024_0_0_0_0.sKept by decide)]
  have w1 : scatter_S8x1024_S1_S1024_0_0_0_0.window (ix1 b) 1 = b.val := by
    unfold ScatterDims.window
    rw [dif_pos (show (1 : Fin S8x1024.rank) ∈ scatter_S8x1024_S1_S1024_0_0_0_0.sKept by decide)]
    rfl
  rw [Fin.ext_iff]
  refine (resultIdx?_ix2 scatter_S8x1024_S1_S1024_0_0_0_0 (ix1 b) idx q k).trans ?_
  rw [s0, s1, w0, w1]
  omega

/-! ## The rows as the program sets them -/

theorem set_block (z : S8x1024.Idx → EReal) (idx : IVec S1 32) (hidx : ∀ i, idx i = 0#32) (x : S4x1024.Idx → EReal) (q : Fin 8) (k : Fin 1024) :
    Host.scatter scatter_S8x1024_S1_S4x1024_01_n_0_0 (fun _ b => b) z idx x (ix2 q k) = if h : q.val < 4 then x (ix2 ⟨q.val, h⟩ k) else z (ix2 q k) := by
  have key : ∀ j : S4x1024.Idx, scatter_S8x1024_S1_S4x1024_01_n_0_0.resultIdx? j idx = some (ix2 q k) → (j 0).val = q.val ∧ j 1 = k := fun j hj =>
    (lands_block idx hidx (j 0) (j 1) q k).1 ((congrArg (fun t => scatter_S8x1024_S1_S4x1024_01_n_0_0.resultIdx? t idx) (ValueIdx.eq_ix2 j).symm).trans hj)
  split
  · rename_i h
    refine scatter_set_hit scatter_S8x1024_S1_S4x1024_01_n_0_0 z idx x _ _ (fun j hj => congrArg x ?_) (ix2 ⟨q.val, h⟩ k) ((lands_block idx hidx ⟨q.val, h⟩ k q k).2 ⟨rfl, rfl⟩)
    obtain ⟨e0, e1⟩ := key j hj
    funext a
    match a with
    | ⟨0, _⟩ => exact Fin.ext e0
    | ⟨1, _⟩ => exact e1
  · rename_i h
    refine scatter_set_miss scatter_S8x1024_S1_S4x1024_01_n_0_0 z idx x _ fun j hj => h ?_
    have h0 : (j 0).val < 4 := (j 0).isLt
    have := (key j hj).1
    omega

theorem set_row (z : S8x1024.Idx → EReal) (idx : IVec S1 32) (hidx : ∀ i, idx i = 4#32) (y : S1024.Idx → EReal) (q : Fin 8) (k : Fin 1024) :
    Host.scatter scatter_S8x1024_S1_S1024_0_0_0_0 (fun _ b => b) z idx y (ix2 q k) = if q.val = 4 then y (ix1 k) else z (ix2 q k) := by
  have key : ∀ j : S1024.Idx, scatter_S8x1024_S1_S1024_0_0_0_0.resultIdx? j idx = some (ix2 q k) → q.val = 4 ∧ j 0 = k := fun j hj =>
    (lands_row idx hidx (j 0) q k).1 ((congrArg (fun t => scatter_S8x1024_S1_S1024_0_0_0_0.resultIdx? t idx) (ValueIdx.eq_ix1 j).symm).trans hj)
  split
  · rename_i h
    refine scatter_set_hit scatter_S8x1024_S1_S1024_0_0_0_0 z idx y _ _ (fun j hj => congrArg y ?_) (ix1 k) ((lands_row idx hidx k q k).2 ⟨h, rfl⟩)
    funext a
    match a with
    | ⟨0, _⟩ => exact (key j hj).2
  · rename_i h
    exact scatter_set_miss scatter_S8x1024_S1_S1024_0_0_0_0 z idx y _ fun j hj => h (key j hj).1

variable (m : (ℓ : Loc nD τ sig) → Buf (Elt Ideal) ℓ)

theorem V_main_v4 (c : Dev nD) : (V m c main_v4 : S8x1024.Idx → EReal)
    = Host.scatter scatter_S8x1024_S1_S1024_0_0_0_0 (fun _ b => b)
        (Host.scatter scatter_S8x1024_S1_S4x1024_01_n_0_0 (fun _ b => b) (broadcastInDim S8x1024 ![] bcast_S_S8x1024 (constant (F := Ideal) S_ .f32 0x00000000#32) : S8x1024.Idx → EReal)
          (broadcastInDim S1 ![] bcast_S_S1 (constantI S_ 32 0#32)) (m ((c : Thread nD τ).loc main_arg0) : S4x1024.Idx → EReal))
        (broadcastInDim S1 ![] bcast_S_S1 (constantI S_ 32 4#32)) (m ((c : Thread nD τ).loc main_arg1) : S1024.Idx → EReal) := by
  show StableHlo.after (hostOps0 : List (HloOp τ sig (Elt Ideal))) _ (Proc.devRef .tc main_v4) = _
  after_results_simp <;> rfl

theorem cond_apply (c : Dev nD) (q : Fin 8) (k : Fin 1024) :
    (V m c main_v4 : S8x1024.Idx → EReal) (ix2 q k) = row (m ((c : Thread nD τ).loc main_arg0)) (m ((c : Thread nD τ).loc main_arg1)) q k := by
  rw [V_main_v4]
  refine (set_row _ _ (fun _ => rfl) _ q k).trans ?_
  unfold row
  by_cases h : q.val < 4
  · rw [if_neg (by omega), dif_pos h]
    exact (set_block _ _ (fun _ => rfl) _ q k).trans (dif_pos h)
  · rw [dif_neg h]
    split
    · rfl
    · exact ((set_block _ _ (fun _ => rfl) _ q k).trans (dif_neg h)).trans Ideal.ofBits_zero_f32

/-! ## The rows as the reference joins them -/

theorem joined_apply (x : S4x1024.Idx → EReal) (y : S1024.Idx → EReal) (q : Fin 8) (k : Fin 1024) :
    Cert.Reference3Ideal.Read.val_main_v2 (F := Ideal) x y (ix2 q k) = row x y q k := by
  unfold row Cert.Reference3Ideal.Read.val_main_v2
  have hq := q.isLt
  split
  · rename_i h
    exact concatenate_apply_piece (t := S8x1024) 0 [⟨S4x1024, x⟩, ⟨Cert.Reference3Ideal.S1x1024, Cert.Reference3Ideal.Read.val_main_v0 (F := Ideal) y⟩, ⟨Cert.Reference3Ideal.S3x1024, Cert.Reference3Ideal.Read.val_main_v1 (F := Ideal)⟩] _ (ix2 q k) 0 (show 0 < 3 by decide) S4x1024 _ rfl rfl 0 rfl (ix2 ⟨q.val, h⟩ k) (fun b hb => by
      match b, hb with
      | ⟨0, _⟩, hb => exact absurd rfl hb
      | ⟨1, _⟩, _ => rfl) (by show 0 + q.val = q.val; omega)
  · split
    · rename_i h h4
      refine (concatenate_apply_piece (t := S8x1024) 0 [⟨S4x1024, x⟩, ⟨Cert.Reference3Ideal.S1x1024, Cert.Reference3Ideal.Read.val_main_v0 (F := Ideal) y⟩, ⟨Cert.Reference3Ideal.S3x1024, Cert.Reference3Ideal.Read.val_main_v1 (F := Ideal)⟩] _ (ix2 q k) 1 (show 1 < 3 by decide) Cert.Reference3Ideal.S1x1024 _ rfl rfl 4 rfl (ix2 (0 : Fin 1) k) (fun b hb => by
        match b, hb with
        | ⟨0, _⟩, hb => exact absurd rfl hb
        | ⟨1, _⟩, _ => rfl) (by show 4 + 0 = q.val; omega)).trans ?_
      refine (Cert.Reference3Ideal.Read.val_main_v0_apply (F := Ideal) y (ix2 (0 : Fin 1) k)).trans (congrArg y ?_)
      funext a
      match a with
      | ⟨0, _⟩ => rfl
    · rename_i h h4
      refine (concatenate_apply_piece (t := S8x1024) 0 [⟨S4x1024, x⟩, ⟨Cert.Reference3Ideal.S1x1024, Cert.Reference3Ideal.Read.val_main_v0 (F := Ideal) y⟩, ⟨Cert.Reference3Ideal.S3x1024, Cert.Reference3Ideal.Read.val_main_v1 (F := Ideal)⟩] _ (ix2 q k) 2 (show 2 < 3 by decide) Cert.Reference3Ideal.S3x1024 _ rfl rfl 5 rfl (ix2 (⟨q.val - 5, by omega⟩ : Fin 3) k) (fun b hb => by
        match b, hb with
        | ⟨0, _⟩, hb => exact absurd rfl hb
        | ⟨1, _⟩, _ => rfl) (by show 5 + (q.val - 5) = q.val; omega)).trans ?_
      refine (Cert.Reference3Ideal.Read.val_main_v1_apply (F := Ideal) _).trans ?_
      exact Ideal.ofBits_zero_f32

end Cert.Kernel3Ideal.Cond

end
-- ==== Proof.ModValue.lean ====
/- What the conditioning projection's kernel leaves: with finite arguments, the reference's array. -/
module

public import proofs.«01_k».proof.Proof.ModRows
public import Idealize.ShloMosaic.Lib.MatmulPlain
public import Idealize.ShloMosaic.Lib.Pipeline.ValueKit.Geometry

@[expose] public section

set_option maxRecDepth 16384

noncomputable section

namespace Cert.Kernel3Ideal.Cond

open Cert.Kernel3Ideal.Gen
open Idealize.ShloMosaic hiding ix1 ix2 ix3 ix4
open Idealize.ShloMosaic.TcCoe Idealize.ShloMosaic.Tactic Idealize.SL.Sem
open Idealize.ShloMosaic.Pipeline (Dat Cfg Window)
open Idealize.ShloMosaic.ValueIdx
open Cert.Mod (silu)
open scoped BigOperators

/-! ## One point's block -/

/-- A product of the conditioning and the weights, at an index. -/
theorem product_apply (s : FVec Ideal S8x1024 .bf16) (w : FVec Ideal S1024x1024 .bf16) (q : Fin 8) (e : Fin 1024) :
    (matmul dot_S8x1024_S1024x1024_S8x1024_1_0_0_1_n_n none s w (constant (F := Ideal) S8x1024 .f32 0x00000000#32) : S8x1024.Idx → EReal) (ix2 q e)
      = ∑ k : Fin 1024, (s (ix2 q k) : EReal) * w (ix2 k e) := by
  refine (Ideal.matmul_plain_apply (M := 8) (K := 1024) (N := 1024) (φ₁ := .bf16) (φ₂ := .bf16) none s w _ q e).trans ?_
  show Ideal.ofBits .f32 0x00000000#32 + _ = _
  rw [Ideal.ofBits_zero_f32, zero_add]

theorem pay_apply (x : Vec Ideal S8x1024 .f32) (w : Vec Ideal S1x1024x1024 .f32) (b : Vec Ideal S1x1x1024 .f32) (X W : Fin 1024 → EReal) (q : Fin 8) (e : Fin 1024)
    (hx : ∀ k, (x (ix2 q k) : EReal) = X k) (hw : ∀ k, (w (ix3 0 k e) : EReal) = W k) (rx : ∀ k, Mod.Proper (X k)) (rw' : ∀ k, Mod.Proper (W k)) :
    (k0_pay1 x w b : S1x8x1024.Idx → EReal) (ix3 0 q e) = (∑ k, W k * silu (X k)) + (b (ix3 0 0 e) : EReal) := by
  have hs : ∀ k, (shapeCast S8x1024 x shapeCasts_S8x1024_S8x1024 : S8x1024.Idx → EReal) (ix2 q k) = X k := fun k =>
    (shapeCast_apply x shapeCasts_S8x1024_S8x1024 (ix2 q k) (ix2 q k) rfl).trans (hx k)
  have hc : ∀ k, (shapeCast S1024x1024 w shapeCasts_S1x1024x1024_S1024x1024 : S1024x1024.Idx → EReal) (ix2 k e) = W k := fun k =>
    (shapeCast_apply w shapeCasts_S1x1024x1024_S1024x1024 (ix2 k e) (ix3 0 k e) (by
      rw [Shape.rowMajor_val_three, Shape.rowMajor_val_two]
      show (0 * 1024 + k.val) * 1024 + e.val = k.val * 1024 + e.val
      omega)).trans (hw k)
  dsimp only [k0_pay1]
  refine (shapeCast_apply _ shapeCasts_S8x1024_S1x8x1024 (ix3 0 q e) (ix2 q e) (by
    rw [Shape.rowMajor_val_three, Shape.rowMajor_val_two]
    show q.val * 1024 + e.val = (0 * 8 + q.val) * 1024 + e.val
    omega)).trans ?_
  refine congrArg₂ (fun a c : EReal => a + c) ?_ ?_
  · refine Eq.trans ?_ (Mod.split_sum (fun k => silu (X k)) W (fun k => (rx k).silu) rw')
    refine congrArg₂ (fun a c : EReal => a + c) ?_ (congrArg₂ (fun a c : EReal => a + c) ?_ ?_)
    · refine (product_apply _ _ q e).trans (Finset.sum_congr rfl fun k _ => ?_)
      rw [← hs k, ← hc k]
      rfl
    · refine (product_apply _ _ q e).trans (Finset.sum_congr rfl fun k _ => ?_)
      rw [← hs k, ← hc k]
      rfl
    · refine (product_apply _ _ q e).trans (Finset.sum_congr rfl fun k _ => ?_)
      rw [← hs k, ← hc k]
      rfl
  · refine (broadcastTo_apply _ broadcasts_S1x1024_S8x1024 (ix2 q e) (ix2 0 e) (fun a => by
      match a with
      | ⟨0, _⟩ => rfl
      | ⟨1, _⟩ => rfl)).trans ?_
    exact shapeCast_apply b shapeCasts_S1x1x1024_S1x1024 (ix2 0 e) (ix3 0 0 e) (by
      rw [Shape.rowMajor_val_three, Shape.rowMajor_val_two]
      show (0 * 1 + 0) * 1024 + e.val = 0 * 1024 + e.val
      omega)

/-! ## The blocks -/

variable (m : (ℓ : Loc nD τ sig) → Buf (Elt Ideal) ℓ) (ρ : Dev nD → PrngReg)

theorem point_lt (t : Fin cfg0.N) : t.val < 24 := Nat.lt_of_lt_of_eq t.isLt N_0

theorem index0 (t : Fin cfg0.N) : cc0_transform_0 (grid0.coords t) = ![0, 0] :=
  (by decide +kernel : ∀ t : Fin grid0.N, cc0_transform_0 (grid0.coords t) = ![0, 0]) t
theorem index1 (t : Fin cfg0.N) : cc0_transform_1 (grid0.coords t) = ![t.val / 6, 0, t.val % 6] :=
  (by decide +kernel : ∀ t : Fin grid0.N, cc0_transform_1 (grid0.coords t) = ![t.val / 6, 0, t.val % 6]) t
theorem index2 (t : Fin cfg0.N) : cc0_transform_2 (grid0.coords t) = ![t.val / 6, 0, t.val % 6] :=
  (by decide +kernel : ∀ t : Fin grid0.N, cc0_transform_2 (grid0.coords t) = ![t.val / 6, 0, t.val % 6]) t
theorem index3 (t : Fin cfg0.N) : cc0_transform_3 (grid0.coords t) = ![t.val / 6, 0, t.val % 6] :=
  (by decide +kernel : ∀ t : Fin grid0.N, cc0_transform_3 (grid0.coords t) = ![t.val / 6, 0, t.val % 6]) t

/-- The layer point t works on. -/
def layer (t : Fin cfg0.N) : Fin 4 := ⟨t.val / 6, by have := point_lt t; omega⟩
/-- Column e of point t's block, in the whole width. -/
def column (t : Fin cfg0.N) (e : Fin 1024) : Fin 6144 := ⟨1024 * (t.val % 6) + e.val, by omega⟩

/-- Every point's conditioning is the whole of it. -/
theorem iblk0_apply (c : Dev nD) (t : Fin cfg0.N) (q : Fin 8) (k : Fin 1024) :
    (iblk m c 0 t : S8x1024.Idx → EReal) (ix2 q k) = (V m c main_v4 : S8x1024.Idx → EReal) (ix2 q k) := by
  show (V m c main_v4 : S8x1024.Idx → EReal) (((cfg0.win 0).blk t).view.emb (ix2 q k : S8x1024.Idx)) = _
  congr 1
  funext a
  apply Fin.ext
  match a with
  | ⟨0, _⟩ =>
    show cc0_transform_0 (grid0.coords t) 0 * 8 + 1 * q.val = q.val
    rw [index0]; show 0 * 8 + 1 * q.val = _; omega
  | ⟨1, _⟩ =>
    show cc0_transform_0 (grid0.coords t) 1 * 1024 + 1 * k.val = k.val
    rw [index0]; show 0 * 1024 + 1 * k.val = _; omega

/-- Point t's weights are its layer's, its 1024 columns of them. -/
theorem iblk1_apply (c : Dev nD) (t : Fin cfg0.N) (k e : Fin 1024) :
    (iblk m c 1 t : S1x1024x1024.Idx → EReal) (ix3 0 k e) = (m ((c : Thread nD τ).loc main_arg2) : S4x1024x6144.Idx → EReal) (ix3 (layer t) k (column t e)) := by
  rw [← V_main_arg2 m c]
  show (V m c main_arg2 : S4x1024x6144.Idx → EReal) (((cfg0.win 1).blk t).view.emb (ix3 0 k e : S1x1024x1024.Idx)) = _
  congr 1
  funext a
  apply Fin.ext
  match a with
  | ⟨0, _⟩ =>
    show cc0_transform_1 (grid0.coords t) 0 * 1 + 1 * 0 = t.val / 6
    rw [index1]; show t.val / 6 * 1 + 1 * 0 = _; omega
  | ⟨1, _⟩ =>
    show cc0_transform_1 (grid0.coords t) 1 * 1024 + 1 * k.val = k.val
    rw [index1]; show 0 * 1024 + 1 * k.val = _; omega
  | ⟨2, _⟩ =>
    show cc0_transform_1 (grid0.coords t) 2 * 1024 + 1 * e.val = 1024 * (t.val % 6) + e.val
    rw [index1]; show t.val % 6 * 1024 + 1 * e.val = _; omega

theorem V_main_v5 (c : Dev nD) : (V m c main_v5 : S4x1x6144.Idx → EReal)
    = shapeCast S4x1x6144 (m ((c : Thread nD τ).loc main_arg3) : S4x6144.Idx → EReal) shapeCasts_S4x6144_S4x1x6144 := by
  show StableHlo.after (hostOps0 : List (HloOp τ sig (Elt Ideal))) _ (Proc.devRef .tc main_v5) = _
  after_results_simp <;> rfl

/-- Point t's bias is its layer's, the same columns. -/
theorem iblk2_apply (c : Dev nD) (t : Fin cfg0.N) (e : Fin 1024) :
    (iblk m c 2 t : S1x1x1024.Idx → EReal) (ix3 0 0 e) = (m ((c : Thread nD τ).loc main_arg3) : S4x6144.Idx → EReal) (ix2 (layer t) (column t e)) := by
  have h : (((cfg0.win 2).blk t).view.emb (ix3 0 0 e : S1x1x1024.Idx) : S4x1x6144.Idx) = ix3 (layer t) 0 (column t e) := by
    funext a
    apply Fin.ext
    match a with
    | ⟨0, _⟩ =>
      show cc0_transform_2 (grid0.coords t) 0 * 1 + 1 * 0 = t.val / 6
      rw [index2]; show t.val / 6 * 1 + 1 * 0 = _; omega
    | ⟨1, _⟩ =>
      show cc0_transform_2 (grid0.coords t) 1 * 1 + 1 * 0 = 0
      rw [index2]; rfl
    | ⟨2, _⟩ =>
      show cc0_transform_2 (grid0.coords t) 2 * 1024 + 1 * e.val = 1024 * (t.val % 6) + e.val
      rw [index2]; show t.val % 6 * 1024 + 1 * e.val = _; omega
  show (V m c main_v5 : S4x1x6144.Idx → EReal) (((cfg0.win 2).blk t).view.emb (ix3 0 0 e : S1x1x1024.Idx)) = _
  refine (congrArg (V m c main_v5 : S4x1x6144.Idx → EReal) h).trans ?_
  rw [V_main_v5]
  exact shapeCast_apply _ shapeCasts_S4x6144_S4x1x6144 (ix3 (layer t) 0 (column t e)) (ix2 (layer t) (column t e)) (by
    rw [Shape.rowMajor_val_three, Shape.rowMajor_val_two]
    show (layer t).val * 6144 + (column t e).val = ((layer t).val * 1 + 0) * 6144 + (column t e).val
    omega)

/-- Where point t's result block sits in the array. -/
theorem block_rows (t : Fin cfg0.N) (y : S1x8x1024.Idx) : (((cfg0.win 3).blk t).view.emb y : S4x8x6144.Idx) = ix3 (layer t) (y 1) (column t (y 2)) := by
  have h0 : (y 0).val < 1 := (y 0).isLt
  funext a
  apply Fin.ext
  match a with
  | ⟨0, _⟩ =>
    show cc0_transform_3 (grid0.coords t) 0 * 1 + 1 * (y 0).val = t.val / 6
    rw [index3]; show t.val / 6 * 1 + 1 * (y 0).val = _; omega
  | ⟨1, _⟩ =>
    show cc0_transform_3 (grid0.coords t) 1 * 8 + 1 * (y 1).val = (y 1).val
    rw [index3]; show 0 * 8 + 1 * (y 1).val = _; omega
  | ⟨2, _⟩ =>
    show cc0_transform_3 (grid0.coords t) 2 * 1024 + 1 * (y 2).val = 1024 * (t.val % 6) + (y 2).val
    rw [index3]; show t.val % 6 * 1024 + 1 * (y 2).val = _; omega

/-! ## The result array -/

/-- The reference's array at an index: the layer's weights against silu of the row, and its bias. -/
theorem reference_apply (x0 : S4x1024.Idx → EReal) (x1 : S1024.Idx → EReal) (x2 : S4x1024x6144.Idx → EReal) (x3 : S4x6144.Idx → EReal) (l : Fin 4) (q : Fin 8) (j : Fin 6144) :
    (Cert.Reference3Ideal.Read.val_main_v8 (F := Ideal) x0 x1 x2 x3 : S4x8x6144.Idx → EReal) (ix3 l q j) = (∑ k : Fin 1024, x2 (ix3 l k j) * silu (row x0 x1 q k)) + x3 (ix2 l j) := by
  refine congrArg₂ (fun a b : EReal => a + b) ?_ ?_
  · refine (Cert.Reference3Ideal.Read.val_main_v5_apply (F := Ideal) x0 x1 x2 (ix3 l q j)).trans ?_
    refine (Cert.Reference3Ideal.Read.val_main_v4_apply x0 x1 x2 _).trans ?_
    refine Finset.sum_congr rfl fun k _ => congrArg₂ (fun a b : EReal => a * b) (congrArg x2 ?_) ?_
    · funext a
      match a with
      | ⟨0, _⟩ => rfl
      | ⟨1, _⟩ => rfl
      | ⟨2, _⟩ => rfl
    · have hi : Cert.Reference3Ideal.Read.ridx_main_v4 (Cert.Reference3Ideal.Read.idx_main_v5 (ix3 l q j)) k = ix2 q k := by
        funext a
        match a with
        | ⟨0, _⟩ => rfl
        | ⟨1, _⟩ => rfl
      rw [hi]
      have hj := joined_apply x0 x1 q k
      show (Cert.Reference3Ideal.Read.val_main_v2 (F := Ideal) x0 x1 (ix2 q k) : EReal)
        * Ideal.div (Ideal.ofBits .f32 0x3F800000#32) (Ideal.ofBits .f32 0x3F800000#32 + Ideal.exp (-(Cert.Reference3Ideal.Read.val_main_v2 (F := Ideal) x0 x1 (ix2 q k)))) = _
      rw [hj, Ideal.ofBits_one_f32]
      rfl
  · refine (Cert.Reference3Ideal.Read.val_main_v7_apply (F := Ideal) x3 (ix3 l q j)).trans ?_
    refine (Cert.Reference3Ideal.Read.val_main_v6_apply (F := Ideal) x3 _).trans (congrArg x3 ?_)
    funext a
    match a with
    | ⟨0, _⟩ => rfl
    | ⟨1, _⟩ => rfl

/-- The result: the reference's. -/
def value (c : Dev nD) : S4x8x6144.Idx → EReal :=
  Cert.Reference3Ideal.Read.val_main_v8 (F := Ideal) (m ((c : Thread nD τ).loc main_arg0)) (m ((c : Thread nD τ).loc main_arg1))
    (m ((c : Thread nD τ).loc main_arg2)) (m ((c : Thread nD τ).loc main_arg3))

/-- The conditioning and the weights are finite. -/
def Good : Prop := ∀ c : Dev nD, (∀ i, Mod.Proper ((m ((c : Thread nD τ).loc main_arg0) : S4x1024.Idx → EReal) i))
  ∧ (∀ i, Mod.Proper ((m ((c : Thread nD τ).loc main_arg1) : S1024.Idx → EReal) i)) ∧ ∀ i, Mod.Proper ((m ((c : Thread nD τ).loc main_arg2) : S4x1024x6144.Idx → EReal) i)

/-- A point's block is its one store's payload, of the whole blocks it read. -/
theorem out_eq (x : Vec Ideal S8x1024 .f32) (w : Vec Ideal S1x1024x1024 .f32) (b : Vec Ideal S1x1x1024 .f32) : out0_3 x w b = k0_pay1 x w b := by
  have e2 : (![0, 0] : Fin 2 → Nat) = fun _ => 0 := by decide
  have e3 : (![0, 0, 0] : Fin 3 → Nat) = fun _ => 0 := by decide
  unfold out0_3
  rw [show View.ld x r0_0 = x from View.ld_unit_zero e2 _ _, show View.ld w r0_1 = w from View.ld_unit_zero e3 _ _, show View.ld b r0_2 = b from View.ld_unit_zero e3 _ _]
  exact View.canon_cons_unit_zero e3 _ _ _

/-- What a point writes back. -/
theorem after_apply (hm : Good m) (c : Dev nD) (t : Fin cfg0.N) (q : Fin 8) (e : Fin 1024) :
    ((dats m 0 c).after 3 t : S1x8x1024.Idx → EReal) (ix3 0 q e) = value m c (ix3 (layer t) q (column t e)) := by
  rw [after0_3]
  refine (congrFun (out_eq _ _ _) (ix3 0 q e)).trans ?_
  obtain ⟨h0, h1, h2⟩ := hm c
  refine (pay_apply _ _ _ (row (m ((c : Thread nD τ).loc main_arg0)) (m ((c : Thread nD τ).loc main_arg1)) q)
    (fun k => (m ((c : Thread nD τ).loc main_arg2) : S4x1024x6144.Idx → EReal) (ix3 (layer t) k (column t e))) q e
    (fun k => (iblk0_apply m c t q k).trans (cond_apply m c q k)) (fun k => iblk1_apply m c t k e) (row_real _ _ h0 h1 q) (fun k => h2 _)).trans ?_
  refine Eq.trans (congrArg (fun b : EReal => _ + b) (iblk2_apply m c t e)) ?_
  exact (reference_apply _ _ _ _ (layer t) q (column t e)).symm

/-- After the run the written array is the reference's. -/
theorem written (hm : Good m) (c : Dev nD) : ((dats m 0 c).arrAt 3 cfg0.N : S4x8x6144.Idx → EReal) = value m c := by
  funext i
  obtain ⟨l, q, j, rfl⟩ : ∃ (l : Fin 4) (q : Fin 8) (j : Fin 6144), i = ix3 l q j := ⟨i 0, i 1, i 2, ValueIdx.eq_ix3 i⟩
  have hl := l.isLt
  have hj := j.isLt
  have hN : cfg0.N = 24 := N_0
  obtain ⟨t, ht⟩ : ∃ t : Fin cfg0.N, t.val = 6 * l.val + j.val / 1024 := ⟨⟨6 * l.val + j.val / 1024, by rw [hN]; omega⟩, rfl⟩
  have he : (((cfg0.win 3).blk t).view.emb (ix3 0 q ⟨j.val % 1024, by omega⟩ : S1x8x1024.Idx) : S4x8x6144.Idx) = ix3 l q j := by
    refine (block_rows t _).trans ?_
    have a : layer t = l := Fin.ext (by show t.val / 6 = l.val; omega)
    have b : column t ⟨j.val % 1024, by omega⟩ = j := Fin.ext (by show 1024 * (t.val % 6) + j.val % 1024 = j.val; omega)
    show ix3 (layer t) q (column t ⟨j.val % 1024, _⟩) = ix3 l q j
    rw [a, b]
  exact (dats m 0 c).arrAt_forall_of_flushed 3 (fun (i : S4x8x6144.Idx) (v : EReal) => v = value m c i) (fun t hf (y : S1x8x1024.Idx) => by
      rw [show (((cfg0.win 3).blk t).view.emb y : S4x8x6144.Idx) = _ from block_rows t y]
      refine Eq.trans (congrArg ((dats m 0 c).after 3 t : S1x8x1024.Idx → EReal) ?_) (after_apply m hm c t (y 1) (y 2))
      funext a
      match a with
      | ⟨0, _⟩ => exact Subsingleton.elim (α := Fin 1) _ _
      | ⟨1, _⟩ => rfl
      | ⟨2, _⟩ => rfl)
    cfg0.N t (ix3 l q j : S4x8x6144.Idx) t.isLt (flush0_3 t) (he ▸ View.emb_mem_set _ _)

/-- The run with its result: every device's result array is the reference's, its arguments as they were. -/
theorem run_value (hm : Good m) : θ_run defs (onTc (τ := τ) (main (F := Ideal))) ⟨m, fun _ => 0, ρ⟩ (fun r => ∀ c : Dev nD,
      r.2.mem ((c.tc : Thread nD τ).loc main_v6) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (written m hm c), (h c).2⟩) (Cert.Kernel3Ideal.Value.run_blocks m ρ)

end Cert.Kernel3Ideal.Cond

end
-- ==== Proof.ModSame.lean ====
/- The conditioning projection's program and its idealization are the same text: their body tables and their mains are equal, over any
values, so a run of one is a run of the other. -/
module

public import proofs.«01_k».proof.Proof.Gen.Kernel3
public import proofs.«01_k».proof.Proof.Gen.Kernel3Ideal

@[expose] public section

set_option maxRecDepth 65536
set_option maxHeartbeats 4000000

noncomputable section

namespace Cert.Proof

open Idealize.ShloMosaic Idealize.SL.Sem

variable {F : FTy → Type} [FloatOps F]

/-- The kernels' bodies agree. -/
theorem bodies_same3 : (Cert.Kernel3.defs₀ (F := F)) = Cert.Kernel3Ideal.defs₀ (F := F) := by
  refine congrArg Defs.onTc (funext fun l => ?_)
  match l with
  | ⟨0, _⟩ =>
    funext x
    obtain ⟨t, s⟩ := x
    rfl

/-- The body tables agree. -/
theorem tables_same3 : (Cert.Kernel3.defs (F := F)) = Cert.Kernel3Ideal.defs (F := F) :=
  congrArg (Pipeline.defs (Cert.Kernel3Ideal.pcfgs (F := F))) bodies_same3

/-- The mains agree. -/
theorem mains_same3 : (Cert.Kernel3.main (F := F)) = Cert.Kernel3Ideal.main (F := F) := rfl

/-- A run of the idealization is a run of the kernel's program. -/
theorem run_same3 (s : MemSt Cert.Kernel3.nD Cert.Kernel3.τ Cert.Kernel3.sig (Elt F)) (Q : (PUnit × MemSt Cert.Kernel3.nD Cert.Kernel3.τ Cert.Kernel3.sig (Elt F)) → Prop)
    (h : θ_run (Cert.Kernel3Ideal.defs (F := F)) (onTc (τ := Cert.Kernel3Ideal.τ) (Cert.Kernel3Ideal.main (F := F))) s Q) :
    θ_run (Cert.Kernel3.defs (F := F)) (onTc (τ := Cert.Kernel3.τ) (Cert.Kernel3.main (F := F))) s Q := by
  rw [tables_same3, mains_same3]
  exact h

end Cert.Proof

end
-- ==== Proof.EmbedValue.lean ====
/- What the position embedding's kernel leaves: every token's row with its position's row added, as the reference writes it. -/
module

public import proofs.«01_k».proof.Proof.Gen.Kernel4Ideal.Value
public import proofs.«01_k».proof.Proof.Gen.Reference4Ideal.Read
public import Idealize.ShloMosaic.Lib.Pipeline.ValueKit.Geometry
public import Idealize.ShloMosaic.Lib.Pointwise

@[expose] public section

set_option maxRecDepth 16384

noncomputable section

namespace Cert.Kernel4Ideal.Embed

open Cert.Kernel4Ideal.Gen Cert.Kernel4Ideal.Value
open Idealize.ShloMosaic hiding ix1 ix2 ix3 ix4
open Idealize.ShloMosaic.TcCoe Idealize.ShloMosaic.Tactic Idealize.SL.Sem
open Idealize.ShloMosaic.Pipeline (Dat Cfg Window)
open Idealize.ShloMosaic.ValueIdx

variable (m : (ℓ : Loc nD τ sig) → Buf (Elt Ideal) ℓ) (ρ : Dev nD → PrngReg)

/-! ## What the region finds -/

/-- The tokens, one row each. -/
theorem V_main_v0 (c : Dev nD) : (V m c main_v0 : S8192x1024.Idx → EReal)
    = shapeCast S8192x1024 (m ((c : Thread nD τ).loc main_arg0) : S4x2048x1024.Idx → EReal) shapeCasts_S4x2048x1024_S8192x1024 := by
  show StableHlo.after (List.flatten [hostOps0, hostOps0_1, hostOps0_2, hostOps0_3, hostOps0_4] : List (HloOp τ sig (Elt Ideal))) _ (Proc.devRef .tc main_v0) = _
  simp only [hostOps0, hostOps0_1, hostOps0_2, hostOps0_3, hostOps0_4, List.flatten_cons, List.flatten_nil, List.append_nil, List.cons_append, List.nil_append]
  after_results_simp <;> rfl

/-- The position table is the reference's. -/
theorem V_main_v27 (c : Dev nD) : (V m c main_v27 : S2048x1024.Idx → EReal) = Cert.Reference4Ideal.Read.val_main_v26 (F := Ideal) := by
  show StableHlo.after (List.flatten [hostOps0, hostOps0_1, hostOps0_2, hostOps0_3, hostOps0_4] : List (HloOp τ sig (Elt Ideal))) _ (Proc.devRef .tc main_v27) = _
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

/-- All the tokens' rows, as the region finds them. -/
def tokens (c : Dev nD) : S8192x1024.Idx → EReal := V m c main_v0

/-- The positions' rows, as the region finds them. -/
def table (c : Dev nD) : S2048x1024.Idx → EReal := V m c main_v27

/-! ## The blocks -/

/-- Point t's tokens. -/
def rows (c : Dev nD) (t : Fin cfg0.N) : S512x1024.Idx → EReal := iblk m c 0 t

/-- Point t's positions. -/
def places (c : Dev nD) (t : Fin cfg0.N) : S512x1024.Idx → EReal := iblk m c 1 t

theorem point_lt (t : Fin cfg0.N) : t.val < 16 := Nat.lt_of_lt_of_eq t.isLt N_0
theorem coords0 (t : Fin cfg0.N) : (grid0.coords t 0).val = t.val :=
  (Pipeline.Grid.coords_val t 0 (by decide) rfl : _ = t.val / 1 % 16).trans (by have := point_lt t; omega)

theorem index0 (t : Fin cfg0.N) : cc0_transform_0 (grid0.coords t) = ![t.val, 0] :=
  (by decide +kernel : ∀ t : Fin grid0.N, cc0_transform_0 (grid0.coords t) = ![t.val, 0]) t
theorem index1 (t : Fin cfg0.N) : cc0_transform_1 (grid0.coords t) = ![t.val % 4, 0] :=
  (by decide +kernel : ∀ t : Fin grid0.N, cc0_transform_1 (grid0.coords t) = ![t.val % 4, 0]) t
theorem index2 (t : Fin cfg0.N) : cc0_transform_2 (grid0.coords t) = ![t.val, 0] :=
  (by decide +kernel : ∀ t : Fin grid0.N, cc0_transform_2 (grid0.coords t) = ![t.val, 0]) t

/-- Point t's tokens are rows 512 t … of all of them. -/
theorem rows_apply (c : Dev nD) (t : Fin cfg0.N) (y : S512x1024.Idx) :
    rows m c t y = tokens m c (ix2 (Fin.ofNat 8192 (512 * t.val + (y 0).val)) (y 1)) := by
  have ht := point_lt t
  have h0 : (y 0).val < 512 := (y 0).isLt
  show (V m c main_v0 : S8192x1024.Idx → EReal) (((cfg0.win 0).blk t).view.emb y) = _
  congr 1
  funext a
  apply Fin.ext
  match a with
  | ⟨0, _⟩ =>
    show cc0_transform_0 (grid0.coords t) 0 * 512 + 1 * (y 0).val = (512 * t.val + (y 0).val) % 8192
    rw [index0]; show t.val * 512 + 1 * (y 0).val = _; omega
  | ⟨1, _⟩ =>
    show cc0_transform_0 (grid0.coords t) 1 * 1024 + 1 * (y 1).val = (y 1).val
    rw [index0]; show 0 * 1024 + 1 * (y 1).val = _; omega

/-- Its positions are rows 512 (t mod 4) … of the table. -/
theorem places_apply (c : Dev nD) (t : Fin cfg0.N) (y : S512x1024.Idx) :
    places m c t y = table m c (ix2 (Fin.ofNat 2048 (512 * (t.val % 4) + (y 0).val)) (y 1)) := by
  have ht := point_lt t
  have h0 : (y 0).val < 512 := (y 0).isLt
  show (V m c main_v27 : S2048x1024.Idx → EReal) (((cfg0.win 1).blk t).view.emb y) = _
  congr 1
  funext a
  apply Fin.ext
  match a with
  | ⟨0, _⟩ =>
    show cc0_transform_1 (grid0.coords t) 0 * 512 + 1 * (y 0).val = (512 * (t.val % 4) + (y 0).val) % 2048
    rw [index1]; show t.val % 4 * 512 + 1 * (y 0).val = _; omega
  | ⟨1, _⟩ =>
    show cc0_transform_1 (grid0.coords t) 1 * 1024 + 1 * (y 1).val = (y 1).val
    rw [index1]; show 0 * 1024 + 1 * (y 1).val = _; omega

/-- Row y of point t's result block is row 512 t + y of the array. -/
theorem block_rows (t : Fin cfg0.N) (y : S512x1024.Idx) : (((cfg0.win 2).blk t).view.emb y : S8192x1024.Idx)
    = ix2 ⟨512 * t.val + (y 0).val, by have := point_lt t; have h0 : (y 0).val < 512 := (y 0).isLt; omega⟩ ⟨(y 1).val, (y 1).isLt⟩ := by
  have ht := point_lt t
  funext a
  apply Fin.ext
  match a with
  | ⟨0, _⟩ =>
    show cc0_transform_2 (grid0.coords t) 0 * 512 + 1 * (y 0).val = 512 * t.val + (y 0).val
    rw [index2]; show t.val * 512 + 1 * (y 0).val = _; omega
  | ⟨1, _⟩ =>
    show cc0_transform_2 (grid0.coords t) 1 * 1024 + 1 * (y 1).val = (y 1).val
    rw [index2]; show 0 * 1024 + 1 * (y 1).val = _; omega

/-! ## The result array -/

/-- The result: the reference's. -/
def value (c : Dev nD) : S8192x1024.Idx → EReal :=
  Cert.Reference4Ideal.Read.val_main_v30 (F := Ideal) (m ((c : Thread nD τ).loc main_arg0))

/-- One row of it: the token's row plus its position's. -/
theorem value_apply (c : Dev nD) (r : Fin 8192) (d : Fin 1024) :
    value m c (ix2 r d) = tokens m c (ix2 r d) + table m c (ix2 ⟨r.val % 2048, by omega⟩ d) := by
  have hr := r.isLt
  have hd := d.isLt
  unfold tokens table
  rw [V_main_v0, V_main_v27]
  refine (Cert.Reference4Ideal.Read.val_main_v30_apply (F := Ideal) _ (ix2 r d)).trans ?_
  refine congrArg₂ (fun a b : EReal => a + b) (shapeCast_apply (s := S4x2048x1024) (t := S8192x1024) _ shapeCasts_S4x2048x1024_S8192x1024 (ix2 r d)
    (Cert.Reference4Ideal.Read.idx_main_v30 (ix2 r d)) (by
      rewrite [Shape.rowMajor_val_three, Shape.rowMajor_val_two]
      show ((r.val * 1024 + d.val) / 2097152 * 2048 + (r.val * 1024 + d.val) / 1024 % 2048) * 1024 + (r.val * 1024 + d.val) % 1024 = r.val * 1024 + d.val
      omega)).symm ?_
  rw [Cert.Reference4Ideal.Read.val_main_v28_apply, Cert.Reference4Ideal.Read.val_main_v27_apply]
  refine congrArg (Cert.Reference4Ideal.Read.val_main_v26 (F := Ideal)) ?_
  funext a
  apply Fin.ext
  match a with
  | ⟨0, _⟩ => show (r.val * 1024 + d.val) / 1024 % 2048 = r.val % 2048; omega
  | ⟨1, _⟩ => show (r.val * 1024 + d.val) % 1024 = d.val; omega

/-- What a point writes back. -/
theorem after_apply (c : Dev nD) (t : Fin cfg0.N) (y : S512x1024.Idx) :
    ((dats m 0 c).after 2 t : S512x1024.Idx → EReal) y = rows m c t y + places m c t y := by
  have e : (fun _ => 0 : Fin S512x1024.rank → Nat) = ![0, 0] := by decide
  rw [after0_2]
  unfold out0_2
  have h := canon2_eq (F := Ideal) (View.ld (iblk m c 0 t) r0_0) (View.ld (iblk m c 1 t) r0_0) y
  refine h.trans ?_
  rw [show View.ld (iblk m c 0 t) r0_0 = iblk m c 0 t from View.ld_unit_zero e.symm _ _, show View.ld (iblk m c 1 t) r0_0 = iblk m c 1 t from View.ld_unit_zero e.symm _ _]
  have hy : (ix2_0 y : S512x1024.Idx) = y := by
    funext a
    match a with
    | ⟨0, _⟩ => rfl
    | ⟨1, _⟩ => rfl
  show rows m c t (ix2_0 y) + places m c t (ix2_0 y) = _
  rw [hy]

/-- After the run the written array is the reference's. -/
theorem written (c : Dev nD) : ((dats m 0 c).arrAt 2 cfg0.N : S8192x1024.Idx → EReal) = value m c := by
  funext i
  obtain ⟨r, d, rfl⟩ : ∃ (r : Fin 8192) (d : Fin 1024), i = ix2 r d := ⟨i 0, i 1, ValueIdx.eq_ix2 i⟩
  have hr := r.isLt
  have hN : cfg0.N = 16 := N_0
  obtain ⟨t, ht⟩ : ∃ t : Fin cfg0.N, t.val = r.val / 512 := ⟨⟨r.val / 512, by rw [hN]; omega⟩, rfl⟩
  have he : (((cfg0.win 2).blk t).view.emb (ix2 ⟨r.val % 512, by omega⟩ d : S512x1024.Idx) : S8192x1024.Idx) = ix2 r d :=
    (block_rows t _).trans (congrArg (fun a : Fin 8192 => (ix2 a d : S8192x1024.Idx)) (Fin.ext (by show 512 * t.val + r.val % 512 = r.val; omega)))
  exact (dats m 0 c).arrAt_forall_of_flushed 2 (fun (i : S8192x1024.Idx) (v : EReal) => v = value m c i) (fun t hf (y : S512x1024.Idx) => by
      have ht := point_lt t
      have h0 : (y 0).val < 512 := (y 0).isLt
      rw [show (((cfg0.win 2).blk t).view.emb y : S8192x1024.Idx) = _ from block_rows t y]
      refine (after_apply m c t y).trans (Eq.trans ?_ (value_apply m c ⟨512 * t.val + (y 0).val, by omega⟩ ⟨(y 1).val, (y 1).isLt⟩).symm)
      rw [rows_apply, places_apply]
      refine congrArg₂ (fun a b : EReal => a + b) (congrArg (tokens m c) ?_) (congrArg (table m c) ?_)
      · refine congrArg (fun a : Fin 8192 => (ix2 a (y 1) : S8192x1024.Idx)) (Fin.ext ?_)
        show (512 * t.val + (y 0).val) % 8192 = 512 * t.val + (y 0).val
        omega
      · refine congrArg (fun a : Fin 2048 => (ix2 a (y 1) : S2048x1024.Idx)) (Fin.ext ?_)
        show (512 * (t.val % 4) + (y 0).val) % 2048 = (512 * t.val + (y 0).val) % 2048
        omega)
    cfg0.N t (ix2 r d : S8192x1024.Idx) t.isLt (flush0_2 t) (he ▸ View.emb_mem_set _ _)

/-- The run with its result: every device's result array is the reference's, its argument as it was. -/
theorem run_value : θ_run defs (onTc (τ := τ) (main (F := Ideal))) ⟨m, fun _ => 0, ρ⟩ (fun r => ∀ c : Dev nD,
      r.2.mem ((c.tc : Thread nD τ).loc main_v28) = value m c
      ∧ r.2.mem ((c.tc : Thread nD τ).loc main_arg0) = m ((c.tc : Thread nD τ).loc main_arg0)) :=
  (θ_run defs _ _).mono (fun _ h c => ⟨(h c).1.trans (written m c), (h c).2⟩) (run_blocks m ρ)

end Cert.Kernel4Ideal.Embed

end
-- ==== Proof.EmbedSame.lean ====
/- The position embedding's program and its idealization are the same text: their body tables and their mains are equal, over any
values, so a run of one is a run of the other. -/
module

public import proofs.«01_k».proof.Proof.Gen.Kernel4
public import proofs.«01_k».proof.Proof.Gen.Kernel4Ideal

@[expose] public section

set_option maxRecDepth 65536
set_option maxHeartbeats 4000000

noncomputable section

namespace Cert.Proof

open Idealize.ShloMosaic Idealize.SL.Sem

variable {F : FTy → Type} [FloatOps F]

/-- The kernels' bodies agree. -/
theorem bodies_same4 : (Cert.Kernel4.defs₀ (F := F)) = Cert.Kernel4Ideal.defs₀ (F := F) := by
  refine congrArg Defs.onTc (funext fun l => ?_)
  match l with
  | ⟨0, _⟩ =>
    funext x
    obtain ⟨t, s⟩ := x
    rfl

/-- The body tables agree. -/
theorem tables_same4 : (Cert.Kernel4.defs (F := F)) = Cert.Kernel4Ideal.defs (F := F) :=
  congrArg (Pipeline.defs (Cert.Kernel4Ideal.pcfgs (F := F))) bodies_same4

/-- The mains agree. -/
theorem mains_same4 : (Cert.Kernel4.main (F := F)) = Cert.Kernel4Ideal.main (F := F) := rfl

/-- A run of the idealization is a run of the kernel's program. -/
theorem run_same4 (s : MemSt Cert.Kernel4.nD Cert.Kernel4.τ Cert.Kernel4.sig (Elt F)) (Q : (PUnit × MemSt Cert.Kernel4.nD Cert.Kernel4.τ Cert.Kernel4.sig (Elt F)) → Prop)
    (h : θ_run (Cert.Kernel4Ideal.defs (F := F)) (onTc (τ := Cert.Kernel4Ideal.τ) (Cert.Kernel4Ideal.main (F := F))) s Q) :
    θ_run (Cert.Kernel4.defs (F := F)) (onTc (τ := Cert.Kernel4.τ) (Cert.Kernel4.main (F := F))) s Q := by
  rw [tables_same4, mains_same4]
  exact h

end Cert.Proof

end
-- ==== Proof.lean ====
/- The proof of the claims, for the expert feed-forward, the Fourier step, the conditioning projection and the position
embedding: the frames, that idealizing changed nothing, and that the kernel and the reference leave the same array over the
extended reals. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Tables
public import proofs.«01_k».proof.Proof.Run
public import proofs.«01_k».proof.Proof.Value
public import proofs.«01_k».proof.Proof.Same
public import proofs.«01_k».proof.Proof.Gen.Kernel2
public import proofs.«01_k».proof.Proof.Gen.Reference2Ideal
public import proofs.«01_k».proof.Proof.Gen.Reference2Ideal.Run
public import proofs.«01_k».proof.Proof.FourierRun
public import proofs.«01_k».proof.Proof.FourierReference
public import proofs.«01_k».proof.Proof.FourierValue
public import proofs.«01_k».proof.Proof.FourierSame
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Read
public import proofs.«01_k».proof.Proof.ModMath
public import proofs.«01_k».proof.Proof.ModValue
public import proofs.«01_k».proof.Proof.ModSame
public import proofs.«01_k».proof.Proof.EmbedValue
public import proofs.«01_k».proof.Proof.EmbedSame
public import Idealize.ShloMosaic.Lib.Quiescent
public import Idealize.ShloMosaic.Adequacy
public import Idealize.ShloMosaic.Init

@[expose] public section

noncomputable section

namespace Cert.Proof

open Idealize.ShloMosaic Idealize.SL.Sem

/-- The shape relations the precondition's operations take. -/
theorem pre_facts : Cert.Pre_schedule_in_range.Facts where
  bcast_S_S110 := by decide
  bcast_S_S1 := by decide
  slices_S110_S109_1 := by decide
  slices_S110_S109_0 := by decide
  concatenates_S1_S109_S110_d0 := by decide
  bcast_S_S3520 := by decide
  shapeCasts_S3520_S110x32 := by decide
  bcast_S1_S110_0 := by decide
  bcast_S110_S110x1_0 := by decide
  bcast_S110x1_S110x32_0_1 := by decide

attribute [local instance] pre_facts Cert.Mod.finite_facts

/-- The machine's program runs as the idealization does, whatever the values: every run ends, leaves its arguments as they
were and its counters at zero. -/
theorem frame_kernel : Cert.quiescent_Kernel := fun m ρ h =>
  run_same (F := Bits) _ _ (Cert.KernelIdeal.Ffn.frame (F := Bits) m ρ (Cert.KernelIdeal.Ffn.good_of_words m (h 0)))

/-- The same of the idealization. -/
theorem frame_ideal : Cert.quiescent_KernelIdeal := fun m ρ h =>
  Cert.KernelIdeal.Ffn.frame (F := Ideal) m ρ (Cert.KernelIdeal.Ffn.good_of_words m (h 0))

/-- The reference leaves its arguments as they were; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result array is the reference's. -/
theorem same_value : Cert.algebraic_KernelIdeal_ReferenceIdeal := fun m g m' g' h e =>
  ⟨fun c => Cert.KernelIdeal.Ffn.value m c,
    Cert.KernelIdeal.Ffn.run_value g (Cert.KernelIdeal.Ffn.good_of_words m (h 0)),
    (θ_run Cert.ReferenceIdeal.defs _ _).mono (fun r hr c => ⟨(hr c).1.trans (by
      obtain ⟨e0, -, e2, e3, e4, e5, e6, e7⟩ := e c
      rw [e0, e2, e3, e4, e5, e6, e7]
      rfl), (hr c).2⟩)
      (Cert.ReferenceIdeal.Value.run (F := Ideal) m' g')⟩

/-- The Fourier step's program terminates, leaves its arguments as they were and its counters at zero. -/
theorem frame_kernel2 : Cert.quiescent_Kernel2 := fun m ρ _ =>
  run_same2 (F := Bits) _ _ (Cert.Kernel2Ideal.Mix.frame (F := Bits) m ρ)

/-- The same of its idealization. -/
theorem frame_ideal2 : Cert.quiescent_Kernel2Ideal := fun m ρ _ =>
  Cert.Kernel2Ideal.Mix.frame (F := Ideal) m ρ

/-- The Fourier step's reference leaves its arguments as they were; it has no counter. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the Fourier step's result array is its reference's. -/
theorem same_value2 : Cert.algebraic_Kernel2Ideal_Reference2Ideal := fun m g m' g' _ e =>
  ⟨fun c => Cert.Kernel2Ideal.Mix.value m c, Cert.Kernel2Ideal.Mix.run_value m g,
    (θ_run Cert.Reference2Ideal.defs _ _).mono (fun r hr c => ⟨(hr c).1.trans (by
      obtain ⟨e0, e1, e2, e3, e4, e5, e6⟩ := e c
      unfold Cert.Reference2Ideal.Value.res_main_v40
      rw [e0, e1, e2, e3, e4, e5, e6]
      rfl), (hr c).2⟩)
      (Cert.Reference2Ideal.Value.run (F := Ideal) m' g')⟩

/-- The conditioning projection's program terminates, leaves its arguments as they were and its counters at zero. -/
theorem frame_kernel3 : Cert.quiescent_Kernel3 := fun m ρ _ =>
  run_same3 (F := Bits) _ _ (Cert.Kernel3Ideal.Gen.frame (F := Bits) m ρ)

/-- The same of its idealization. -/
theorem frame_ideal3 : Cert.quiescent_Kernel3Ideal := fun m ρ _ => Cert.Kernel3Ideal.Gen.frame (F := Ideal) m ρ

/-- And where its arguments are finite. -/
theorem frame_ideal3_finite : Cert.quiescent_Kernel3Ideal_pre_finite := fun m ρ _ => Cert.Kernel3Ideal.Gen.frame (F := Ideal) m ρ

/-- The conditioning projection's reference leaves its arguments as they were; it has no counter. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- And where its arguments are finite. -/
theorem frame_reference3_finite : Cert.quiescent_Reference3Ideal_pre_finite := fun m ρ _ => frame_reference3 m ρ trivial

/-- Over the extended reals, with finite conditioning and weights, the conditioning projection's result array is its
reference's. -/
theorem same_value3 : Cert.algebraic_Kernel3Ideal_Reference3Ideal_pre_finite := fun m g m' g' h e =>
  ⟨fun c => Cert.Kernel3Ideal.Cond.value m c, Cert.Kernel3Ideal.Cond.run_value m g (fun c => Cert.Mod.real_of_finite _ _ _ _ (h c)),
    (θ_run Cert.Reference3Ideal.defs _ _).mono (fun r hr c => ⟨(hr c).1.trans (by
      obtain ⟨e0, e1, e2, e3⟩ := e c
      rw [e0, e1, e2, e3]
      exact Cert.Reference3Ideal.Read.val_main_v8_eq (F := Ideal) _ _ _ _), (hr c).2⟩)
      (Cert.Reference3Ideal.Value.run (F := Ideal) m' g')⟩

/-- The position embedding's program terminates, leaves its argument as it was and its counters at zero. -/
theorem frame_kernel4 : Cert.quiescent_Kernel4 := fun m ρ _ =>
  run_same4 (F := Bits) _ _ (Cert.Kernel4Ideal.Gen.frame (F := Bits) m ρ)

/-- The same of its idealization. -/
theorem frame_ideal4 : Cert.quiescent_Kernel4Ideal := fun m ρ _ => Cert.Kernel4Ideal.Gen.frame (F := Ideal) m ρ

/-- The position embedding's reference leaves its argument as it was; it has no counter. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the position embedding's result array is its reference's. -/
theorem same_value4 : Cert.algebraic_Kernel4Ideal_Reference4Ideal := fun m g m' g' _ e =>
  ⟨fun c => Cert.Kernel4Ideal.Embed.value m c, Cert.Kernel4Ideal.Embed.run_value m g,
    (θ_run Cert.Reference4Ideal.defs _ _).mono (fun r hr c => ⟨(hr c).1.trans (by
      have e0 := e c
      rw [Cert.Reference4Ideal.Read.val_main_v30_eq, e0]
      rfl), (hr c).2⟩)
      (Cert.Reference4Ideal.Value.run (F := Ideal) m' g')⟩

/-- The claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, pre_facts, Cert.Mod.finite_facts,
    frame_kernel, frame_ideal, frame_reference, frame_kernel2, frame_ideal2, frame_reference2,
    frame_kernel3, frame_ideal3, frame_ideal3_finite, frame_reference3, frame_reference3_finite,
    frame_kernel4, frame_ideal4, frame_reference4,
    trivial, same_value, trivial, same_value2, trivial, same_value3, trivial, same_value4⟩

end Cert.Proof

end
